-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_weights [hPre_finite_weights : Cert.Pre_finite_weights.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).1 = (fun _ => 1#1)
    ∧ (Cert.Pre_finite_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_weights [hPre_finite_weights : Cert.Pre_finite_weights.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).1 = (fun _ => 1#1)
    ∧ (Cert.Pre_finite_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite_weights [hKernel3Ideal : Cert.Kernel3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_weights m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite_weights [hReference3Ideal : Cert.Reference3Ideal.Facts] [hPre_finite_weights : Cert.Pre_finite_weights.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_weights m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_weights [hKernel3Ideal : Cert.Kernel3Ideal.Facts] [hReference3Ideal : Cert.Reference3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_weights m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v110_3)) (v1 : (c : Dev Cert.Kernel3Ideal.nD) → Buf (Elt Ideal) ((c.tc : Thread Cert.Kernel3Ideal.nD Cert.Kernel3Ideal.τ).loc Cert.Kernel3Ideal.main_v110_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v110_3) = v0 c
          ∧ r.2.mem ((c.tc : Thread Cert.Kernel3Ideal.nD Cert.Kernel3Ideal.τ).loc Cert.Kernel3Ideal.main_v110_4) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite_weights : Cert.Pre_finite_weights.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_weights (hKernel3Ideal := hKernel3Ideal) (hPre_finite_weights := hPre_finite_weights)
    ∧ quiescent_Reference3Ideal (hReference3Ideal := hReference3Ideal)
    ∧ quiescent_Reference3Ideal_pre_finite_weights (hReference3Ideal := hReference3Ideal) (hPre_finite_weights := hPre_finite_weights)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_weights (hKernel3Ideal := hKernel3Ideal) (hReference3Ideal := hReference3Ideal) (hPre_finite_weights := hPre_finite_weights)
-- ==== Pre_finite.lean ====
abbrev S4x8192x8x96 : Shape := ⟨4, ![4, 8192, 8, 96]⟩
abbrev S4x8192x8x64 : Shape := ⟨4, ![4, 8192, 8, 64]⟩
abbrev S4x8192x512 : Shape := ⟨3, ![4, 8192, 512]⟩
abbrev S96 : Shape := ⟨1, ![96]⟩
abbrev S_ : Shape := ⟨0, ![]⟩

class Facts : Prop where
  bcast_S_S4x8192x8x96 : S_.BroadcastsInDim S4x8192x8x96 (![] : Fin 0 → Fin S4x8192x8x96.rank)
  bcast_S_S4x8192x512 : S_.BroadcastsInDim S4x8192x512 (![] : Fin 0 → Fin S4x8192x512.rank)

variable [Facts]

def fn {F : FTy → Type} [FloatOps F] (main_arg0 : FVec F S4x8192x8x96 .f32) (main_arg1 : FVec F S4x8192x8x96 .f32) (main_arg2 : FVec F S4x8192x8x64 .f32) (main_arg3 : FVec F S4x8192x512 .f32) (main_arg4 : FVec F S96 .f32) (main_arg5 : FVec F S96 .f32) : IVec S4x8192x8x96 1 × IVec S4x8192x8x96 1 × IVec S4x8192x512 1 :=
  let main_v0 : FVec F S4x8192x8x96 .f32 := Host.absf main_arg0
  let main_cst : FVec F S_ .f32 := constant S_ .f32 0x7F800000#32
  let main_v1 : FVec F S4x8192x8x96 .f32 := broadcastInDim S4x8192x8x96 ![] bcast_S_S4x8192x8x96 main_cst
  let main_v2 : IVec S4x8192x8x96 1 := cmpf .olt main_v0 main_v1
  let main_v3 : FVec F S4x8192x8x96 .f32 := Host.absf main_arg1
  let main_cst_0 : FVec F S_ .f32 := constant S_ .f32 0x7F800000#32
  let main_v4 : FVec F S4x8192x8x96 .f32 := broadcastInDim S4x8192x8x96 ![] bcast_S_S4x8192x8x96 main_cst_0
  let main_v5 : IVec S4x8192x8x96 1 := cmpf .olt main_v3 main_v4
  let main_v6 : FVec F S4x8192x512 .f32 := Host.absf main_arg3
  let main_cst_1 : FVec F S_ .f32 := constant S_ .f32 0x7F800000#32
  let main_v7 : FVec F S4x8192x512 .f32 := broadcastInDim S4x8192x512 ![] bcast_S_S4x8192x512 main_cst_1
  let main_v8 : IVec S4x8192x512 1 := cmpf .olt main_v6 main_v7
  (main_v2, main_v5, main_v8)
-- ==== Pre_finite_weights.lean ====
abbrev S4x8192x1024 : Shape := ⟨3, ![4, 8192, 1024]⟩
abbrev S1024 : Shape := ⟨1, ![1024]⟩
abbrev S1024x4256 : Shape := ⟨2, ![1024, 4256]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S3x512 : Shape := ⟨2, ![3, 512]⟩
abbrev S64 : Shape := ⟨1, ![64]⟩
abbrev S8 : Shape := ⟨1, ![8]⟩
abbrev S_ : Shape := ⟨0, ![]⟩

class Facts : Prop where
  bcast_S_S1024 : S_.BroadcastsInDim S1024 (![] : Fin 0 → Fin S1024.rank)
  bcast_S_S1024x4256 : S_.BroadcastsInDim S1024x4256 (![] : Fin 0 → Fin S1024x4256.rank)

variable [Facts]

def fn {F : FTy → Type} [FloatOps F] (main_arg0 : FVec F S4x8192x1024 .f32) (main_arg1 : FVec F S1024 .f32) (main_arg2 : FVec F S1024x4256 .f32) (main_arg3 : FVec F S256 .f32) (main_arg4 : FVec F S256x768 .f32) (main_arg5 : FVec F S128 .f32) (main_arg6 : FVec F S128x1024 .f32) (main_arg7 : FVec F S96 .f32) (main_arg8 : FVec F S96 .f32) (main_arg9 : FVec F S3x512 .f32) (main_arg10 : FVec F S64 .f32) (main_arg11 : FVec F S64 .f32) (main_arg12 : FVec F S8 .f32) : IVec S1024 1 × IVec S1024x4256 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x4256 .f32 := Host.absf main_arg2
  let main_cst_0 : FVec F S_ .f32 := constant S_ .f32 0x7F800000#32
  let main_v4 : FVec F S1024x4256 .f32 := broadcastInDim S1024x4256 ![] bcast_S_S1024x4256 main_cst_0
  let main_v5 : IVec S1024x4256 1 := cmpf .olt main_v3 main_v4
  (main_v2, main_v5)
-- ==== Kernel.lean ====
abbrev S4x8192x8x96 : Shape := ⟨4, ![4, 8192, 8, 96]⟩
abbrev S4x8192x8x64 : Shape := ⟨4, ![4, 8192, 8, 64]⟩
abbrev S4x8192x512 : Shape := ⟨3, ![4, 8192, 512]⟩
abbrev S96 : Shape := ⟨1, ![96]⟩
abbrev S_ : Shape := ⟨0, ![]⟩
abbrev S4x8x96x8192 : Shape := ⟨4, ![4, 8, 96, 8192]⟩
abbrev S32 : Shape := ⟨1, ![32]⟩
abbrev S1x1x32x1 : Shape := ⟨4, ![1, 1, 32, 1]⟩
abbrev S4x8x32x8192 : Shape := ⟨4, ![4, 8, 32, 8192]⟩
abbrev S4x8x128x8192 : Shape := ⟨4, ![4, 8, 128, 8192]⟩
abbrev S4x8x128x32x256 : Shape := ⟨5, ![4, 8, 128, 32, 256]⟩
abbrev S4x8x32x128x256 : Shape := ⟨5, ![4, 8, 32, 128, 256]⟩
abbrev S4x8192x8x32 : Shape := ⟨4, ![4, 8192, 8, 32]⟩
abbrev S4x8192x8x128 : Shape := ⟨4, ![4, 8192, 8, 128]⟩
abbrev S4x8x8192x128 : Shape := ⟨4, ![4, 8, 8192, 128]⟩
abbrev S4x32x256x8x64 : Shape := ⟨5, ![4, 32, 256, 8, 64]⟩
abbrev S4x8x32x64x256 : Shape := ⟨5, ![4, 8, 32, 64, 256]⟩
abbrev S4x32x256x512 : Shape := ⟨4, ![4, 32, 256, 512]⟩
abbrev S4x32x512x256 : Shape := ⟨4, ![4, 32, 512, 256]⟩
abbrev S1x2x32x128x256 : Shape := ⟨5, ![1, 2, 32, 128, 256]⟩
abbrev S1x2x8192x128 : Shape := ⟨4, ![1, 2, 8192, 128]⟩
abbrev S1x2x32x64x256 : Shape := ⟨5, ![1, 2, 32, 64, 256]⟩
abbrev S1x32x128x256 : Shape := ⟨4, ![1, 32, 128, 256]⟩
abbrev S2x256x512 : Shape := ⟨3, ![2, 256, 512]⟩
abbrev S256x256 : Shape := ⟨2, ![256, 256]⟩
abbrev S16x256 : Shape := ⟨2, ![16, 256]⟩
abbrev S1x1x1x128x256 : Shape := ⟨5, ![1, 1, 1, 128, 256]⟩
abbrev S128x256 : Shape := ⟨2, ![128, 256]⟩
abbrev S128x512 : Shape := ⟨2, ![128, 512]⟩
abbrev S1x1x256x128 : Shape := ⟨4, ![1, 1, 256, 128]⟩
abbrev S256x128 : Shape := ⟨2, ![256, 128]⟩
abbrev S256x512 : Shape := ⟨2, ![256, 512]⟩
abbrev S1x256x512 : Shape := ⟨3, ![1, 256, 512]⟩
abbrev S1x512 : Shape := ⟨2, ![1, 512]⟩
abbrev S80x512 : Shape := ⟨2, ![80, 512]⟩
abbrev S1x1x1x64x256 : Shape := ⟨5, ![1, 1, 1, 64, 256]⟩
abbrev S64x256 : Shape := ⟨2, ![64, 256]⟩
abbrev S80x256 : Shape := ⟨2, ![80, 256]⟩
abbrev S1x256 : Shape := ⟨2, ![1, 256]⟩
abbrev S1x1x64x256 : Shape := ⟨4, ![1, 1, 64, 256]⟩

abbrev nBuf : Space → Nat
  | .hbm => 67
  | .vmem => 12
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x64, .f32⟩
  | .hbm, ⟨3, _⟩ => ⟨S4x8192x512, .f32⟩
  | .hbm, ⟨4, _⟩ => ⟨S96, .f32⟩
  | .hbm, ⟨5, _⟩ => ⟨S96, .f32⟩
  | .hbm, ⟨6, _⟩ => ⟨S96, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S96, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x8192x8x96, .f32⟩
  | .hbm, ⟨25, _⟩ => ⟨S4x8192x8x96, .f32⟩
  | .hbm, ⟨26, _⟩ => ⟨S4x8x96x8192, .f32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i1⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S1x1x32x1, .f32⟩
  | .hbm, ⟨38, _⟩ => ⟨S4x8x32x8192, .f32⟩
  | .hbm, ⟨39, _⟩ => ⟨S4x8x128x8192, .f32⟩
  | .hbm, ⟨40, _⟩ => ⟨S4x8x128x32x256, .f32⟩
  | .hbm, ⟨41, _⟩ => ⟨S4x8x32x128x256, .f32⟩
  | .hbm, ⟨42, _⟩ => ⟨S4x8x32x128x256, .bf16⟩
  | .hbm, ⟨43, _⟩ => ⟨S_, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S32, .f32⟩
  | .hbm, ⟨48, _⟩ => ⟨S4x8192x8x32, .f32⟩
  | .hbm, ⟨49, _⟩ => ⟨S4x8192x8x128, .f32⟩
  | .hbm, ⟨50, _⟩ => ⟨S4x8x8192x128, .f32⟩
  | .hbm, ⟨51, _⟩ => ⟨S4x8x8192x128, .bf16⟩
  | .hbm, ⟨52, _⟩ => ⟨S4x32x256x8x64, .f32⟩
  | .hbm, ⟨53, _⟩ => ⟨S4x8x32x64x256, .f32⟩
  | .hbm, ⟨54, _⟩ => ⟨S4x8x32x64x256, .bf16⟩
  | .hbm, ⟨55, _⟩ => ⟨S_, .f32⟩
  | .hbm, ⟨56, _⟩ => ⟨S4x8192x512, .f32⟩
  | .hbm, ⟨57, _⟩ => ⟨S4x8192x512, .f32⟩
  | .hbm, ⟨58, _⟩ => ⟨S4x8192x512, .f32⟩
  | .hbm, ⟨59, _⟩ => ⟨S4x8192x512, .f32⟩
  | .hbm, ⟨60, _⟩ => ⟨S4x8192x512, .f32⟩
  | .hbm, ⟨61, _⟩ => ⟨S4x32x256x512, .f32⟩
  | .hbm, ⟨62, _⟩ => ⟨S4x32x512x256, .f32⟩
  | .hbm, ⟨63, _⟩ => ⟨S4x32x512x256, .bf16⟩
  | .hbm, ⟨64, _⟩ => ⟨S4x32x512x256, .bf16⟩
  | .hbm, ⟨65, _⟩ => ⟨S4x32x256x512, .bf16⟩
  | .hbm, ⟨66, _⟩ => ⟨S4x8192x512, .bf16⟩
  | .local _ .vmem, ⟨0, _⟩ => ⟨S1x2x32x128x256, .bf16⟩
  | .local _ .vmem, ⟨1, _⟩ => ⟨S1x2x32x128x256, .bf16⟩
  | .local _ .vmem, ⟨2, _⟩ => ⟨S1x2x8192x128, .bf16⟩
  | .local _ .vmem, ⟨3, _⟩ => ⟨S1x2x8192x128, .bf16⟩
  | .local _ .vmem, ⟨4, _⟩ => ⟨S1x2x32x64x256, .bf16⟩
  | .local _ .vmem, ⟨5, _⟩ => ⟨S1x2x32x64x256, .bf16⟩
  | .local _ .vmem, ⟨6, _⟩ => ⟨S1x32x128x256, .bf16⟩
  | .local _ .vmem, ⟨7, _⟩ => ⟨S1x32x128x256, .bf16⟩
  | .local _ .vmem, ⟨8, _⟩ => ⟨S1x32x128x256, .bf16⟩
  | .local _ .vmem, ⟨9, _⟩ => ⟨S1x32x128x256, .bf16⟩
  | .local _ .vmem, ⟨10, _⟩ => ⟨S2x256x512, .f32⟩
  | .local _ .vmem, ⟨11, _⟩ => ⟨S2x256x512, .f32⟩
  | _, _ => ⟨S4x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_cst_3 : Ref sig .tc := ⟨.hbm, 17, rfl⟩
abbrev main_call0_v0 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_cst_5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_cst_8 : Ref sig .tc := ⟨.hbm, 44, rfl⟩
abbrev main_call2_v0 : Ref sig .tc := ⟨.hbm, 45, rfl⟩
abbrev main_call2_v1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  c0_i32
def k0_mult2 : BitVec 32 :=
  let c0_i32_25 : BitVec 32 := 0#32
  c0_i32_25
@[reducible] def k0_t1_loop : Scf.Loop 32 :=
  let c0_i32_33 : BitVec 32 := 0#32
  let c16_i32 : BitVec 32 := 16#32
  let v30 : BitVec 32 := Scalar.addi c0_i32_33 c16_i32
  let c1_i32 : BitVec 32 := 1#32
  ⟨c0_i32_33, v30, c1_i32⟩
def k0_off1 (k0_t1 : Fin k0_t1_loop.trips) : Fin 5 → Nat :=
  let c0_35 : Index := 0#32
  let c0_36 : Index := 0#32
  let c2_i32 : BitVec 32 := 2#32
  let c0_i32_33 : BitVec 32 := 0#32
  let c1_i32 : BitVec 32 := 1#32
  let arg9 : BitVec 32 := Scf.iv c0_i32_33 c1_i32 k0_t1
  let v31 : BitVec 32 := Scalar.muli c2_i32 arg9
  let v32 : Index := Scalar.indexCast v31
  let c0_37 : Index := 0#32
  let c0_38 : Index := 0#32
  ![0, 0, v32.toNat, 0, 0]
def k0_off2 (k0_t1 : Fin k0_t1_loop.trips) : Fin 5 → Nat :=
  let c0_41 : Index := 0#32
  let c0_42 : Index := 0#32
  let c2_i32_39 : BitVec 32 := 2#32
  let c0_i32_33 : BitVec 32 := 0#32
  let c1_i32 : BitVec 32 := 1#32
  let arg9 : BitVec 32 := Scf.iv c0_i32_33 c1_i32 k0_t1
  let v35 : BitVec 32 := Scalar.muli c2_i32_39 arg9
  let c1_i32_40 : BitVec 32 := 1#32
  let v36 : BitVec 32 := Scalar.addi v35 c1_i32_40
  let v37 : Index := Scalar.indexCast v36
  let c0_43 : Index := 0#32
  let c0_44 : Index := 0#32
  ![0, 0, v37.toNat, 0, 0]
def k0_off3 (k0_t1 : Fin k0_t1_loop.trips) : Fin 5 → Nat :=
  let c0_46 : Index := 0#32
  let c1_47 : Index := 1#32
  let c2_i32_45 : BitVec 32 := 2#32
  let c0_i32_33 : BitVec 32 := 0#32
  let c1_i32 : BitVec 32 := 1#32
  let arg9 : BitVec 32 := Scf.iv c0_i32_33 c1_i32 k0_t1
  let v41 : BitVec 32 := Scalar.muli c2_i32_45 arg9
  let v42 : Index := Scalar.indexCast v41
  let c0_48 : Index := 0#32
  let c0_49 : Index := 0#32
  ![0, 1, v42.toNat, 0, 0]
def k0_off4 (k0_t1 : Fin k0_t1_loop.trips) : Fin 5 → Nat :=
  let c0_52 : Index := 0#32
  let c1_53 : Index := 1#32
  let c2_i32_50 : BitVec 32 := 2#32
  let c0_i32_33 : BitVec 32 := 0#32
  let c1_i32 : BitVec 32 := 1#32
  let arg9 : BitVec 32 := Scf.iv c0_i32_33 c1_i32 k0_t1
  let v45 : BitVec 32 := Scalar.muli c2_i32_50 arg9
  let c1_i32_51 : BitVec 32 := 1#32
  let v46 : BitVec 32 := Scalar.addi v45 c1_i32_51
  let v47 : Index := Scalar.indexCast v46
  let c0_54 : Index := 0#32
  let c0_55 : Index := 0#32
  ![0, 1, v47.toNat, 0, 0]
@[reducible] def k0_t2_loop (k0_t1 : Fin k0_t1_loop.trips) : Scf.Loop 32 :=
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_70 : BitVec 32 := 1#32
  ⟨c0_i32_68, v78, c1_i32_70⟩
def k0_mult3 (k0_t1 : Fin k0_t1_loop.trips) (k0_t2 : Fin (k0_t2_loop k0_t1).trips) : BitVec 32 :=
  let c2_i32_269 : BitVec 32 := 2#32
  let c8_i32_267 : BitVec 32 := 8#32
  let c0_i32_68 : BitVec 32 := 0#32
  let c1_i32_70 : BitVec 32 := 1#32
  let arg10 : BitVec 32 := Scf.iv c0_i32_68 c1_i32_70 k0_t2
  let v448 : BitVec 32 := Scalar.muli c8_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_271 : BitVec 32 := 256#32
  let v452 : BitVec 32 := Scalar.muli v451 c256_i32_271
  v452
def k0_off5 (k0_t1 : Fin k0_t1_loop.trips) (k0_t2 : Fin (k0_t2_loop k0_t1).trips) (c0_i32_268 : BitVec 32) (c1_i32_270 : BitVec 32) : Fin 4 → Nat :=
  let c0_272 : Index := 0#32
  let c0_273 : Index := 0#32
  let c2_i32_269 : BitVec 32 := 2#32
  let c8_i32_267 : BitVec 32 := 8#32
  let c0_i32_68 : BitVec 32 := 0#32
  let c1_i32_70 : BitVec 32 := 1#32
  let arg10 : BitVec 32 := Scf.iv c0_i32_68 c1_i32_70 k0_t2
  let v448 : BitVec 32 := Scalar.muli c8_i32_267 arg10
  let v449 : BitVec 32 := Scalar.addi v448 c0_i32_268
  let v450 : BitVec 32 := Scalar.muli c2_i32_269 v449
  let v451 : BitVec 32 := Scalar.addi v450 c1_i32_270
  let c256_i32_271 : BitVec 32 := 256#32
  let v452 : BitVec 32 := Scalar.muli v451 c256_i32_271
  let v453 : BitVec 32 := v452
  let v454 : Index := Scalar.indexCast v453
  let c0_274 : Index := 0#32
  ![0, 0, v454.toNat, 0]
def k0_mult4 (k0_t1 : Fin k0_t1_loop.trips) (k0_t2 : Fin (k0_t2_loop k0_t1).trips) : BitVec 32 :=
  let c2_i32_269 : BitVec 32 := 2#32
  let c8_i32_267 : BitVec 32 := 8#32
  let c0_i32_68 : BitVec 32 := 0#32
  let c1_i32_70 : BitVec 32 := 1#32
  let arg10 : BitVec 32 := Scf.iv c0_i32_68 c1_i32_70 k0_t2
  let v448 : BitVec 32 := Scalar.muli c8_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_279 : BitVec 32 := 256#32
  let v461 : BitVec 32 := Scalar.muli v451 c256_i32_279
  v461
def k0_off6 (k0_t1 : Fin k0_t1_loop.trips) (k0_t2 : Fin (k0_t2_loop k0_t1).trips) (c0_i32_268 : BitVec 32) (c1_i32_270 : BitVec 32) : Fin 4 → Nat :=
  let c0_280 : Index := 0#32
  let c1_281 : Index := 1#32
  let c2_i32_269 : BitVec 32 := 2#32
  let c8_i32_267 : BitVec 32 := 8#32
  let c0_i32_68 : BitVec 32 := 0#32
  let c1_i32_70 : BitVec 32 := 1#32
  let arg10 : BitVec 32 := Scf.iv c0_i32_68 c1_i32_70 k0_t2
  let v448 : BitVec 32 := Scalar.muli c8_i32_267 arg10
  let v449 : BitVec 32 := Scalar.addi v448 c0_i32_268
  let v450 : BitVec 32 := Scalar.muli c2_i32_269 v449
  let v451 : BitVec 32 := Scalar.addi v450 c1_i32_270
  let c256_i32_279 : BitVec 32 := 256#32
  let v461 : BitVec 32 := Scalar.muli v451 c256_i32_279
  let v462 : BitVec 32 := v461
  let v463 : Index := Scalar.indexCast v462
  let c0_282 : Index := 0#32
  ![0, 1, v463.toNat, 0]
def k0_off7 (k0_t1 : Fin k0_t1_loop.trips) (k0_t2 : Fin (k0_t2_loop k0_t1).trips) (c0_i32_268 : BitVec 32) : Fin 5 → Nat :=
  let c0_291 : Index := 0#32
  let c0_292 : Index := 0#32
  let c2_i32_287 : BitVec 32 := 2#32
  let c8_i32_267 : BitVec 32 := 8#32
  let c0_i32_68 : BitVec 32 := 0#32
  let c1_i32_70 : BitVec 32 := 1#32
  let arg10 : BitVec 32 := Scf.iv c0_i32_68 c1_i32_70 k0_t2
  let v448 : BitVec 32 := Scalar.muli c8_i32_267 arg10
  let v449 : BitVec 32 := Scalar.addi v448 c0_i32_268
  let v470 : BitVec 32 := Scalar.muli c2_i32_287 v449
  let v473 : Index := Scalar.indexCast v470
  let c0_293 : Index := 0#32
  let c0_294 : Index := 0#32
  ![0, 0, v473.toNat, 0, 0]
def k0_off8 (k0_t1 : Fin k0_t1_loop.trips) (k0_t2 : Fin (k0_t2_loop k0_t1).trips) (c0_i32_268 : BitVec 32) : Fin 5 → Nat :=
  let c0_299 : Index := 0#32
  let c1_300 : Index := 1#32
  let c2_i32_287 : BitVec 32 := 2#32
  let c8_i32_267 : BitVec 32 := 8#32
  let c0_i32_68 : BitVec 32 := 0#32
  let c1_i32_70 : BitVec 32 := 1#32
  let arg10 : BitVec 32 := Scf.iv c0_i32_68 c1_i32_70 k0_t2
  let v448 : BitVec 32 := Scalar.muli c8_i32_267 arg10
  let v449 : BitVec 32 := Scalar.addi v448 c0_i32_268
  let v470 : BitVec 32 := Scalar.muli c2_i32_287 v449
  let v483 : Index := Scalar.indexCast v470
  let c0_301 : Index := 0#32
  let c0_302 : Index := 0#32
  ![0, 1, v483.toNat, 0, 0]
def k0_mult5 (k0_t1 : Fin k0_t1_loop.trips) (k0_t2 : Fin (k0_t2_loop k0_t1).trips) : BitVec 32 :=
  let c2_i32_304 : BitVec 32 := 2#32
  let c8_i32_267 : BitVec 32 := 8#32
  let c0_i32_68 : BitVec 32 := 0#32
  let c1_i32_70 : BitVec 32 := 1#32
  let arg10 : BitVec 32 := Scf.iv c0_i32_68 c1_i32_70 k0_t2
  let v448 : BitVec 32 := Scalar.muli c8_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_306 : BitVec 32 := 256#32
  let v493 : BitVec 32 := Scalar.muli v492 c256_i32_306
  v493
def k0_mult6 (k0_t1 : Fin k0_t1_loop.trips) (k0_t2 : Fin (k0_t2_loop k0_t1).trips) : BitVec 32 :=
  let c2_i32_304 : BitVec 32 := 2#32
  let c8_i32_267 : BitVec 32 := 8#32
  let c0_i32_68 : BitVec 32 := 0#32
  let c1_i32_70 : BitVec 32 := 1#32
  let arg10 : BitVec 32 := Scf.iv c0_i32_68 c1_i32_70 k0_t2
  let v448 : BitVec 32 := Scalar.muli c8_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_314 : BitVec 32 := 256#32
  let v502 : BitVec 32 := Scalar.muli v492 c256_i32_314
  v502
def k0_off9 (k0_t1 : Fin k0_t1_loop.trips) (k0_t2 : Fin (k0_t2_loop k0_t1).trips) (c0_i32_268 : BitVec 32) : Fin 5 → Nat :=
  let c0_327 : Index := 0#32
  let c0_328 : Index := 0#32
  let c2_i32_322 : BitVec 32 := 2#32
  let c8_i32_267 : BitVec 32 := 8#32
  let c0_i32_68 : BitVec 32 := 0#32
  let c1_i32_70 : BitVec 32 := 1#32
  let arg10 : BitVec 32 := Scf.iv c0_i32_68 c1_i32_70 k0_t2
  let v448 : BitVec 32 := Scalar.muli c8_i32_267 arg10
  let v449 : BitVec 32 := Scalar.addi v448 c0_i32_268
  let v511 : BitVec 32 := Scalar.muli c2_i32_322 v449
  let c1_i32_323 : BitVec 32 := 1#32
  let v512 : BitVec 32 := Scalar.addi v511 c1_i32_323
  let v515 : Index := Scalar.indexCast v512
  let c0_329 : Index := 0#32
  let c0_330 : Index := 0#32
  ![0, 0, v515.toNat, 0, 0]
def k0_off10 (k0_t1 : Fin k0_t1_loop.trips) (k0_t2 : Fin (k0_t2_loop k0_t1).trips) (c0_i32_268 : BitVec 32) : Fin 5 → Nat :=
  let c0_335 : Index := 0#32
  let c1_336 : Index := 1#32
  let c2_i32_322 : BitVec 32 := 2#32
  let c8_i32_267 : BitVec 32 := 8#32
  let c0_i32_68 : BitVec 32 := 0#32
  let c1_i32_70 : BitVec 32 := 1#32
  let arg10 : BitVec 32 := Scf.iv c0_i32_68 c1_i32_70 k0_t2
  let v448 : BitVec 32 := Scalar.muli c8_i32_267 arg10
  let v449 : BitVec 32 := Scalar.addi v448 c0_i32_268
  let v511 : BitVec 32 := Scalar.muli c2_i32_322 v449
  let c1_i32_323 : BitVec 32 := 1#32
  let v512 : BitVec 32 := Scalar.addi v511 c1_i32_323
  let v525 : Index := Scalar.indexCast v512
  let c0_337 : Index := 0#32
  let c0_338 : Index := 0#32
  ![0, 1, v525.toNat, 0, 0]
def k0_mult7 (k0_t1 : Fin k0_t1_loop.trips) (k0_t2 : Fin (k0_t2_loop k0_t1).trips) : BitVec 32 :=
  let c2_i32_342 : BitVec 32 := 2#32
  let c8_i32_340 : BitVec 32 := 8#32
  let c0_i32_68 : BitVec 32 := 0#32
  let c1_i32_70 : BitVec 32 := 1#32
  let arg10 : BitVec 32 := Scf.iv c0_i32_68 c1_i32_70 k0_t2
  let v533 : BitVec 32 := Scalar.muli c8_i32_340 arg10
  let c1_i32_341 : BitVec 32 := 1#32
  let v534 : BitVec 32 := Scalar.addi v533 c1_i32_341
  let v535 : BitVec 32 := Scalar.muli c2_i32_342 v534
  let c1_i32_343 : BitVec 32 := 1#32
  let v536 : BitVec 32 := Scalar.addi v535 c1_i32_343
  let c256_i32_344 : BitVec 32 := 256#32
  let v537 : BitVec 32 := Scalar.muli v536 c256_i32_344
  v537
def k0_mult8 (k0_t1 : Fin k0_t1_loop.trips) (k0_t2 : Fin (k0_t2_loop k0_t1).trips) : BitVec 32 :=
  let c2_i32_342 : BitVec 32 := 2#32
  let c8_i32_340 : BitVec 32 := 8#32
  let c0_i32_68 : BitVec 32 := 0#32
  let c1_i32_70 : BitVec 32 := 1#32
  let arg10 : BitVec 32 := Scf.iv c0_i32_68 c1_i32_70 k0_t2
  let v533 : BitVec 32 := Scalar.muli c8_i32_340 arg10
  let c1_i32_341 : BitVec 32 := 1#32
  let v534 : BitVec 32 := Scalar.addi v533 c1_i32_341
  let v535 : BitVec 32 := Scalar.muli c2_i32_342 v534
  let c1_i32_343 : BitVec 32 := 1#32
  let v536 : BitVec 32 := Scalar.addi v535 c1_i32_343
  let c256_i32_352 : BitVec 32 := 256#32
  let v546 : BitVec 32 := Scalar.muli v536 c256_i32_352
  v546
def k0_mult9 (k0_t1 : Fin k0_t1_loop.trips) (k0_t2 : Fin (k0_t2_loop k0_t1).trips) : BitVec 32 :=
  let c2_i32_377 : BitVec 32 := 2#32
  let c8_i32_340 : BitVec 32 := 8#32
  let c0_i32_68 : BitVec 32 := 0#32
  let c1_i32_70 : BitVec 32 := 1#32
  let arg10 : BitVec 32 := Scf.iv c0_i32_68 c1_i32_70 k0_t2
  let v533 : BitVec 32 := Scalar.muli c8_i32_340 arg10
  let c1_i32_341 : BitVec 32 := 1#32
  let v534 : BitVec 32 := Scalar.addi v533 c1_i32_341
  let v576 : BitVec 32 := Scalar.muli c2_i32_377 v534
  let c2_i32_378 : BitVec 32 := 2#32
  let v577 : BitVec 32 := Scalar.addi v576 c2_i32_378
  let c256_i32_379 : BitVec 32 := 256#32
  let v578 : BitVec 32 := Scalar.muli v577 c256_i32_379
  v578
def k0_mult10 (k0_t1 : Fin k0_t1_loop.trips) (k0_t2 : Fin (k0_t2_loop k0_t1).trips) : BitVec 32 :=
  let c2_i32_377 : BitVec 32 := 2#32
  let c8_i32_340 : BitVec 32 := 8#32
  let c0_i32_68 : BitVec 32 := 0#32
  let c1_i32_70 : BitVec 32 := 1#32
  let arg10 : BitVec 32 := Scf.iv c0_i32_68 c1_i32_70 k0_t2
  let v533 : BitVec 32 := Scalar.muli c8_i32_340 arg10
  let c1_i32_341 : BitVec 32 := 1#32
  let v534 : BitVec 32 := Scalar.addi v533 c1_i32_341
  let v576 : BitVec 32 := Scalar.muli c2_i32_377 v534
  let c2_i32_378 : BitVec 32 := 2#32
  let v577 : BitVec 32 := Scalar.addi v576 c2_i32_378
  let c256_i32_387 : BitVec 32 := 256#32
  let v587 : BitVec 32 := Scalar.muli v577 c256_i32_387
  v587
def k0_mult11 (k0_t1 : Fin k0_t1_loop.trips) (k0_t2 : Fin (k0_t2_loop k0_t1).trips) : BitVec 32 :=
  let c2_i32_415 : BitVec 32 := 2#32
  let c8_i32_413 : BitVec 32 := 8#32
  let c0_i32_68 : BitVec 32 := 0#32
  let c1_i32_70 : BitVec 32 := 1#32
  let arg10 : BitVec 32 := Scf.iv c0_i32_68 c1_i32_70 k0_t2
  let v618 : BitVec 32 := Scalar.muli c8_i32_413 arg10
  let c2_i32_414 : BitVec 32 := 2#32
  let v619 : BitVec 32 := Scalar.addi v618 c2_i32_414
  let v620 : BitVec 32 := Scalar.muli c2_i32_415 v619
  let c1_i32_416 : BitVec 32 := 1#32
  let v621 : BitVec 32 := Scalar.addi v620 c1_i32_416
  let c256_i32_417 : BitVec 32 := 256#32
  let v622 : BitVec 32 := Scalar.muli v621 c256_i32_417
  v622
def k0_mult12 (k0_t1 : Fin k0_t1_loop.trips) (k0_t2 : Fin (k0_t2_loop k0_t1).trips) : BitVec 32 :=
  let c2_i32_415 : BitVec 32 := 2#32
  let c8_i32_413 : BitVec 32 := 8#32
  let c0_i32_68 : BitVec 32 := 0#32
  let c1_i32_70 : BitVec 32 := 1#32
  let arg10 : BitVec 32 := Scf.iv c0_i32_68 c1_i32_70 k0_t2
  let v618 : BitVec 32 := Scalar.muli c8_i32_413 arg10
  let c2_i32_414 : BitVec 32 := 2#32
  let v619 : BitVec 32 := Scalar.addi v618 c2_i32_414
  let v620 : BitVec 32 := Scalar.muli c2_i32_415 v619
  let c1_i32_416 : BitVec 32 := 1#32
  let v621 : BitVec 32 := Scalar.addi v620 c1_i32_416
  let c256_i32_425 : BitVec 32 := 256#32
  let v631 : BitVec 32 := Scalar.muli v621 c256_i32_425
  v631
def k0_mult13 (k0_t1 : Fin k0_t1_loop.trips) (k0_t2 : Fin (k0_t2_loop k0_t1).trips) : BitVec 32 :=
  let c2_i32_450 : BitVec 32 := 2#32
  let c8_i32_413 : BitVec 32 := 8#32
  let c0_i32_68 : BitVec 32 := 0#32
  let c1_i32_70 : BitVec 32 := 1#32
  let arg10 : BitVec 32 := Scf.iv c0_i32_68 c1_i32_70 k0_t2
  let v618 : BitVec 32 := Scalar.muli c8_i32_413 arg10
  let c2_i32_414 : BitVec 32 := 2#32
  let v619 : BitVec 32 := Scalar.addi v618 c2_i32_414
  let v661 : BitVec 32 := Scalar.muli c2_i32_450 v619
  let c2_i32_451 : BitVec 32 := 2#32
  let v662 : BitVec 32 := Scalar.addi v661 c2_i32_451
  let c256_i32_452 : BitVec 32 := 256#32
  let v663 : BitVec 32 := Scalar.muli v662 c256_i32_452
  v663
def k0_mult14 (k0_t1 : Fin k0_t1_loop.trips) (k0_t2 : Fin (k0_t2_loop k0_t1).trips) : BitVec 32 :=
  let c2_i32_450 : BitVec 32 := 2#32
  let c8_i32_413 : BitVec 32 := 8#32
  let c0_i32_68 : BitVec 32 := 0#32
  let c1_i32_70 : BitVec 32 := 1#32
  let arg10 : BitVec 32 := Scf.iv c0_i32_68 c1_i32_70 k0_t2
  let v618 : BitVec 32 := Scalar.muli c8_i32_413 arg10
  let c2_i32_414 : BitVec 32 := 2#32
  let v619 : BitVec 32 := Scalar.addi v618 c2_i32_414
  let v661 : BitVec 32 := Scalar.muli c2_i32_450 v619
  let c2_i32_451 : BitVec 32 := 2#32
  let v662 : BitVec 32 := Scalar.addi v661 c2_i32_451
  let c256_i32_460 : BitVec 32 := 256#32
  let v672 : BitVec 32 := Scalar.muli v662 c256_i32_460
  v672
def k0_mult15 (k0_t1 : Fin k0_t1_loop.trips) (k0_t2 : Fin (k0_t2_loop k0_t1).trips) : BitVec 32 :=
  let c2_i32_487 : BitVec 32 := 2#32
  let c8_i32_486 : BitVec 32 := 8#32
  let c0_i32_68 : BitVec 32 := 0#32
  let c1_i32_70 : BitVec 32 := 1#32
  let arg10 : BitVec 32 := Scf.iv c0_i32_68 c1_i32_70 k0_t2
  let v703 : BitVec 32 := Scalar.muli c8_i32_486 arg10
  let c3_i32 : BitVec 32 := 3#32
  let v704 : BitVec 32 := Scalar.addi v703 c3_i32
  let v705 : BitVec 32 := Scalar.muli c2_i32_487 v704
  let c1_i32_488 : BitVec 32 := 1#32
  let v706 : BitVec 32 := Scalar.addi v705 c1_i32_488
  let c256_i32_489 : BitVec 32 := 256#32
  let v707 : BitVec 32 := Scalar.muli v706 c256_i32_489
  v707
def k0_mult16 (k0_t1 : Fin k0_t1_loop.trips) (k0_t2 : Fin (k0_t2_loop k0_t1).trips) : BitVec 32 :=
  let c2_i32_487 : BitVec 32 := 2#32
  let c8_i32_486 : BitVec 32 := 8#32
  let c0_i32_68 : BitVec 32 := 0#32
  let c1_i32_70 : BitVec 32 := 1#32
  let arg10 : BitVec 32 := Scf.iv c0_i32_68 c1_i32_70 k0_t2
  let v703 : BitVec 32 := Scalar.muli c8_i32_486 arg10
  let c3_i32 : BitVec 32 := 3#32
  let v704 : BitVec 32 := Scalar.addi v703 c3_i32
  let v705 : BitVec 32 := Scalar.muli c2_i32_487 v704
  let c1_i32_488 : BitVec 32 := 1#32
  let v706 : BitVec 32 := Scalar.addi v705 c1_i32_488
  let c256_i32_497 : BitVec 32 := 256#32
  let v716 : BitVec 32 := Scalar.muli v706 c256_i32_497
  v716
def k0_mult17 (k0_t1 : Fin k0_t1_loop.trips) (k0_t2 : Fin (k0_t2_loop k0_t1).trips) : BitVec 32 :=
  let c2_i32_522 : BitVec 32 := 2#32
  let c8_i32_486 : BitVec 32 := 8#32
  let c0_i32_68 : BitVec 32 := 0#32
  let c1_i32_70 : BitVec 32 := 1#32
  let arg10 : BitVec 32 := Scf.iv c0_i32_68 c1_i32_70 k0_t2
  let v703 : BitVec 32 := Scalar.muli c8_i32_486 arg10
  let c3_i32 : BitVec 32 := 3#32
  let v704 : BitVec 32 := Scalar.addi v703 c3_i32
  let v746 : BitVec 32 := Scalar.muli c2_i32_522 v704
  let c2_i32_523 : BitVec 32 := 2#32
  let v747 : BitVec 32 := Scalar.addi v746 c2_i32_523
  let c256_i32_524 : BitVec 32 := 256#32
  let v748 : BitVec 32 := Scalar.muli v747 c256_i32_524
  v748
def k0_mult18 (k0_t1 : Fin k0_t1_loop.trips) (k0_t2 : Fin (k0_t2_loop k0_t1).trips) : BitVec 32 :=
  let c2_i32_522 : BitVec 32 := 2#32
  let c8_i32_486 : BitVec 32 := 8#32
  let c0_i32_68 : BitVec 32 := 0#32
  let c1_i32_70 : BitVec 32 := 1#32
  let arg10 : BitVec 32 := Scf.iv c0_i32_68 c1_i32_70 k0_t2
  let v703 : BitVec 32 := Scalar.muli c8_i32_486 arg10
  let c3_i32 : BitVec 32 := 3#32
  let v704 : BitVec 32 := Scalar.addi v703 c3_i32
  let v746 : BitVec 32 := Scalar.muli c2_i32_522 v704
  let c2_i32_523 : BitVec 32 := 2#32
  let v747 : BitVec 32 := Scalar.addi v746 c2_i32_523
  let c256_i32_532 : BitVec 32 := 256#32
  let v757 : BitVec 32 := Scalar.muli v747 c256_i32_532
  v757
def k0_mult19 (k0_t1 : Fin k0_t1_loop.trips) (k0_t2 : Fin (k0_t2_loop k0_t1).trips) : BitVec 32 :=
  let c2_i32_560 : BitVec 32 := 2#32
  let c8_i32_558 : BitVec 32 := 8#32
  let c0_i32_68 : BitVec 32 := 0#32
  let c1_i32_70 : BitVec 32 := 1#32
  let arg10 : BitVec 32 := Scf.iv c0_i32_68 c1_i32_70 k0_t2
  let v788 : BitVec 32 := Scalar.muli c8_i32_558 arg10
  let c4_i32_559 : BitVec 32 := 4#32
  let v789 : BitVec 32 := Scalar.addi v788 c4_i32_559
  let v790 : BitVec 32 := Scalar.muli c2_i32_560 v789
  let c1_i32_561 : BitVec 32 := 1#32
  let v791 : BitVec 32 := Scalar.addi v790 c1_i32_561
  let c256_i32_562 : BitVec 32 := 256#32
  let v792 : BitVec 32 := Scalar.muli v791 c256_i32_562
  v792
def k0_mult20 (k0_t1 : Fin k0_t1_loop.trips) (k0_t2 : Fin (k0_t2_loop k0_t1).trips) : BitVec 32 :=
  let c2_i32_560 : BitVec 32 := 2#32
  let c8_i32_558 : BitVec 32 := 8#32
  let c0_i32_68 : BitVec 32 := 0#32
  let c1_i32_70 : BitVec 32 := 1#32
  let arg10 : BitVec 32 := Scf.iv c0_i32_68 c1_i32_70 k0_t2
  let v788 : BitVec 32 := Scalar.muli c8_i32_558 arg10
  let c4_i32_559 : BitVec 32 := 4#32
  let v789 : BitVec 32 := Scalar.addi v788 c4_i32_559
  let v790 : BitVec 32 := Scalar.muli c2_i32_560 v789
  let c1_i32_561 : BitVec 32 := 1#32
  let v791 : BitVec 32 := Scalar.addi v790 c1_i32_561
  let c256_i32_570 : BitVec 32 := 256#32
  let v801 : BitVec 32 := Scalar.muli v791 c256_i32_570
  v801
def k0_mult21 (k0_t1 : Fin k0_t1_loop.trips) (k0_t2 : Fin (k0_t2_loop k0_t1).trips) : BitVec 32 :=
  let c2_i32_595 : BitVec 32 := 2#32
  let c8_i32_558 : BitVec 32 := 8#32
  let c0_i32_68 : BitVec 32 := 0#32
  let c1_i32_70 : BitVec 32 := 1#32
  let arg10 : BitVec 32 := Scf.iv c0_i32_68 c1_i32_70 k0_t2
  let v788 : BitVec 32 := Scalar.muli c8_i32_558 arg10
  let c4_i32_559 : BitVec 32 := 4#32
  let v789 : BitVec 32 := Scalar.addi v788 c4_i32_559
  let v831 : BitVec 32 := Scalar.muli c2_i32_595 v789
  let c2_i32_596 : BitVec 32 := 2#32
  let v832 : BitVec 32 := Scalar.addi v831 c2_i32_596
  let c256_i32_597 : BitVec 32 := 256#32
  let v833 : BitVec 32 := Scalar.muli v832 c256_i32_597
  v833
def k0_mult22 (k0_t1 : Fin k0_t1_loop.trips) (k0_t2 : Fin (k0_t2_loop k0_t1).trips) : BitVec 32 :=
  let c2_i32_595 : BitVec 32 := 2#32
  let c8_i32_558 : BitVec 32 := 8#32
  let c0_i32_68 : BitVec 32 := 0#32
  let c1_i32_70 : BitVec 32 := 1#32
  let arg10 : BitVec 32 := Scf.iv c0_i32_68 c1_i32_70 k0_t2
  let v788 : BitVec 32 := Scalar.muli c8_i32_558 arg10
  let c4_i32_559 : BitVec 32 := 4#32
  let v789 : BitVec 32 := Scalar.addi v788 c4_i32_559
  let v831 : BitVec 32 := Scalar.muli c2_i32_595 v789
  let c2_i32_596 : BitVec 32 := 2#32
  let v832 : BitVec 32 := Scalar.addi v831 c2_i32_596
  let c256_i32_605 : BitVec 32 := 256#32
  let v842 : BitVec 32 := Scalar.muli v832 c256_i32_605
  v842
def k0_mult23 (k0_t1 : Fin k0_t1_loop.trips) (k0_t2 : Fin (k0_t2_loop k0_t1).trips) : BitVec 32 :=
  let c2_i32_632 : BitVec 32 := 2#32
  let c8_i32_631 : BitVec 32 := 8#32
  let c0_i32_68 : BitVec 32 := 0#32
  let c1_i32_70 : BitVec 32 := 1#32
  let arg10 : BitVec 32 := Scf.iv c0_i32_68 c1_i32_70 k0_t2
  let v873 : BitVec 32 := Scalar.muli c8_i32_631 arg10
  let c5_i32 : BitVec 32 := 5#32
  let v874 : BitVec 32 := Scalar.addi v873 c5_i32
  let v875 : BitVec 32 := Scalar.muli c2_i32_632 v874
  let c1_i32_633 : BitVec 32 := 1#32
  let v876 : BitVec 32 := Scalar.addi v875 c1_i32_633
  let c256_i32_634 : BitVec 32 := 256#32
  let v877 : BitVec 32 := Scalar.muli v876 c256_i32_634
  v877
def k0_mult24 (k0_t1 : Fin k0_t1_loop.trips) (k0_t2 : Fin (k0_t2_loop k0_t1).trips) : BitVec 32 :=
  let c2_i32_632 : BitVec 32 := 2#32
  let c8_i32_631 : BitVec 32 := 8#32
  let c0_i32_68 : BitVec 32 := 0#32
  let c1_i32_70 : BitVec 32 := 1#32
  let arg10 : BitVec 32 := Scf.iv c0_i32_68 c1_i32_70 k0_t2
  let v873 : BitVec 32 := Scalar.muli c8_i32_631 arg10
  let c5_i32 : BitVec 32 := 5#32
  let v874 : BitVec 32 := Scalar.addi v873 c5_i32
  let v875 : BitVec 32 := Scalar.muli c2_i32_632 v874
  let c1_i32_633 : BitVec 32 := 1#32
  let v876 : BitVec 32 := Scalar.addi v875 c1_i32_633
  let c256_i32_642 : BitVec 32 := 256#32
  let v886 : BitVec 32 := Scalar.muli v876 c256_i32_642
  v886
def k0_mult25 (k0_t1 : Fin k0_t1_loop.trips) (k0_t2 : Fin (k0_t2_loop k0_t1).trips) : BitVec 32 :=
  let c2_i32_667 : BitVec 32 := 2#32
  let c8_i32_631 : BitVec 32 := 8#32
  let c0_i32_68 : BitVec 32 := 0#32
  let c1_i32_70 : BitVec 32 := 1#32
  let arg10 : BitVec 32 := Scf.iv c0_i32_68 c1_i32_70 k0_t2
  let v873 : BitVec 32 := Scalar.muli c8_i32_631 arg10
  let c5_i32 : BitVec 32 := 5#32
  let v874 : BitVec 32 := Scalar.addi v873 c5_i32
  let v916 : BitVec 32 := Scalar.muli c2_i32_667 v874
  let c2_i32_668 : BitVec 32 := 2#32
  let v917 : BitVec 32 := Scalar.addi v916 c2_i32_668
  let c256_i32_669 : BitVec 32 := 256#32
  let v918 : BitVec 32 := Scalar.muli v917 c256_i32_669
  v918
def k0_mult26 (k0_t1 : Fin k0_t1_loop.trips) (k0_t2 : Fin (k0_t2_loop k0_t1).trips) : BitVec 32 :=
  let c2_i32_667 : BitVec 32 := 2#32
  let c8_i32_631 : BitVec 32 := 8#32
  let c0_i32_68 : BitVec 32 := 0#32
  let c1_i32_70 : BitVec 32 := 1#32
  let arg10 : BitVec 32 := Scf.iv c0_i32_68 c1_i32_70 k0_t2
  let v873 : BitVec 32 := Scalar.muli c8_i32_631 arg10
  let c5_i32 : BitVec 32 := 5#32
  let v874 : BitVec 32 := Scalar.addi v873 c5_i32
  let v916 : BitVec 32 := Scalar.muli c2_i32_667 v874
  let c2_i32_668 : BitVec 32 := 2#32
  let v917 : BitVec 32 := Scalar.addi v916 c2_i32_668
  let c256_i32_677 : BitVec 32 := 256#32
  let v927 : BitVec 32 := Scalar.muli v917 c256_i32_677
  v927
def k0_mult27 (k0_t1 : Fin k0_t1_loop.trips) (k0_t2 : Fin (k0_t2_loop k0_t1).trips) : BitVec 32 :=
  let c2_i32_704 : BitVec 32 := 2#32
  let c8_i32_703 : BitVec 32 := 8#32
  let c0_i32_68 : BitVec 32 := 0#32
  let c1_i32_70 : BitVec 32 := 1#32
  let arg10 : BitVec 32 := Scf.iv c0_i32_68 c1_i32_70 k0_t2
  let v958 : BitVec 32 := Scalar.muli c8_i32_703 arg10
  let c6_i32 : BitVec 32 := 6#32
  let v959 : BitVec 32 := Scalar.addi v958 c6_i32
  let v960 : BitVec 32 := Scalar.muli c2_i32_704 v959
  let c1_i32_705 : BitVec 32 := 1#32
  let v961 : BitVec 32 := Scalar.addi v960 c1_i32_705
  let c256_i32_706 : BitVec 32 := 256#32
  let v962 : BitVec 32 := Scalar.muli v961 c256_i32_706
  v962
def k0_mult28 (k0_t1 : Fin k0_t1_loop.trips) (k0_t2 : Fin (k0_t2_loop k0_t1).trips) : BitVec 32 :=
  let c2_i32_704 : BitVec 32 := 2#32
  let c8_i32_703 : BitVec 32 := 8#32
  let c0_i32_68 : BitVec 32 := 0#32
  let c1_i32_70 : BitVec 32 := 1#32
  let arg10 : BitVec 32 := Scf.iv c0_i32_68 c1_i32_70 k0_t2
  let v958 : BitVec 32 := Scalar.muli c8_i32_703 arg10
  let c6_i32 : BitVec 32 := 6#32
  let v959 : BitVec 32 := Scalar.addi v958 c6_i32
  let v960 : BitVec 32 := Scalar.muli c2_i32_704 v959
  let c1_i32_705 : BitVec 32 := 1#32
  let v961 : BitVec 32 := Scalar.addi v960 c1_i32_705
  let c256_i32_714 : BitVec 32 := 256#32
  let v971 : BitVec 32 := Scalar.muli v961 c256_i32_714
  v971
def k0_mult29 (k0_t1 : Fin k0_t1_loop.trips) (k0_t2 : Fin (k0_t2_loop k0_t1).trips) : BitVec 32 :=
  let c2_i32_739 : BitVec 32 := 2#32
  let c8_i32_703 : BitVec 32 := 8#32
  let c0_i32_68 : BitVec 32 := 0#32
  let c1_i32_70 : BitVec 32 := 1#32
  let arg10 : BitVec 32 := Scf.iv c0_i32_68 c1_i32_70 k0_t2
  let v958 : BitVec 32 := Scalar.muli c8_i32_703 arg10
  let c6_i32 : BitVec 32 := 6#32
  let v959 : BitVec 32 := Scalar.addi v958 c6_i32
  let v1001 : BitVec 32 := Scalar.muli c2_i32_739 v959
  let c2_i32_740 : BitVec 32 := 2#32
  let v1002 : BitVec 32 := Scalar.addi v1001 c2_i32_740
  let c256_i32_741 : BitVec 32 := 256#32
  let v1003 : BitVec 32 := Scalar.muli v1002 c256_i32_741
  v1003
def k0_mult30 (k0_t1 : Fin k0_t1_loop.trips) (k0_t2 : Fin (k0_t2_loop k0_t1).trips) : BitVec 32 :=
  let c2_i32_739 : BitVec 32 := 2#32
  let c8_i32_703 : BitVec 32 := 8#32
  let c0_i32_68 : BitVec 32 := 0#32
  let c1_i32_70 : BitVec 32 := 1#32
  let arg10 : BitVec 32 := Scf.iv c0_i32_68 c1_i32_70 k0_t2
  let v958 : BitVec 32 := Scalar.muli c8_i32_703 arg10
  let c6_i32 : BitVec 32 := 6#32
  let v959 : BitVec 32 := Scalar.addi v958 c6_i32
  let v1001 : BitVec 32 := Scalar.muli c2_i32_739 v959
  let c2_i32_740 : BitVec 32 := 2#32
  let v1002 : BitVec 32 := Scalar.addi v1001 c2_i32_740
  let c256_i32_749 : BitVec 32 := 256#32
  let v1012 : BitVec 32 := Scalar.muli v1002 c256_i32_749
  v1012
def k0_mult31 (k0_t1 : Fin k0_t1_loop.trips) (k0_t2 : Fin (k0_t2_loop k0_t1).trips) : BitVec 32 :=
  let c2_i32_776 : BitVec 32 := 2#32
  let c8_i32_775 : BitVec 32 := 8#32
  let c0_i32_68 : BitVec 32 := 0#32
  let c1_i32_70 : BitVec 32 := 1#32
  let arg10 : BitVec 32 := Scf.iv c0_i32_68 c1_i32_70 k0_t2
  let v1043 : BitVec 32 := Scalar.muli c8_i32_775 arg10
  let c7_i32 : BitVec 32 := 7#32
  let v1044 : BitVec 32 := Scalar.addi v1043 c7_i32
  let v1045 : BitVec 32 := Scalar.muli c2_i32_776 v1044
  let c1_i32_777 : BitVec 32 := 1#32
  let v1046 : BitVec 32 := Scalar.addi v1045 c1_i32_777
  let c256_i32_778 : BitVec 32 := 256#32
  let v1047 : BitVec 32 := Scalar.muli v1046 c256_i32_778
  v1047
def k0_mult32 (k0_t1 : Fin k0_t1_loop.trips) (k0_t2 : Fin (k0_t2_loop k0_t1).trips) : BitVec 32 :=
  let c2_i32_776 : BitVec 32 := 2#32
  let c8_i32_775 : BitVec 32 := 8#32
  let c0_i32_68 : BitVec 32 := 0#32
  let c1_i32_70 : BitVec 32 := 1#32
  let arg10 : BitVec 32 := Scf.iv c0_i32_68 c1_i32_70 k0_t2
  let v1043 : BitVec 32 := Scalar.muli c8_i32_775 arg10
  let c7_i32 : BitVec 32 := 7#32
  let v1044 : BitVec 32 := Scalar.addi v1043 c7_i32
  let v1045 : BitVec 32 := Scalar.muli c2_i32_776 v1044
  let c1_i32_777 : BitVec 32 := 1#32
  let v1046 : BitVec 32 := Scalar.addi v1045 c1_i32_777
  let c256_i32_786 : BitVec 32 := 256#32
  let v1056 : BitVec 32 := Scalar.muli v1046 c256_i32_786
  v1056
def k0_mult33 (k0_t1 : Fin k0_t1_loop.trips) (k0_t2 : Fin (k0_t2_loop k0_t1).trips) : BitVec 32 :=
  let c2_i32_811 : BitVec 32 := 2#32
  let c8_i32_775 : BitVec 32 := 8#32
  let c0_i32_68 : BitVec 32 := 0#32
  let c1_i32_70 : BitVec 32 := 1#32
  let arg10 : BitVec 32 := Scf.iv c0_i32_68 c1_i32_70 k0_t2
  let v1043 : BitVec 32 := Scalar.muli c8_i32_775 arg10
  let c7_i32 : BitVec 32 := 7#32
  let v1044 : BitVec 32 := Scalar.addi v1043 c7_i32
  let v1086 : BitVec 32 := Scalar.muli c2_i32_811 v1044
  let c2_i32_812 : BitVec 32 := 2#32
  let v1087 : BitVec 32 := Scalar.addi v1086 c2_i32_812
  let c256_i32_813 : BitVec 32 := 256#32
  let v1088 : BitVec 32 := Scalar.muli v1087 c256_i32_813
  v1088
def k0_mult34 (k0_t1 : Fin k0_t1_loop.trips) (k0_t2 : Fin (k0_t2_loop k0_t1).trips) : BitVec 32 :=
  let c2_i32_811 : BitVec 32 := 2#32
  let c8_i32_775 : BitVec 32 := 8#32
  let c0_i32_68 : BitVec 32 := 0#32
  let c1_i32_70 : BitVec 32 := 1#32
  let arg10 : BitVec 32 := Scf.iv c0_i32_68 c1_i32_70 k0_t2
  let v1043 : BitVec 32 := Scalar.muli c8_i32_775 arg10
  let c7_i32 : BitVec 32 := 7#32
  let v1044 : BitVec 32 := Scalar.addi v1043 c7_i32
  let v1086 : BitVec 32 := Scalar.muli c2_i32_811 v1044
  let c2_i32_812 : BitVec 32 := 2#32
  let v1087 : BitVec 32 := Scalar.addi v1086 c2_i32_812
  let c256_i32_821 : BitVec 32 := 256#32
  let v1097 : BitVec 32 := Scalar.muli v1087 c256_i32_821
  v1097
@[reducible] def k0_t3_loop (k0_t1 : Fin k0_t1_loop.trips) : Scf.Loop 32 :=
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let v75 : BitVec 32 := Scalar.addi c0_i32_68 v74
  let c1_i32_71 : BitVec 32 := 1#32
  ⟨v78, v75, c1_i32_71⟩
def k0_mult35 (k0_t1 : Fin k0_t1_loop.trips) (k0_t3 : Fin (k0_t3_loop k0_t1).trips) : BitVec 32 :=
  let c2_i32_269 : BitVec 32 := 2#32
  let c8_i32_267 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v448 : BitVec 32 := Scalar.muli c8_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_271 : BitVec 32 := 256#32
  let v452 : BitVec 32 := Scalar.muli v451 c256_i32_271
  v452
def k0_off11 (k0_t1 : Fin k0_t1_loop.trips) (k0_t3 : Fin (k0_t3_loop k0_t1).trips) (c0_i32_268 : BitVec 32) (c1_i32_270 : BitVec 32) : Fin 4 → Nat :=
  let c0_272 : Index := 0#32
  let c0_273 : Index := 0#32
  let c2_i32_269 : BitVec 32 := 2#32
  let c8_i32_267 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v448 : BitVec 32 := Scalar.muli c8_i32_267 arg10
  let v449 : BitVec 32 := Scalar.addi v448 c0_i32_268
  let v450 : BitVec 32 := Scalar.muli c2_i32_269 v449
  let v451 : BitVec 32 := Scalar.addi v450 c1_i32_270
  let c256_i32_271 : BitVec 32 := 256#32
  let v452 : BitVec 32 := Scalar.muli v451 c256_i32_271
  let v453 : BitVec 32 := v452
  let v454 : Index := Scalar.indexCast v453
  let c0_274 : Index := 0#32
  ![0, 0, v454.toNat, 0]
def k0_mult36 (k0_t1 : Fin k0_t1_loop.trips) (k0_t3 : Fin (k0_t3_loop k0_t1).trips) : BitVec 32 :=
  let c2_i32_269 : BitVec 32 := 2#32
  let c8_i32_267 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v448 : BitVec 32 := Scalar.muli c8_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_279 : BitVec 32 := 256#32
  let v461 : BitVec 32 := Scalar.muli v451 c256_i32_279
  v461
def k0_off12 (k0_t1 : Fin k0_t1_loop.trips) (k0_t3 : Fin (k0_t3_loop k0_t1).trips) (c0_i32_268 : BitVec 32) (c1_i32_270 : BitVec 32) : Fin 4 → Nat :=
  let c0_280 : Index := 0#32
  let c1_281 : Index := 1#32
  let c2_i32_269 : BitVec 32 := 2#32
  let c8_i32_267 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v448 : BitVec 32 := Scalar.muli c8_i32_267 arg10
  let v449 : BitVec 32 := Scalar.addi v448 c0_i32_268
  let v450 : BitVec 32 := Scalar.muli c2_i32_269 v449
  let v451 : BitVec 32 := Scalar.addi v450 c1_i32_270
  let c256_i32_279 : BitVec 32 := 256#32
  let v461 : BitVec 32 := Scalar.muli v451 c256_i32_279
  let v462 : BitVec 32 := v461
  let v463 : Index := Scalar.indexCast v462
  let c0_282 : Index := 0#32
  ![0, 1, v463.toNat, 0]
def k0_off13 (k0_t1 : Fin k0_t1_loop.trips) (k0_t3 : Fin (k0_t3_loop k0_t1).trips) (c0_i32_268 : BitVec 32) : Fin 5 → Nat :=
  let c0_291 : Index := 0#32
  let c0_292 : Index := 0#32
  let c2_i32_287 : BitVec 32 := 2#32
  let c8_i32_267 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v448 : BitVec 32 := Scalar.muli c8_i32_267 arg10
  let v449 : BitVec 32 := Scalar.addi v448 c0_i32_268
  let v470 : BitVec 32 := Scalar.muli c2_i32_287 v449
  let v473 : Index := Scalar.indexCast v470
  let c0_293 : Index := 0#32
  let c0_294 : Index := 0#32
  ![0, 0, v473.toNat, 0, 0]
def k0_off14 (k0_t1 : Fin k0_t1_loop.trips) (k0_t3 : Fin (k0_t3_loop k0_t1).trips) (c0_i32_268 : BitVec 32) : Fin 5 → Nat :=
  let c0_299 : Index := 0#32
  let c1_300 : Index := 1#32
  let c2_i32_287 : BitVec 32 := 2#32
  let c8_i32_267 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v448 : BitVec 32 := Scalar.muli c8_i32_267 arg10
  let v449 : BitVec 32 := Scalar.addi v448 c0_i32_268
  let v470 : BitVec 32 := Scalar.muli c2_i32_287 v449
  let v483 : Index := Scalar.indexCast v470
  let c0_301 : Index := 0#32
  let c0_302 : Index := 0#32
  ![0, 1, v483.toNat, 0, 0]
def k0_mult37 (k0_t1 : Fin k0_t1_loop.trips) (k0_t3 : Fin (k0_t3_loop k0_t1).trips) : BitVec 32 :=
  let c2_i32_304 : BitVec 32 := 2#32
  let c8_i32_267 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v448 : BitVec 32 := Scalar.muli c8_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_306 : BitVec 32 := 256#32
  let v493 : BitVec 32 := Scalar.muli v492 c256_i32_306
  v493
def k0_mult38 (k0_t1 : Fin k0_t1_loop.trips) (k0_t3 : Fin (k0_t3_loop k0_t1).trips) : BitVec 32 :=
  let c2_i32_304 : BitVec 32 := 2#32
  let c8_i32_267 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v448 : BitVec 32 := Scalar.muli c8_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_314 : BitVec 32 := 256#32
  let v502 : BitVec 32 := Scalar.muli v492 c256_i32_314
  v502
def k0_off15 (k0_t1 : Fin k0_t1_loop.trips) (k0_t3 : Fin (k0_t3_loop k0_t1).trips) (c0_i32_268 : BitVec 32) : Fin 5 → Nat :=
  let c0_327 : Index := 0#32
  let c0_328 : Index := 0#32
  let c2_i32_322 : BitVec 32 := 2#32
  let c8_i32_267 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v448 : BitVec 32 := Scalar.muli c8_i32_267 arg10
  let v449 : BitVec 32 := Scalar.addi v448 c0_i32_268
  let v511 : BitVec 32 := Scalar.muli c2_i32_322 v449
  let c1_i32_323 : BitVec 32 := 1#32
  let v512 : BitVec 32 := Scalar.addi v511 c1_i32_323
  let v515 : Index := Scalar.indexCast v512
  let c0_329 : Index := 0#32
  let c0_330 : Index := 0#32
  ![0, 0, v515.toNat, 0, 0]
def k0_off16 (k0_t1 : Fin k0_t1_loop.trips) (k0_t3 : Fin (k0_t3_loop k0_t1).trips) (c0_i32_268 : BitVec 32) : Fin 5 → Nat :=
  let c0_335 : Index := 0#32
  let c1_336 : Index := 1#32
  let c2_i32_322 : BitVec 32 := 2#32
  let c8_i32_267 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v448 : BitVec 32 := Scalar.muli c8_i32_267 arg10
  let v449 : BitVec 32 := Scalar.addi v448 c0_i32_268
  let v511 : BitVec 32 := Scalar.muli c2_i32_322 v449
  let c1_i32_323 : BitVec 32 := 1#32
  let v512 : BitVec 32 := Scalar.addi v511 c1_i32_323
  let v525 : Index := Scalar.indexCast v512
  let c0_337 : Index := 0#32
  let c0_338 : Index := 0#32
  ![0, 1, v525.toNat, 0, 0]
def k0_mult39 (k0_t1 : Fin k0_t1_loop.trips) (k0_t3 : Fin (k0_t3_loop k0_t1).trips) : BitVec 32 :=
  let c2_i32_342 : BitVec 32 := 2#32
  let c8_i32_340 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v533 : BitVec 32 := Scalar.muli c8_i32_340 arg10
  let c1_i32_341 : BitVec 32 := 1#32
  let v534 : BitVec 32 := Scalar.addi v533 c1_i32_341
  let v535 : BitVec 32 := Scalar.muli c2_i32_342 v534
  let c1_i32_343 : BitVec 32 := 1#32
  let v536 : BitVec 32 := Scalar.addi v535 c1_i32_343
  let c256_i32_344 : BitVec 32 := 256#32
  let v537 : BitVec 32 := Scalar.muli v536 c256_i32_344
  v537
def k0_mult40 (k0_t1 : Fin k0_t1_loop.trips) (k0_t3 : Fin (k0_t3_loop k0_t1).trips) : BitVec 32 :=
  let c2_i32_342 : BitVec 32 := 2#32
  let c8_i32_340 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v533 : BitVec 32 := Scalar.muli c8_i32_340 arg10
  let c1_i32_341 : BitVec 32 := 1#32
  let v534 : BitVec 32 := Scalar.addi v533 c1_i32_341
  let v535 : BitVec 32 := Scalar.muli c2_i32_342 v534
  let c1_i32_343 : BitVec 32 := 1#32
  let v536 : BitVec 32 := Scalar.addi v535 c1_i32_343
  let c256_i32_352 : BitVec 32 := 256#32
  let v546 : BitVec 32 := Scalar.muli v536 c256_i32_352
  v546
def k0_mult41 (k0_t1 : Fin k0_t1_loop.trips) (k0_t3 : Fin (k0_t3_loop k0_t1).trips) : BitVec 32 :=
  let c2_i32_377 : BitVec 32 := 2#32
  let c8_i32_340 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v533 : BitVec 32 := Scalar.muli c8_i32_340 arg10
  let c1_i32_341 : BitVec 32 := 1#32
  let v534 : BitVec 32 := Scalar.addi v533 c1_i32_341
  let v576 : BitVec 32 := Scalar.muli c2_i32_377 v534
  let c2_i32_378 : BitVec 32 := 2#32
  let v577 : BitVec 32 := Scalar.addi v576 c2_i32_378
  let c256_i32_379 : BitVec 32 := 256#32
  let v578 : BitVec 32 := Scalar.muli v577 c256_i32_379
  v578
def k0_mult42 (k0_t1 : Fin k0_t1_loop.trips) (k0_t3 : Fin (k0_t3_loop k0_t1).trips) : BitVec 32 :=
  let c2_i32_377 : BitVec 32 := 2#32
  let c8_i32_340 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v533 : BitVec 32 := Scalar.muli c8_i32_340 arg10
  let c1_i32_341 : BitVec 32 := 1#32
  let v534 : BitVec 32 := Scalar.addi v533 c1_i32_341
  let v576 : BitVec 32 := Scalar.muli c2_i32_377 v534
  let c2_i32_378 : BitVec 32 := 2#32
  let v577 : BitVec 32 := Scalar.addi v576 c2_i32_378
  let c256_i32_387 : BitVec 32 := 256#32
  let v587 : BitVec 32 := Scalar.muli v577 c256_i32_387
  v587
def k0_mult43 (k0_t1 : Fin k0_t1_loop.trips) (k0_t3 : Fin (k0_t3_loop k0_t1).trips) : BitVec 32 :=
  let c2_i32_415 : BitVec 32 := 2#32
  let c8_i32_413 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v618 : BitVec 32 := Scalar.muli c8_i32_413 arg10
  let c2_i32_414 : BitVec 32 := 2#32
  let v619 : BitVec 32 := Scalar.addi v618 c2_i32_414
  let v620 : BitVec 32 := Scalar.muli c2_i32_415 v619
  let c1_i32_416 : BitVec 32 := 1#32
  let v621 : BitVec 32 := Scalar.addi v620 c1_i32_416
  let c256_i32_417 : BitVec 32 := 256#32
  let v622 : BitVec 32 := Scalar.muli v621 c256_i32_417
  v622
def k0_mult44 (k0_t1 : Fin k0_t1_loop.trips) (k0_t3 : Fin (k0_t3_loop k0_t1).trips) : BitVec 32 :=
  let c2_i32_415 : BitVec 32 := 2#32
  let c8_i32_413 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v618 : BitVec 32 := Scalar.muli c8_i32_413 arg10
  let c2_i32_414 : BitVec 32 := 2#32
  let v619 : BitVec 32 := Scalar.addi v618 c2_i32_414
  let v620 : BitVec 32 := Scalar.muli c2_i32_415 v619
  let c1_i32_416 : BitVec 32 := 1#32
  let v621 : BitVec 32 := Scalar.addi v620 c1_i32_416
  let c256_i32_425 : BitVec 32 := 256#32
  let v631 : BitVec 32 := Scalar.muli v621 c256_i32_425
  v631
def k0_mult45 (k0_t1 : Fin k0_t1_loop.trips) (k0_t3 : Fin (k0_t3_loop k0_t1).trips) : BitVec 32 :=
  let c2_i32_450 : BitVec 32 := 2#32
  let c8_i32_413 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v618 : BitVec 32 := Scalar.muli c8_i32_413 arg10
  let c2_i32_414 : BitVec 32 := 2#32
  let v619 : BitVec 32 := Scalar.addi v618 c2_i32_414
  let v661 : BitVec 32 := Scalar.muli c2_i32_450 v619
  let c2_i32_451 : BitVec 32 := 2#32
  let v662 : BitVec 32 := Scalar.addi v661 c2_i32_451
  let c256_i32_452 : BitVec 32 := 256#32
  let v663 : BitVec 32 := Scalar.muli v662 c256_i32_452
  v663
def k0_mult46 (k0_t1 : Fin k0_t1_loop.trips) (k0_t3 : Fin (k0_t3_loop k0_t1).trips) : BitVec 32 :=
  let c2_i32_450 : BitVec 32 := 2#32
  let c8_i32_413 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v618 : BitVec 32 := Scalar.muli c8_i32_413 arg10
  let c2_i32_414 : BitVec 32 := 2#32
  let v619 : BitVec 32 := Scalar.addi v618 c2_i32_414
  let v661 : BitVec 32 := Scalar.muli c2_i32_450 v619
  let c2_i32_451 : BitVec 32 := 2#32
  let v662 : BitVec 32 := Scalar.addi v661 c2_i32_451
  let c256_i32_460 : BitVec 32 := 256#32
  let v672 : BitVec 32 := Scalar.muli v662 c256_i32_460
  v672
def k0_mult47 (k0_t1 : Fin k0_t1_loop.trips) (k0_t3 : Fin (k0_t3_loop k0_t1).trips) : BitVec 32 :=
  let c2_i32_487 : BitVec 32 := 2#32
  let c8_i32_486 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v703 : BitVec 32 := Scalar.muli c8_i32_486 arg10
  let c3_i32 : BitVec 32 := 3#32
  let v704 : BitVec 32 := Scalar.addi v703 c3_i32
  let v705 : BitVec 32 := Scalar.muli c2_i32_487 v704
  let c1_i32_488 : BitVec 32 := 1#32
  let v706 : BitVec 32 := Scalar.addi v705 c1_i32_488
  let c256_i32_489 : BitVec 32 := 256#32
  let v707 : BitVec 32 := Scalar.muli v706 c256_i32_489
  v707
def k0_mult48 (k0_t1 : Fin k0_t1_loop.trips) (k0_t3 : Fin (k0_t3_loop k0_t1).trips) : BitVec 32 :=
  let c2_i32_487 : BitVec 32 := 2#32
  let c8_i32_486 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v703 : BitVec 32 := Scalar.muli c8_i32_486 arg10
  let c3_i32 : BitVec 32 := 3#32
  let v704 : BitVec 32 := Scalar.addi v703 c3_i32
  let v705 : BitVec 32 := Scalar.muli c2_i32_487 v704
  let c1_i32_488 : BitVec 32 := 1#32
  let v706 : BitVec 32 := Scalar.addi v705 c1_i32_488
  let c256_i32_497 : BitVec 32 := 256#32
  let v716 : BitVec 32 := Scalar.muli v706 c256_i32_497
  v716
def k0_mult49 (k0_t1 : Fin k0_t1_loop.trips) (k0_t3 : Fin (k0_t3_loop k0_t1).trips) : BitVec 32 :=
  let c2_i32_522 : BitVec 32 := 2#32
  let c8_i32_486 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v703 : BitVec 32 := Scalar.muli c8_i32_486 arg10
  let c3_i32 : BitVec 32 := 3#32
  let v704 : BitVec 32 := Scalar.addi v703 c3_i32
  let v746 : BitVec 32 := Scalar.muli c2_i32_522 v704
  let c2_i32_523 : BitVec 32 := 2#32
  let v747 : BitVec 32 := Scalar.addi v746 c2_i32_523
  let c256_i32_524 : BitVec 32 := 256#32
  let v748 : BitVec 32 := Scalar.muli v747 c256_i32_524
  v748
def k0_mult50 (k0_t1 : Fin k0_t1_loop.trips) (k0_t3 : Fin (k0_t3_loop k0_t1).trips) : BitVec 32 :=
  let c2_i32_522 : BitVec 32 := 2#32
  let c8_i32_486 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v703 : BitVec 32 := Scalar.muli c8_i32_486 arg10
  let c3_i32 : BitVec 32 := 3#32
  let v704 : BitVec 32 := Scalar.addi v703 c3_i32
  let v746 : BitVec 32 := Scalar.muli c2_i32_522 v704
  let c2_i32_523 : BitVec 32 := 2#32
  let v747 : BitVec 32 := Scalar.addi v746 c2_i32_523
  let c256_i32_532 : BitVec 32 := 256#32
  let v757 : BitVec 32 := Scalar.muli v747 c256_i32_532
  v757
def k0_mult51 (k0_t1 : Fin k0_t1_loop.trips) (k0_t3 : Fin (k0_t3_loop k0_t1).trips) : BitVec 32 :=
  let c2_i32_560 : BitVec 32 := 2#32
  let c8_i32_558 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v788 : BitVec 32 := Scalar.muli c8_i32_558 arg10
  let c4_i32_559 : BitVec 32 := 4#32
  let v789 : BitVec 32 := Scalar.addi v788 c4_i32_559
  let v790 : BitVec 32 := Scalar.muli c2_i32_560 v789
  let c1_i32_561 : BitVec 32 := 1#32
  let v791 : BitVec 32 := Scalar.addi v790 c1_i32_561
  let c256_i32_562 : BitVec 32 := 256#32
  let v792 : BitVec 32 := Scalar.muli v791 c256_i32_562
  v792
def k0_mult52 (k0_t1 : Fin k0_t1_loop.trips) (k0_t3 : Fin (k0_t3_loop k0_t1).trips) : BitVec 32 :=
  let c2_i32_560 : BitVec 32 := 2#32
  let c8_i32_558 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v788 : BitVec 32 := Scalar.muli c8_i32_558 arg10
  let c4_i32_559 : BitVec 32 := 4#32
  let v789 : BitVec 32 := Scalar.addi v788 c4_i32_559
  let v790 : BitVec 32 := Scalar.muli c2_i32_560 v789
  let c1_i32_561 : BitVec 32 := 1#32
  let v791 : BitVec 32 := Scalar.addi v790 c1_i32_561
  let c256_i32_570 : BitVec 32 := 256#32
  let v801 : BitVec 32 := Scalar.muli v791 c256_i32_570
  v801
def k0_mult53 (k0_t1 : Fin k0_t1_loop.trips) (k0_t3 : Fin (k0_t3_loop k0_t1).trips) : BitVec 32 :=
  let c2_i32_595 : BitVec 32 := 2#32
  let c8_i32_558 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v788 : BitVec 32 := Scalar.muli c8_i32_558 arg10
  let c4_i32_559 : BitVec 32 := 4#32
  let v789 : BitVec 32 := Scalar.addi v788 c4_i32_559
  let v831 : BitVec 32 := Scalar.muli c2_i32_595 v789
  let c2_i32_596 : BitVec 32 := 2#32
  let v832 : BitVec 32 := Scalar.addi v831 c2_i32_596
  let c256_i32_597 : BitVec 32 := 256#32
  let v833 : BitVec 32 := Scalar.muli v832 c256_i32_597
  v833
def k0_mult54 (k0_t1 : Fin k0_t1_loop.trips) (k0_t3 : Fin (k0_t3_loop k0_t1).trips) : BitVec 32 :=
  let c2_i32_595 : BitVec 32 := 2#32
  let c8_i32_558 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v788 : BitVec 32 := Scalar.muli c8_i32_558 arg10
  let c4_i32_559 : BitVec 32 := 4#32
  let v789 : BitVec 32 := Scalar.addi v788 c4_i32_559
  let v831 : BitVec 32 := Scalar.muli c2_i32_595 v789
  let c2_i32_596 : BitVec 32 := 2#32
  let v832 : BitVec 32 := Scalar.addi v831 c2_i32_596
  let c256_i32_605 : BitVec 32 := 256#32
  let v842 : BitVec 32 := Scalar.muli v832 c256_i32_605
  v842
def k0_mult55 (k0_t1 : Fin k0_t1_loop.trips) (k0_t3 : Fin (k0_t3_loop k0_t1).trips) : BitVec 32 :=
  let c2_i32_632 : BitVec 32 := 2#32
  let c8_i32_631 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v873 : BitVec 32 := Scalar.muli c8_i32_631 arg10
  let c5_i32 : BitVec 32 := 5#32
  let v874 : BitVec 32 := Scalar.addi v873 c5_i32
  let v875 : BitVec 32 := Scalar.muli c2_i32_632 v874
  let c1_i32_633 : BitVec 32 := 1#32
  let v876 : BitVec 32 := Scalar.addi v875 c1_i32_633
  let c256_i32_634 : BitVec 32 := 256#32
  let v877 : BitVec 32 := Scalar.muli v876 c256_i32_634
  v877
def k0_mult56 (k0_t1 : Fin k0_t1_loop.trips) (k0_t3 : Fin (k0_t3_loop k0_t1).trips) : BitVec 32 :=
  let c2_i32_632 : BitVec 32 := 2#32
  let c8_i32_631 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v873 : BitVec 32 := Scalar.muli c8_i32_631 arg10
  let c5_i32 : BitVec 32 := 5#32
  let v874 : BitVec 32 := Scalar.addi v873 c5_i32
  let v875 : BitVec 32 := Scalar.muli c2_i32_632 v874
  let c1_i32_633 : BitVec 32 := 1#32
  let v876 : BitVec 32 := Scalar.addi v875 c1_i32_633
  let c256_i32_642 : BitVec 32 := 256#32
  let v886 : BitVec 32 := Scalar.muli v876 c256_i32_642
  v886
def k0_mult57 (k0_t1 : Fin k0_t1_loop.trips) (k0_t3 : Fin (k0_t3_loop k0_t1).trips) : BitVec 32 :=
  let c2_i32_667 : BitVec 32 := 2#32
  let c8_i32_631 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v873 : BitVec 32 := Scalar.muli c8_i32_631 arg10
  let c5_i32 : BitVec 32 := 5#32
  let v874 : BitVec 32 := Scalar.addi v873 c5_i32
  let v916 : BitVec 32 := Scalar.muli c2_i32_667 v874
  let c2_i32_668 : BitVec 32 := 2#32
  let v917 : BitVec 32 := Scalar.addi v916 c2_i32_668
  let c256_i32_669 : BitVec 32 := 256#32
  let v918 : BitVec 32 := Scalar.muli v917 c256_i32_669
  v918
def k0_mult58 (k0_t1 : Fin k0_t1_loop.trips) (k0_t3 : Fin (k0_t3_loop k0_t1).trips) : BitVec 32 :=
  let c2_i32_667 : BitVec 32 := 2#32
  let c8_i32_631 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v873 : BitVec 32 := Scalar.muli c8_i32_631 arg10
  let c5_i32 : BitVec 32 := 5#32
  let v874 : BitVec 32 := Scalar.addi v873 c5_i32
  let v916 : BitVec 32 := Scalar.muli c2_i32_667 v874
  let c2_i32_668 : BitVec 32 := 2#32
  let v917 : BitVec 32 := Scalar.addi v916 c2_i32_668
  let c256_i32_677 : BitVec 32 := 256#32
  let v927 : BitVec 32 := Scalar.muli v917 c256_i32_677
  v927
def k0_mult59 (k0_t1 : Fin k0_t1_loop.trips) (k0_t3 : Fin (k0_t3_loop k0_t1).trips) : BitVec 32 :=
  let c2_i32_704 : BitVec 32 := 2#32
  let c8_i32_703 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v958 : BitVec 32 := Scalar.muli c8_i32_703 arg10
  let c6_i32 : BitVec 32 := 6#32
  let v959 : BitVec 32 := Scalar.addi v958 c6_i32
  let v960 : BitVec 32 := Scalar.muli c2_i32_704 v959
  let c1_i32_705 : BitVec 32 := 1#32
  let v961 : BitVec 32 := Scalar.addi v960 c1_i32_705
  let c256_i32_706 : BitVec 32 := 256#32
  let v962 : BitVec 32 := Scalar.muli v961 c256_i32_706
  v962
def k0_mult60 (k0_t1 : Fin k0_t1_loop.trips) (k0_t3 : Fin (k0_t3_loop k0_t1).trips) : BitVec 32 :=
  let c2_i32_704 : BitVec 32 := 2#32
  let c8_i32_703 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v958 : BitVec 32 := Scalar.muli c8_i32_703 arg10
  let c6_i32 : BitVec 32 := 6#32
  let v959 : BitVec 32 := Scalar.addi v958 c6_i32
  let v960 : BitVec 32 := Scalar.muli c2_i32_704 v959
  let c1_i32_705 : BitVec 32 := 1#32
  let v961 : BitVec 32 := Scalar.addi v960 c1_i32_705
  let c256_i32_714 : BitVec 32 := 256#32
  let v971 : BitVec 32 := Scalar.muli v961 c256_i32_714
  v971
def k0_mult61 (k0_t1 : Fin k0_t1_loop.trips) (k0_t3 : Fin (k0_t3_loop k0_t1).trips) : BitVec 32 :=
  let c2_i32_739 : BitVec 32 := 2#32
  let c8_i32_703 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v958 : BitVec 32 := Scalar.muli c8_i32_703 arg10
  let c6_i32 : BitVec 32 := 6#32
  let v959 : BitVec 32 := Scalar.addi v958 c6_i32
  let v1001 : BitVec 32 := Scalar.muli c2_i32_739 v959
  let c2_i32_740 : BitVec 32 := 2#32
  let v1002 : BitVec 32 := Scalar.addi v1001 c2_i32_740
  let c256_i32_741 : BitVec 32 := 256#32
  let v1003 : BitVec 32 := Scalar.muli v1002 c256_i32_741
  v1003
def k0_mult62 (k0_t1 : Fin k0_t1_loop.trips) (k0_t3 : Fin (k0_t3_loop k0_t1).trips) : BitVec 32 :=
  let c2_i32_739 : BitVec 32 := 2#32
  let c8_i32_703 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v958 : BitVec 32 := Scalar.muli c8_i32_703 arg10
  let c6_i32 : BitVec 32 := 6#32
  let v959 : BitVec 32 := Scalar.addi v958 c6_i32
  let v1001 : BitVec 32 := Scalar.muli c2_i32_739 v959
  let c2_i32_740 : BitVec 32 := 2#32
  let v1002 : BitVec 32 := Scalar.addi v1001 c2_i32_740
  let c256_i32_749 : BitVec 32 := 256#32
  let v1012 : BitVec 32 := Scalar.muli v1002 c256_i32_749
  v1012
def k0_mult63 (k0_t1 : Fin k0_t1_loop.trips) (k0_t3 : Fin (k0_t3_loop k0_t1).trips) : BitVec 32 :=
  let c2_i32_776 : BitVec 32 := 2#32
  let c8_i32_775 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v1043 : BitVec 32 := Scalar.muli c8_i32_775 arg10
  let c7_i32 : BitVec 32 := 7#32
  let v1044 : BitVec 32 := Scalar.addi v1043 c7_i32
  let v1045 : BitVec 32 := Scalar.muli c2_i32_776 v1044
  let c1_i32_777 : BitVec 32 := 1#32
  let v1046 : BitVec 32 := Scalar.addi v1045 c1_i32_777
  let c256_i32_778 : BitVec 32 := 256#32
  let v1047 : BitVec 32 := Scalar.muli v1046 c256_i32_778
  v1047
def k0_mult64 (k0_t1 : Fin k0_t1_loop.trips) (k0_t3 : Fin (k0_t3_loop k0_t1).trips) : BitVec 32 :=
  let c2_i32_776 : BitVec 32 := 2#32
  let c8_i32_775 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v1043 : BitVec 32 := Scalar.muli c8_i32_775 arg10
  let c7_i32 : BitVec 32 := 7#32
  let v1044 : BitVec 32 := Scalar.addi v1043 c7_i32
  let v1045 : BitVec 32 := Scalar.muli c2_i32_776 v1044
  let c1_i32_777 : BitVec 32 := 1#32
  let v1046 : BitVec 32 := Scalar.addi v1045 c1_i32_777
  let c256_i32_786 : BitVec 32 := 256#32
  let v1056 : BitVec 32 := Scalar.muli v1046 c256_i32_786
  v1056
def k0_mult65 (k0_t1 : Fin k0_t1_loop.trips) (k0_t3 : Fin (k0_t3_loop k0_t1).trips) : BitVec 32 :=
  let c2_i32_811 : BitVec 32 := 2#32
  let c8_i32_775 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v1043 : BitVec 32 := Scalar.muli c8_i32_775 arg10
  let c7_i32 : BitVec 32 := 7#32
  let v1044 : BitVec 32 := Scalar.addi v1043 c7_i32
  let v1086 : BitVec 32 := Scalar.muli c2_i32_811 v1044
  let c2_i32_812 : BitVec 32 := 2#32
  let v1087 : BitVec 32 := Scalar.addi v1086 c2_i32_812
  let c256_i32_813 : BitVec 32 := 256#32
  let v1088 : BitVec 32 := Scalar.muli v1087 c256_i32_813
  v1088
def k0_mult66 (k0_t1 : Fin k0_t1_loop.trips) (k0_t3 : Fin (k0_t3_loop k0_t1).trips) : BitVec 32 :=
  let c2_i32_811 : BitVec 32 := 2#32
  let c8_i32_775 : BitVec 32 := 8#32
  let c0_i32_68 : BitVec 32 := 0#32
  let c0_i32_67 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let v73 : BitVec 32 := Scalar.addi c0_i32_67 v72
  let v74 : BitVec 32 := Scalar.subi v73 c0_i32_68
  let c1_i32_69 : BitVec 32 := 1#32
  let v76 : BitVec 32 := Scalar.divsi v74 c1_i32_69
  let v77 : BitVec 32 := Scalar.muli v76 c1_i32_69
  let v78 : BitVec 32 := Scalar.addi c0_i32_68 v77
  let c1_i32_71 : BitVec 32 := 1#32
  let arg10 : BitVec 32 := Scf.iv v78 c1_i32_71 k0_t3
  let v1043 : BitVec 32 := Scalar.muli c8_i32_775 arg10
  let c7_i32 : BitVec 32 := 7#32
  let v1044 : BitVec 32 := Scalar.addi v1043 c7_i32
  let v1086 : BitVec 32 := Scalar.muli c2_i32_811 v1044
  let c2_i32_812 : BitVec 32 := 2#32
  let v1087 : BitVec 32 := Scalar.addi v1086 c2_i32_812
  let c256_i32_821 : BitVec 32 := 256#32
  let v1097 : BitVec 32 := Scalar.muli v1087 c256_i32_821
  v1097
@[reducible] def k0_t4_loop (k0_t1 : Fin k0_t1_loop.trips) : Scf.Loop 32 :=
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_95 : BitVec 32 := 1#32
  ⟨v117, v140, c1_i32_95⟩
def k0_mult67 (k0_t1 : Fin k0_t1_loop.trips) (k0_t4 : Fin (k0_t4_loop k0_t1).trips) : BitVec 32 :=
  let c2_i32_269 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v448 : BitVec 32 := Scalar.muli c4_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_271 : BitVec 32 := 256#32
  let v452 : BitVec 32 := Scalar.muli v451 c256_i32_271
  v452
def k0_off17 (k0_t1 : Fin k0_t1_loop.trips) (k0_t4 : Fin (k0_t4_loop k0_t1).trips) (c0_i32_268 : BitVec 32) (c1_i32_270 : BitVec 32) : Fin 4 → Nat :=
  let c0_272 : Index := 0#32
  let c0_273 : Index := 0#32
  let c2_i32_269 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v448 : BitVec 32 := Scalar.muli c4_i32_267 arg10
  let v449 : BitVec 32 := Scalar.addi v448 c0_i32_268
  let v450 : BitVec 32 := Scalar.muli c2_i32_269 v449
  let v451 : BitVec 32 := Scalar.addi v450 c1_i32_270
  let c256_i32_271 : BitVec 32 := 256#32
  let v452 : BitVec 32 := Scalar.muli v451 c256_i32_271
  let v453 : BitVec 32 := v452
  let v454 : Index := Scalar.indexCast v453
  let c0_274 : Index := 0#32
  ![0, 0, v454.toNat, 0]
def k0_mult68 (k0_t1 : Fin k0_t1_loop.trips) (k0_t4 : Fin (k0_t4_loop k0_t1).trips) : BitVec 32 :=
  let c2_i32_269 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v448 : BitVec 32 := Scalar.muli c4_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_279 : BitVec 32 := 256#32
  let v461 : BitVec 32 := Scalar.muli v451 c256_i32_279
  v461
def k0_off18 (k0_t1 : Fin k0_t1_loop.trips) (k0_t4 : Fin (k0_t4_loop k0_t1).trips) (c0_i32_268 : BitVec 32) (c1_i32_270 : BitVec 32) : Fin 4 → Nat :=
  let c0_280 : Index := 0#32
  let c1_281 : Index := 1#32
  let c2_i32_269 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v448 : BitVec 32 := Scalar.muli c4_i32_267 arg10
  let v449 : BitVec 32 := Scalar.addi v448 c0_i32_268
  let v450 : BitVec 32 := Scalar.muli c2_i32_269 v449
  let v451 : BitVec 32 := Scalar.addi v450 c1_i32_270
  let c256_i32_279 : BitVec 32 := 256#32
  let v461 : BitVec 32 := Scalar.muli v451 c256_i32_279
  let v462 : BitVec 32 := v461
  let v463 : Index := Scalar.indexCast v462
  let c0_282 : Index := 0#32
  ![0, 1, v463.toNat, 0]
def k0_off19 (k0_t1 : Fin k0_t1_loop.trips) (k0_t4 : Fin (k0_t4_loop k0_t1).trips) (c0_i32_268 : BitVec 32) : Fin 5 → Nat :=
  let c0_291 : Index := 0#32
  let c0_292 : Index := 0#32
  let c2_i32_287 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v448 : BitVec 32 := Scalar.muli c4_i32_267 arg10
  let v449 : BitVec 32 := Scalar.addi v448 c0_i32_268
  let v470 : BitVec 32 := Scalar.muli c2_i32_287 v449
  let v473 : Index := Scalar.indexCast v470
  let c0_293 : Index := 0#32
  let c0_294 : Index := 0#32
  ![0, 0, v473.toNat, 0, 0]
def k0_off20 (k0_t1 : Fin k0_t1_loop.trips) (k0_t4 : Fin (k0_t4_loop k0_t1).trips) (c0_i32_268 : BitVec 32) : Fin 5 → Nat :=
  let c0_299 : Index := 0#32
  let c1_300 : Index := 1#32
  let c2_i32_287 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v448 : BitVec 32 := Scalar.muli c4_i32_267 arg10
  let v449 : BitVec 32 := Scalar.addi v448 c0_i32_268
  let v470 : BitVec 32 := Scalar.muli c2_i32_287 v449
  let v483 : Index := Scalar.indexCast v470
  let c0_301 : Index := 0#32
  let c0_302 : Index := 0#32
  ![0, 1, v483.toNat, 0, 0]
def k0_mult69 (k0_t1 : Fin k0_t1_loop.trips) (k0_t4 : Fin (k0_t4_loop k0_t1).trips) : BitVec 32 :=
  let c2_i32_304 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v448 : BitVec 32 := Scalar.muli c4_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_306 : BitVec 32 := 256#32
  let v493 : BitVec 32 := Scalar.muli v492 c256_i32_306
  v493
def k0_mult70 (k0_t1 : Fin k0_t1_loop.trips) (k0_t4 : Fin (k0_t4_loop k0_t1).trips) : BitVec 32 :=
  let c2_i32_304 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v448 : BitVec 32 := Scalar.muli c4_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_314 : BitVec 32 := 256#32
  let v502 : BitVec 32 := Scalar.muli v492 c256_i32_314
  v502
def k0_off21 (k0_t1 : Fin k0_t1_loop.trips) (k0_t4 : Fin (k0_t4_loop k0_t1).trips) (c0_i32_268 : BitVec 32) : Fin 5 → Nat :=
  let c0_327 : Index := 0#32
  let c0_328 : Index := 0#32
  let c2_i32_322 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v448 : BitVec 32 := Scalar.muli c4_i32_267 arg10
  let v449 : BitVec 32 := Scalar.addi v448 c0_i32_268
  let v511 : BitVec 32 := Scalar.muli c2_i32_322 v449
  let c1_i32_323 : BitVec 32 := 1#32
  let v512 : BitVec 32 := Scalar.addi v511 c1_i32_323
  let v515 : Index := Scalar.indexCast v512
  let c0_329 : Index := 0#32
  let c0_330 : Index := 0#32
  ![0, 0, v515.toNat, 0, 0]
def k0_off22 (k0_t1 : Fin k0_t1_loop.trips) (k0_t4 : Fin (k0_t4_loop k0_t1).trips) (c0_i32_268 : BitVec 32) : Fin 5 → Nat :=
  let c0_335 : Index := 0#32
  let c1_336 : Index := 1#32
  let c2_i32_322 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v448 : BitVec 32 := Scalar.muli c4_i32_267 arg10
  let v449 : BitVec 32 := Scalar.addi v448 c0_i32_268
  let v511 : BitVec 32 := Scalar.muli c2_i32_322 v449
  let c1_i32_323 : BitVec 32 := 1#32
  let v512 : BitVec 32 := Scalar.addi v511 c1_i32_323
  let v525 : Index := Scalar.indexCast v512
  let c0_337 : Index := 0#32
  let c0_338 : Index := 0#32
  ![0, 1, v525.toNat, 0, 0]
def k0_mult71 (k0_t1 : Fin k0_t1_loop.trips) (k0_t4 : Fin (k0_t4_loop k0_t1).trips) : BitVec 32 :=
  let c2_i32_342 : BitVec 32 := 2#32
  let c4_i32_340 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v533 : BitVec 32 := Scalar.muli c4_i32_340 arg10
  let c1_i32_341 : BitVec 32 := 1#32
  let v534 : BitVec 32 := Scalar.addi v533 c1_i32_341
  let v535 : BitVec 32 := Scalar.muli c2_i32_342 v534
  let c1_i32_343 : BitVec 32 := 1#32
  let v536 : BitVec 32 := Scalar.addi v535 c1_i32_343
  let c256_i32_344 : BitVec 32 := 256#32
  let v537 : BitVec 32 := Scalar.muli v536 c256_i32_344
  v537
def k0_mult72 (k0_t1 : Fin k0_t1_loop.trips) (k0_t4 : Fin (k0_t4_loop k0_t1).trips) : BitVec 32 :=
  let c2_i32_342 : BitVec 32 := 2#32
  let c4_i32_340 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v533 : BitVec 32 := Scalar.muli c4_i32_340 arg10
  let c1_i32_341 : BitVec 32 := 1#32
  let v534 : BitVec 32 := Scalar.addi v533 c1_i32_341
  let v535 : BitVec 32 := Scalar.muli c2_i32_342 v534
  let c1_i32_343 : BitVec 32 := 1#32
  let v536 : BitVec 32 := Scalar.addi v535 c1_i32_343
  let c256_i32_352 : BitVec 32 := 256#32
  let v546 : BitVec 32 := Scalar.muli v536 c256_i32_352
  v546
def k0_mult73 (k0_t1 : Fin k0_t1_loop.trips) (k0_t4 : Fin (k0_t4_loop k0_t1).trips) : BitVec 32 :=
  let c2_i32_377 : BitVec 32 := 2#32
  let c4_i32_340 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v533 : BitVec 32 := Scalar.muli c4_i32_340 arg10
  let c1_i32_341 : BitVec 32 := 1#32
  let v534 : BitVec 32 := Scalar.addi v533 c1_i32_341
  let v576 : BitVec 32 := Scalar.muli c2_i32_377 v534
  let c2_i32_378 : BitVec 32 := 2#32
  let v577 : BitVec 32 := Scalar.addi v576 c2_i32_378
  let c256_i32_379 : BitVec 32 := 256#32
  let v578 : BitVec 32 := Scalar.muli v577 c256_i32_379
  v578
def k0_mult74 (k0_t1 : Fin k0_t1_loop.trips) (k0_t4 : Fin (k0_t4_loop k0_t1).trips) : BitVec 32 :=
  let c2_i32_377 : BitVec 32 := 2#32
  let c4_i32_340 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v533 : BitVec 32 := Scalar.muli c4_i32_340 arg10
  let c1_i32_341 : BitVec 32 := 1#32
  let v534 : BitVec 32 := Scalar.addi v533 c1_i32_341
  let v576 : BitVec 32 := Scalar.muli c2_i32_377 v534
  let c2_i32_378 : BitVec 32 := 2#32
  let v577 : BitVec 32 := Scalar.addi v576 c2_i32_378
  let c256_i32_387 : BitVec 32 := 256#32
  let v587 : BitVec 32 := Scalar.muli v577 c256_i32_387
  v587
def k0_mult75 (k0_t1 : Fin k0_t1_loop.trips) (k0_t4 : Fin (k0_t4_loop k0_t1).trips) : BitVec 32 :=
  let c2_i32_415 : BitVec 32 := 2#32
  let c4_i32_413 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v618 : BitVec 32 := Scalar.muli c4_i32_413 arg10
  let c2_i32_414 : BitVec 32 := 2#32
  let v619 : BitVec 32 := Scalar.addi v618 c2_i32_414
  let v620 : BitVec 32 := Scalar.muli c2_i32_415 v619
  let c1_i32_416 : BitVec 32 := 1#32
  let v621 : BitVec 32 := Scalar.addi v620 c1_i32_416
  let c256_i32_417 : BitVec 32 := 256#32
  let v622 : BitVec 32 := Scalar.muli v621 c256_i32_417
  v622
def k0_mult76 (k0_t1 : Fin k0_t1_loop.trips) (k0_t4 : Fin (k0_t4_loop k0_t1).trips) : BitVec 32 :=
  let c2_i32_415 : BitVec 32 := 2#32
  let c4_i32_413 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v618 : BitVec 32 := Scalar.muli c4_i32_413 arg10
  let c2_i32_414 : BitVec 32 := 2#32
  let v619 : BitVec 32 := Scalar.addi v618 c2_i32_414
  let v620 : BitVec 32 := Scalar.muli c2_i32_415 v619
  let c1_i32_416 : BitVec 32 := 1#32
  let v621 : BitVec 32 := Scalar.addi v620 c1_i32_416
  let c256_i32_425 : BitVec 32 := 256#32
  let v631 : BitVec 32 := Scalar.muli v621 c256_i32_425
  v631
def k0_mult77 (k0_t1 : Fin k0_t1_loop.trips) (k0_t4 : Fin (k0_t4_loop k0_t1).trips) : BitVec 32 :=
  let c2_i32_450 : BitVec 32 := 2#32
  let c4_i32_413 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v618 : BitVec 32 := Scalar.muli c4_i32_413 arg10
  let c2_i32_414 : BitVec 32 := 2#32
  let v619 : BitVec 32 := Scalar.addi v618 c2_i32_414
  let v661 : BitVec 32 := Scalar.muli c2_i32_450 v619
  let c2_i32_451 : BitVec 32 := 2#32
  let v662 : BitVec 32 := Scalar.addi v661 c2_i32_451
  let c256_i32_452 : BitVec 32 := 256#32
  let v663 : BitVec 32 := Scalar.muli v662 c256_i32_452
  v663
def k0_mult78 (k0_t1 : Fin k0_t1_loop.trips) (k0_t4 : Fin (k0_t4_loop k0_t1).trips) : BitVec 32 :=
  let c2_i32_450 : BitVec 32 := 2#32
  let c4_i32_413 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v618 : BitVec 32 := Scalar.muli c4_i32_413 arg10
  let c2_i32_414 : BitVec 32 := 2#32
  let v619 : BitVec 32 := Scalar.addi v618 c2_i32_414
  let v661 : BitVec 32 := Scalar.muli c2_i32_450 v619
  let c2_i32_451 : BitVec 32 := 2#32
  let v662 : BitVec 32 := Scalar.addi v661 c2_i32_451
  let c256_i32_460 : BitVec 32 := 256#32
  let v672 : BitVec 32 := Scalar.muli v662 c256_i32_460
  v672
def k0_mult79 (k0_t1 : Fin k0_t1_loop.trips) (k0_t4 : Fin (k0_t4_loop k0_t1).trips) : BitVec 32 :=
  let c2_i32_487 : BitVec 32 := 2#32
  let c4_i32_486 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v703 : BitVec 32 := Scalar.muli c4_i32_486 arg10
  let c3_i32 : BitVec 32 := 3#32
  let v704 : BitVec 32 := Scalar.addi v703 c3_i32
  let v705 : BitVec 32 := Scalar.muli c2_i32_487 v704
  let c1_i32_488 : BitVec 32 := 1#32
  let v706 : BitVec 32 := Scalar.addi v705 c1_i32_488
  let c256_i32_489 : BitVec 32 := 256#32
  let v707 : BitVec 32 := Scalar.muli v706 c256_i32_489
  v707
def k0_mult80 (k0_t1 : Fin k0_t1_loop.trips) (k0_t4 : Fin (k0_t4_loop k0_t1).trips) : BitVec 32 :=
  let c2_i32_487 : BitVec 32 := 2#32
  let c4_i32_486 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v703 : BitVec 32 := Scalar.muli c4_i32_486 arg10
  let c3_i32 : BitVec 32 := 3#32
  let v704 : BitVec 32 := Scalar.addi v703 c3_i32
  let v705 : BitVec 32 := Scalar.muli c2_i32_487 v704
  let c1_i32_488 : BitVec 32 := 1#32
  let v706 : BitVec 32 := Scalar.addi v705 c1_i32_488
  let c256_i32_497 : BitVec 32 := 256#32
  let v716 : BitVec 32 := Scalar.muli v706 c256_i32_497
  v716
def k0_mult81 (k0_t1 : Fin k0_t1_loop.trips) (k0_t4 : Fin (k0_t4_loop k0_t1).trips) : BitVec 32 :=
  let c2_i32_522 : BitVec 32 := 2#32
  let c4_i32_486 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v703 : BitVec 32 := Scalar.muli c4_i32_486 arg10
  let c3_i32 : BitVec 32 := 3#32
  let v704 : BitVec 32 := Scalar.addi v703 c3_i32
  let v746 : BitVec 32 := Scalar.muli c2_i32_522 v704
  let c2_i32_523 : BitVec 32 := 2#32
  let v747 : BitVec 32 := Scalar.addi v746 c2_i32_523
  let c256_i32_524 : BitVec 32 := 256#32
  let v748 : BitVec 32 := Scalar.muli v747 c256_i32_524
  v748
def k0_mult82 (k0_t1 : Fin k0_t1_loop.trips) (k0_t4 : Fin (k0_t4_loop k0_t1).trips) : BitVec 32 :=
  let c2_i32_522 : BitVec 32 := 2#32
  let c4_i32_486 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c1_i32_95 : BitVec 32 := 1#32
  let arg10 : BitVec 32 := Scf.iv v117 c1_i32_95 k0_t4
  let v703 : BitVec 32 := Scalar.muli c4_i32_486 arg10
  let c3_i32 : BitVec 32 := 3#32
  let v704 : BitVec 32 := Scalar.addi v703 c3_i32
  let v746 : BitVec 32 := Scalar.muli c2_i32_522 v704
  let c2_i32_523 : BitVec 32 := 2#32
  let v747 : BitVec 32 := Scalar.addi v746 c2_i32_523
  let c256_i32_532 : BitVec 32 := 256#32
  let v757 : BitVec 32 := Scalar.muli v747 c256_i32_532
  v757
@[reducible] def k0_t5_loop (k0_t1 : Fin k0_t1_loop.trips) : Scf.Loop 32 :=
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let v137 : BitVec 32 := Scalar.addi v117 v136
  let c1_i32_96 : BitVec 32 := 1#32
  ⟨v140, v137, c1_i32_96⟩
def k0_mult83 (k0_t1 : Fin k0_t1_loop.trips) (k0_t5 : Fin (k0_t5_loop k0_t1).trips) : BitVec 32 :=
  let c2_i32_269 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v448 : BitVec 32 := Scalar.muli c4_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_271 : BitVec 32 := 256#32
  let v452 : BitVec 32 := Scalar.muli v451 c256_i32_271
  v452
def k0_off23 (k0_t1 : Fin k0_t1_loop.trips) (k0_t5 : Fin (k0_t5_loop k0_t1).trips) (c0_i32_268 : BitVec 32) (c1_i32_270 : BitVec 32) : Fin 4 → Nat :=
  let c0_272 : Index := 0#32
  let c0_273 : Index := 0#32
  let c2_i32_269 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v448 : BitVec 32 := Scalar.muli c4_i32_267 arg10
  let v449 : BitVec 32 := Scalar.addi v448 c0_i32_268
  let v450 : BitVec 32 := Scalar.muli c2_i32_269 v449
  let v451 : BitVec 32 := Scalar.addi v450 c1_i32_270
  let c256_i32_271 : BitVec 32 := 256#32
  let v452 : BitVec 32 := Scalar.muli v451 c256_i32_271
  let v453 : BitVec 32 := v452
  let v454 : Index := Scalar.indexCast v453
  let c0_274 : Index := 0#32
  ![0, 0, v454.toNat, 0]
def k0_mult84 (k0_t1 : Fin k0_t1_loop.trips) (k0_t5 : Fin (k0_t5_loop k0_t1).trips) : BitVec 32 :=
  let c2_i32_269 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v448 : BitVec 32 := Scalar.muli c4_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_279 : BitVec 32 := 256#32
  let v461 : BitVec 32 := Scalar.muli v451 c256_i32_279
  v461
def k0_off24 (k0_t1 : Fin k0_t1_loop.trips) (k0_t5 : Fin (k0_t5_loop k0_t1).trips) (c0_i32_268 : BitVec 32) (c1_i32_270 : BitVec 32) : Fin 4 → Nat :=
  let c0_280 : Index := 0#32
  let c1_281 : Index := 1#32
  let c2_i32_269 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v448 : BitVec 32 := Scalar.muli c4_i32_267 arg10
  let v449 : BitVec 32 := Scalar.addi v448 c0_i32_268
  let v450 : BitVec 32 := Scalar.muli c2_i32_269 v449
  let v451 : BitVec 32 := Scalar.addi v450 c1_i32_270
  let c256_i32_279 : BitVec 32 := 256#32
  let v461 : BitVec 32 := Scalar.muli v451 c256_i32_279
  let v462 : BitVec 32 := v461
  let v463 : Index := Scalar.indexCast v462
  let c0_282 : Index := 0#32
  ![0, 1, v463.toNat, 0]
def k0_off25 (k0_t1 : Fin k0_t1_loop.trips) (k0_t5 : Fin (k0_t5_loop k0_t1).trips) (c0_i32_268 : BitVec 32) : Fin 5 → Nat :=
  let c0_291 : Index := 0#32
  let c0_292 : Index := 0#32
  let c2_i32_287 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v448 : BitVec 32 := Scalar.muli c4_i32_267 arg10
  let v449 : BitVec 32 := Scalar.addi v448 c0_i32_268
  let v470 : BitVec 32 := Scalar.muli c2_i32_287 v449
  let v473 : Index := Scalar.indexCast v470
  let c0_293 : Index := 0#32
  let c0_294 : Index := 0#32
  ![0, 0, v473.toNat, 0, 0]
def k0_off26 (k0_t1 : Fin k0_t1_loop.trips) (k0_t5 : Fin (k0_t5_loop k0_t1).trips) (c0_i32_268 : BitVec 32) : Fin 5 → Nat :=
  let c0_299 : Index := 0#32
  let c1_300 : Index := 1#32
  let c2_i32_287 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v448 : BitVec 32 := Scalar.muli c4_i32_267 arg10
  let v449 : BitVec 32 := Scalar.addi v448 c0_i32_268
  let v470 : BitVec 32 := Scalar.muli c2_i32_287 v449
  let v483 : Index := Scalar.indexCast v470
  let c0_301 : Index := 0#32
  let c0_302 : Index := 0#32
  ![0, 1, v483.toNat, 0, 0]
def k0_mult85 (k0_t1 : Fin k0_t1_loop.trips) (k0_t5 : Fin (k0_t5_loop k0_t1).trips) : BitVec 32 :=
  let c2_i32_304 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v448 : BitVec 32 := Scalar.muli c4_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_306 : BitVec 32 := 256#32
  let v493 : BitVec 32 := Scalar.muli v492 c256_i32_306
  v493
def k0_mult86 (k0_t1 : Fin k0_t1_loop.trips) (k0_t5 : Fin (k0_t5_loop k0_t1).trips) : BitVec 32 :=
  let c2_i32_304 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v448 : BitVec 32 := Scalar.muli c4_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_314 : BitVec 32 := 256#32
  let v502 : BitVec 32 := Scalar.muli v492 c256_i32_314
  v502
def k0_off27 (k0_t1 : Fin k0_t1_loop.trips) (k0_t5 : Fin (k0_t5_loop k0_t1).trips) (c0_i32_268 : BitVec 32) : Fin 5 → Nat :=
  let c0_327 : Index := 0#32
  let c0_328 : Index := 0#32
  let c2_i32_322 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v448 : BitVec 32 := Scalar.muli c4_i32_267 arg10
  let v449 : BitVec 32 := Scalar.addi v448 c0_i32_268
  let v511 : BitVec 32 := Scalar.muli c2_i32_322 v449
  let c1_i32_323 : BitVec 32 := 1#32
  let v512 : BitVec 32 := Scalar.addi v511 c1_i32_323
  let v515 : Index := Scalar.indexCast v512
  let c0_329 : Index := 0#32
  let c0_330 : Index := 0#32
  ![0, 0, v515.toNat, 0, 0]
def k0_off28 (k0_t1 : Fin k0_t1_loop.trips) (k0_t5 : Fin (k0_t5_loop k0_t1).trips) (c0_i32_268 : BitVec 32) : Fin 5 → Nat :=
  let c0_335 : Index := 0#32
  let c1_336 : Index := 1#32
  let c2_i32_322 : BitVec 32 := 2#32
  let c4_i32_267 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v448 : BitVec 32 := Scalar.muli c4_i32_267 arg10
  let v449 : BitVec 32 := Scalar.addi v448 c0_i32_268
  let v511 : BitVec 32 := Scalar.muli c2_i32_322 v449
  let c1_i32_323 : BitVec 32 := 1#32
  let v512 : BitVec 32 := Scalar.addi v511 c1_i32_323
  let v525 : Index := Scalar.indexCast v512
  let c0_337 : Index := 0#32
  let c0_338 : Index := 0#32
  ![0, 1, v525.toNat, 0, 0]
def k0_mult87 (k0_t1 : Fin k0_t1_loop.trips) (k0_t5 : Fin (k0_t5_loop k0_t1).trips) : BitVec 32 :=
  let c2_i32_342 : BitVec 32 := 2#32
  let c4_i32_340 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v533 : BitVec 32 := Scalar.muli c4_i32_340 arg10
  let c1_i32_341 : BitVec 32 := 1#32
  let v534 : BitVec 32 := Scalar.addi v533 c1_i32_341
  let v535 : BitVec 32 := Scalar.muli c2_i32_342 v534
  let c1_i32_343 : BitVec 32 := 1#32
  let v536 : BitVec 32 := Scalar.addi v535 c1_i32_343
  let c256_i32_344 : BitVec 32 := 256#32
  let v537 : BitVec 32 := Scalar.muli v536 c256_i32_344
  v537
def k0_mult88 (k0_t1 : Fin k0_t1_loop.trips) (k0_t5 : Fin (k0_t5_loop k0_t1).trips) : BitVec 32 :=
  let c2_i32_342 : BitVec 32 := 2#32
  let c4_i32_340 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v533 : BitVec 32 := Scalar.muli c4_i32_340 arg10
  let c1_i32_341 : BitVec 32 := 1#32
  let v534 : BitVec 32 := Scalar.addi v533 c1_i32_341
  let v535 : BitVec 32 := Scalar.muli c2_i32_342 v534
  let c1_i32_343 : BitVec 32 := 1#32
  let v536 : BitVec 32 := Scalar.addi v535 c1_i32_343
  let c256_i32_352 : BitVec 32 := 256#32
  let v546 : BitVec 32 := Scalar.muli v536 c256_i32_352
  v546
def k0_mult89 (k0_t1 : Fin k0_t1_loop.trips) (k0_t5 : Fin (k0_t5_loop k0_t1).trips) : BitVec 32 :=
  let c2_i32_377 : BitVec 32 := 2#32
  let c4_i32_340 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v533 : BitVec 32 := Scalar.muli c4_i32_340 arg10
  let c1_i32_341 : BitVec 32 := 1#32
  let v534 : BitVec 32 := Scalar.addi v533 c1_i32_341
  let v576 : BitVec 32 := Scalar.muli c2_i32_377 v534
  let c2_i32_378 : BitVec 32 := 2#32
  let v577 : BitVec 32 := Scalar.addi v576 c2_i32_378
  let c256_i32_379 : BitVec 32 := 256#32
  let v578 : BitVec 32 := Scalar.muli v577 c256_i32_379
  v578
def k0_mult90 (k0_t1 : Fin k0_t1_loop.trips) (k0_t5 : Fin (k0_t5_loop k0_t1).trips) : BitVec 32 :=
  let c2_i32_377 : BitVec 32 := 2#32
  let c4_i32_340 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v533 : BitVec 32 := Scalar.muli c4_i32_340 arg10
  let c1_i32_341 : BitVec 32 := 1#32
  let v534 : BitVec 32 := Scalar.addi v533 c1_i32_341
  let v576 : BitVec 32 := Scalar.muli c2_i32_377 v534
  let c2_i32_378 : BitVec 32 := 2#32
  let v577 : BitVec 32 := Scalar.addi v576 c2_i32_378
  let c256_i32_387 : BitVec 32 := 256#32
  let v587 : BitVec 32 := Scalar.muli v577 c256_i32_387
  v587
def k0_mult91 (k0_t1 : Fin k0_t1_loop.trips) (k0_t5 : Fin (k0_t5_loop k0_t1).trips) : BitVec 32 :=
  let c2_i32_415 : BitVec 32 := 2#32
  let c4_i32_413 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v618 : BitVec 32 := Scalar.muli c4_i32_413 arg10
  let c2_i32_414 : BitVec 32 := 2#32
  let v619 : BitVec 32 := Scalar.addi v618 c2_i32_414
  let v620 : BitVec 32 := Scalar.muli c2_i32_415 v619
  let c1_i32_416 : BitVec 32 := 1#32
  let v621 : BitVec 32 := Scalar.addi v620 c1_i32_416
  let c256_i32_417 : BitVec 32 := 256#32
  let v622 : BitVec 32 := Scalar.muli v621 c256_i32_417
  v622
def k0_mult92 (k0_t1 : Fin k0_t1_loop.trips) (k0_t5 : Fin (k0_t5_loop k0_t1).trips) : BitVec 32 :=
  let c2_i32_415 : BitVec 32 := 2#32
  let c4_i32_413 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v618 : BitVec 32 := Scalar.muli c4_i32_413 arg10
  let c2_i32_414 : BitVec 32 := 2#32
  let v619 : BitVec 32 := Scalar.addi v618 c2_i32_414
  let v620 : BitVec 32 := Scalar.muli c2_i32_415 v619
  let c1_i32_416 : BitVec 32 := 1#32
  let v621 : BitVec 32 := Scalar.addi v620 c1_i32_416
  let c256_i32_425 : BitVec 32 := 256#32
  let v631 : BitVec 32 := Scalar.muli v621 c256_i32_425
  v631
def k0_mult93 (k0_t1 : Fin k0_t1_loop.trips) (k0_t5 : Fin (k0_t5_loop k0_t1).trips) : BitVec 32 :=
  let c2_i32_450 : BitVec 32 := 2#32
  let c4_i32_413 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v618 : BitVec 32 := Scalar.muli c4_i32_413 arg10
  let c2_i32_414 : BitVec 32 := 2#32
  let v619 : BitVec 32 := Scalar.addi v618 c2_i32_414
  let v661 : BitVec 32 := Scalar.muli c2_i32_450 v619
  let c2_i32_451 : BitVec 32 := 2#32
  let v662 : BitVec 32 := Scalar.addi v661 c2_i32_451
  let c256_i32_452 : BitVec 32 := 256#32
  let v663 : BitVec 32 := Scalar.muli v662 c256_i32_452
  v663
def k0_mult94 (k0_t1 : Fin k0_t1_loop.trips) (k0_t5 : Fin (k0_t5_loop k0_t1).trips) : BitVec 32 :=
  let c2_i32_450 : BitVec 32 := 2#32
  let c4_i32_413 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v618 : BitVec 32 := Scalar.muli c4_i32_413 arg10
  let c2_i32_414 : BitVec 32 := 2#32
  let v619 : BitVec 32 := Scalar.addi v618 c2_i32_414
  let v661 : BitVec 32 := Scalar.muli c2_i32_450 v619
  let c2_i32_451 : BitVec 32 := 2#32
  let v662 : BitVec 32 := Scalar.addi v661 c2_i32_451
  let c256_i32_460 : BitVec 32 := 256#32
  let v672 : BitVec 32 := Scalar.muli v662 c256_i32_460
  v672
def k0_mult95 (k0_t1 : Fin k0_t1_loop.trips) (k0_t5 : Fin (k0_t5_loop k0_t1).trips) : BitVec 32 :=
  let c2_i32_487 : BitVec 32 := 2#32
  let c4_i32_486 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v703 : BitVec 32 := Scalar.muli c4_i32_486 arg10
  let c3_i32 : BitVec 32 := 3#32
  let v704 : BitVec 32 := Scalar.addi v703 c3_i32
  let v705 : BitVec 32 := Scalar.muli c2_i32_487 v704
  let c1_i32_488 : BitVec 32 := 1#32
  let v706 : BitVec 32 := Scalar.addi v705 c1_i32_488
  let c256_i32_489 : BitVec 32 := 256#32
  let v707 : BitVec 32 := Scalar.muli v706 c256_i32_489
  v707
def k0_mult96 (k0_t1 : Fin k0_t1_loop.trips) (k0_t5 : Fin (k0_t5_loop k0_t1).trips) : BitVec 32 :=
  let c2_i32_487 : BitVec 32 := 2#32
  let c4_i32_486 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v703 : BitVec 32 := Scalar.muli c4_i32_486 arg10
  let c3_i32 : BitVec 32 := 3#32
  let v704 : BitVec 32 := Scalar.addi v703 c3_i32
  let v705 : BitVec 32 := Scalar.muli c2_i32_487 v704
  let c1_i32_488 : BitVec 32 := 1#32
  let v706 : BitVec 32 := Scalar.addi v705 c1_i32_488
  let c256_i32_497 : BitVec 32 := 256#32
  let v716 : BitVec 32 := Scalar.muli v706 c256_i32_497
  v716
def k0_mult97 (k0_t1 : Fin k0_t1_loop.trips) (k0_t5 : Fin (k0_t5_loop k0_t1).trips) : BitVec 32 :=
  let c2_i32_522 : BitVec 32 := 2#32
  let c4_i32_486 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v703 : BitVec 32 := Scalar.muli c4_i32_486 arg10
  let c3_i32 : BitVec 32 := 3#32
  let v704 : BitVec 32 := Scalar.addi v703 c3_i32
  let v746 : BitVec 32 := Scalar.muli c2_i32_522 v704
  let c2_i32_523 : BitVec 32 := 2#32
  let v747 : BitVec 32 := Scalar.addi v746 c2_i32_523
  let c256_i32_524 : BitVec 32 := 256#32
  let v748 : BitVec 32 := Scalar.muli v747 c256_i32_524
  v748
def k0_mult98 (k0_t1 : Fin k0_t1_loop.trips) (k0_t5 : Fin (k0_t5_loop k0_t1).trips) : BitVec 32 :=
  let c2_i32_522 : BitVec 32 := 2#32
  let c4_i32_486 : BitVec 32 := 4#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let c0_i32_81 : BitVec 32 := 0#32
  let v102 : BitVec 1 := Scalar.cmpi .sgt v82 c0_i32_81
  let v103 : BitVec 32 := Scalar.extui v102
  let c0_i32_82 : BitVec 32 := 0#32
  let v104 : BitVec 1 := Scalar.cmpi .slt v82 c0_i32_82
  let v105 : BitVec 32 := Scalar.extui v104
  let v106 : BitVec 32 := Scalar.subi v103 v105
  let c4_i32_80 : BitVec 32 := 4#32
  let c0_i32_83 : BitVec 32 := 0#32
  let v107 : BitVec 1 := Scalar.cmpi .sgt c4_i32_80 c0_i32_83
  let v108 : BitVec 32 := Scalar.extui v107
  let c0_i32_84 : BitVec 32 := 0#32
  let v109 : BitVec 1 := Scalar.cmpi .slt c4_i32_80 c0_i32_84
  let v110 : BitVec 32 := Scalar.extui v109
  let v111 : BitVec 32 := Scalar.subi v108 v110
  let v112 : BitVec 1 := Scalar.cmpi .ne v106 v111
  let v113 : BitVec 32 := Scalar.remsi v82 c4_i32_80
  let c0_i32_85 : BitVec 32 := 0#32
  let v114 : BitVec 1 := Scalar.cmpi .ne v113 c0_i32_85
  let v115 : BitVec 1 := Scalar.andi v112 v114
  let v101 : BitVec 32 := Scalar.divsi v82 c4_i32_80
  let c1_i32_86 : BitVec 32 := 1#32
  let v116 : BitVec 32 := Scalar.subi v101 c1_i32_86
  let v117 : BitVec 32 := Scalar.select v115 v116 v101
  let c0_i32_88 : BitVec 32 := 0#32
  let v119 : BitVec 1 := Scalar.cmpi .sgt v82 c0_i32_88
  let v120 : BitVec 32 := Scalar.extui v119
  let c0_i32_89 : BitVec 32 := 0#32
  let v121 : BitVec 1 := Scalar.cmpi .slt v82 c0_i32_89
  let v122 : BitVec 32 := Scalar.extui v121
  let v123 : BitVec 32 := Scalar.subi v120 v122
  let c4_i32_87 : BitVec 32 := 4#32
  let c0_i32_90 : BitVec 32 := 0#32
  let v124 : BitVec 1 := Scalar.cmpi .sgt c4_i32_87 c0_i32_90
  let v125 : BitVec 32 := Scalar.extui v124
  let c0_i32_91 : BitVec 32 := 0#32
  let v126 : BitVec 1 := Scalar.cmpi .slt c4_i32_87 c0_i32_91
  let v127 : BitVec 32 := Scalar.extui v126
  let v128 : BitVec 32 := Scalar.subi v125 v127
  let v129 : BitVec 1 := Scalar.cmpi .ne v123 v128
  let v130 : BitVec 32 := Scalar.remsi v82 c4_i32_87
  let c0_i32_92 : BitVec 32 := 0#32
  let v131 : BitVec 1 := Scalar.cmpi .ne v130 c0_i32_92
  let v132 : BitVec 1 := Scalar.andi v129 v131
  let v118 : BitVec 32 := Scalar.divsi v82 c4_i32_87
  let c1_i32_93 : BitVec 32 := 1#32
  let v133 : BitVec 32 := Scalar.subi v118 c1_i32_93
  let v134 : BitVec 32 := Scalar.select v132 v133 v118
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let v135 : BitVec 32 := Scalar.addi v134 v100
  let v136 : BitVec 32 := Scalar.subi v135 v117
  let c1_i32_94 : BitVec 32 := 1#32
  let v138 : BitVec 32 := Scalar.divsi v136 c1_i32_94
  let v139 : BitVec 32 := Scalar.muli v138 c1_i32_94
  let v140 : BitVec 32 := Scalar.addi v117 v139
  let c1_i32_96 : BitVec 32 := 1#32
  let arg10 : BitVec 32 := Scf.iv v140 c1_i32_96 k0_t5
  let v703 : BitVec 32 := Scalar.muli c4_i32_486 arg10
  let c3_i32 : BitVec 32 := 3#32
  let v704 : BitVec 32 := Scalar.addi v703 c3_i32
  let v746 : BitVec 32 := Scalar.muli c2_i32_522 v704
  let c2_i32_523 : BitVec 32 := 2#32
  let v747 : BitVec 32 := Scalar.addi v746 c2_i32_523
  let c256_i32_532 : BitVec 32 := 256#32
  let v757 : BitVec 32 := Scalar.muli v747 c256_i32_532
  v757
@[reducible] def k0_t6_loop (k0_t1 : Fin k0_t1_loop.trips) : Scf.Loop 32 :=
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_120 : BitVec 32 := 1#32
  ⟨v179, v202, c1_i32_120⟩
def k0_mult99 (k0_t1 : Fin k0_t1_loop.trips) (k0_t6 : Fin (k0_t6_loop k0_t1).trips) : BitVec 32 :=
  let c2_i32_269 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c1_i32_120 : BitVec 32 := 1#32
  let arg10 : BitVec 32 := Scf.iv v179 c1_i32_120 k0_t6
  let v448 : BitVec 32 := Scalar.muli c2_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_271 : BitVec 32 := 256#32
  let v452 : BitVec 32 := Scalar.muli v451 c256_i32_271
  v452
def k0_off29 (k0_t1 : Fin k0_t1_loop.trips) (k0_t6 : Fin (k0_t6_loop k0_t1).trips) (c0_i32_268 : BitVec 32) (c1_i32_270 : BitVec 32) : Fin 4 → Nat :=
  let c0_272 : Index := 0#32
  let c0_273 : Index := 0#32
  let c2_i32_269 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c1_i32_120 : BitVec 32 := 1#32
  let arg10 : BitVec 32 := Scf.iv v179 c1_i32_120 k0_t6
  let v448 : BitVec 32 := Scalar.muli c2_i32_267 arg10
  let v449 : BitVec 32 := Scalar.addi v448 c0_i32_268
  let v450 : BitVec 32 := Scalar.muli c2_i32_269 v449
  let v451 : BitVec 32 := Scalar.addi v450 c1_i32_270
  let c256_i32_271 : BitVec 32 := 256#32
  let v452 : BitVec 32 := Scalar.muli v451 c256_i32_271
  let v453 : BitVec 32 := v452
  let v454 : Index := Scalar.indexCast v453
  let c0_274 : Index := 0#32
  ![0, 0, v454.toNat, 0]
def k0_mult100 (k0_t1 : Fin k0_t1_loop.trips) (k0_t6 : Fin (k0_t6_loop k0_t1).trips) : BitVec 32 :=
  let c2_i32_269 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c1_i32_120 : BitVec 32 := 1#32
  let arg10 : BitVec 32 := Scf.iv v179 c1_i32_120 k0_t6
  let v448 : BitVec 32 := Scalar.muli c2_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_279 : BitVec 32 := 256#32
  let v461 : BitVec 32 := Scalar.muli v451 c256_i32_279
  v461
def k0_off30 (k0_t1 : Fin k0_t1_loop.trips) (k0_t6 : Fin (k0_t6_loop k0_t1).trips) (c0_i32_268 : BitVec 32) (c1_i32_270 : BitVec 32) : Fin 4 → Nat :=
  let c0_280 : Index := 0#32
  let c1_281 : Index := 1#32
  let c2_i32_269 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c1_i32_120 : BitVec 32 := 1#32
  let arg10 : BitVec 32 := Scf.iv v179 c1_i32_120 k0_t6
  let v448 : BitVec 32 := Scalar.muli c2_i32_267 arg10
  let v449 : BitVec 32 := Scalar.addi v448 c0_i32_268
  let v450 : BitVec 32 := Scalar.muli c2_i32_269 v449
  let v451 : BitVec 32 := Scalar.addi v450 c1_i32_270
  let c256_i32_279 : BitVec 32 := 256#32
  let v461 : BitVec 32 := Scalar.muli v451 c256_i32_279
  let v462 : BitVec 32 := v461
  let v463 : Index := Scalar.indexCast v462
  let c0_282 : Index := 0#32
  ![0, 1, v463.toNat, 0]
def k0_off31 (k0_t1 : Fin k0_t1_loop.trips) (k0_t6 : Fin (k0_t6_loop k0_t1).trips) (c0_i32_268 : BitVec 32) : Fin 5 → Nat :=
  let c0_291 : Index := 0#32
  let c0_292 : Index := 0#32
  let c2_i32_287 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c1_i32_120 : BitVec 32 := 1#32
  let arg10 : BitVec 32 := Scf.iv v179 c1_i32_120 k0_t6
  let v448 : BitVec 32 := Scalar.muli c2_i32_267 arg10
  let v449 : BitVec 32 := Scalar.addi v448 c0_i32_268
  let v470 : BitVec 32 := Scalar.muli c2_i32_287 v449
  let v473 : Index := Scalar.indexCast v470
  let c0_293 : Index := 0#32
  let c0_294 : Index := 0#32
  ![0, 0, v473.toNat, 0, 0]
def k0_off32 (k0_t1 : Fin k0_t1_loop.trips) (k0_t6 : Fin (k0_t6_loop k0_t1).trips) (c0_i32_268 : BitVec 32) : Fin 5 → Nat :=
  let c0_299 : Index := 0#32
  let c1_300 : Index := 1#32
  let c2_i32_287 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c1_i32_120 : BitVec 32 := 1#32
  let arg10 : BitVec 32 := Scf.iv v179 c1_i32_120 k0_t6
  let v448 : BitVec 32 := Scalar.muli c2_i32_267 arg10
  let v449 : BitVec 32 := Scalar.addi v448 c0_i32_268
  let v470 : BitVec 32 := Scalar.muli c2_i32_287 v449
  let v483 : Index := Scalar.indexCast v470
  let c0_301 : Index := 0#32
  let c0_302 : Index := 0#32
  ![0, 1, v483.toNat, 0, 0]
def k0_mult101 (k0_t1 : Fin k0_t1_loop.trips) (k0_t6 : Fin (k0_t6_loop k0_t1).trips) : BitVec 32 :=
  let c2_i32_304 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c1_i32_120 : BitVec 32 := 1#32
  let arg10 : BitVec 32 := Scf.iv v179 c1_i32_120 k0_t6
  let v448 : BitVec 32 := Scalar.muli c2_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_306 : BitVec 32 := 256#32
  let v493 : BitVec 32 := Scalar.muli v492 c256_i32_306
  v493
def k0_mult102 (k0_t1 : Fin k0_t1_loop.trips) (k0_t6 : Fin (k0_t6_loop k0_t1).trips) : BitVec 32 :=
  let c2_i32_304 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c1_i32_120 : BitVec 32 := 1#32
  let arg10 : BitVec 32 := Scf.iv v179 c1_i32_120 k0_t6
  let v448 : BitVec 32 := Scalar.muli c2_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_314 : BitVec 32 := 256#32
  let v502 : BitVec 32 := Scalar.muli v492 c256_i32_314
  v502
def k0_off33 (k0_t1 : Fin k0_t1_loop.trips) (k0_t6 : Fin (k0_t6_loop k0_t1).trips) (c0_i32_268 : BitVec 32) : Fin 5 → Nat :=
  let c0_327 : Index := 0#32
  let c0_328 : Index := 0#32
  let c2_i32_322 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c1_i32_120 : BitVec 32 := 1#32
  let arg10 : BitVec 32 := Scf.iv v179 c1_i32_120 k0_t6
  let v448 : BitVec 32 := Scalar.muli c2_i32_267 arg10
  let v449 : BitVec 32 := Scalar.addi v448 c0_i32_268
  let v511 : BitVec 32 := Scalar.muli c2_i32_322 v449
  let c1_i32_323 : BitVec 32 := 1#32
  let v512 : BitVec 32 := Scalar.addi v511 c1_i32_323
  let v515 : Index := Scalar.indexCast v512
  let c0_329 : Index := 0#32
  let c0_330 : Index := 0#32
  ![0, 0, v515.toNat, 0, 0]
def k0_off34 (k0_t1 : Fin k0_t1_loop.trips) (k0_t6 : Fin (k0_t6_loop k0_t1).trips) (c0_i32_268 : BitVec 32) : Fin 5 → Nat :=
  let c0_335 : Index := 0#32
  let c1_336 : Index := 1#32
  let c2_i32_322 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c1_i32_120 : BitVec 32 := 1#32
  let arg10 : BitVec 32 := Scf.iv v179 c1_i32_120 k0_t6
  let v448 : BitVec 32 := Scalar.muli c2_i32_267 arg10
  let v449 : BitVec 32 := Scalar.addi v448 c0_i32_268
  let v511 : BitVec 32 := Scalar.muli c2_i32_322 v449
  let c1_i32_323 : BitVec 32 := 1#32
  let v512 : BitVec 32 := Scalar.addi v511 c1_i32_323
  let v525 : Index := Scalar.indexCast v512
  let c0_337 : Index := 0#32
  let c0_338 : Index := 0#32
  ![0, 1, v525.toNat, 0, 0]
def k0_mult103 (k0_t1 : Fin k0_t1_loop.trips) (k0_t6 : Fin (k0_t6_loop k0_t1).trips) : BitVec 32 :=
  let c2_i32_342 : BitVec 32 := 2#32
  let c2_i32_340 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c1_i32_120 : BitVec 32 := 1#32
  let arg10 : BitVec 32 := Scf.iv v179 c1_i32_120 k0_t6
  let v533 : BitVec 32 := Scalar.muli c2_i32_340 arg10
  let c1_i32_341 : BitVec 32 := 1#32
  let v534 : BitVec 32 := Scalar.addi v533 c1_i32_341
  let v535 : BitVec 32 := Scalar.muli c2_i32_342 v534
  let c1_i32_343 : BitVec 32 := 1#32
  let v536 : BitVec 32 := Scalar.addi v535 c1_i32_343
  let c256_i32_344 : BitVec 32 := 256#32
  let v537 : BitVec 32 := Scalar.muli v536 c256_i32_344
  v537
def k0_mult104 (k0_t1 : Fin k0_t1_loop.trips) (k0_t6 : Fin (k0_t6_loop k0_t1).trips) : BitVec 32 :=
  let c2_i32_342 : BitVec 32 := 2#32
  let c2_i32_340 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c1_i32_120 : BitVec 32 := 1#32
  let arg10 : BitVec 32 := Scf.iv v179 c1_i32_120 k0_t6
  let v533 : BitVec 32 := Scalar.muli c2_i32_340 arg10
  let c1_i32_341 : BitVec 32 := 1#32
  let v534 : BitVec 32 := Scalar.addi v533 c1_i32_341
  let v535 : BitVec 32 := Scalar.muli c2_i32_342 v534
  let c1_i32_343 : BitVec 32 := 1#32
  let v536 : BitVec 32 := Scalar.addi v535 c1_i32_343
  let c256_i32_352 : BitVec 32 := 256#32
  let v546 : BitVec 32 := Scalar.muli v536 c256_i32_352
  v546
def k0_mult105 (k0_t1 : Fin k0_t1_loop.trips) (k0_t6 : Fin (k0_t6_loop k0_t1).trips) : BitVec 32 :=
  let c2_i32_377 : BitVec 32 := 2#32
  let c2_i32_340 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c1_i32_120 : BitVec 32 := 1#32
  let arg10 : BitVec 32 := Scf.iv v179 c1_i32_120 k0_t6
  let v533 : BitVec 32 := Scalar.muli c2_i32_340 arg10
  let c1_i32_341 : BitVec 32 := 1#32
  let v534 : BitVec 32 := Scalar.addi v533 c1_i32_341
  let v576 : BitVec 32 := Scalar.muli c2_i32_377 v534
  let c2_i32_378 : BitVec 32 := 2#32
  let v577 : BitVec 32 := Scalar.addi v576 c2_i32_378
  let c256_i32_379 : BitVec 32 := 256#32
  let v578 : BitVec 32 := Scalar.muli v577 c256_i32_379
  v578
def k0_mult106 (k0_t1 : Fin k0_t1_loop.trips) (k0_t6 : Fin (k0_t6_loop k0_t1).trips) : BitVec 32 :=
  let c2_i32_377 : BitVec 32 := 2#32
  let c2_i32_340 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c1_i32_120 : BitVec 32 := 1#32
  let arg10 : BitVec 32 := Scf.iv v179 c1_i32_120 k0_t6
  let v533 : BitVec 32 := Scalar.muli c2_i32_340 arg10
  let c1_i32_341 : BitVec 32 := 1#32
  let v534 : BitVec 32 := Scalar.addi v533 c1_i32_341
  let v576 : BitVec 32 := Scalar.muli c2_i32_377 v534
  let c2_i32_378 : BitVec 32 := 2#32
  let v577 : BitVec 32 := Scalar.addi v576 c2_i32_378
  let c256_i32_387 : BitVec 32 := 256#32
  let v587 : BitVec 32 := Scalar.muli v577 c256_i32_387
  v587
@[reducible] def k0_t7_loop (k0_t1 : Fin k0_t1_loop.trips) : Scf.Loop 32 :=
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let v199 : BitVec 32 := Scalar.addi v179 v198
  let c1_i32_121 : BitVec 32 := 1#32
  ⟨v202, v199, c1_i32_121⟩
def k0_mult107 (k0_t1 : Fin k0_t1_loop.trips) (k0_t7 : Fin (k0_t7_loop k0_t1).trips) : BitVec 32 :=
  let c2_i32_269 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_121 : BitVec 32 := 1#32
  let arg10 : BitVec 32 := Scf.iv v202 c1_i32_121 k0_t7
  let v448 : BitVec 32 := Scalar.muli c2_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_271 : BitVec 32 := 256#32
  let v452 : BitVec 32 := Scalar.muli v451 c256_i32_271
  v452
def k0_off35 (k0_t1 : Fin k0_t1_loop.trips) (k0_t7 : Fin (k0_t7_loop k0_t1).trips) (c0_i32_268 : BitVec 32) (c1_i32_270 : BitVec 32) : Fin 4 → Nat :=
  let c0_272 : Index := 0#32
  let c0_273 : Index := 0#32
  let c2_i32_269 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_121 : BitVec 32 := 1#32
  let arg10 : BitVec 32 := Scf.iv v202 c1_i32_121 k0_t7
  let v448 : BitVec 32 := Scalar.muli c2_i32_267 arg10
  let v449 : BitVec 32 := Scalar.addi v448 c0_i32_268
  let v450 : BitVec 32 := Scalar.muli c2_i32_269 v449
  let v451 : BitVec 32 := Scalar.addi v450 c1_i32_270
  let c256_i32_271 : BitVec 32 := 256#32
  let v452 : BitVec 32 := Scalar.muli v451 c256_i32_271
  let v453 : BitVec 32 := v452
  let v454 : Index := Scalar.indexCast v453
  let c0_274 : Index := 0#32
  ![0, 0, v454.toNat, 0]
def k0_mult108 (k0_t1 : Fin k0_t1_loop.trips) (k0_t7 : Fin (k0_t7_loop k0_t1).trips) : BitVec 32 :=
  let c2_i32_269 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_121 : BitVec 32 := 1#32
  let arg10 : BitVec 32 := Scf.iv v202 c1_i32_121 k0_t7
  let v448 : BitVec 32 := Scalar.muli c2_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_279 : BitVec 32 := 256#32
  let v461 : BitVec 32 := Scalar.muli v451 c256_i32_279
  v461
def k0_off36 (k0_t1 : Fin k0_t1_loop.trips) (k0_t7 : Fin (k0_t7_loop k0_t1).trips) (c0_i32_268 : BitVec 32) (c1_i32_270 : BitVec 32) : Fin 4 → Nat :=
  let c0_280 : Index := 0#32
  let c1_281 : Index := 1#32
  let c2_i32_269 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_121 : BitVec 32 := 1#32
  let arg10 : BitVec 32 := Scf.iv v202 c1_i32_121 k0_t7
  let v448 : BitVec 32 := Scalar.muli c2_i32_267 arg10
  let v449 : BitVec 32 := Scalar.addi v448 c0_i32_268
  let v450 : BitVec 32 := Scalar.muli c2_i32_269 v449
  let v451 : BitVec 32 := Scalar.addi v450 c1_i32_270
  let c256_i32_279 : BitVec 32 := 256#32
  let v461 : BitVec 32 := Scalar.muli v451 c256_i32_279
  let v462 : BitVec 32 := v461
  let v463 : Index := Scalar.indexCast v462
  let c0_282 : Index := 0#32
  ![0, 1, v463.toNat, 0]
def k0_off37 (k0_t1 : Fin k0_t1_loop.trips) (k0_t7 : Fin (k0_t7_loop k0_t1).trips) (c0_i32_268 : BitVec 32) : Fin 5 → Nat :=
  let c0_291 : Index := 0#32
  let c0_292 : Index := 0#32
  let c2_i32_287 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_121 : BitVec 32 := 1#32
  let arg10 : BitVec 32 := Scf.iv v202 c1_i32_121 k0_t7
  let v448 : BitVec 32 := Scalar.muli c2_i32_267 arg10
  let v449 : BitVec 32 := Scalar.addi v448 c0_i32_268
  let v470 : BitVec 32 := Scalar.muli c2_i32_287 v449
  let v473 : Index := Scalar.indexCast v470
  let c0_293 : Index := 0#32
  let c0_294 : Index := 0#32
  ![0, 0, v473.toNat, 0, 0]
def k0_off38 (k0_t1 : Fin k0_t1_loop.trips) (k0_t7 : Fin (k0_t7_loop k0_t1).trips) (c0_i32_268 : BitVec 32) : Fin 5 → Nat :=
  let c0_299 : Index := 0#32
  let c1_300 : Index := 1#32
  let c2_i32_287 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_121 : BitVec 32 := 1#32
  let arg10 : BitVec 32 := Scf.iv v202 c1_i32_121 k0_t7
  let v448 : BitVec 32 := Scalar.muli c2_i32_267 arg10
  let v449 : BitVec 32 := Scalar.addi v448 c0_i32_268
  let v470 : BitVec 32 := Scalar.muli c2_i32_287 v449
  let v483 : Index := Scalar.indexCast v470
  let c0_301 : Index := 0#32
  let c0_302 : Index := 0#32
  ![0, 1, v483.toNat, 0, 0]
def k0_mult109 (k0_t1 : Fin k0_t1_loop.trips) (k0_t7 : Fin (k0_t7_loop k0_t1).trips) : BitVec 32 :=
  let c2_i32_304 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_121 : BitVec 32 := 1#32
  let arg10 : BitVec 32 := Scf.iv v202 c1_i32_121 k0_t7
  let v448 : BitVec 32 := Scalar.muli c2_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_306 : BitVec 32 := 256#32
  let v493 : BitVec 32 := Scalar.muli v492 c256_i32_306
  v493
def k0_mult110 (k0_t1 : Fin k0_t1_loop.trips) (k0_t7 : Fin (k0_t7_loop k0_t1).trips) : BitVec 32 :=
  let c2_i32_304 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_121 : BitVec 32 := 1#32
  let arg10 : BitVec 32 := Scf.iv v202 c1_i32_121 k0_t7
  let v448 : BitVec 32 := Scalar.muli c2_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_314 : BitVec 32 := 256#32
  let v502 : BitVec 32 := Scalar.muli v492 c256_i32_314
  v502
def k0_off39 (k0_t1 : Fin k0_t1_loop.trips) (k0_t7 : Fin (k0_t7_loop k0_t1).trips) (c0_i32_268 : BitVec 32) : Fin 5 → Nat :=
  let c0_327 : Index := 0#32
  let c0_328 : Index := 0#32
  let c2_i32_322 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_121 : BitVec 32 := 1#32
  let arg10 : BitVec 32 := Scf.iv v202 c1_i32_121 k0_t7
  let v448 : BitVec 32 := Scalar.muli c2_i32_267 arg10
  let v449 : BitVec 32 := Scalar.addi v448 c0_i32_268
  let v511 : BitVec 32 := Scalar.muli c2_i32_322 v449
  let c1_i32_323 : BitVec 32 := 1#32
  let v512 : BitVec 32 := Scalar.addi v511 c1_i32_323
  let v515 : Index := Scalar.indexCast v512
  let c0_329 : Index := 0#32
  let c0_330 : Index := 0#32
  ![0, 0, v515.toNat, 0, 0]
def k0_off40 (k0_t1 : Fin k0_t1_loop.trips) (k0_t7 : Fin (k0_t7_loop k0_t1).trips) (c0_i32_268 : BitVec 32) : Fin 5 → Nat :=
  let c0_335 : Index := 0#32
  let c1_336 : Index := 1#32
  let c2_i32_322 : BitVec 32 := 2#32
  let c2_i32_267 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_121 : BitVec 32 := 1#32
  let arg10 : BitVec 32 := Scf.iv v202 c1_i32_121 k0_t7
  let v448 : BitVec 32 := Scalar.muli c2_i32_267 arg10
  let v449 : BitVec 32 := Scalar.addi v448 c0_i32_268
  let v511 : BitVec 32 := Scalar.muli c2_i32_322 v449
  let c1_i32_323 : BitVec 32 := 1#32
  let v512 : BitVec 32 := Scalar.addi v511 c1_i32_323
  let v525 : Index := Scalar.indexCast v512
  let c0_337 : Index := 0#32
  let c0_338 : Index := 0#32
  ![0, 1, v525.toNat, 0, 0]
def k0_mult111 (k0_t1 : Fin k0_t1_loop.trips) (k0_t7 : Fin (k0_t7_loop k0_t1).trips) : BitVec 32 :=
  let c2_i32_342 : BitVec 32 := 2#32
  let c2_i32_340 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_121 : BitVec 32 := 1#32
  let arg10 : BitVec 32 := Scf.iv v202 c1_i32_121 k0_t7
  let v533 : BitVec 32 := Scalar.muli c2_i32_340 arg10
  let c1_i32_341 : BitVec 32 := 1#32
  let v534 : BitVec 32 := Scalar.addi v533 c1_i32_341
  let v535 : BitVec 32 := Scalar.muli c2_i32_342 v534
  let c1_i32_343 : BitVec 32 := 1#32
  let v536 : BitVec 32 := Scalar.addi v535 c1_i32_343
  let c256_i32_344 : BitVec 32 := 256#32
  let v537 : BitVec 32 := Scalar.muli v536 c256_i32_344
  v537
def k0_mult112 (k0_t1 : Fin k0_t1_loop.trips) (k0_t7 : Fin (k0_t7_loop k0_t1).trips) : BitVec 32 :=
  let c2_i32_342 : BitVec 32 := 2#32
  let c2_i32_340 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_121 : BitVec 32 := 1#32
  let arg10 : BitVec 32 := Scf.iv v202 c1_i32_121 k0_t7
  let v533 : BitVec 32 := Scalar.muli c2_i32_340 arg10
  let c1_i32_341 : BitVec 32 := 1#32
  let v534 : BitVec 32 := Scalar.addi v533 c1_i32_341
  let v535 : BitVec 32 := Scalar.muli c2_i32_342 v534
  let c1_i32_343 : BitVec 32 := 1#32
  let v536 : BitVec 32 := Scalar.addi v535 c1_i32_343
  let c256_i32_352 : BitVec 32 := 256#32
  let v546 : BitVec 32 := Scalar.muli v536 c256_i32_352
  v546
def k0_mult113 (k0_t1 : Fin k0_t1_loop.trips) (k0_t7 : Fin (k0_t7_loop k0_t1).trips) : BitVec 32 :=
  let c2_i32_377 : BitVec 32 := 2#32
  let c2_i32_340 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_121 : BitVec 32 := 1#32
  let arg10 : BitVec 32 := Scf.iv v202 c1_i32_121 k0_t7
  let v533 : BitVec 32 := Scalar.muli c2_i32_340 arg10
  let c1_i32_341 : BitVec 32 := 1#32
  let v534 : BitVec 32 := Scalar.addi v533 c1_i32_341
  let v576 : BitVec 32 := Scalar.muli c2_i32_377 v534
  let c2_i32_378 : BitVec 32 := 2#32
  let v577 : BitVec 32 := Scalar.addi v576 c2_i32_378
  let c256_i32_379 : BitVec 32 := 256#32
  let v578 : BitVec 32 := Scalar.muli v577 c256_i32_379
  v578
def k0_mult114 (k0_t1 : Fin k0_t1_loop.trips) (k0_t7 : Fin (k0_t7_loop k0_t1).trips) : BitVec 32 :=
  let c2_i32_377 : BitVec 32 := 2#32
  let c2_i32_340 : BitVec 32 := 2#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let c0_i32_106 : BitVec 32 := 0#32
  let v164 : BitVec 1 := Scalar.cmpi .sgt v144 c0_i32_106
  let v165 : BitVec 32 := Scalar.extui v164
  let c0_i32_107 : BitVec 32 := 0#32
  let v166 : BitVec 1 := Scalar.cmpi .slt v144 c0_i32_107
  let v167 : BitVec 32 := Scalar.extui v166
  let v168 : BitVec 32 := Scalar.subi v165 v167
  let c2_i32_105 : BitVec 32 := 2#32
  let c0_i32_108 : BitVec 32 := 0#32
  let v169 : BitVec 1 := Scalar.cmpi .sgt c2_i32_105 c0_i32_108
  let v170 : BitVec 32 := Scalar.extui v169
  let c0_i32_109 : BitVec 32 := 0#32
  let v171 : BitVec 1 := Scalar.cmpi .slt c2_i32_105 c0_i32_109
  let v172 : BitVec 32 := Scalar.extui v171
  let v173 : BitVec 32 := Scalar.subi v170 v172
  let v174 : BitVec 1 := Scalar.cmpi .ne v168 v173
  let v175 : BitVec 32 := Scalar.remsi v144 c2_i32_105
  let c0_i32_110 : BitVec 32 := 0#32
  let v176 : BitVec 1 := Scalar.cmpi .ne v175 c0_i32_110
  let v177 : BitVec 1 := Scalar.andi v174 v176
  let v163 : BitVec 32 := Scalar.divsi v144 c2_i32_105
  let c1_i32_111 : BitVec 32 := 1#32
  let v178 : BitVec 32 := Scalar.subi v163 c1_i32_111
  let v179 : BitVec 32 := Scalar.select v177 v178 v163
  let c0_i32_113 : BitVec 32 := 0#32
  let v181 : BitVec 1 := Scalar.cmpi .sgt v144 c0_i32_113
  let v182 : BitVec 32 := Scalar.extui v181
  let c0_i32_114 : BitVec 32 := 0#32
  let v183 : BitVec 1 := Scalar.cmpi .slt v144 c0_i32_114
  let v184 : BitVec 32 := Scalar.extui v183
  let v185 : BitVec 32 := Scalar.subi v182 v184
  let c2_i32_112 : BitVec 32 := 2#32
  let c0_i32_115 : BitVec 32 := 0#32
  let v186 : BitVec 1 := Scalar.cmpi .sgt c2_i32_112 c0_i32_115
  let v187 : BitVec 32 := Scalar.extui v186
  let c0_i32_116 : BitVec 32 := 0#32
  let v188 : BitVec 1 := Scalar.cmpi .slt c2_i32_112 c0_i32_116
  let v189 : BitVec 32 := Scalar.extui v188
  let v190 : BitVec 32 := Scalar.subi v187 v189
  let v191 : BitVec 1 := Scalar.cmpi .ne v185 v190
  let v192 : BitVec 32 := Scalar.remsi v144 c2_i32_112
  let c0_i32_117 : BitVec 32 := 0#32
  let v193 : BitVec 1 := Scalar.cmpi .ne v192 c0_i32_117
  let v194 : BitVec 1 := Scalar.andi v191 v193
  let v180 : BitVec 32 := Scalar.divsi v144 c2_i32_112
  let c1_i32_118 : BitVec 32 := 1#32
  let v195 : BitVec 32 := Scalar.subi v180 c1_i32_118
  let v196 : BitVec 32 := Scalar.select v194 v195 v180
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let v197 : BitVec 32 := Scalar.addi v196 v162
  let v198 : BitVec 32 := Scalar.subi v197 v179
  let c1_i32_119 : BitVec 32 := 1#32
  let v200 : BitVec 32 := Scalar.divsi v198 c1_i32_119
  let v201 : BitVec 32 := Scalar.muli v200 c1_i32_119
  let v202 : BitVec 32 := Scalar.addi v179 v201
  let c1_i32_121 : BitVec 32 := 1#32
  let arg10 : BitVec 32 := Scf.iv v202 c1_i32_121 k0_t7
  let v533 : BitVec 32 := Scalar.muli c2_i32_340 arg10
  let c1_i32_341 : BitVec 32 := 1#32
  let v534 : BitVec 32 := Scalar.addi v533 c1_i32_341
  let v576 : BitVec 32 := Scalar.muli c2_i32_377 v534
  let c2_i32_378 : BitVec 32 := 2#32
  let v577 : BitVec 32 := Scalar.addi v576 c2_i32_378
  let c256_i32_387 : BitVec 32 := 256#32
  let v587 : BitVec 32 := Scalar.muli v577 c256_i32_387
  v587
@[reducible] def k0_t8_loop (k0_t1 : Fin k0_t1_loop.trips) : Scf.Loop 32 :=
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c0_i32_138 : BitVec 32 := 0#32
  let v243 : BitVec 1 := Scalar.cmpi .sgt v206 c0_i32_138
  let v244 : BitVec 32 := Scalar.extui v243
  let c0_i32_139 : BitVec 32 := 0#32
  let v245 : BitVec 1 := Scalar.cmpi .slt v206 c0_i32_139
  let v246 : BitVec 32 := Scalar.extui v245
  let v247 : BitVec 32 := Scalar.subi v244 v246
  let c1_i32_137 : BitVec 32 := 1#32
  let c0_i32_140 : BitVec 32 := 0#32
  let v248 : BitVec 1 := Scalar.cmpi .sgt c1_i32_137 c0_i32_140
  let v249 : BitVec 32 := Scalar.extui v248
  let c0_i32_141 : BitVec 32 := 0#32
  let v250 : BitVec 1 := Scalar.cmpi .slt c1_i32_137 c0_i32_141
  let v251 : BitVec 32 := Scalar.extui v250
  let v252 : BitVec 32 := Scalar.subi v249 v251
  let v253 : BitVec 1 := Scalar.cmpi .ne v247 v252
  let v254 : BitVec 32 := Scalar.remsi v206 c1_i32_137
  let c0_i32_142 : BitVec 32 := 0#32
  let v255 : BitVec 1 := Scalar.cmpi .ne v254 c0_i32_142
  let v256 : BitVec 1 := Scalar.andi v253 v255
  let v242 : BitVec 32 := Scalar.divsi v206 c1_i32_137
  let c1_i32_143 : BitVec 32 := 1#32
  let v257 : BitVec 32 := Scalar.subi v242 c1_i32_143
  let v258 : BitVec 32 := Scalar.select v256 v257 v242
  let v207 : BitVec 32 := Scalar.subi arg9 v206
  let c0_i32_124 : BitVec 32 := 0#32
  let v209 : BitVec 1 := Scalar.cmpi .sgt v207 c0_i32_124
  let v210 : BitVec 32 := Scalar.extui v209
  let c0_i32_125 : BitVec 32 := 0#32
  let v211 : BitVec 1 := Scalar.cmpi .slt v207 c0_i32_125
  let v212 : BitVec 32 := Scalar.extui v211
  let v213 : BitVec 32 := Scalar.subi v210 v212
  let c1_i32_123 : BitVec 32 := 1#32
  let c0_i32_126 : BitVec 32 := 0#32
  let v214 : BitVec 1 := Scalar.cmpi .sgt c1_i32_123 c0_i32_126
  let v215 : BitVec 32 := Scalar.extui v214
  let c0_i32_127 : BitVec 32 := 0#32
  let v216 : BitVec 1 := Scalar.cmpi .slt c1_i32_123 c0_i32_127
  let v217 : BitVec 32 := Scalar.extui v216
  let v218 : BitVec 32 := Scalar.subi v215 v217
  let v219 : BitVec 1 := Scalar.cmpi .ne v213 v218
  let v220 : BitVec 32 := Scalar.remsi v207 c1_i32_123
  let c0_i32_128 : BitVec 32 := 0#32
  let v221 : BitVec 1 := Scalar.cmpi .ne v220 c0_i32_128
  let v222 : BitVec 1 := Scalar.andi v219 v221
  let v208 : BitVec 32 := Scalar.divsi v207 c1_i32_123
  let c1_i32_129 : BitVec 32 := 1#32
  let v223 : BitVec 32 := Scalar.subi v208 c1_i32_129
  let v224 : BitVec 32 := Scalar.select v222 v223 v208
  let v259 : BitVec 32 := Scalar.addi v258 v224
  let v260 : BitVec 32 := Scalar.subi v259 v241
  let c1_i32_144 : BitVec 32 := 1#32
  let v262 : BitVec 32 := Scalar.divsi v260 c1_i32_144
  let v263 : BitVec 32 := Scalar.muli v262 c1_i32_144
  let v264 : BitVec 32 := Scalar.addi v241 v263
  let c1_i32_145 : BitVec 32 := 1#32
  ⟨v241, v264, c1_i32_145⟩
def k0_mult115 (k0_t1 : Fin k0_t1_loop.trips) (k0_t8 : Fin (k0_t8_loop k0_t1).trips) : BitVec 32 :=
  let c2_i32_269 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c1_i32_145 : BitVec 32 := 1#32
  let arg10 : BitVec 32 := Scf.iv v241 c1_i32_145 k0_t8
  let v448 : BitVec 32 := Scalar.muli c1_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_271 : BitVec 32 := 256#32
  let v452 : BitVec 32 := Scalar.muli v451 c256_i32_271
  v452
def k0_off41 (k0_t1 : Fin k0_t1_loop.trips) (k0_t8 : Fin (k0_t8_loop k0_t1).trips) (c1_i32_270 : BitVec 32) : Fin 4 → Nat :=
  let c0_272 : Index := 0#32
  let c0_273 : Index := 0#32
  let c2_i32_269 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c1_i32_145 : BitVec 32 := 1#32
  let arg10 : BitVec 32 := Scf.iv v241 c1_i32_145 k0_t8
  let v448 : BitVec 32 := Scalar.muli c1_i32_267 arg10
  let c0_i32_268 : BitVec 32 := 0#32
  let v449 : BitVec 32 := Scalar.addi v448 c0_i32_268
  let v450 : BitVec 32 := Scalar.muli c2_i32_269 v449
  let v451 : BitVec 32 := Scalar.addi v450 c1_i32_270
  let c256_i32_271 : BitVec 32 := 256#32
  let v452 : BitVec 32 := Scalar.muli v451 c256_i32_271
  let v453 : BitVec 32 := v452
  let v454 : Index := Scalar.indexCast v453
  let c0_274 : Index := 0#32
  ![0, 0, v454.toNat, 0]
def k0_mult116 (k0_t1 : Fin k0_t1_loop.trips) (k0_t8 : Fin (k0_t8_loop k0_t1).trips) : BitVec 32 :=
  let c2_i32_269 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c1_i32_145 : BitVec 32 := 1#32
  let arg10 : BitVec 32 := Scf.iv v241 c1_i32_145 k0_t8
  let v448 : BitVec 32 := Scalar.muli c1_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_279 : BitVec 32 := 256#32
  let v461 : BitVec 32 := Scalar.muli v451 c256_i32_279
  v461
def k0_off42 (k0_t1 : Fin k0_t1_loop.trips) (k0_t8 : Fin (k0_t8_loop k0_t1).trips) (c1_i32_270 : BitVec 32) : Fin 4 → Nat :=
  let c0_280 : Index := 0#32
  let c1_281 : Index := 1#32
  let c2_i32_269 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c1_i32_145 : BitVec 32 := 1#32
  let arg10 : BitVec 32 := Scf.iv v241 c1_i32_145 k0_t8
  let v448 : BitVec 32 := Scalar.muli c1_i32_267 arg10
  let c0_i32_268 : BitVec 32 := 0#32
  let v449 : BitVec 32 := Scalar.addi v448 c0_i32_268
  let v450 : BitVec 32 := Scalar.muli c2_i32_269 v449
  let v451 : BitVec 32 := Scalar.addi v450 c1_i32_270
  let c256_i32_279 : BitVec 32 := 256#32
  let v461 : BitVec 32 := Scalar.muli v451 c256_i32_279
  let v462 : BitVec 32 := v461
  let v463 : Index := Scalar.indexCast v462
  let c0_282 : Index := 0#32
  ![0, 1, v463.toNat, 0]
def k0_off43 (k0_t1 : Fin k0_t1_loop.trips) (k0_t8 : Fin (k0_t8_loop k0_t1).trips) : Fin 5 → Nat :=
  let c0_291 : Index := 0#32
  let c0_292 : Index := 0#32
  let c2_i32_287 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c1_i32_145 : BitVec 32 := 1#32
  let arg10 : BitVec 32 := Scf.iv v241 c1_i32_145 k0_t8
  let v448 : BitVec 32 := Scalar.muli c1_i32_267 arg10
  let c0_i32_268 : BitVec 32 := 0#32
  let v449 : BitVec 32 := Scalar.addi v448 c0_i32_268
  let v470 : BitVec 32 := Scalar.muli c2_i32_287 v449
  let v473 : Index := Scalar.indexCast v470
  let c0_293 : Index := 0#32
  let c0_294 : Index := 0#32
  ![0, 0, v473.toNat, 0, 0]
def k0_off44 (k0_t1 : Fin k0_t1_loop.trips) (k0_t8 : Fin (k0_t8_loop k0_t1).trips) : Fin 5 → Nat :=
  let c0_299 : Index := 0#32
  let c1_300 : Index := 1#32
  let c2_i32_287 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c1_i32_145 : BitVec 32 := 1#32
  let arg10 : BitVec 32 := Scf.iv v241 c1_i32_145 k0_t8
  let v448 : BitVec 32 := Scalar.muli c1_i32_267 arg10
  let c0_i32_268 : BitVec 32 := 0#32
  let v449 : BitVec 32 := Scalar.addi v448 c0_i32_268
  let v470 : BitVec 32 := Scalar.muli c2_i32_287 v449
  let v483 : Index := Scalar.indexCast v470
  let c0_301 : Index := 0#32
  let c0_302 : Index := 0#32
  ![0, 1, v483.toNat, 0, 0]
def k0_mult117 (k0_t1 : Fin k0_t1_loop.trips) (k0_t8 : Fin (k0_t8_loop k0_t1).trips) : BitVec 32 :=
  let c2_i32_304 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c1_i32_145 : BitVec 32 := 1#32
  let arg10 : BitVec 32 := Scf.iv v241 c1_i32_145 k0_t8
  let v448 : BitVec 32 := Scalar.muli c1_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_306 : BitVec 32 := 256#32
  let v493 : BitVec 32 := Scalar.muli v492 c256_i32_306
  v493
def k0_mult118 (k0_t1 : Fin k0_t1_loop.trips) (k0_t8 : Fin (k0_t8_loop k0_t1).trips) : BitVec 32 :=
  let c2_i32_304 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c1_i32_145 : BitVec 32 := 1#32
  let arg10 : BitVec 32 := Scf.iv v241 c1_i32_145 k0_t8
  let v448 : BitVec 32 := Scalar.muli c1_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_314 : BitVec 32 := 256#32
  let v502 : BitVec 32 := Scalar.muli v492 c256_i32_314
  v502
def k0_off45 (k0_t1 : Fin k0_t1_loop.trips) (k0_t8 : Fin (k0_t8_loop k0_t1).trips) : Fin 5 → Nat :=
  let c0_327 : Index := 0#32
  let c0_328 : Index := 0#32
  let c2_i32_322 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c1_i32_145 : BitVec 32 := 1#32
  let arg10 : BitVec 32 := Scf.iv v241 c1_i32_145 k0_t8
  let v448 : BitVec 32 := Scalar.muli c1_i32_267 arg10
  let c0_i32_268 : BitVec 32 := 0#32
  let v449 : BitVec 32 := Scalar.addi v448 c0_i32_268
  let v511 : BitVec 32 := Scalar.muli c2_i32_322 v449
  let c1_i32_323 : BitVec 32 := 1#32
  let v512 : BitVec 32 := Scalar.addi v511 c1_i32_323
  let v515 : Index := Scalar.indexCast v512
  let c0_329 : Index := 0#32
  let c0_330 : Index := 0#32
  ![0, 0, v515.toNat, 0, 0]
def k0_off46 (k0_t1 : Fin k0_t1_loop.trips) (k0_t8 : Fin (k0_t8_loop k0_t1).trips) : Fin 5 → Nat :=
  let c0_335 : Index := 0#32
  let c1_336 : Index := 1#32
  let c2_i32_322 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c1_i32_145 : BitVec 32 := 1#32
  let arg10 : BitVec 32 := Scf.iv v241 c1_i32_145 k0_t8
  let v448 : BitVec 32 := Scalar.muli c1_i32_267 arg10
  let c0_i32_268 : BitVec 32 := 0#32
  let v449 : BitVec 32 := Scalar.addi v448 c0_i32_268
  let v511 : BitVec 32 := Scalar.muli c2_i32_322 v449
  let c1_i32_323 : BitVec 32 := 1#32
  let v512 : BitVec 32 := Scalar.addi v511 c1_i32_323
  let v525 : Index := Scalar.indexCast v512
  let c0_337 : Index := 0#32
  let c0_338 : Index := 0#32
  ![0, 1, v525.toNat, 0, 0]
@[reducible] def k0_t9_loop (k0_t1 : Fin k0_t1_loop.trips) : Scf.Loop 32 :=
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c0_i32_138 : BitVec 32 := 0#32
  let v243 : BitVec 1 := Scalar.cmpi .sgt v206 c0_i32_138
  let v244 : BitVec 32 := Scalar.extui v243
  let c0_i32_139 : BitVec 32 := 0#32
  let v245 : BitVec 1 := Scalar.cmpi .slt v206 c0_i32_139
  let v246 : BitVec 32 := Scalar.extui v245
  let v247 : BitVec 32 := Scalar.subi v244 v246
  let c1_i32_137 : BitVec 32 := 1#32
  let c0_i32_140 : BitVec 32 := 0#32
  let v248 : BitVec 1 := Scalar.cmpi .sgt c1_i32_137 c0_i32_140
  let v249 : BitVec 32 := Scalar.extui v248
  let c0_i32_141 : BitVec 32 := 0#32
  let v250 : BitVec 1 := Scalar.cmpi .slt c1_i32_137 c0_i32_141
  let v251 : BitVec 32 := Scalar.extui v250
  let v252 : BitVec 32 := Scalar.subi v249 v251
  let v253 : BitVec 1 := Scalar.cmpi .ne v247 v252
  let v254 : BitVec 32 := Scalar.remsi v206 c1_i32_137
  let c0_i32_142 : BitVec 32 := 0#32
  let v255 : BitVec 1 := Scalar.cmpi .ne v254 c0_i32_142
  let v256 : BitVec 1 := Scalar.andi v253 v255
  let v242 : BitVec 32 := Scalar.divsi v206 c1_i32_137
  let c1_i32_143 : BitVec 32 := 1#32
  let v257 : BitVec 32 := Scalar.subi v242 c1_i32_143
  let v258 : BitVec 32 := Scalar.select v256 v257 v242
  let v207 : BitVec 32 := Scalar.subi arg9 v206
  let c0_i32_124 : BitVec 32 := 0#32
  let v209 : BitVec 1 := Scalar.cmpi .sgt v207 c0_i32_124
  let v210 : BitVec 32 := Scalar.extui v209
  let c0_i32_125 : BitVec 32 := 0#32
  let v211 : BitVec 1 := Scalar.cmpi .slt v207 c0_i32_125
  let v212 : BitVec 32 := Scalar.extui v211
  let v213 : BitVec 32 := Scalar.subi v210 v212
  let c1_i32_123 : BitVec 32 := 1#32
  let c0_i32_126 : BitVec 32 := 0#32
  let v214 : BitVec 1 := Scalar.cmpi .sgt c1_i32_123 c0_i32_126
  let v215 : BitVec 32 := Scalar.extui v214
  let c0_i32_127 : BitVec 32 := 0#32
  let v216 : BitVec 1 := Scalar.cmpi .slt c1_i32_123 c0_i32_127
  let v217 : BitVec 32 := Scalar.extui v216
  let v218 : BitVec 32 := Scalar.subi v215 v217
  let v219 : BitVec 1 := Scalar.cmpi .ne v213 v218
  let v220 : BitVec 32 := Scalar.remsi v207 c1_i32_123
  let c0_i32_128 : BitVec 32 := 0#32
  let v221 : BitVec 1 := Scalar.cmpi .ne v220 c0_i32_128
  let v222 : BitVec 1 := Scalar.andi v219 v221
  let v208 : BitVec 32 := Scalar.divsi v207 c1_i32_123
  let c1_i32_129 : BitVec 32 := 1#32
  let v223 : BitVec 32 := Scalar.subi v208 c1_i32_129
  let v224 : BitVec 32 := Scalar.select v222 v223 v208
  let v259 : BitVec 32 := Scalar.addi v258 v224
  let v260 : BitVec 32 := Scalar.subi v259 v241
  let c1_i32_144 : BitVec 32 := 1#32
  let v262 : BitVec 32 := Scalar.divsi v260 c1_i32_144
  let v263 : BitVec 32 := Scalar.muli v262 c1_i32_144
  let v264 : BitVec 32 := Scalar.addi v241 v263
  let v261 : BitVec 32 := Scalar.addi v241 v260
  let c1_i32_146 : BitVec 32 := 1#32
  ⟨v264, v261, c1_i32_146⟩
def k0_mult119 (k0_t1 : Fin k0_t1_loop.trips) (k0_t9 : Fin (k0_t9_loop k0_t1).trips) : BitVec 32 :=
  let c2_i32_269 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c0_i32_138 : BitVec 32 := 0#32
  let v243 : BitVec 1 := Scalar.cmpi .sgt v206 c0_i32_138
  let v244 : BitVec 32 := Scalar.extui v243
  let c0_i32_139 : BitVec 32 := 0#32
  let v245 : BitVec 1 := Scalar.cmpi .slt v206 c0_i32_139
  let v246 : BitVec 32 := Scalar.extui v245
  let v247 : BitVec 32 := Scalar.subi v244 v246
  let c1_i32_137 : BitVec 32 := 1#32
  let c0_i32_140 : BitVec 32 := 0#32
  let v248 : BitVec 1 := Scalar.cmpi .sgt c1_i32_137 c0_i32_140
  let v249 : BitVec 32 := Scalar.extui v248
  let c0_i32_141 : BitVec 32 := 0#32
  let v250 : BitVec 1 := Scalar.cmpi .slt c1_i32_137 c0_i32_141
  let v251 : BitVec 32 := Scalar.extui v250
  let v252 : BitVec 32 := Scalar.subi v249 v251
  let v253 : BitVec 1 := Scalar.cmpi .ne v247 v252
  let v254 : BitVec 32 := Scalar.remsi v206 c1_i32_137
  let c0_i32_142 : BitVec 32 := 0#32
  let v255 : BitVec 1 := Scalar.cmpi .ne v254 c0_i32_142
  let v256 : BitVec 1 := Scalar.andi v253 v255
  let v242 : BitVec 32 := Scalar.divsi v206 c1_i32_137
  let c1_i32_143 : BitVec 32 := 1#32
  let v257 : BitVec 32 := Scalar.subi v242 c1_i32_143
  let v258 : BitVec 32 := Scalar.select v256 v257 v242
  let v207 : BitVec 32 := Scalar.subi arg9 v206
  let c0_i32_124 : BitVec 32 := 0#32
  let v209 : BitVec 1 := Scalar.cmpi .sgt v207 c0_i32_124
  let v210 : BitVec 32 := Scalar.extui v209
  let c0_i32_125 : BitVec 32 := 0#32
  let v211 : BitVec 1 := Scalar.cmpi .slt v207 c0_i32_125
  let v212 : BitVec 32 := Scalar.extui v211
  let v213 : BitVec 32 := Scalar.subi v210 v212
  let c1_i32_123 : BitVec 32 := 1#32
  let c0_i32_126 : BitVec 32 := 0#32
  let v214 : BitVec 1 := Scalar.cmpi .sgt c1_i32_123 c0_i32_126
  let v215 : BitVec 32 := Scalar.extui v214
  let c0_i32_127 : BitVec 32 := 0#32
  let v216 : BitVec 1 := Scalar.cmpi .slt c1_i32_123 c0_i32_127
  let v217 : BitVec 32 := Scalar.extui v216
  let v218 : BitVec 32 := Scalar.subi v215 v217
  let v219 : BitVec 1 := Scalar.cmpi .ne v213 v218
  let v220 : BitVec 32 := Scalar.remsi v207 c1_i32_123
  let c0_i32_128 : BitVec 32 := 0#32
  let v221 : BitVec 1 := Scalar.cmpi .ne v220 c0_i32_128
  let v222 : BitVec 1 := Scalar.andi v219 v221
  let v208 : BitVec 32 := Scalar.divsi v207 c1_i32_123
  let c1_i32_129 : BitVec 32 := 1#32
  let v223 : BitVec 32 := Scalar.subi v208 c1_i32_129
  let v224 : BitVec 32 := Scalar.select v222 v223 v208
  let v259 : BitVec 32 := Scalar.addi v258 v224
  let v260 : BitVec 32 := Scalar.subi v259 v241
  let c1_i32_144 : BitVec 32 := 1#32
  let v262 : BitVec 32 := Scalar.divsi v260 c1_i32_144
  let v263 : BitVec 32 := Scalar.muli v262 c1_i32_144
  let v264 : BitVec 32 := Scalar.addi v241 v263
  let c1_i32_146 : BitVec 32 := 1#32
  let arg10 : BitVec 32 := Scf.iv v264 c1_i32_146 k0_t9
  let v448 : BitVec 32 := Scalar.muli c1_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_271 : BitVec 32 := 256#32
  let v452 : BitVec 32 := Scalar.muli v451 c256_i32_271
  v452
def k0_off47 (k0_t1 : Fin k0_t1_loop.trips) (k0_t9 : Fin (k0_t9_loop k0_t1).trips) (c1_i32_270 : BitVec 32) : Fin 4 → Nat :=
  let c0_272 : Index := 0#32
  let c0_273 : Index := 0#32
  let c2_i32_269 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c0_i32_138 : BitVec 32 := 0#32
  let v243 : BitVec 1 := Scalar.cmpi .sgt v206 c0_i32_138
  let v244 : BitVec 32 := Scalar.extui v243
  let c0_i32_139 : BitVec 32 := 0#32
  let v245 : BitVec 1 := Scalar.cmpi .slt v206 c0_i32_139
  let v246 : BitVec 32 := Scalar.extui v245
  let v247 : BitVec 32 := Scalar.subi v244 v246
  let c1_i32_137 : BitVec 32 := 1#32
  let c0_i32_140 : BitVec 32 := 0#32
  let v248 : BitVec 1 := Scalar.cmpi .sgt c1_i32_137 c0_i32_140
  let v249 : BitVec 32 := Scalar.extui v248
  let c0_i32_141 : BitVec 32 := 0#32
  let v250 : BitVec 1 := Scalar.cmpi .slt c1_i32_137 c0_i32_141
  let v251 : BitVec 32 := Scalar.extui v250
  let v252 : BitVec 32 := Scalar.subi v249 v251
  let v253 : BitVec 1 := Scalar.cmpi .ne v247 v252
  let v254 : BitVec 32 := Scalar.remsi v206 c1_i32_137
  let c0_i32_142 : BitVec 32 := 0#32
  let v255 : BitVec 1 := Scalar.cmpi .ne v254 c0_i32_142
  let v256 : BitVec 1 := Scalar.andi v253 v255
  let v242 : BitVec 32 := Scalar.divsi v206 c1_i32_137
  let c1_i32_143 : BitVec 32 := 1#32
  let v257 : BitVec 32 := Scalar.subi v242 c1_i32_143
  let v258 : BitVec 32 := Scalar.select v256 v257 v242
  let v207 : BitVec 32 := Scalar.subi arg9 v206
  let c0_i32_124 : BitVec 32 := 0#32
  let v209 : BitVec 1 := Scalar.cmpi .sgt v207 c0_i32_124
  let v210 : BitVec 32 := Scalar.extui v209
  let c0_i32_125 : BitVec 32 := 0#32
  let v211 : BitVec 1 := Scalar.cmpi .slt v207 c0_i32_125
  let v212 : BitVec 32 := Scalar.extui v211
  let v213 : BitVec 32 := Scalar.subi v210 v212
  let c1_i32_123 : BitVec 32 := 1#32
  let c0_i32_126 : BitVec 32 := 0#32
  let v214 : BitVec 1 := Scalar.cmpi .sgt c1_i32_123 c0_i32_126
  let v215 : BitVec 32 := Scalar.extui v214
  let c0_i32_127 : BitVec 32 := 0#32
  let v216 : BitVec 1 := Scalar.cmpi .slt c1_i32_123 c0_i32_127
  let v217 : BitVec 32 := Scalar.extui v216
  let v218 : BitVec 32 := Scalar.subi v215 v217
  let v219 : BitVec 1 := Scalar.cmpi .ne v213 v218
  let v220 : BitVec 32 := Scalar.remsi v207 c1_i32_123
  let c0_i32_128 : BitVec 32 := 0#32
  let v221 : BitVec 1 := Scalar.cmpi .ne v220 c0_i32_128
  let v222 : BitVec 1 := Scalar.andi v219 v221
  let v208 : BitVec 32 := Scalar.divsi v207 c1_i32_123
  let c1_i32_129 : BitVec 32 := 1#32
  let v223 : BitVec 32 := Scalar.subi v208 c1_i32_129
  let v224 : BitVec 32 := Scalar.select v222 v223 v208
  let v259 : BitVec 32 := Scalar.addi v258 v224
  let v260 : BitVec 32 := Scalar.subi v259 v241
  let c1_i32_144 : BitVec 32 := 1#32
  let v262 : BitVec 32 := Scalar.divsi v260 c1_i32_144
  let v263 : BitVec 32 := Scalar.muli v262 c1_i32_144
  let v264 : BitVec 32 := Scalar.addi v241 v263
  let c1_i32_146 : BitVec 32 := 1#32
  let arg10 : BitVec 32 := Scf.iv v264 c1_i32_146 k0_t9
  let v448 : BitVec 32 := Scalar.muli c1_i32_267 arg10
  let c0_i32_268 : BitVec 32 := 0#32
  let v449 : BitVec 32 := Scalar.addi v448 c0_i32_268
  let v450 : BitVec 32 := Scalar.muli c2_i32_269 v449
  let v451 : BitVec 32 := Scalar.addi v450 c1_i32_270
  let c256_i32_271 : BitVec 32 := 256#32
  let v452 : BitVec 32 := Scalar.muli v451 c256_i32_271
  let v453 : BitVec 32 := v452
  let v454 : Index := Scalar.indexCast v453
  let c0_274 : Index := 0#32
  ![0, 0, v454.toNat, 0]
def k0_mult120 (k0_t1 : Fin k0_t1_loop.trips) (k0_t9 : Fin (k0_t9_loop k0_t1).trips) : BitVec 32 :=
  let c2_i32_269 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c0_i32_138 : BitVec 32 := 0#32
  let v243 : BitVec 1 := Scalar.cmpi .sgt v206 c0_i32_138
  let v244 : BitVec 32 := Scalar.extui v243
  let c0_i32_139 : BitVec 32 := 0#32
  let v245 : BitVec 1 := Scalar.cmpi .slt v206 c0_i32_139
  let v246 : BitVec 32 := Scalar.extui v245
  let v247 : BitVec 32 := Scalar.subi v244 v246
  let c1_i32_137 : BitVec 32 := 1#32
  let c0_i32_140 : BitVec 32 := 0#32
  let v248 : BitVec 1 := Scalar.cmpi .sgt c1_i32_137 c0_i32_140
  let v249 : BitVec 32 := Scalar.extui v248
  let c0_i32_141 : BitVec 32 := 0#32
  let v250 : BitVec 1 := Scalar.cmpi .slt c1_i32_137 c0_i32_141
  let v251 : BitVec 32 := Scalar.extui v250
  let v252 : BitVec 32 := Scalar.subi v249 v251
  let v253 : BitVec 1 := Scalar.cmpi .ne v247 v252
  let v254 : BitVec 32 := Scalar.remsi v206 c1_i32_137
  let c0_i32_142 : BitVec 32 := 0#32
  let v255 : BitVec 1 := Scalar.cmpi .ne v254 c0_i32_142
  let v256 : BitVec 1 := Scalar.andi v253 v255
  let v242 : BitVec 32 := Scalar.divsi v206 c1_i32_137
  let c1_i32_143 : BitVec 32 := 1#32
  let v257 : BitVec 32 := Scalar.subi v242 c1_i32_143
  let v258 : BitVec 32 := Scalar.select v256 v257 v242
  let v207 : BitVec 32 := Scalar.subi arg9 v206
  let c0_i32_124 : BitVec 32 := 0#32
  let v209 : BitVec 1 := Scalar.cmpi .sgt v207 c0_i32_124
  let v210 : BitVec 32 := Scalar.extui v209
  let c0_i32_125 : BitVec 32 := 0#32
  let v211 : BitVec 1 := Scalar.cmpi .slt v207 c0_i32_125
  let v212 : BitVec 32 := Scalar.extui v211
  let v213 : BitVec 32 := Scalar.subi v210 v212
  let c1_i32_123 : BitVec 32 := 1#32
  let c0_i32_126 : BitVec 32 := 0#32
  let v214 : BitVec 1 := Scalar.cmpi .sgt c1_i32_123 c0_i32_126
  let v215 : BitVec 32 := Scalar.extui v214
  let c0_i32_127 : BitVec 32 := 0#32
  let v216 : BitVec 1 := Scalar.cmpi .slt c1_i32_123 c0_i32_127
  let v217 : BitVec 32 := Scalar.extui v216
  let v218 : BitVec 32 := Scalar.subi v215 v217
  let v219 : BitVec 1 := Scalar.cmpi .ne v213 v218
  let v220 : BitVec 32 := Scalar.remsi v207 c1_i32_123
  let c0_i32_128 : BitVec 32 := 0#32
  let v221 : BitVec 1 := Scalar.cmpi .ne v220 c0_i32_128
  let v222 : BitVec 1 := Scalar.andi v219 v221
  let v208 : BitVec 32 := Scalar.divsi v207 c1_i32_123
  let c1_i32_129 : BitVec 32 := 1#32
  let v223 : BitVec 32 := Scalar.subi v208 c1_i32_129
  let v224 : BitVec 32 := Scalar.select v222 v223 v208
  let v259 : BitVec 32 := Scalar.addi v258 v224
  let v260 : BitVec 32 := Scalar.subi v259 v241
  let c1_i32_144 : BitVec 32 := 1#32
  let v262 : BitVec 32 := Scalar.divsi v260 c1_i32_144
  let v263 : BitVec 32 := Scalar.muli v262 c1_i32_144
  let v264 : BitVec 32 := Scalar.addi v241 v263
  let c1_i32_146 : BitVec 32 := 1#32
  let arg10 : BitVec 32 := Scf.iv v264 c1_i32_146 k0_t9
  let v448 : BitVec 32 := Scalar.muli c1_i32_267 arg10
  let c0_i32_268 : BitVec 32 := 0#32
  let v449 : BitVec 32 := Scalar.addi v448 c0_i32_268
  let v450 : BitVec 32 := Scalar.muli c2_i32_269 v449
  let c1_i32_270 : BitVec 32 := 1#32
  let v451 : BitVec 32 := Scalar.addi v450 c1_i32_270
  let c256_i32_279 : BitVec 32 := 256#32
  let v461 : BitVec 32 := Scalar.muli v451 c256_i32_279
  v461
def k0_off48 (k0_t1 : Fin k0_t1_loop.trips) (k0_t9 : Fin (k0_t9_loop k0_t1).trips) (c1_i32_270 : BitVec 32) : Fin 4 → Nat :=
  let c0_280 : Index := 0#32
  let c1_281 : Index := 1#32
  let c2_i32_269 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c0_i32_138 : BitVec 32 := 0#32
  let v243 : BitVec 1 := Scalar.cmpi .sgt v206 c0_i32_138
  let v244 : BitVec 32 := Scalar.extui v243
  let c0_i32_139 : BitVec 32 := 0#32
  let v245 : BitVec 1 := Scalar.cmpi .slt v206 c0_i32_139
  let v246 : BitVec 32 := Scalar.extui v245
  let v247 : BitVec 32 := Scalar.subi v244 v246
  let c1_i32_137 : BitVec 32 := 1#32
  let c0_i32_140 : BitVec 32 := 0#32
  let v248 : BitVec 1 := Scalar.cmpi .sgt c1_i32_137 c0_i32_140
  let v249 : BitVec 32 := Scalar.extui v248
  let c0_i32_141 : BitVec 32 := 0#32
  let v250 : BitVec 1 := Scalar.cmpi .slt c1_i32_137 c0_i32_141
  let v251 : BitVec 32 := Scalar.extui v250
  let v252 : BitVec 32 := Scalar.subi v249 v251
  let v253 : BitVec 1 := Scalar.cmpi .ne v247 v252
  let v254 : BitVec 32 := Scalar.remsi v206 c1_i32_137
  let c0_i32_142 : BitVec 32 := 0#32
  let v255 : BitVec 1 := Scalar.cmpi .ne v254 c0_i32_142
  let v256 : BitVec 1 := Scalar.andi v253 v255
  let v242 : BitVec 32 := Scalar.divsi v206 c1_i32_137
  let c1_i32_143 : BitVec 32 := 1#32
  let v257 : BitVec 32 := Scalar.subi v242 c1_i32_143
  let v258 : BitVec 32 := Scalar.select v256 v257 v242
  let v207 : BitVec 32 := Scalar.subi arg9 v206
  let c0_i32_124 : BitVec 32 := 0#32
  let v209 : BitVec 1 := Scalar.cmpi .sgt v207 c0_i32_124
  let v210 : BitVec 32 := Scalar.extui v209
  let c0_i32_125 : BitVec 32 := 0#32
  let v211 : BitVec 1 := Scalar.cmpi .slt v207 c0_i32_125
  let v212 : BitVec 32 := Scalar.extui v211
  let v213 : BitVec 32 := Scalar.subi v210 v212
  let c1_i32_123 : BitVec 32 := 1#32
  let c0_i32_126 : BitVec 32 := 0#32
  let v214 : BitVec 1 := Scalar.cmpi .sgt c1_i32_123 c0_i32_126
  let v215 : BitVec 32 := Scalar.extui v214
  let c0_i32_127 : BitVec 32 := 0#32
  let v216 : BitVec 1 := Scalar.cmpi .slt c1_i32_123 c0_i32_127
  let v217 : BitVec 32 := Scalar.extui v216
  let v218 : BitVec 32 := Scalar.subi v215 v217
  let v219 : BitVec 1 := Scalar.cmpi .ne v213 v218
  let v220 : BitVec 32 := Scalar.remsi v207 c1_i32_123
  let c0_i32_128 : BitVec 32 := 0#32
  let v221 : BitVec 1 := Scalar.cmpi .ne v220 c0_i32_128
  let v222 : BitVec 1 := Scalar.andi v219 v221
  let v208 : BitVec 32 := Scalar.divsi v207 c1_i32_123
  let c1_i32_129 : BitVec 32 := 1#32
  let v223 : BitVec 32 := Scalar.subi v208 c1_i32_129
  let v224 : BitVec 32 := Scalar.select v222 v223 v208
  let v259 : BitVec 32 := Scalar.addi v258 v224
  let v260 : BitVec 32 := Scalar.subi v259 v241
  let c1_i32_144 : BitVec 32 := 1#32
  let v262 : BitVec 32 := Scalar.divsi v260 c1_i32_144
  let v263 : BitVec 32 := Scalar.muli v262 c1_i32_144
  let v264 : BitVec 32 := Scalar.addi v241 v263
  let c1_i32_146 : BitVec 32 := 1#32
  let arg10 : BitVec 32 := Scf.iv v264 c1_i32_146 k0_t9
  let v448 : BitVec 32 := Scalar.muli c1_i32_267 arg10
  let c0_i32_268 : BitVec 32 := 0#32
  let v449 : BitVec 32 := Scalar.addi v448 c0_i32_268
  let v450 : BitVec 32 := Scalar.muli c2_i32_269 v449
  let v451 : BitVec 32 := Scalar.addi v450 c1_i32_270
  let c256_i32_279 : BitVec 32 := 256#32
  let v461 : BitVec 32 := Scalar.muli v451 c256_i32_279
  let v462 : BitVec 32 := v461
  let v463 : Index := Scalar.indexCast v462
  let c0_282 : Index := 0#32
  ![0, 1, v463.toNat, 0]
def k0_off49 (k0_t1 : Fin k0_t1_loop.trips) (k0_t9 : Fin (k0_t9_loop k0_t1).trips) : Fin 5 → Nat :=
  let c0_291 : Index := 0#32
  let c0_292 : Index := 0#32
  let c2_i32_287 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c0_i32_138 : BitVec 32 := 0#32
  let v243 : BitVec 1 := Scalar.cmpi .sgt v206 c0_i32_138
  let v244 : BitVec 32 := Scalar.extui v243
  let c0_i32_139 : BitVec 32 := 0#32
  let v245 : BitVec 1 := Scalar.cmpi .slt v206 c0_i32_139
  let v246 : BitVec 32 := Scalar.extui v245
  let v247 : BitVec 32 := Scalar.subi v244 v246
  let c1_i32_137 : BitVec 32 := 1#32
  let c0_i32_140 : BitVec 32 := 0#32
  let v248 : BitVec 1 := Scalar.cmpi .sgt c1_i32_137 c0_i32_140
  let v249 : BitVec 32 := Scalar.extui v248
  let c0_i32_141 : BitVec 32 := 0#32
  let v250 : BitVec 1 := Scalar.cmpi .slt c1_i32_137 c0_i32_141
  let v251 : BitVec 32 := Scalar.extui v250
  let v252 : BitVec 32 := Scalar.subi v249 v251
  let v253 : BitVec 1 := Scalar.cmpi .ne v247 v252
  let v254 : BitVec 32 := Scalar.remsi v206 c1_i32_137
  let c0_i32_142 : BitVec 32 := 0#32
  let v255 : BitVec 1 := Scalar.cmpi .ne v254 c0_i32_142
  let v256 : BitVec 1 := Scalar.andi v253 v255
  let v242 : BitVec 32 := Scalar.divsi v206 c1_i32_137
  let c1_i32_143 : BitVec 32 := 1#32
  let v257 : BitVec 32 := Scalar.subi v242 c1_i32_143
  let v258 : BitVec 32 := Scalar.select v256 v257 v242
  let v207 : BitVec 32 := Scalar.subi arg9 v206
  let c0_i32_124 : BitVec 32 := 0#32
  let v209 : BitVec 1 := Scalar.cmpi .sgt v207 c0_i32_124
  let v210 : BitVec 32 := Scalar.extui v209
  let c0_i32_125 : BitVec 32 := 0#32
  let v211 : BitVec 1 := Scalar.cmpi .slt v207 c0_i32_125
  let v212 : BitVec 32 := Scalar.extui v211
  let v213 : BitVec 32 := Scalar.subi v210 v212
  let c1_i32_123 : BitVec 32 := 1#32
  let c0_i32_126 : BitVec 32 := 0#32
  let v214 : BitVec 1 := Scalar.cmpi .sgt c1_i32_123 c0_i32_126
  let v215 : BitVec 32 := Scalar.extui v214
  let c0_i32_127 : BitVec 32 := 0#32
  let v216 : BitVec 1 := Scalar.cmpi .slt c1_i32_123 c0_i32_127
  let v217 : BitVec 32 := Scalar.extui v216
  let v218 : BitVec 32 := Scalar.subi v215 v217
  let v219 : BitVec 1 := Scalar.cmpi .ne v213 v218
  let v220 : BitVec 32 := Scalar.remsi v207 c1_i32_123
  let c0_i32_128 : BitVec 32 := 0#32
  let v221 : BitVec 1 := Scalar.cmpi .ne v220 c0_i32_128
  let v222 : BitVec 1 := Scalar.andi v219 v221
  let v208 : BitVec 32 := Scalar.divsi v207 c1_i32_123
  let c1_i32_129 : BitVec 32 := 1#32
  let v223 : BitVec 32 := Scalar.subi v208 c1_i32_129
  let v224 : BitVec 32 := Scalar.select v222 v223 v208
  let v259 : BitVec 32 := Scalar.addi v258 v224
  let v260 : BitVec 32 := Scalar.subi v259 v241
  let c1_i32_144 : BitVec 32 := 1#32
  let v262 : BitVec 32 := Scalar.divsi v260 c1_i32_144
  let v263 : BitVec 32 := Scalar.muli v262 c1_i32_144
  let v264 : BitVec 32 := Scalar.addi v241 v263
  let c1_i32_146 : BitVec 32 := 1#32
  let arg10 : BitVec 32 := Scf.iv v264 c1_i32_146 k0_t9
  let v448 : BitVec 32 := Scalar.muli c1_i32_267 arg10
  let c0_i32_268 : BitVec 32 := 0#32
  let v449 : BitVec 32 := Scalar.addi v448 c0_i32_268
  let v470 : BitVec 32 := Scalar.muli c2_i32_287 v449
  let v473 : Index := Scalar.indexCast v470
  let c0_293 : Index := 0#32
  let c0_294 : Index := 0#32
  ![0, 0, v473.toNat, 0, 0]
def k0_off50 (k0_t1 : Fin k0_t1_loop.trips) (k0_t9 : Fin (k0_t9_loop k0_t1).trips) : Fin 5 → Nat :=
  let c0_299 : Index := 0#32
  let c1_300 : Index := 1#32
  let c2_i32_287 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c0_i32_138 : BitVec 32 := 0#32
  let v243 : BitVec 1 := Scalar.cmpi .sgt v206 c0_i32_138
  let v244 : BitVec 32 := Scalar.extui v243
  let c0_i32_139 : BitVec 32 := 0#32
  let v245 : BitVec 1 := Scalar.cmpi .slt v206 c0_i32_139
  let v246 : BitVec 32 := Scalar.extui v245
  let v247 : BitVec 32 := Scalar.subi v244 v246
  let c1_i32_137 : BitVec 32 := 1#32
  let c0_i32_140 : BitVec 32 := 0#32
  let v248 : BitVec 1 := Scalar.cmpi .sgt c1_i32_137 c0_i32_140
  let v249 : BitVec 32 := Scalar.extui v248
  let c0_i32_141 : BitVec 32 := 0#32
  let v250 : BitVec 1 := Scalar.cmpi .slt c1_i32_137 c0_i32_141
  let v251 : BitVec 32 := Scalar.extui v250
  let v252 : BitVec 32 := Scalar.subi v249 v251
  let v253 : BitVec 1 := Scalar.cmpi .ne v247 v252
  let v254 : BitVec 32 := Scalar.remsi v206 c1_i32_137
  let c0_i32_142 : BitVec 32 := 0#32
  let v255 : BitVec 1 := Scalar.cmpi .ne v254 c0_i32_142
  let v256 : BitVec 1 := Scalar.andi v253 v255
  let v242 : BitVec 32 := Scalar.divsi v206 c1_i32_137
  let c1_i32_143 : BitVec 32 := 1#32
  let v257 : BitVec 32 := Scalar.subi v242 c1_i32_143
  let v258 : BitVec 32 := Scalar.select v256 v257 v242
  let v207 : BitVec 32 := Scalar.subi arg9 v206
  let c0_i32_124 : BitVec 32 := 0#32
  let v209 : BitVec 1 := Scalar.cmpi .sgt v207 c0_i32_124
  let v210 : BitVec 32 := Scalar.extui v209
  let c0_i32_125 : BitVec 32 := 0#32
  let v211 : BitVec 1 := Scalar.cmpi .slt v207 c0_i32_125
  let v212 : BitVec 32 := Scalar.extui v211
  let v213 : BitVec 32 := Scalar.subi v210 v212
  let c1_i32_123 : BitVec 32 := 1#32
  let c0_i32_126 : BitVec 32 := 0#32
  let v214 : BitVec 1 := Scalar.cmpi .sgt c1_i32_123 c0_i32_126
  let v215 : BitVec 32 := Scalar.extui v214
  let c0_i32_127 : BitVec 32 := 0#32
  let v216 : BitVec 1 := Scalar.cmpi .slt c1_i32_123 c0_i32_127
  let v217 : BitVec 32 := Scalar.extui v216
  let v218 : BitVec 32 := Scalar.subi v215 v217
  let v219 : BitVec 1 := Scalar.cmpi .ne v213 v218
  let v220 : BitVec 32 := Scalar.remsi v207 c1_i32_123
  let c0_i32_128 : BitVec 32 := 0#32
  let v221 : BitVec 1 := Scalar.cmpi .ne v220 c0_i32_128
  let v222 : BitVec 1 := Scalar.andi v219 v221
  let v208 : BitVec 32 := Scalar.divsi v207 c1_i32_123
  let c1_i32_129 : BitVec 32 := 1#32
  let v223 : BitVec 32 := Scalar.subi v208 c1_i32_129
  let v224 : BitVec 32 := Scalar.select v222 v223 v208
  let v259 : BitVec 32 := Scalar.addi v258 v224
  let v260 : BitVec 32 := Scalar.subi v259 v241
  let c1_i32_144 : BitVec 32 := 1#32
  let v262 : BitVec 32 := Scalar.divsi v260 c1_i32_144
  let v263 : BitVec 32 := Scalar.muli v262 c1_i32_144
  let v264 : BitVec 32 := Scalar.addi v241 v263
  let c1_i32_146 : BitVec 32 := 1#32
  let arg10 : BitVec 32 := Scf.iv v264 c1_i32_146 k0_t9
  let v448 : BitVec 32 := Scalar.muli c1_i32_267 arg10
  let c0_i32_268 : BitVec 32 := 0#32
  let v449 : BitVec 32 := Scalar.addi v448 c0_i32_268
  let v470 : BitVec 32 := Scalar.muli c2_i32_287 v449
  let v483 : Index := Scalar.indexCast v470
  let c0_301 : Index := 0#32
  let c0_302 : Index := 0#32
  ![0, 1, v483.toNat, 0, 0]
def k0_mult121 (k0_t1 : Fin k0_t1_loop.trips) (k0_t9 : Fin (k0_t9_loop k0_t1).trips) : BitVec 32 :=
  let c2_i32_304 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c0_i32_138 : BitVec 32 := 0#32
  let v243 : BitVec 1 := Scalar.cmpi .sgt v206 c0_i32_138
  let v244 : BitVec 32 := Scalar.extui v243
  let c0_i32_139 : BitVec 32 := 0#32
  let v245 : BitVec 1 := Scalar.cmpi .slt v206 c0_i32_139
  let v246 : BitVec 32 := Scalar.extui v245
  let v247 : BitVec 32 := Scalar.subi v244 v246
  let c1_i32_137 : BitVec 32 := 1#32
  let c0_i32_140 : BitVec 32 := 0#32
  let v248 : BitVec 1 := Scalar.cmpi .sgt c1_i32_137 c0_i32_140
  let v249 : BitVec 32 := Scalar.extui v248
  let c0_i32_141 : BitVec 32 := 0#32
  let v250 : BitVec 1 := Scalar.cmpi .slt c1_i32_137 c0_i32_141
  let v251 : BitVec 32 := Scalar.extui v250
  let v252 : BitVec 32 := Scalar.subi v249 v251
  let v253 : BitVec 1 := Scalar.cmpi .ne v247 v252
  let v254 : BitVec 32 := Scalar.remsi v206 c1_i32_137
  let c0_i32_142 : BitVec 32 := 0#32
  let v255 : BitVec 1 := Scalar.cmpi .ne v254 c0_i32_142
  let v256 : BitVec 1 := Scalar.andi v253 v255
  let v242 : BitVec 32 := Scalar.divsi v206 c1_i32_137
  let c1_i32_143 : BitVec 32 := 1#32
  let v257 : BitVec 32 := Scalar.subi v242 c1_i32_143
  let v258 : BitVec 32 := Scalar.select v256 v257 v242
  let v207 : BitVec 32 := Scalar.subi arg9 v206
  let c0_i32_124 : BitVec 32 := 0#32
  let v209 : BitVec 1 := Scalar.cmpi .sgt v207 c0_i32_124
  let v210 : BitVec 32 := Scalar.extui v209
  let c0_i32_125 : BitVec 32 := 0#32
  let v211 : BitVec 1 := Scalar.cmpi .slt v207 c0_i32_125
  let v212 : BitVec 32 := Scalar.extui v211
  let v213 : BitVec 32 := Scalar.subi v210 v212
  let c1_i32_123 : BitVec 32 := 1#32
  let c0_i32_126 : BitVec 32 := 0#32
  let v214 : BitVec 1 := Scalar.cmpi .sgt c1_i32_123 c0_i32_126
  let v215 : BitVec 32 := Scalar.extui v214
  let c0_i32_127 : BitVec 32 := 0#32
  let v216 : BitVec 1 := Scalar.cmpi .slt c1_i32_123 c0_i32_127
  let v217 : BitVec 32 := Scalar.extui v216
  let v218 : BitVec 32 := Scalar.subi v215 v217
  let v219 : BitVec 1 := Scalar.cmpi .ne v213 v218
  let v220 : BitVec 32 := Scalar.remsi v207 c1_i32_123
  let c0_i32_128 : BitVec 32 := 0#32
  let v221 : BitVec 1 := Scalar.cmpi .ne v220 c0_i32_128
  let v222 : BitVec 1 := Scalar.andi v219 v221
  let v208 : BitVec 32 := Scalar.divsi v207 c1_i32_123
  let c1_i32_129 : BitVec 32 := 1#32
  let v223 : BitVec 32 := Scalar.subi v208 c1_i32_129
  let v224 : BitVec 32 := Scalar.select v222 v223 v208
  let v259 : BitVec 32 := Scalar.addi v258 v224
  let v260 : BitVec 32 := Scalar.subi v259 v241
  let c1_i32_144 : BitVec 32 := 1#32
  let v262 : BitVec 32 := Scalar.divsi v260 c1_i32_144
  let v263 : BitVec 32 := Scalar.muli v262 c1_i32_144
  let v264 : BitVec 32 := Scalar.addi v241 v263
  let c1_i32_146 : BitVec 32 := 1#32
  let arg10 : BitVec 32 := Scf.iv v264 c1_i32_146 k0_t9
  let v448 : BitVec 32 := Scalar.muli c1_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_306 : BitVec 32 := 256#32
  let v493 : BitVec 32 := Scalar.muli v492 c256_i32_306
  v493
def k0_mult122 (k0_t1 : Fin k0_t1_loop.trips) (k0_t9 : Fin (k0_t9_loop k0_t1).trips) : BitVec 32 :=
  let c2_i32_304 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c0_i32_138 : BitVec 32 := 0#32
  let v243 : BitVec 1 := Scalar.cmpi .sgt v206 c0_i32_138
  let v244 : BitVec 32 := Scalar.extui v243
  let c0_i32_139 : BitVec 32 := 0#32
  let v245 : BitVec 1 := Scalar.cmpi .slt v206 c0_i32_139
  let v246 : BitVec 32 := Scalar.extui v245
  let v247 : BitVec 32 := Scalar.subi v244 v246
  let c1_i32_137 : BitVec 32 := 1#32
  let c0_i32_140 : BitVec 32 := 0#32
  let v248 : BitVec 1 := Scalar.cmpi .sgt c1_i32_137 c0_i32_140
  let v249 : BitVec 32 := Scalar.extui v248
  let c0_i32_141 : BitVec 32 := 0#32
  let v250 : BitVec 1 := Scalar.cmpi .slt c1_i32_137 c0_i32_141
  let v251 : BitVec 32 := Scalar.extui v250
  let v252 : BitVec 32 := Scalar.subi v249 v251
  let v253 : BitVec 1 := Scalar.cmpi .ne v247 v252
  let v254 : BitVec 32 := Scalar.remsi v206 c1_i32_137
  let c0_i32_142 : BitVec 32 := 0#32
  let v255 : BitVec 1 := Scalar.cmpi .ne v254 c0_i32_142
  let v256 : BitVec 1 := Scalar.andi v253 v255
  let v242 : BitVec 32 := Scalar.divsi v206 c1_i32_137
  let c1_i32_143 : BitVec 32 := 1#32
  let v257 : BitVec 32 := Scalar.subi v242 c1_i32_143
  let v258 : BitVec 32 := Scalar.select v256 v257 v242
  let v207 : BitVec 32 := Scalar.subi arg9 v206
  let c0_i32_124 : BitVec 32 := 0#32
  let v209 : BitVec 1 := Scalar.cmpi .sgt v207 c0_i32_124
  let v210 : BitVec 32 := Scalar.extui v209
  let c0_i32_125 : BitVec 32 := 0#32
  let v211 : BitVec 1 := Scalar.cmpi .slt v207 c0_i32_125
  let v212 : BitVec 32 := Scalar.extui v211
  let v213 : BitVec 32 := Scalar.subi v210 v212
  let c1_i32_123 : BitVec 32 := 1#32
  let c0_i32_126 : BitVec 32 := 0#32
  let v214 : BitVec 1 := Scalar.cmpi .sgt c1_i32_123 c0_i32_126
  let v215 : BitVec 32 := Scalar.extui v214
  let c0_i32_127 : BitVec 32 := 0#32
  let v216 : BitVec 1 := Scalar.cmpi .slt c1_i32_123 c0_i32_127
  let v217 : BitVec 32 := Scalar.extui v216
  let v218 : BitVec 32 := Scalar.subi v215 v217
  let v219 : BitVec 1 := Scalar.cmpi .ne v213 v218
  let v220 : BitVec 32 := Scalar.remsi v207 c1_i32_123
  let c0_i32_128 : BitVec 32 := 0#32
  let v221 : BitVec 1 := Scalar.cmpi .ne v220 c0_i32_128
  let v222 : BitVec 1 := Scalar.andi v219 v221
  let v208 : BitVec 32 := Scalar.divsi v207 c1_i32_123
  let c1_i32_129 : BitVec 32 := 1#32
  let v223 : BitVec 32 := Scalar.subi v208 c1_i32_129
  let v224 : BitVec 32 := Scalar.select v222 v223 v208
  let v259 : BitVec 32 := Scalar.addi v258 v224
  let v260 : BitVec 32 := Scalar.subi v259 v241
  let c1_i32_144 : BitVec 32 := 1#32
  let v262 : BitVec 32 := Scalar.divsi v260 c1_i32_144
  let v263 : BitVec 32 := Scalar.muli v262 c1_i32_144
  let v264 : BitVec 32 := Scalar.addi v241 v263
  let c1_i32_146 : BitVec 32 := 1#32
  let arg10 : BitVec 32 := Scf.iv v264 c1_i32_146 k0_t9
  let v448 : BitVec 32 := Scalar.muli c1_i32_267 arg10
  let c0_i32_268 : BitVec 32 := 0#32
  let v449 : BitVec 32 := Scalar.addi v448 c0_i32_268
  let v491 : BitVec 32 := Scalar.muli c2_i32_304 v449
  let c2_i32_305 : BitVec 32 := 2#32
  let v492 : BitVec 32 := Scalar.addi v491 c2_i32_305
  let c256_i32_314 : BitVec 32 := 256#32
  let v502 : BitVec 32 := Scalar.muli v492 c256_i32_314
  v502
def k0_off51 (k0_t1 : Fin k0_t1_loop.trips) (k0_t9 : Fin (k0_t9_loop k0_t1).trips) : Fin 5 → Nat :=
  let c0_327 : Index := 0#32
  let c0_328 : Index := 0#32
  let c2_i32_322 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c0_i32_138 : BitVec 32 := 0#32
  let v243 : BitVec 1 := Scalar.cmpi .sgt v206 c0_i32_138
  let v244 : BitVec 32 := Scalar.extui v243
  let c0_i32_139 : BitVec 32 := 0#32
  let v245 : BitVec 1 := Scalar.cmpi .slt v206 c0_i32_139
  let v246 : BitVec 32 := Scalar.extui v245
  let v247 : BitVec 32 := Scalar.subi v244 v246
  let c1_i32_137 : BitVec 32 := 1#32
  let c0_i32_140 : BitVec 32 := 0#32
  let v248 : BitVec 1 := Scalar.cmpi .sgt c1_i32_137 c0_i32_140
  let v249 : BitVec 32 := Scalar.extui v248
  let c0_i32_141 : BitVec 32 := 0#32
  let v250 : BitVec 1 := Scalar.cmpi .slt c1_i32_137 c0_i32_141
  let v251 : BitVec 32 := Scalar.extui v250
  let v252 : BitVec 32 := Scalar.subi v249 v251
  let v253 : BitVec 1 := Scalar.cmpi .ne v247 v252
  let v254 : BitVec 32 := Scalar.remsi v206 c1_i32_137
  let c0_i32_142 : BitVec 32 := 0#32
  let v255 : BitVec 1 := Scalar.cmpi .ne v254 c0_i32_142
  let v256 : BitVec 1 := Scalar.andi v253 v255
  let v242 : BitVec 32 := Scalar.divsi v206 c1_i32_137
  let c1_i32_143 : BitVec 32 := 1#32
  let v257 : BitVec 32 := Scalar.subi v242 c1_i32_143
  let v258 : BitVec 32 := Scalar.select v256 v257 v242
  let v207 : BitVec 32 := Scalar.subi arg9 v206
  let c0_i32_124 : BitVec 32 := 0#32
  let v209 : BitVec 1 := Scalar.cmpi .sgt v207 c0_i32_124
  let v210 : BitVec 32 := Scalar.extui v209
  let c0_i32_125 : BitVec 32 := 0#32
  let v211 : BitVec 1 := Scalar.cmpi .slt v207 c0_i32_125
  let v212 : BitVec 32 := Scalar.extui v211
  let v213 : BitVec 32 := Scalar.subi v210 v212
  let c1_i32_123 : BitVec 32 := 1#32
  let c0_i32_126 : BitVec 32 := 0#32
  let v214 : BitVec 1 := Scalar.cmpi .sgt c1_i32_123 c0_i32_126
  let v215 : BitVec 32 := Scalar.extui v214
  let c0_i32_127 : BitVec 32 := 0#32
  let v216 : BitVec 1 := Scalar.cmpi .slt c1_i32_123 c0_i32_127
  let v217 : BitVec 32 := Scalar.extui v216
  let v218 : BitVec 32 := Scalar.subi v215 v217
  let v219 : BitVec 1 := Scalar.cmpi .ne v213 v218
  let v220 : BitVec 32 := Scalar.remsi v207 c1_i32_123
  let c0_i32_128 : BitVec 32 := 0#32
  let v221 : BitVec 1 := Scalar.cmpi .ne v220 c0_i32_128
  let v222 : BitVec 1 := Scalar.andi v219 v221
  let v208 : BitVec 32 := Scalar.divsi v207 c1_i32_123
  let c1_i32_129 : BitVec 32 := 1#32
  let v223 : BitVec 32 := Scalar.subi v208 c1_i32_129
  let v224 : BitVec 32 := Scalar.select v222 v223 v208
  let v259 : BitVec 32 := Scalar.addi v258 v224
  let v260 : BitVec 32 := Scalar.subi v259 v241
  let c1_i32_144 : BitVec 32 := 1#32
  let v262 : BitVec 32 := Scalar.divsi v260 c1_i32_144
  let v263 : BitVec 32 := Scalar.muli v262 c1_i32_144
  let v264 : BitVec 32 := Scalar.addi v241 v263
  let c1_i32_146 : BitVec 32 := 1#32
  let arg10 : BitVec 32 := Scf.iv v264 c1_i32_146 k0_t9
  let v448 : BitVec 32 := Scalar.muli c1_i32_267 arg10
  let c0_i32_268 : BitVec 32 := 0#32
  let v449 : BitVec 32 := Scalar.addi v448 c0_i32_268
  let v511 : BitVec 32 := Scalar.muli c2_i32_322 v449
  let c1_i32_323 : BitVec 32 := 1#32
  let v512 : BitVec 32 := Scalar.addi v511 c1_i32_323
  let v515 : Index := Scalar.indexCast v512
  let c0_329 : Index := 0#32
  let c0_330 : Index := 0#32
  ![0, 0, v515.toNat, 0, 0]
def k0_off52 (k0_t1 : Fin k0_t1_loop.trips) (k0_t9 : Fin (k0_t9_loop k0_t1).trips) : Fin 5 → Nat :=
  let c0_335 : Index := 0#32
  let c1_336 : Index := 1#32
  let c2_i32_322 : BitVec 32 := 2#32
  let c1_i32_267 : BitVec 32 := 1#32
  let c0_i32_73 : BitVec 32 := 0#32
  let c0_i32_33 : BitVec 32 := 0#32
  let c1_i32 : BitVec 32 := 1#32
  let arg9 : BitVec 32 := Scf.iv c0_i32_33 c1_i32 k0_t1
  let c0_i32_60 : BitVec 32 := 0#32
  let v55 : BitVec 32 := Scalar.subi arg9 c0_i32_60
  let c0_i32_61 : BitVec 32 := 0#32
  let v57 : BitVec 1 := Scalar.cmpi .sgt v55 c0_i32_61
  let v58 : BitVec 32 := Scalar.extui v57
  let c0_i32_62 : BitVec 32 := 0#32
  let v59 : BitVec 1 := Scalar.cmpi .slt v55 c0_i32_62
  let v60 : BitVec 32 := Scalar.extui v59
  let v61 : BitVec 32 := Scalar.subi v58 v60
  let c8_i32 : BitVec 32 := 8#32
  let c0_i32_63 : BitVec 32 := 0#32
  let v62 : BitVec 1 := Scalar.cmpi .sgt c8_i32 c0_i32_63
  let v63 : BitVec 32 := Scalar.extui v62
  let c0_i32_64 : BitVec 32 := 0#32
  let v64 : BitVec 1 := Scalar.cmpi .slt c8_i32 c0_i32_64
  let v65 : BitVec 32 := Scalar.extui v64
  let v66 : BitVec 32 := Scalar.subi v63 v65
  let v67 : BitVec 1 := Scalar.cmpi .ne v61 v66
  let v68 : BitVec 32 := Scalar.remsi v55 c8_i32
  let c0_i32_65 : BitVec 32 := 0#32
  let v69 : BitVec 1 := Scalar.cmpi .ne v68 c0_i32_65
  let v70 : BitVec 1 := Scalar.andi v67 v69
  let v56 : BitVec 32 := Scalar.divsi v55 c8_i32
  let c1_i32_66 : BitVec 32 := 1#32
  let v71 : BitVec 32 := Scalar.subi v56 c1_i32_66
  let v72 : BitVec 32 := Scalar.select v70 v71 v56
  let c8_i32_72 : BitVec 32 := 8#32
  let v81 : BitVec 32 := Scalar.muli v72 c8_i32_72
  let v82 : BitVec 32 := Scalar.addi c0_i32_73 v81
  let v83 : BitVec 32 := Scalar.subi arg9 v82
  let c0_i32_74 : BitVec 32 := 0#32
  let v85 : BitVec 1 := Scalar.cmpi .sgt v83 c0_i32_74
  let v86 : BitVec 32 := Scalar.extui v85
  let c0_i32_75 : BitVec 32 := 0#32
  let v87 : BitVec 1 := Scalar.cmpi .slt v83 c0_i32_75
  let v88 : BitVec 32 := Scalar.extui v87
  let v89 : BitVec 32 := Scalar.subi v86 v88
  let c4_i32 : BitVec 32 := 4#32
  let c0_i32_76 : BitVec 32 := 0#32
  let v90 : BitVec 1 := Scalar.cmpi .sgt c4_i32 c0_i32_76
  let v91 : BitVec 32 := Scalar.extui v90
  let c0_i32_77 : BitVec 32 := 0#32
  let v92 : BitVec 1 := Scalar.cmpi .slt c4_i32 c0_i32_77
  let v93 : BitVec 32 := Scalar.extui v92
  let v94 : BitVec 32 := Scalar.subi v91 v93
  let v95 : BitVec 1 := Scalar.cmpi .ne v89 v94
  let v96 : BitVec 32 := Scalar.remsi v83 c4_i32
  let c0_i32_78 : BitVec 32 := 0#32
  let v97 : BitVec 1 := Scalar.cmpi .ne v96 c0_i32_78
  let v98 : BitVec 1 := Scalar.andi v95 v97
  let v84 : BitVec 32 := Scalar.divsi v83 c4_i32
  let c1_i32_79 : BitVec 32 := 1#32
  let v99 : BitVec 32 := Scalar.subi v84 c1_i32_79
  let v100 : BitVec 32 := Scalar.select v98 v99 v84
  let c4_i32_97 : BitVec 32 := 4#32
  let v143 : BitVec 32 := Scalar.muli v100 c4_i32_97
  let v144 : BitVec 32 := Scalar.addi v82 v143
  let v145 : BitVec 32 := Scalar.subi arg9 v144
  let c0_i32_99 : BitVec 32 := 0#32
  let v147 : BitVec 1 := Scalar.cmpi .sgt v145 c0_i32_99
  let v148 : BitVec 32 := Scalar.extui v147
  let c0_i32_100 : BitVec 32 := 0#32
  let v149 : BitVec 1 := Scalar.cmpi .slt v145 c0_i32_100
  let v150 : BitVec 32 := Scalar.extui v149
  let v151 : BitVec 32 := Scalar.subi v148 v150
  let c2_i32_98 : BitVec 32 := 2#32
  let c0_i32_101 : BitVec 32 := 0#32
  let v152 : BitVec 1 := Scalar.cmpi .sgt c2_i32_98 c0_i32_101
  let v153 : BitVec 32 := Scalar.extui v152
  let c0_i32_102 : BitVec 32 := 0#32
  let v154 : BitVec 1 := Scalar.cmpi .slt c2_i32_98 c0_i32_102
  let v155 : BitVec 32 := Scalar.extui v154
  let v156 : BitVec 32 := Scalar.subi v153 v155
  let v157 : BitVec 1 := Scalar.cmpi .ne v151 v156
  let v158 : BitVec 32 := Scalar.remsi v145 c2_i32_98
  let c0_i32_103 : BitVec 32 := 0#32
  let v159 : BitVec 1 := Scalar.cmpi .ne v158 c0_i32_103
  let v160 : BitVec 1 := Scalar.andi v157 v159
  let v146 : BitVec 32 := Scalar.divsi v145 c2_i32_98
  let c1_i32_104 : BitVec 32 := 1#32
  let v161 : BitVec 32 := Scalar.subi v146 c1_i32_104
  let v162 : BitVec 32 := Scalar.select v160 v161 v146
  let c2_i32_122 : BitVec 32 := 2#32
  let v205 : BitVec 32 := Scalar.muli v162 c2_i32_122
  let v206 : BitVec 32 := Scalar.addi v144 v205
  let c0_i32_131 : BitVec 32 := 0#32
  let v226 : BitVec 1 := Scalar.cmpi .sgt v206 c0_i32_131
  let v227 : BitVec 32 := Scalar.extui v226
  let c0_i32_132 : BitVec 32 := 0#32
  let v228 : BitVec 1 := Scalar.cmpi .slt v206 c0_i32_132
  let v229 : BitVec 32 := Scalar.extui v228
  let v230 : BitVec 32 := Scalar.subi v227 v229
  let c1_i32_130 : BitVec 32 := 1#32
  let c0_i32_133 : BitVec 32 := 0#32
  let v231 : BitVec 1 := Scalar.cmpi .sgt c1_i32_130 c0_i32_133
  let v232 : BitVec 32 := Scalar.extui v231
  let c0_i32_134 : BitVec 32 := 0#32
  let v233 : BitVec 1 := Scalar.cmpi .slt c1_i32_130 c0_i32_134
  let v234 : BitVec 32 := Scalar.extui v233
  let v235 : BitVec 32 := Scalar.subi v232 v234
  let v236 : BitVec 1 := Scalar.cmpi .ne v230 v235
  let v237 : BitVec 32 := Scalar.remsi v206 c1_i32_130
  let c0_i32_135 : BitVec 32 := 0#32
  let v238 : BitVec 1 := Scalar.cmpi .ne v237 c0_i32_135
  let v239 : BitVec 1 := Scalar.andi v236 v238
  let v225 : BitVec 32 := Scalar.divsi v206 c1_i32_130
  let c1_i32_136 : BitVec 32 := 1#32
  let v240 : BitVec 32 := Scalar.subi v225 c1_i32_136
  let v241 : BitVec 32 := Scalar.select v239 v240 v225
  let c0_i32_138 : BitVec 32 := 0#32
  let v243 : BitVec 1 := Scalar.cmpi .sgt v206 c0_i32_138
  let v244 : BitVec 32 := Scalar.extui v243
  let c0_i32_139 : BitVec 32 := 0#32
  let v245 : BitVec 1 := Scalar.cmpi .slt v206 c0_i32_139
  let v246 : BitVec 32 := Scalar.extui v245
  let v247 : BitVec 32 := Scalar.subi v244 v246
  let c1_i32_137 : BitVec 32 := 1#32
  let c0_i32_140 : BitVec 32 := 0#32
  let v248 : BitVec 1 := Scalar.cmpi .sgt c1_i32_137 c0_i32_140
  let v249 : BitVec 32 := Scalar.extui v248
  let c0_i32_141 : BitVec 32 := 0#32
  let v250 : BitVec 1 := Scalar.cmpi .slt c1_i32_137 c0_i32_141
  let v251 : BitVec 32 := Scalar.extui v250
  let v252 : BitVec 32 := Scalar.subi v249 v251
  let v253 : BitVec 1 := Scalar.cmpi .ne v247 v252
  let v254 : BitVec 32 := Scalar.remsi v206 c1_i32_137
  let c0_i32_142 : BitVec 32 := 0#32
  let v255 : BitVec 1 := Scalar.cmpi .ne v254 c0_i32_142
  let v256 : BitVec 1 := Scalar.andi v253 v255
  let v242 : BitVec 32 := Scalar.divsi v206 c1_i32_137
  let c1_i32_143 : BitVec 32 := 1#32
  let v257 : BitVec 32 := Scalar.subi v242 c1_i32_143
  let v258 : BitVec 32 := Scalar.select v256 v257 v242
  let v207 : BitVec 32 := Scalar.subi arg9 v206
  let c0_i32_124 : BitVec 32 := 0#32
  let v209 : BitVec 1 := Scalar.cmpi .sgt v207 c0_i32_124
  let v210 : BitVec 32 := Scalar.extui v209
  let c0_i32_125 : BitVec 32 := 0#32
  let v211 : BitVec 1 := Scalar.cmpi .slt v207 c0_i32_125
  let v212 : BitVec 32 := Scalar.extui v211
  let v213 : BitVec 32 := Scalar.subi v210 v212
  let c1_i32_123 : BitVec 32 := 1#32
  let c0_i32_126 : BitVec 32 := 0#32
  let v214 : BitVec 1 := Scalar.cmpi .sgt c1_i32_123 c0_i32_126
  let v215 : BitVec 32 := Scalar.extui v214
  let c0_i32_127 : BitVec 32 := 0#32
  let v216 : BitVec 1 := Scalar.cmpi .slt c1_i32_123 c0_i32_127
  let v217 : BitVec 32 := Scalar.extui v216
  let v218 : BitVec 32 := Scalar.subi v215 v217
  let v219 : BitVec 1 := Scalar.cmpi .ne v213 v218
  let v220 : BitVec 32 := Scalar.remsi v207 c1_i32_123
  let c0_i32_128 : BitVec 32 := 0#32
  let v221 : BitVec 1 := Scalar.cmpi .ne v220 c0_i32_128
  let v222 : BitVec 1 := Scalar.andi v219 v221
  let v208 : BitVec 32 := Scalar.divsi v207 c1_i32_123
  let c1_i32_129 : BitVec 32 := 1#32
  let v223 : BitVec 32 := Scalar.subi v208 c1_i32_129
  let v224 : BitVec 32 := Scalar.select v222 v223 v208
  let v259 : BitVec 32 := Scalar.addi v258 v224
  let v260 : BitVec 32 := Scalar.subi v259 v241
  let c1_i32_144 : BitVec 32 := 1#32
  let v262 : BitVec 32 := Scalar.divsi v260 c1_i32_144
  let v263 : BitVec 32 := Scalar.muli v262 c1_i32_144
  let v264 : BitVec 32 := Scalar.addi v241 v263
  let c1_i32_146 : BitVec 32 := 1#32
  let arg10 : BitVec 32 := Scf.iv v264 c1_i32_146 k0_t9
  let v448 : BitVec 32 := Scalar.muli c1_i32_267 arg10
  let c0_i32_268 : BitVec 32 := 0#32
  let v449 : BitVec 32 := Scalar.addi v448 c0_i32_268
  let v511 : BitVec 32 := Scalar.muli c2_i32_322 v449
  let c1_i32_323 : BitVec 32 := 1#32
  let v512 : BitVec 32 := Scalar.addi v511 c1_i32_323
  let v525 : Index := Scalar.indexCast v512
  let c0_337 : Index := 0#32
  let c0_338 : Index := 0#32
  ![0, 1, v525.toNat, 0, 0]
def k0_mult123 (k0_t1 : Fin k0_t1_loop.trips) : BitVec 32 :=
  let c2_i32_148 : BitVec 32 := 2#32
  let c0_i32_33 : BitVec 32 := 0#32
  let c1_i32 : BitVec 32 := 1#32
  let arg9 : BitVec 32 := Scf.iv c0_i32_33 c1_i32 k0_t1
  let v268 : BitVec 32 := Scalar.muli c2_i32_148 arg9
  let c1_i32_149 : BitVec 32 := 1#32
  let v269 : BitVec 32 := Scalar.addi v268 c1_i32_149
  let c256_i32 : BitVec 32 := 256#32
  let v270 : BitVec 32 := Scalar.muli v269 c256_i32
  v270
def k0_off53 (k0_t1 : Fin k0_t1_loop.trips) : Fin 4 → Nat :=
  let c0_150 : Index := 0#32
  let c0_151 : Index := 0#32
  let c2_i32_148 : BitVec 32 := 2#32
  let c0_i32_33 : BitVec 32 := 0#32
  let c1_i32 : BitVec 32 := 1#32
  let arg9 : BitVec 32 := Scf.iv c0_i32_33 c1_i32 k0_t1
  let v268 : BitVec 32 := Scalar.muli c2_i32_148 arg9
  let c1_i32_149 : BitVec 32 := 1#32
  let v269 : BitVec 32 := Scalar.addi v268 c1_i32_149
  let c256_i32 : BitVec 32 := 256#32
  let v270 : BitVec 32 := Scalar.muli v269 c256_i32
  let v271 : BitVec 32 := v270
  let v272 : Index := Scalar.indexCast v271
  let c0_152 : Index := 0#32
  ![0, 0, v272.toNat, 0]
def k0_mult124 (k0_t1 : Fin k0_t1_loop.trips) : BitVec 32 :=
  let c2_i32_148 : BitVec 32 := 2#32
  let c0_i32_33 : BitVec 32 := 0#32
  let c1_i32 : BitVec 32 := 1#32
  let arg9 : BitVec 32 := Scf.iv c0_i32_33 c1_i32 k0_t1
  let v268 : BitVec 32 := Scalar.muli c2_i32_148 arg9
  let c1_i32_149 : BitVec 32 := 1#32
  let v269 : BitVec 32 := Scalar.addi v268 c1_i32_149
  let c256_i32_153 : BitVec 32 := 256#32
  let v275 : BitVec 32 := Scalar.muli v269 c256_i32_153
  v275
def k0_off54 (k0_t1 : Fin k0_t1_loop.trips) : Fin 4 → Nat :=
  let c0_154 : Index := 0#32
  let c1_155 : Index := 1#32
  let c2_i32_148 : BitVec 32 := 2#32
  let c0_i32_33 : BitVec 32 := 0#32
  let c1_i32 : BitVec 32 := 1#32
  let arg9 : BitVec 32 := Scf.iv c0_i32_33 c1_i32 k0_t1
  let v268 : BitVec 32 := Scalar.muli c2_i32_148 arg9
  let c1_i32_149 : BitVec 32 := 1#32
  let v269 : BitVec 32 := Scalar.addi v268 c1_i32_149
  let c256_i32_153 : BitVec 32 := 256#32
  let v275 : BitVec 32 := Scalar.muli v269 c256_i32_153
  let v276 : BitVec 32 := v275
  let v277 : Index := Scalar.indexCast v276
  let c0_156 : Index := 0#32
  ![0, 1, v277.toNat, 0]
def k0_off55 (k0_t1 : Fin k0_t1_loop.trips) : Fin 5 → Nat :=
  let c0_163 : Index := 0#32
  let c0_164 : Index := 0#32
  let c2_i32_147 : BitVec 32 := 2#32
  let c0_i32_33 : BitVec 32 := 0#32
  let c1_i32 : BitVec 32 := 1#32
  let arg9 : BitVec 32 := Scf.iv c0_i32_33 c1_i32 k0_t1
  let v267 : BitVec 32 := Scalar.muli c2_i32_147 arg9
  let v291 : Index := Scalar.indexCast v267
  let c0_165 : Index := 0#32
  let c0_166 : Index := 0#32
  ![0, 0, v291.toNat, 0, 0]
def k0_off56 (k0_t1 : Fin k0_t1_loop.trips) : Fin 5 → Nat :=
  let c0_172 : Index := 0#32
  let c1_173 : Index := 1#32
  let c2_i32_147 : BitVec 32 := 2#32
  let c0_i32_33 : BitVec 32 := 0#32
  let c1_i32 : BitVec 32 := 1#32
  let arg9 : BitVec 32 := Scf.iv c0_i32_33 c1_i32 k0_t1
  let v267 : BitVec 32 := Scalar.muli c2_i32_147 arg9
  let v306 : Index := Scalar.indexCast v267
  let c0_174 : Index := 0#32
  let c0_175 : Index := 0#32
  ![0, 1, v306.toNat, 0, 0]
def k0_off57 (k0_t1 : Fin k0_t1_loop.trips) : Fin 5 → Nat :=
  let c0_179 : Index := 0#32
  let c0_180 : Index := 0#32
  let c2_i32_178 : BitVec 32 := 2#32
  let c0_i32_33 : BitVec 32 := 0#32
  let c1_i32 : BitVec 32 := 1#32
  let arg9 : BitVec 32 := Scf.iv c0_i32_33 c1_i32 k0_t1
  let c1_i32_177 : BitVec 32 := 1#32
  let v314 : BitVec 32 := Scalar.addi arg9 c1_i32_177
  let c15_i32 : BitVec 32 := 15#32
  let v315 : BitVec 32 := Scalar.minsi v314 c15_i32
  let v316 : BitVec 32 := Scalar.muli c2_i32_178 v315
  let v317 : Index := Scalar.indexCast v316
  let c0_181 : Index := 0#32
  let c0_182 : Index := 0#32
  ![0, 0, v317.toNat, 0, 0]
def k0_off58 (k0_t1 : Fin k0_t1_loop.trips) : Fin 5 → Nat :=
  let c0_185 : Index := 0#32
  let c0_186 : Index := 0#32
  let c2_i32_183 : BitVec 32 := 2#32
  let c0_i32_33 : BitVec 32 := 0#32
  let c1_i32 : BitVec 32 := 1#32
  let arg9 : BitVec 32 := Scf.iv c0_i32_33 c1_i32 k0_t1
  let c1_i32_177 : BitVec 32 := 1#32
  let v314 : BitVec 32 := Scalar.addi arg9 c1_i32_177
  let c15_i32 : BitVec 32 := 15#32
  let v315 : BitVec 32 := Scalar.minsi v314 c15_i32
  let v320 : BitVec 32 := Scalar.muli c2_i32_183 v315
  let c1_i32_184 : BitVec 32 := 1#32
  let v321 : BitVec 32 := Scalar.addi v320 c1_i32_184
  let v322 : Index := Scalar.indexCast v321
  let c0_187 : Index := 0#32
  let c0_188 : Index := 0#32
  ![0, 0, v322.toNat, 0, 0]
def k0_off59 (k0_t1 : Fin k0_t1_loop.trips) : Fin 5 → Nat :=
  let c0_190 : Index := 0#32
  let c1_191 : Index := 1#32
  let c2_i32_189 : BitVec 32 := 2#32
  let c0_i32_33 : BitVec 32 := 0#32
  let c1_i32 : BitVec 32 := 1#32
  let arg9 : BitVec 32 := Scf.iv c0_i32_33 c1_i32 k0_t1
  let c1_i32_177 : BitVec 32 := 1#32
  let v314 : BitVec 32 := Scalar.addi arg9 c1_i32_177
  let c15_i32 : BitVec 32 := 15#32
  let v315 : BitVec 32 := Scalar.minsi v314 c15_i32
  let v326 : BitVec 32 := Scalar.muli c2_i32_189 v315
  let v327 : Index := Scalar.indexCast v326
  let c0_192 : Index := 0#32
  let c0_193 : Index := 0#32
  ![0, 1, v327.toNat, 0, 0]
def k0_off60 (k0_t1 : Fin k0_t1_loop.trips) : Fin 5 → Nat :=
  let c0_196 : Index := 0#32
  let c1_197 : Index := 1#32
  let c2_i32_194 : BitVec 32 := 2#32
  let c0_i32_33 : BitVec 32 := 0#32
  let c1_i32 : BitVec 32 := 1#32
  let arg9 : BitVec 32 := Scf.iv c0_i32_33 c1_i32 k0_t1
  let c1_i32_177 : BitVec 32 := 1#32
  let v314 : BitVec 32 := Scalar.addi arg9 c1_i32_177
  let c15_i32 : BitVec 32 := 15#32
  let v315 : BitVec 32 := Scalar.minsi v314 c15_i32
  let v330 : BitVec 32 := Scalar.muli c2_i32_194 v315
  let c1_i32_195 : BitVec 32 := 1#32
  let v331 : BitVec 32 := Scalar.addi v330 c1_i32_195
  let v332 : Index := Scalar.indexCast v331
  let c0_198 : Index := 0#32
  let c0_199 : Index := 0#32
  ![0, 1, v332.toNat, 0, 0]
def k0_mult125 : BitVec 32 :=
  let c0_i32_200 : BitVec 32 := 0#32
  c0_i32_200
def k0_mult126 : BitVec 32 :=
  let c0_i32_208 : BitVec 32 := 0#32
  c0_i32_208
def k0_off61 (k0_t1 : Fin k0_t1_loop.trips) : Fin 5 → Nat :=
  let c0_217 : Index := 0#32
  let c0_218 : Index := 0#32
  let c2_i32_148 : BitVec 32 := 2#32
  let c0_i32_33 : BitVec 32 := 0#32
  let c1_i32 : BitVec 32 := 1#32
  let arg9 : BitVec 32 := Scf.iv c0_i32_33 c1_i32 k0_t1
  let v268 : BitVec 32 := Scalar.muli c2_i32_148 arg9
  let c1_i32_149 : BitVec 32 := 1#32
  let v269 : BitVec 32 := Scalar.addi v268 c1_i32_149
  let v355 : Index := Scalar.indexCast v269
  let c0_219 : Index := 0#32
  let c0_220 : Index := 0#32
  ![0, 0, v355.toNat, 0, 0]
def k0_off62 (k0_t1 : Fin k0_t1_loop.trips) (c0_i32_223 : BitVec 32) : Fin 4 → Nat :=
  let c0_224 : Index := 0#32
  let c2_i32_222 : BitVec 32 := 2#32
  let c0_i32_33 : BitVec 32 := 0#32
  let c1_i32 : BitVec 32 := 1#32
  let arg9 : BitVec 32 := Scf.iv c0_i32_33 c1_i32 k0_t1
  let v368 : BitVec 32 := Scalar.muli c2_i32_222 arg9
  let v369 : BitVec 32 := Scalar.addi v368 c0_i32_223
  let v370 : Index := Scalar.indexCast v369
  let c0_225 : Index := 0#32
  let c0_226 : Index := 0#32
  ![0, v370.toNat, 0, 0]
def k0_off63 (k0_t1 : Fin k0_t1_loop.trips) : Fin 5 → Nat :=
  let c0_243 : Index := 0#32
  let c1_244 : Index := 1#32
  let c2_i32_148 : BitVec 32 := 2#32
  let c0_i32_33 : BitVec 32 := 0#32
  let c1_i32 : BitVec 32 := 1#32
  let arg9 : BitVec 32 := Scf.iv c0_i32_33 c1_i32 k0_t1
  let v268 : BitVec 32 := Scalar.muli c2_i32_148 arg9
  let c1_i32_149 : BitVec 32 := 1#32
  let v269 : BitVec 32 := Scalar.addi v268 c1_i32_149
  let v403 : Index := Scalar.indexCast v269
  let c0_245 : Index := 0#32
  let c0_246 : Index := 0#32
  ![0, 1, v403.toNat, 0, 0]
def k0_off64 (k0_t1 : Fin k0_t1_loop.trips) (c0_i32_249 : BitVec 32) : Fin 4 → Nat :=
  let c0_250 : Index := 0#32
  let c2_i32_248 : BitVec 32 := 2#32
  let c0_i32_33 : BitVec 32 := 0#32
  let c1_i32 : BitVec 32 := 1#32
  let arg9 : BitVec 32 := Scf.iv c0_i32_33 c1_i32 k0_t1
  let v416 : BitVec 32 := Scalar.muli c2_i32_248 arg9
  let v417 : BitVec 32 := Scalar.addi v416 c0_i32_249
  let v418 : Index := Scalar.indexCast v417
  let c64 : Index := 64#32
  let c0_251 : Index := 0#32
  ![0, v418.toNat, 64, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x32x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x32x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x8192x8x96 : Shape := ⟨4, ![4, 8192, 8, 96]⟩
abbrev S4x8192x8x64 : Shape := ⟨4, ![4, 8192, 8, 64]⟩
abbrev S4x8192x512 : Shape := ⟨3, ![4, 8192, 512]⟩
abbrev S96 : Shape := ⟨1, ![96]⟩
abbrev S4x8x8192x8192 : Shape := ⟨4, ![4, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x64, .f32⟩
  | .hbm, ⟨3, _⟩ => ⟨S4x8192x512, .f32⟩
  | .hbm, ⟨4, _⟩ => ⟨S96, .f32⟩
  | .hbm, ⟨5, _⟩ => ⟨S96, .f32⟩
  | .hbm, ⟨6, _⟩ => ⟨S4x8x8192x8192, .f32⟩
  | .hbm, ⟨7, _⟩ => ⟨S_, .f32⟩
  | .hbm, ⟨8, _⟩ => ⟨S4x8x8192x8192, .f32⟩
  | .hbm, ⟨9, _⟩ => ⟨S4x8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x1x8192x8192, .i1⟩
  | .hbm, ⟨17, _⟩ => ⟨S_, .f32⟩
  | .hbm, ⟨18, _⟩ => ⟨S_, .f32⟩
  | .hbm, ⟨19, _⟩ => ⟨S4x8x8192x8192, .i1⟩
  | .hbm, ⟨20, _⟩ => ⟨S4x8x8192x8192, .f32⟩
  | .hbm, ⟨21, _⟩ => ⟨S4x8x8192x8192, .f32⟩
  | .hbm, ⟨22, _⟩ => ⟨S_, .f32⟩
  | .hbm, ⟨23, _⟩ => ⟨S4x8x8192, .f32⟩
  | .hbm, ⟨24, _⟩ => ⟨S_, .f32⟩
  | .hbm, ⟨25, _⟩ => ⟨S4x8x8192, .f32⟩
  | .hbm, ⟨26, _⟩ => ⟨S4x8x8192, .f32⟩
  | .hbm, ⟨27, _⟩ => ⟨S4x8x8192x1, .f32⟩
  | .hbm, ⟨28, _⟩ => ⟨S4x8x8192x8192, .f32⟩
  | .hbm, ⟨29, _⟩ => ⟨S4x8x8192x8192, .f32⟩
  | .hbm, ⟨30, _⟩ => ⟨S4x8x8192x8192, .f32⟩
  | .hbm, ⟨31, _⟩ => ⟨S_, .f32⟩
  | .hbm, ⟨32, _⟩ => ⟨S4x8x8192, .f32⟩
  | .hbm, ⟨33, _⟩ => ⟨S4x8x8192x1, .f32⟩
  | .hbm, ⟨34, _⟩ => ⟨S4x8x8192x8192, .f32⟩
  | .hbm, ⟨35, _⟩ => ⟨S4x8x8192x8192, .f32⟩
  | .hbm, ⟨36, _⟩ => ⟨S4x8x64x8192, .f32⟩
  | .hbm, ⟨37, _⟩ => ⟨S4x8192x8x64, .f32⟩
  | .hbm, ⟨38, _⟩ => ⟨S4x8192x512, .f32⟩
  | .hbm, ⟨39, _⟩ => ⟨S4x8192x512, .f32⟩
  | .hbm, ⟨40, _⟩ => ⟨S4x8192x512, .f32⟩
  | .hbm, ⟨41, _⟩ => ⟨S_, .f32⟩
  | .hbm, ⟨42, _⟩ => ⟨S4x8192x512, .f32⟩
  | .hbm, ⟨43, _⟩ => ⟨S4x8192x512, .f32⟩
  | .hbm, ⟨44, _⟩ => ⟨S_, .f32⟩
  | .hbm, ⟨45, _⟩ => ⟨S4x8192x512, .f32⟩
  | .hbm, ⟨46, _⟩ => ⟨S4x8192x512, .f32⟩
  | .hbm, ⟨47, _⟩ => ⟨S4x8192x512, .f32⟩
  | .hbm, ⟨48, _⟩ => ⟨S4x8192x512, .f32⟩
  | .hbm, ⟨49, _⟩ => ⟨S4x8192x512, .bf16⟩
  | _, _ => ⟨S4x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S1536x1024 : Shape := ⟨2, ![1536, 1024]⟩
abbrev S4x32x256x512 : Shape := ⟨4, ![4, 32, 256, 512]⟩
abbrev S4x32x512x256 : Shape := ⟨4, ![4, 32, 512, 256]⟩
abbrev S1x2048x1024 : Shape := ⟨3, ![1, 2048, 1024]⟩
abbrev S1x8x512x256 : Shape := ⟨4, ![1, 8, 512, 256]⟩
abbrev S1x2048x512 : Shape := ⟨3, ![1, 2048, 512]⟩
abbrev S1x1x512x256 : Shape := ⟨4, ![1, 1, 512, 256]⟩
abbrev S512x256 : Shape := ⟨2, ![512, 256]⟩
abbrev S512x1024 : Shape := ⟨2, ![512, 1024]⟩
abbrev S256x1024 : Shape := ⟨2, ![256, 1024]⟩
abbrev S1x256x512 : Shape := ⟨3, ![1, 256, 512]⟩
abbrev S256x512 : Shape := ⟨2, ![256, 512]⟩
abbrev S1x256x1024 : Shape := ⟨3, ![1, 256, 1024]⟩

abbrev nBuf : Space → Nat
  | .hbm => 14
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S1536x1024, .f32⟩
  | .hbm, ⟨5, _⟩ => ⟨S4x32x256x512, .f32⟩
  | .hbm, ⟨6, _⟩ => ⟨S4x32x512x256, .f32⟩
  | .hbm, ⟨7, _⟩ => ⟨S4x32x512x256, .bf16⟩
  | .hbm, ⟨8, _⟩ => ⟨S4x8192x512, .bf16⟩
  | .hbm, ⟨9, _⟩ => ⟨S4x32x256x512, .f32⟩
  | .hbm, ⟨10, _⟩ => ⟨S4x32x512x256, .f32⟩
  | .hbm, ⟨11, _⟩ => ⟨S4x32x512x256, .bf16⟩
  | .hbm, ⟨12, _⟩ => ⟨S1536x1024, .bf16⟩
  | .hbm, ⟨13, _⟩ => ⟨S4x8192x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x8x512x256, .bf16⟩
  | .local _ .vmem, ⟨3, _⟩ => ⟨S1x8x512x256, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x8x512x256, .bf16⟩
  | .local _ .vmem, ⟨7, _⟩ => ⟨S1x8x512x256, .bf16⟩
  | .local _ .vmem, ⟨8, _⟩ => ⟨S1536x1024, .bf16⟩
  | .local _ .vmem, ⟨9, _⟩ => ⟨S1x2048x1024, .f32⟩
  | .local _ .vmem, ⟨10, _⟩ => ⟨S1x2048x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x8192x1024 : Shape := ⟨3, ![4, 8192, 1024]⟩
abbrev S4x8192x512 : Shape := ⟨3, ![4, 8192, 512]⟩
abbrev S1536x1024 : Shape := ⟨2, ![1536, 1024]⟩
abbrev S4x8192x1536 : Shape := ⟨3, ![4, 8192, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S1536x1024, .f32⟩
  | .hbm, ⟨5, _⟩ => ⟨S4x8192x1536, .f32⟩
  | .hbm, ⟨6, _⟩ => ⟨S4x8192x1024, .f32⟩
  | .hbm, ⟨7, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S1024x4256 : Shape := ⟨2, ![1024, 4256]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S3x512 : Shape := ⟨2, ![3, 512]⟩
abbrev S64 : Shape := ⟨1, ![64]⟩
abbrev S8 : Shape := ⟨1, ![8]⟩
abbrev S1024x2048 : Shape := ⟨2, ![1024, 2048]⟩
abbrev S1024x4x4x128 : Shape := ⟨4, ![1024, 4, 4, 128]⟩
abbrev S1024x1280 : Shape := ⟨2, ![1024, 1280]⟩
abbrev S1024x928 : Shape := ⟨2, ![1024, 928]⟩
abbrev S1024x2208 : Shape := ⟨2, ![1024, 2208]⟩
abbrev S2208x1024 : Shape := ⟨2, ![2208, 1024]⟩
abbrev S256x1 : Shape := ⟨2, ![256, 1]⟩
abbrev S768x256 : Shape := ⟨2, ![768, 256]⟩
abbrev S128x1 : Shape := ⟨2, ![128, 1]⟩
abbrev S128x8x128 : Shape := ⟨3, ![128, 8, 128]⟩
abbrev S128x8x64 : Shape := ⟨3, ![128, 8, 64]⟩
abbrev S128x512 : Shape := ⟨2, ![128, 512]⟩
abbrev S1024x128 : Shape := ⟨2, ![1024, 128]⟩
abbrev S_ : Shape := ⟨0, ![]⟩
abbrev S96x1 : Shape := ⟨2, ![96, 1]⟩
abbrev S96x1024 : Shape := ⟨2, ![96, 1024]⟩
abbrev S32x1024 : Shape := ⟨2, ![32, 1024]⟩
abbrev S1 : Shape := ⟨1, ![1]⟩
abbrev S16 : Shape := ⟨1, ![16]⟩
abbrev S16x1 : Shape := ⟨2, ![16, 1]⟩
abbrev S16x128 : Shape := ⟨2, ![16, 128]⟩
abbrev S1x1024 : Shape := ⟨2, ![1, 1024]⟩
abbrev S16x1024 : Shape := ⟨2, ![16, 1024]⟩
abbrev S64x1 : Shape := ⟨2, ![64, 1]⟩
abbrev S64x1024 : Shape := ⟨2, ![64, 1024]⟩
abbrev S1x128 : Shape := ⟨2, ![1, 128]⟩
abbrev S256x128 : Shape := ⟨2, ![256, 128]⟩
abbrev S8x1x1 : Shape := ⟨3, ![8, 1, 1]⟩
abbrev S1x256x128 : Shape := ⟨3, ![1, 256, 128]⟩
abbrev S8x256x128 : Shape := ⟨3, ![8, 256, 128]⟩
abbrev S2x4x256x128 : Shape := ⟨4, ![2, 4, 256, 128]⟩
abbrev S2x256x4x128 : Shape := ⟨4, ![2, 256, 4, 128]⟩
abbrev S2x256x512 : Shape := ⟨3, ![2, 256, 512]⟩
abbrev S8x128 : Shape := ⟨2, ![8, 128]⟩
abbrev S2x1x512 : Shape := ⟨3, ![2, 1, 512]⟩
abbrev S4x8x32x128x256 : Shape := ⟨5, ![4, 8, 32, 128, 256]⟩
abbrev S4x8x8192x128 : Shape := ⟨4, ![4, 8, 8192, 128]⟩
abbrev S4x8x32x64x256 : Shape := ⟨5, ![4, 8, 32, 64, 256]⟩
abbrev S4x32x512x256 : Shape := ⟨4, ![4, 32, 512, 256]⟩
abbrev S4x8192x512 : Shape := ⟨3, ![4, 8192, 512]⟩
abbrev S1x1024x1024 : Shape := ⟨3, ![1, 1024, 1024]⟩
abbrev S1x8x4x128x256 : Shape := ⟨5, ![1, 8, 4, 128, 256]⟩
abbrev S1x8x1024x128 : Shape := ⟨4, ![1, 8, 1024, 128]⟩
abbrev S1x8x4x64x256 : Shape := ⟨5, ![1, 8, 4, 64, 256]⟩
abbrev S1x4x512x256 : Shape := ⟨4, ![1, 4, 512, 256]⟩
abbrev S1x1024x512 : Shape := ⟨3, ![1, 1024, 512]⟩
abbrev S8x512 : Shape := ⟨2, ![8, 512]⟩
abbrev S128x128 : Shape := ⟨2, ![128, 128]⟩
abbrev S16x256x512 : Shape := ⟨3, ![16, 256, 512]⟩
abbrev S1024x1024 : Shape := ⟨2, ![1024, 1024]⟩
abbrev S1024x1 : Shape := ⟨2, ![1024, 1]⟩
abbrev S1280x1024 : Shape := ⟨2, ![1280, 1024]⟩
abbrev S512x1024 : Shape := ⟨2, ![512, 1024]⟩
abbrev S64x512 : Shape := ⟨2, ![64, 512]⟩
abbrev S128x256 : Shape := ⟨2, ![128, 256]⟩
abbrev S64x128 : Shape := ⟨2, ![64, 128]⟩
abbrev S256x512 : Shape := ⟨2, ![256, 512]⟩
abbrev S1x256x512 : Shape := ⟨3, ![1, 256, 512]⟩
abbrev S1024x512 : Shape := ⟨2, ![1024, 512]⟩
abbrev S1x1x512 : Shape := ⟨3, ![1, 1, 512]⟩
abbrev S1x512 : Shape := ⟨2, ![1, 512]⟩
abbrev S512 : Shape := ⟨1, ![512]⟩
abbrev S64x256 : Shape := ⟨2, ![64, 256]⟩
abbrev S1x1x64x128 : Shape := ⟨4, ![1, 1, 64, 128]⟩
abbrev S3x128 : Shape := ⟨2, ![3, 128]⟩
abbrev S1016x128 : Shape := ⟨2, ![1016, 128]⟩
abbrev S1x1024x128 : Shape := ⟨3, ![1, 1024, 128]⟩
abbrev S928x1024 : Shape := ⟨2, ![928, 1024]⟩
abbrev S256x1024 : Shape := ⟨2, ![256, 1024]⟩
abbrev S768x1024 : Shape := ⟨2, ![768, 1024]⟩
abbrev S1x1x1x128x256 : Shape := ⟨5, ![1, 1, 1, 128, 256]⟩
abbrev S1x1x1024x128 : Shape := ⟨4, ![1, 1, 1024, 128]⟩
abbrev S1x1x1x64x256 : Shape := ⟨5, ![1, 1, 1, 64, 256]⟩
abbrev S512x256 : Shape := ⟨2, ![512, 256]⟩
abbrev S1x1x512x256 : Shape := ⟨4, ![1, 1, 512, 256]⟩

abbrev nBuf : Space → Nat
  | .hbm => 154
  | .vmem => 34
  | .smem => 0
  | _ => 0

abbrev hbmTy0_0 (i : Nat) : BufTy := match i % 128 with
  | 0 => ⟨S4x8192x1024, .f32⟩
  | 1 => ⟨S1024, .f32⟩
  | 2 => ⟨S1024x4256, .f32⟩
  | 3 => ⟨S256, .f32⟩
  | 4 => ⟨S256x768, .f32⟩
  | 5 => ⟨S128, .f32⟩
  | 6 => ⟨S128x1024, .f32⟩
  | 7 => ⟨S96, .f32⟩
  | 8 => ⟨S96, .f32⟩
  | 9 => ⟨S3x512, .f32⟩
  | 10 => ⟨S64, .f32⟩
  | 11 => ⟨S64, .f32⟩
  | 12 => ⟨S8, .f32⟩
  | 13 => ⟨S1024x2048, .f32⟩
  | 14 => ⟨S1024x4x4x128, .f32⟩
  | 15 => ⟨S1024x4x4x128, .f32⟩
  | 16 => ⟨S1024x2048, .f32⟩
  | 17 => ⟨S1024x2048, .bf16⟩
  | 18 => ⟨S1024x1280, .f32⟩
  | 19 => ⟨S1024x928, .f32⟩
  | 20 => ⟨S1024x2208, .f32⟩
  | 21 => ⟨S2208x1024, .f32⟩
  | 22 => ⟨S2208x1024, .bf16⟩
  | 23 => ⟨S256x1, .f32⟩
  | 24 => ⟨S256x768, .f32⟩
  | 25 => ⟨S256x768, .f32⟩
  | 26 => ⟨S768x256, .f32⟩
  | 27 => ⟨S768x256, .bf16⟩
  | 28 => ⟨S128x1, .f32⟩
  | 29 => ⟨S128x1024, .f32⟩
  | 30 => ⟨S128x1024, .f32⟩
  | 31 => ⟨S128x8x128, .f32⟩
  | 32 => ⟨S128x8x64, .f32⟩
  | 33 => ⟨S128x512, .f32⟩
  | 34 => ⟨S128x8x64, .f32⟩
  | 35 => ⟨S128x512, .f32⟩
  | 36 => ⟨S128x1024, .f32⟩
  | 37 => ⟨S1024x128, .f32⟩
  | 38 => ⟨S1024x128, .bf16⟩
  | 39 => ⟨S_, .f32⟩
  | 40 => ⟨S96, .f32⟩
  | 41 => ⟨S96, .f32⟩
  | 42 => ⟨S96x1, .f32⟩
  | 43 => ⟨S96x1024, .f32⟩
  | 44 => ⟨S96x1, .f32⟩
  | 45 => ⟨S96x1024, .f32⟩
  | 46 => ⟨S96, .f32⟩
  | 47 => ⟨S_, .f32⟩
  | 48 => ⟨S_, .f32⟩
  | 49 => ⟨S_, .f32⟩
  | 50 => ⟨S_, .f32⟩
  | 51 => ⟨S96, .f32⟩
  | 52 => ⟨S_, .f32⟩
  | 53 => ⟨S_, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S32x1024, .f32⟩
  | 62 => ⟨S_, .f32⟩
  | 63 => ⟨S_, .i32⟩
  | 64 => ⟨S1, .i32⟩
  | 65 => ⟨S1024, .f32⟩
  | 66 => ⟨S32x1024, .f32⟩
  | 67 => ⟨S16, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S16x1, .f32⟩
  | 76 => ⟨S16x128, .f32⟩
  | 77 => ⟨S1024, .f32⟩
  | 78 => ⟨S1x1024, .f32⟩
  | 79 => ⟨S16x1, .f32⟩
  | 80 => ⟨S16x1024, .f32⟩
  | 81 => ⟨S16x1024, .f32⟩
  | 82 => ⟨S16x1024, .f32⟩
  | 83 => ⟨S16x1024, .f32⟩
  | 84 => ⟨S16x1024, .f32⟩
  | 85 => ⟨S_, .f32⟩
  | 86 => ⟨S64, .f32⟩
  | 87 => ⟨S64, .f32⟩
  | 88 => ⟨S64x1, .f32⟩
  | 89 => ⟨S64x1024, .f32⟩
  | 90 => ⟨S64x1, .f32⟩
  | 91 => ⟨S64x1024, .f32⟩
  | 92 => ⟨S256, .i32⟩
  | 93 => ⟨S256x1, .i32⟩
  | 94 => ⟨S128, .i32⟩
  | 95 => ⟨S1x128, .i32⟩
  | 96 => ⟨S_, .i32⟩
  | 97 => ⟨S1x128, .i32⟩
  | 98 => ⟨S1x128, .i32⟩
  | 99 => ⟨S256x128, .i32⟩
  | 100 => ⟨S256x128, .i32⟩
  | 101 => ⟨S256x128, .i32⟩
  | 102 => ⟨S_, .i32⟩
  | 103 => ⟨S256x128, .i32⟩
  | 104 => ⟨S256x128, .i1⟩
  | 105 => ⟨S_, .i32⟩
  | 106 => ⟨S256x128, .i32⟩
  | 107 => ⟨S256x128, .i1⟩
  | 108 => ⟨S256x128, .i1⟩
  | 109 => ⟨S8, .f32⟩
  | 110 => ⟨S_, .f32⟩
  | 111 => ⟨S8, .f32⟩
  | 112 => ⟨S8, .f32⟩
  | 113 => ⟨S_, .f32⟩
  | 114 => ⟨S8, .f32⟩
  | 115 => ⟨S8, .f32⟩
  | 116 => ⟨S_, .f32⟩
  | 117 => ⟨S8, .f32⟩
  | 118 => ⟨S8, .f32⟩
  | 119 => ⟨S_, .f32⟩
  | 120 => ⟨S8, .f32⟩
  | 121 => ⟨S8, .f32⟩
  | 122 => ⟨S8, .f32⟩
  | 123 => ⟨S8x1x1, .f32⟩
  | 124 => ⟨S256x128, .f32⟩
  | 125 => ⟨S1x256x128, .f32⟩
  | 126 => ⟨S8x256x128, .f32⟩
  | 127 => ⟨S8x256x128, .f32⟩
  | _ => ⟨S4x8192x1024, .f32⟩

abbrev hbmTy0_1 (i : Nat) : BufTy := match i % 128 with
  | 0 => ⟨S8x256x128, .f32⟩
  | 1 => ⟨S8x256x128, .f32⟩
  | 2 => ⟨S_, .f32⟩
  | 3 => ⟨S8x256x128, .f32⟩
  | 4 => ⟨S8x256x128, .f32⟩
  | 5 => ⟨S_, .f32⟩
  | 6 => ⟨S_, .f32⟩
  | 7 => ⟨S8x256x128, .i1⟩
  | 8 => ⟨S8x256x128, .f32⟩
  | 9 => ⟨S8x256x128, .f32⟩
  | 10 => ⟨S2x4x256x128, .f32⟩
  | 11 => ⟨S2x256x4x128, .f32⟩
  | 12 => ⟨S2x256x512, .f32⟩
  | 13 => ⟨S_, .f32⟩
  | 14 => ⟨S8, .f32⟩
  | 15 => ⟨S8, .f32⟩
  | 16 => ⟨S8x128, .f32⟩
  | 17 => ⟨S1024, .f32⟩
  | 18 => ⟨S2x1x512, .f32⟩
  | 19 => ⟨S1x1024, .f32⟩
  | 20 => ⟨S4x8x32x128x256, .bf16⟩
  | 21 => ⟨S4x8x8192x128, .bf16⟩
  | 22 => ⟨S4x8x32x64x256, .bf16⟩
  | 23 => ⟨S4x32x512x256, .bf16⟩
  | 24 => ⟨S4x8192x512, .bf16⟩
  | 25 => ⟨S4x32x512x256, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2048, .bf16⟩
  | .local _ .vmem, ⟨4, _⟩ => ⟨S2208x1024, .bf16⟩
  | .local _ .vmem, ⟨5, _⟩ => ⟨S768x256, .bf16⟩
  | .local _ .vmem, ⟨6, _⟩ => ⟨S1024x128, .bf16⟩
  | .local _ .vmem, ⟨7, _⟩ => ⟨S96x1024, .f32⟩
  | .local _ .vmem, ⟨8, _⟩ => ⟨S32x1024, .f32⟩
  | .local _ .vmem, ⟨9, _⟩ => ⟨S96x1024, .f32⟩
  | .local _ .vmem, ⟨10, _⟩ => ⟨S16x128, .f32⟩
  | .local _ .vmem, ⟨11, _⟩ => ⟨S16x1024, .f32⟩
  | .local _ .vmem, ⟨12, _⟩ => ⟨S16x1024, .f32⟩
  | .local _ .vmem, ⟨13, _⟩ => ⟨S3x512, .f32⟩
  | .local _ .vmem, ⟨14, _⟩ => ⟨S64x1024, .f32⟩
  | .local _ .vmem, ⟨15, _⟩ => ⟨S64x1024, .f32⟩
  | .local _ .vmem, ⟨16, _⟩ => ⟨S2x256x512, .f32⟩
  | .local _ .vmem, ⟨17, _⟩ => ⟨S2x1x512, .f32⟩
  | .local _ .vmem, ⟨18, _⟩ => ⟨S1x8x4x128x256, .bf16⟩
  | .local _ .vmem, ⟨19, _⟩ => ⟨S1x8x4x128x256, .bf16⟩
  | .local _ .vmem, ⟨20, _⟩ => ⟨S1x8x1024x128, .bf16⟩
  | .local _ .vmem, ⟨21, _⟩ => ⟨S1x8x1024x128, .bf16⟩
  | .local _ .vmem, ⟨22, _⟩ => ⟨S1x8x4x64x256, .bf16⟩
  | .local _ .vmem, ⟨23, _⟩ => ⟨S1x8x4x64x256, .bf16⟩
  | .local _ .vmem, ⟨24, _⟩ => ⟨S1x4x512x256, .bf16⟩
  | .local _ .vmem, ⟨25, _⟩ => ⟨S1x4x512x256, .bf16⟩
  | .local _ .vmem, ⟨26, _⟩ => ⟨S1x1024x512, .bf16⟩
  | .local _ .vmem, ⟨27, _⟩ => ⟨S1x1024x512, .bf16⟩
  | .local _ .vmem, ⟨28, _⟩ => ⟨S1x4x512x256, .bf16⟩
  | .local _ .vmem, ⟨29, _⟩ => ⟨S1x4x512x256, .bf16⟩
  | .local _ .vmem, ⟨30, _⟩ => ⟨S8x512, .f32⟩
  | .local _ .vmem, ⟨31, _⟩ => ⟨S128x128, .bf16⟩
  | .local _ .vmem, ⟨32, _⟩ => ⟨S128x128, .bf16⟩
  | .local _ .vmem, ⟨33, _⟩ => ⟨S16x256x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_0 : Ref sig .tc := ⟨.hbm, 47, rfl⟩
abbrev main_v33 : Ref sig .tc := ⟨.hbm, 48, rfl⟩
abbrev main_cst_1 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_cst_4 : Ref sig .tc := ⟨.hbm, 57, rfl⟩
abbrev main_call0_v0 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_c : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_8 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_9 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_10 : Ref sig .tc := ⟨.hbm, 102, rfl⟩
abbrev main_v76 : Ref sig .tc := ⟨.hbm, 103, rfl⟩
abbrev main_v77 : Ref sig .tc := ⟨.hbm, 104, rfl⟩
abbrev main_c_11 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_12 : Ref sig .tc := ⟨.hbm, 110, rfl⟩
abbrev main_v82 : Ref sig .tc := ⟨.hbm, 111, rfl⟩
abbrev main_v83 : Ref sig .tc := ⟨.hbm, 112, rfl⟩
abbrev main_cst_13 : Ref sig .tc := ⟨.hbm, 113, rfl⟩
abbrev main_v84 : Ref sig .tc := ⟨.hbm, 114, rfl⟩
abbrev main_v85 : Ref sig .tc := ⟨.hbm, 115, rfl⟩
abbrev main_cst_14 : Ref sig .tc := ⟨.hbm, 116, rfl⟩
abbrev main_v86 : Ref sig .tc := ⟨.hbm, 117, rfl⟩
abbrev main_v87 : Ref sig .tc := ⟨.hbm, 118, rfl⟩
abbrev main_cst_15 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_16 : Ref sig .tc := ⟨.hbm, 130, rfl⟩
abbrev main_v98 : Ref sig .tc := ⟨.hbm, 131, rfl⟩
abbrev main_v99 : Ref sig .tc := ⟨.hbm, 132, rfl⟩
abbrev main_cst_17 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_18 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110_0 : Ref sig .tc := ⟨.hbm, 148, rfl⟩
abbrev main_v110_1 : Ref sig .tc := ⟨.hbm, 149, rfl⟩
abbrev main_v110_2 : Ref sig .tc := ⟨.hbm, 150, rfl⟩
abbrev main_v110_3 : Ref sig .tc := ⟨.hbm, 151, rfl⟩
abbrev main_v110_4 : Ref sig .tc := ⟨.hbm, 152, rfl⟩
abbrev main_v110_5 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2208x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S96x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S96x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2x256x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2x1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x8x4x128x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x1024x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x4x64x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x4x512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference3Ideal.lean ====
abbrev S4x8192x1024 : Shape := ⟨3, ![4, 8192, 1024]⟩
abbrev S1024 : Shape := ⟨1, ![1024]⟩
abbrev S1024x4256 : Shape := ⟨2, ![1024, 4256]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S3x512 : Shape := ⟨2, ![3, 512]⟩
abbrev S64 : Shape := ⟨1, ![64]⟩
abbrev S8 : Shape := ⟨1, ![8]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4256 : Shape := ⟨3, ![4, 8192, 4256]⟩
abbrev S4x8192x512 : Shape := ⟨3, ![4, 8192, 512]⟩
abbrev S4x8194x512 : Shape := ⟨3, ![4, 8194, 512]⟩
abbrev S1x512 : Shape := ⟨2, ![1, 512]⟩
abbrev S512 : Shape := ⟨1, ![512]⟩
abbrev S1x1x512 : Shape := ⟨3, ![1, 1, 512]⟩
abbrev S4x32x256x512 : Shape := ⟨4, ![4, 32, 256, 512]⟩
abbrev S4x32x512x256 : Shape := ⟨4, ![4, 32, 512, 256]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x4256, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x1024, .f32⟩
  | .hbm, ⟨7, _⟩ => ⟨S96, .f32⟩
  | .hbm, ⟨8, _⟩ => ⟨S96, .f32⟩
  | .hbm, ⟨9, _⟩ => ⟨S3x512, .f32⟩
  | .hbm, ⟨10, _⟩ => ⟨S64, .f32⟩
  | .hbm, ⟨11, _⟩ => ⟨S64, .f32⟩
  | .hbm, ⟨12, _⟩ => ⟨S8, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S4x8192x4256, .f32⟩
  | .hbm, ⟨30, _⟩ => ⟨S4x8192x512, .f32⟩
  | .hbm, ⟨31, _⟩ => ⟨S4x8192x512, .f32⟩
  | .hbm, ⟨32, _⟩ => ⟨S4x8192x512, .f32⟩
  | .hbm, ⟨33, _⟩ => ⟨S4x8192x512, .f32⟩
  | .hbm, ⟨34, _⟩ => ⟨S4x8192x512, .f32⟩
  | .hbm, ⟨35, _⟩ => ⟨S4x8192x512, .f32⟩
  | .hbm, ⟨36, _⟩ => ⟨S_, .i32⟩
  | .hbm, ⟨37, _⟩ => ⟨S_, .f32⟩
  | .hbm, ⟨38, _⟩ => ⟨S4x8194x512, .f32⟩
  | .hbm, ⟨39, _⟩ => ⟨S1x512, .f32⟩
  | .hbm, ⟨40, _⟩ => ⟨S512, .f32⟩
  | .hbm, ⟨41, _⟩ => ⟨S4x8192x512, .f32⟩
  | .hbm, ⟨42, _⟩ => ⟨S1x1x512, .f32⟩
  | .hbm, ⟨43, _⟩ => ⟨S4x8192x512, .f32⟩
  | .hbm, ⟨44, _⟩ => ⟨S4x8192x512, .f32⟩
  | .hbm, ⟨45, _⟩ => ⟨S1x512, .f32⟩
  | .hbm, ⟨46, _⟩ => ⟨S512, .f32⟩
  | .hbm, ⟨47, _⟩ => ⟨S4x8192x512, .f32⟩
  | .hbm, ⟨48, _⟩ => ⟨S1x1x512, .f32⟩
  | .hbm, ⟨49, _⟩ => ⟨S4x8192x512, .f32⟩
  | .hbm, ⟨50, _⟩ => ⟨S4x8192x512, .f32⟩
  | .hbm, ⟨51, _⟩ => ⟨S4x8192x512, .f32⟩
  | .hbm, ⟨52, _⟩ => ⟨S1x512, .f32⟩
  | .hbm, ⟨53, _⟩ => ⟨S512, .f32⟩
  | .hbm, ⟨54, _⟩ => ⟨S4x8192x512, .f32⟩
  | .hbm, ⟨55, _⟩ => ⟨S1x1x512, .f32⟩
  | .hbm, ⟨56, _⟩ => ⟨S4x8192x512, .f32⟩
  | .hbm, ⟨57, _⟩ => ⟨S4x8192x512, .f32⟩
  | .hbm, ⟨58, _⟩ => ⟨S4x8192x512, .f32⟩
  | .hbm, ⟨59, _⟩ => ⟨S4x8192x512, .f32⟩
  | .hbm, ⟨60, _⟩ => ⟨S4x8192x512, .f32⟩
  | .hbm, ⟨61, _⟩ => ⟨S4x8192x512, .f32⟩
  | .hbm, ⟨62, _⟩ => ⟨S_, .f32⟩
  | .hbm, ⟨63, _⟩ => ⟨S4x8192x512, .f32⟩
  | .hbm, ⟨64, _⟩ => ⟨S4x8192x512, .f32⟩
  | .hbm, ⟨65, _⟩ => ⟨S_, .f32⟩
  | .hbm, ⟨66, _⟩ => ⟨S4x8192x512, .f32⟩
  | .hbm, ⟨67, _⟩ => ⟨S4x8192x512, .f32⟩
  | .hbm, ⟨68, _⟩ => ⟨S4x8192x512, .f32⟩
  | .hbm, ⟨69, _⟩ => ⟨S4x8192x512, .f32⟩
  | .hbm, ⟨70, _⟩ => ⟨S4x8192x512, .f32⟩
  | .hbm, ⟨71, _⟩ => ⟨S4x8192x512, .f32⟩
  | .hbm, ⟨72, _⟩ => ⟨S_, .f32⟩
  | .hbm, ⟨73, _⟩ => ⟨S4x8192x512, .f32⟩
  | .hbm, ⟨74, _⟩ => ⟨S4x8192x512, .f32⟩
  | .hbm, ⟨75, _⟩ => ⟨S_, .f32⟩
  | .hbm, ⟨76, _⟩ => ⟨S4x8192x512, .f32⟩
  | .hbm, ⟨77, _⟩ => ⟨S4x8192x512, .f32⟩
  | .hbm, ⟨78, _⟩ => ⟨S4x8192x512, .f32⟩
  | .hbm, ⟨79, _⟩ => ⟨S4x8192x512, .bf16⟩
  | .hbm, ⟨80, _⟩ => ⟨S4x32x256x512, .bf16⟩
  | .hbm, ⟨81, _⟩ => ⟨S4x32x512x256, .bf16⟩
  | .hbm, ⟨82, _⟩ => ⟨S4x8192x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_call0_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v42 : Ref sig .tc := ⟨.hbm, 68, rfl⟩
abbrev main_v43 : Ref sig .tc := ⟨.hbm, 69, rfl⟩
abbrev main_call2_v0 : Ref sig .tc := ⟨.hbm, 70, rfl⟩
abbrev main_call2_v1 : Ref sig .tc := ⟨.hbm, 71, rfl⟩
abbrev main_call2_cst : Ref sig .tc := ⟨.hbm, 72, rfl⟩
abbrev main_call2_v2 : Ref sig .tc := ⟨.hbm, 73, rfl⟩
abbrev main_call2_v3 : Ref sig .tc := ⟨.hbm, 74, rfl⟩
abbrev main_call2_cst_0 : Ref sig .tc := ⟨.hbm, 75, rfl⟩
abbrev main_call2_v4 : Ref sig .tc := ⟨.hbm, 76, rfl⟩
abbrev main_call2_v5 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩

abbrev nD : Nat := 1
abbrev τ : Topo := Topo.v7x

variable {F : FTy → Type} [FloatOps F]
-- ==== Proof.Prep.Conv.lean ====
/- One channel group of the gated short convolution: the shifted rows, the three taps and the gate, and that each of the four
   printed groups is this one. -/
module

public import proofs.«01_k».proof.Proof.Gen.Kernel3Ideal.Skeleton
public import Idealize.ShloMosaic.Lib.Pointwise
public import Idealize.ShloMosaic.Lib.Pipeline.ValueKit
public import Idealize.ShloMosaic.PureOps.Ideal

@[expose] public section

set_option maxRecDepth 16384
set_option maxHeartbeats 4000000

noncomputable section

namespace Cert.Kernel3Ideal.Gen

open Idealize.ShloMosaic Idealize.ShloMosaic.TcCoe Idealize.ShloMosaic.Tactic Idealize.SL.Sem

variable {F : FTy → Type} [FloatOps F]

/-- The product of gate and value of a group: columns 256 to 383 by columns 0 to 127 of its projections. -/
def prodOf (ps : FVec F S1024x512 .f32) : FVec F S1024x128 .f32 :=
  mulf (extractStridedSlice S1024x128 ![0, 256] ps slices_S1024x512_o0_256_S1024x128)
    (extractStridedSlice S1024x128 ![0, 0] ps slices_S1024x512_o0_0_S1024x128)

/-- The rows moved down by `s`, the first from the rows carried over. -/
def shifted (s : BitVec 32) (u : FVec F S1024x128 .f32) (prev : FVec F S8x128 .f32) : FVec F S1024x128 .f32 :=
  concatenate S1024x128 0
    [⟨S8x128, select (cmpi .slt (iota .tc S8x128 32 [0] iota_S8x128_d0_w32) (broadcast S8x128 s))
        (dynamicRotate 0 s none prev rotates_S8x128_d0)
        (extractStridedSlice S8x128 ![0, 0] (dynamicRotate 0 s none u rotates_S1024x128_d0) slices_S1024x128_o0_0_S8x128)⟩,
      ⟨S1016x128, extractStridedSlice S1016x128 ![8, 0] (dynamicRotate 0 s none u rotates_S1024x128_d0) slices_S1024x128_o8_0_S1016x128⟩]
    concatenates_S8x128_S1016x128_S1024x128_d0

/-- A group's stored tile. -/
def convTile (ps : FVec F S1024x512 .f32) (w : FVec F S3x128 .f32) (prev : FVec F S8x128 .f32) : FVec F S1x1024x128 .bf16 :=
  have u := prodOf ps
  have y := addf (addf
      (mulf (broadcastTo S1024x128 (extractStridedSlice S1x128 ![0, 0] w slices_S3x128_o0_0_S1x128) broadcasts_S1x128_S1024x128) (shifted 2#32 u prev))
      (mulf (broadcastTo S1024x128 (extractStridedSlice S1x128 ![1, 0] w slices_S3x128_o1_0_S1x128) broadcasts_S1x128_S1024x128) (shifted 1#32 u prev)))
      (mulf (broadcastTo S1024x128 (extractStridedSlice S1x128 ![2, 0] w slices_S3x128_o2_0_S1x128) broadcasts_S1x128_S1024x128) u)
  have h := mulf (broadcast S1024x128 (Scalar.ofBits .f32 0x3F000000#32))
    (extractStridedSlice S1024x128 ![0, 384] ps slices_S1024x512_o0_384_S1024x128)
  shapeCast S1x1024x128 (truncf .bf16 (mulf (mulf (extractStridedSlice S1024x128 ![0, 128] ps slices_S1024x512_o0_128_S1024x128) y)
    (addf h (mulf h (tanh h)))) bitsLt_bf16_f32) shapeCasts_S1024x128_S1x1024x128

/-- The rows a group carries over: the last eight of its products. -/
def carryTile (ps : FVec F S1024x512 .f32) : FVec F S8x128 .f32 :=
  shapeCast S8x128 (extractStridedSlice S8x128 ![1016, 0] (prodOf ps) slices_S1024x128_o1016_0_S8x128) shapeCasts_S8x128_S8x128

theorem prodOf_at (ps : FVec Ideal S1024x512 .f32) (y : Fin 1024) (j : Fin 128) :
    (prodOf (F := Ideal) ps (ix2 y j) : EReal) = ps (ix2 y ⟨256 + j, by omega⟩) * ps (ix2 y ⟨j, by omega⟩) := by
  pointwise [prodOf]

theorem carryTile_at (ps : FVec Ideal S1024x512 .f32) (r : Fin 8) (j : Fin 128) :
    (carryTile (F := Ideal) ps (ix2 r j) : EReal) = ps (ix2 ⟨1016 + r, by omega⟩ ⟨256 + j, by omega⟩) * ps (ix2 ⟨1016 + r, by omega⟩ ⟨j, by omega⟩) := by
  pointwise [carryTile, prodOf]

end Cert.Kernel3Ideal.Gen
-- ==== Proof.Prep.Tiles.lean ====
/- One channel group of the gated short convolution: the shifted rows, the three taps and the gate, and that each of the four
   printed groups is this one. -/
module

public import proofs.«01_k».proof.Proof.Prep.Conv
public import Idealize.ShloMosaic.Lib.Pointwise
public import Idealize.ShloMosaic.Lib.Pipeline.ValueKit
public import Idealize.ShloMosaic.PureOps.Ideal

@[expose] public section

set_option maxRecDepth 16384
set_option maxHeartbeats 4000000

noncomputable section

namespace Cert.Kernel3Ideal.Gen

open Idealize.ShloMosaic Idealize.ShloMosaic.TcCoe Idealize.ShloMosaic.Tactic Idealize.SL.Sem

variable {F : FTy → Type} [FloatOps F]

theorem tile0 (ps : FVec F S1024x512 .f32) (w : Vec F S3x512 .f32) (prev : Vec F S8x128 .f32) :
    k0_pay133 (iota .tc S8x128 32 [0] iota_S8x128_d0_w32) (k0_pay126 ps) (k0_pay127 ps) (k0_pay128 ps) prev (k0_pay129 w) (k0_pay130 w)
      (k0_pay131 ps) (k0_pay132 prev) 2#32
      = convTile ps (extractStridedSlice S3x128 ![0, 0] w slices_S3x512_o0_0_S3x128) prev := rfl

theorem tile1 (ps : FVec F S1024x512 .f32) (w : Vec F S3x512 .f32) (prev : Vec F S8x128 .f32) :
    k0_pay199 (k0_pay192 ps) (k0_pay193 ps) (k0_pay194 ps) (k0_pay195 w) (k0_pay196 (iota .tc S8x128 32 [0] iota_S8x128_d0_w32) w ps prev)
      (k0_pay197 (iota .tc S8x128 32 [0] iota_S8x128_d0_w32) ps prev) (k0_pay198 w)
      = convTile ps (extractStridedSlice S3x128 ![0, 128] w slices_S3x512_o0_128_S3x128) prev := rfl

theorem tile2 (ps : FVec F S1024x512 .f32) (w : Vec F S3x512 .f32) (prev : Vec F S8x128 .f32) :
    k0_pay281 (iota .tc S8x128 32 [0] iota_S8x128_d0_w32) w ps (k0_pay277 ps) (k0_pay278 ps) (k0_pay279 ps) prev
      = convTile ps (extractStridedSlice S3x128 ![0, 256] w slices_S3x512_o0_256_S3x128) prev := rfl

theorem tile3 (ps : FVec F S1024x512 .f32) (w : Vec F S3x512 .f32) (prev : Vec F S8x128 .f32) :
    k0_pay1 (iota .tc S8x128 32 [0] iota_S8x128_d0_w32) (k0_pay347 ps) (k0_pay348 ps) (k0_pay349 ps) (k0_pay350 w)
      (k0_pay351 (iota .tc S8x128 32 [0] iota_S8x128_d0_w32) w ps prev) (k0_pay352 w) (k0_pay353 ps) (k0_pay354 prev)
      = convTile ps (extractStridedSlice S3x128 ![0, 384] w slices_S3x512_o0_384_S3x128) prev := rfl

theorem carry0 (ps : FVec F S1024x512 .f32) : k0_pay134 (k0_pay128 ps) = carryTile ps := rfl
theorem carry1 (ps : FVec F S1024x512 .f32) : k0_pay200 (k0_pay194 ps) = carryTile ps := rfl
theorem carry2 (ps : FVec F S1024x512 .f32) : k0_pay283 (k0_pay282 (k0_pay277 ps) (k0_pay279 ps)) = carryTile ps := rfl
theorem carry3 (ps : FVec F S1024x512 .f32) : k0_pay2 (k0_pay349 ps) = carryTile ps := rfl

end Cert.Kernel3Ideal.Gen
-- ==== Proof.Prep.Shift.lean ====
/- A group of the convolution at an entry: three taps on rows moved down, by the gate. -/
module

public import proofs.«01_k».proof.Proof.Prep.Conv
public import Idealize.ShloMosaic.Lib.Pointwise
public import Idealize.ShloMosaic.Lib.Pipeline.ValueKit
public import Idealize.ShloMosaic.PureOps.Ideal

@[expose] public section

set_option maxRecDepth 16384
set_option maxHeartbeats 4000000

noncomputable section

namespace Cert.Kernel3Ideal.Gen

open Idealize.ShloMosaic Idealize.ShloMosaic.TcCoe Idealize.ShloMosaic.Tactic Idealize.SL.Sem

theorem shifted_two (u : FVec Ideal S1024x128 .f32) (prev : FVec Ideal S8x128 .f32) (y : Fin 1024) (j : Fin 128) :
    (shifted (F := Ideal) 2#32 u prev (ix2 y j) : EReal) = if h : y.val < 2 then prev (ix2 ⟨6 + y, by omega⟩ j) else u (ix2 ⟨y - 2, by omega⟩ j) := by
  pointwise [shifted]
  obtain ⟨y, hy⟩ := y
  dsimp only
  by_cases h8 : y < 8
  · rw [dif_pos h8]
    interval_cases y <;> rfl
  · rw [dif_neg h8, dif_neg (by omega)]
    refine congrArg (fun k => u (ix2 k j)) (Fin.ext ?_)
    dsimp only
    omega

theorem shifted_one (u : FVec Ideal S1024x128 .f32) (prev : FVec Ideal S8x128 .f32) (y : Fin 1024) (j : Fin 128) :
    (shifted (F := Ideal) 1#32 u prev (ix2 y j) : EReal) = if h : y.val < 1 then prev (ix2 ⟨7 + y, by omega⟩ j) else u (ix2 ⟨y - 1, by omega⟩ j) := by
  pointwise [shifted]
  obtain ⟨y, hy⟩ := y
  dsimp only
  by_cases h8 : y < 8
  · rw [dif_pos h8]
    interval_cases y <;> rfl
  · rw [dif_neg h8, dif_neg (by omega)]
    refine congrArg (fun k => u (ix2 k j)) (Fin.ext ?_)
    dsimp only
    omega

/-- Half a gate and half of it by the hyperbolic tangent of that half. -/
def half (g : EReal) : EReal :=
  Ideal.ofBits .f32 0x3F000000#32 * g + Ideal.ofBits .f32 0x3F000000#32 * g * Ideal.tanh (Ideal.ofBits .f32 0x3F000000#32 * g)

theorem convTile_at (ps : FVec Ideal S1024x512 .f32) (w : FVec Ideal S3x128 .f32) (prev : FVec Ideal S8x128 .f32) (y : Fin 1024) (j : Fin 128) :
    (convTile (F := Ideal) ps w prev (ix3 0 y j) : EReal)
      = ps (ix2 y ⟨128 + j, by omega⟩)
          * (w (ix2 0 j) * shifted (F := Ideal) 2#32 (prodOf ps) prev (ix2 y j) + w (ix2 1 j) * shifted (F := Ideal) 1#32 (prodOf ps) prev (ix2 y j)
              + w (ix2 2 j) * prodOf (F := Ideal) ps (ix2 y j))
          * half (ps (ix2 y ⟨384 + j, by omega⟩)) := by
  unfold convTile
  generalize prodOf (F := Ideal) ps = u
  generalize shifted (F := Ideal) 2#32 u prev = s2
  generalize shifted (F := Ideal) 1#32 u prev = s1
  pointwise [half]

end Cert.Kernel3Ideal.Gen
-- ==== Proof.Prep.Norm.lean ====
/- The preparation's normalised activations and their projections, at an entry: a row of a block divided by its root mean square, times the
   gain, against the columns of the weights. -/
module

public import proofs.«01_k».proof.Proof.Prep.Shift
public import Idealize.ShloMosaic.Lib.Pipeline.FrameBody

@[expose] public section

set_option maxRecDepth 16384
set_option maxHeartbeats 4000000

noncomputable section

namespace Cert.Kernel3Ideal.Gen

open Idealize.ShloMosaic Idealize.ShloMosaic.TcCoe Idealize.ShloMosaic.Tactic Idealize.SL.Sem

/-- A normalised entry: `x` of a row of squares summing to `s`, by the gain `g`. -/
def normed (s x g : EReal) : EReal :=
  x * Ideal.rsqrt (Ideal.div s (Ideal.ofBits .f32 0x44800000#32) + Ideal.ofBits .f32 0x358637BD#32) * g

theorem norm_at (X : FVec Ideal S1x1024x1024 .f32) (g : FVec Ideal S1x1024 .f32) (y k : Fin 1024) :
    (k0_pay6 (F := Ideal) X g (ix2 y k) : EReal) = normed (∑ n, X (ix3 0 y n) * X (ix3 0 y n)) (X (ix3 0 y k)) (g (ix2 0 k)) := by
  pointwise [k0_pay6, normed]

theorem proj_at (xn : FVec Ideal S1024x1024 .bf16) (w : FVec Ideal S1024x512 .bf16) (y : Fin 1024) (n : Fin 512) :
    (k0_pay65 (F := Ideal) xn w (ix2 y n) : EReal) = ∑ k : Fin 1024, xn (ix2 y k) * w (ix2 k n) := by
  pointwise [k0_pay65]

theorem gate0_at (xn : FVec Ideal S1024x1024 .bf16) (w : FVec Ideal S928x1024 .bf16) (e : Fin 512) (k : Fin 256) :
    (k0_pay343 (F := Ideal) (k0_pay342 (k0_pay201 xn w)) (ix4 0 0 e k) : EReal)
      = half (∑ n, w (ix2 ⟨416 + e, by omega⟩ n) * xn (ix2 ⟨k, by omega⟩ n)) := by
  pointwise [k0_pay343, k0_pay342, k0_pay341, k0_pay201, half]

theorem gate1_at (xn : FVec Ideal S1024x1024 .bf16) (w : FVec Ideal S928x1024 .bf16) (e : Fin 512) (k : Fin 256) :
    (k0_pay344 (F := Ideal) (k0_pay341 (k0_pay201 xn w)) (ix4 0 0 e k) : EReal)
      = half (∑ n, w (ix2 ⟨416 + e, by omega⟩ n) * xn (ix2 ⟨256 + k, by omega⟩ n)) := by
  pointwise [k0_pay344, k0_pay341, k0_pay201, half]

theorem gate2_at (xn : FVec Ideal S1024x1024 .bf16) (w : FVec Ideal S928x1024 .bf16) (e : Fin 512) (k : Fin 256) :
    (k0_pay345 (F := Ideal) (k0_pay341 (k0_pay201 xn w)) (ix4 0 0 e k) : EReal)
      = half (∑ n, w (ix2 ⟨416 + e, by omega⟩ n) * xn (ix2 ⟨512 + k, by omega⟩ n)) := by
  pointwise [k0_pay345, k0_pay341, k0_pay201, half]

theorem gate3_at (xn : FVec Ideal S1024x1024 .bf16) (w : FVec Ideal S928x1024 .bf16) (e : Fin 512) (k : Fin 256) :
    (k0_pay346 (F := Ideal) (k0_pay341 (k0_pay201 xn w)) (ix4 0 0 e k) : EReal)
      = half (∑ n, w (ix2 ⟨416 + e, by omega⟩ n) * xn (ix2 ⟨768 + k, by omega⟩ n)) := by
  pointwise [k0_pay346, k0_pay341, k0_pay201, half]

/-! ## Through the loads of a point -/

theorem ld_cols (w : FVec Ideal S1024x2048 .bf16) (o : Nat) (inb) (ho : o + 512 ≤ 2048) (k : Fin 1024) (n : Fin 512) :
    (View.ld (Val := Elt Ideal) (e' := .bf16) w (Rect.unit (s := S1024x2048) ![0, o] ![1024, 512] inb) (ix2 k n) : EReal) = w (ix2 k ⟨o + n, by omega⟩) := by
  refine congrArg w (funext fun a => Fin.ext ?_)
  fin_cases a
  · show 0 + 1 * k.val = k.val; omega
  · show o + 1 * n.val = o + n.val; omega

theorem ld_rows (w : FVec Ideal S2208x1024 .bf16) (inb) (e : Fin 928) (n : Fin 1024) :
    (View.ld (Val := Elt Ideal) (e' := .bf16) w (Rect.unit (s := S2208x1024) ![1280, 0] ![928, 1024] inb) (ix2 e n) : EReal) = w (ix2 ⟨1280 + e, by omega⟩ n) := by
  refine congrArg w (funext fun a => Fin.ext ?_)
  fin_cases a
  · show 1280 + 1 * e.val = 1280 + e.val; omega
  · show 0 + 1 * n.val = n.val; omega

theorem ld_carry (w : FVec Ideal S8x512 .f32) (o : Nat) (inb) (ho : o + 128 ≤ 512) (r : Fin 8) (j : Fin 128) :
    (View.ld (Val := Elt Ideal) (e' := .f32) w (Rect.unit (s := S8x512) ![0, o] ![8, 128] inb) (ix2 r j) : EReal) = w (ix2 r ⟨o + j, by omega⟩) := by
  refine congrArg w (funext fun a => Fin.ext ?_)
  fin_cases a
  · show 0 + 1 * r.val = r.val; omega
  · show o + 1 * j.val = o + j.val; omega

theorem ld_taps (w : FVec Ideal S3x512 .f32) (inb) :
    (View.ld (Val := Elt Ideal) (e' := .f32) w (Rect.unit (s := S3x512) ![0, 0] ![3, 512] inb)) = w := by
  funext y
  refine congrArg w (funext fun a => Fin.ext ?_)
  fin_cases a
  · show 0 + 1 * (y 0).val = (y 0).val; omega
  · show 0 + 1 * (y 1).val = (y 1).val; omega

theorem ld_block (w : FVec Ideal S1x1024x1024 .f32) (inb) :
    (View.ld (Val := Elt Ideal) (e' := .f32) w (Rect.unit (s := S1x1024x1024) ![0, 0, 0] ![1, 1024, 1024] inb)) = w := by
  funext y
  refine congrArg w (funext fun a => Fin.ext ?_)
  fin_cases a
  · show 0 + 1 * (y 0).val = (y 0).val; omega
  · show 0 + 1 * (y 1).val = (y 1).val; omega
  · show 0 + 1 * (y 2).val = (y 2).val; omega

theorem ld_gain (w : FVec Ideal S1x1024 .f32) (inb) :
    (View.ld (Val := Elt Ideal) (e' := .f32) w (Rect.unit (s := S1x1024) ![0, 0] ![1, 1024] inb)) = w := by
  funext y
  refine congrArg w (funext fun a => Fin.ext ?_)
  fin_cases a
  · show 0 + 1 * (y 0).val = (y 0).val; omega
  · show 0 + 1 * (y 1).val = (y 1).val; omega

end Cert.Kernel3Ideal.Gen
-- ==== Proof.Prep.Found.lean ====
/- What a point of the preparation leaves: the tiles of the gate, of the convolution and of the carried rows, read off the run. -/
module

public import proofs.«01_k».proof.Proof.Gen.Kernel3Ideal.Value
public import proofs.«01_k».proof.Proof.Prep.Tiles
public import proofs.«01_k».proof.Proof.Prep.Norm

@[expose] public section

set_option maxRecDepth 16384
set_option maxHeartbeats 4000000

noncomputable section

namespace Cert.Kernel3Ideal.Gen

open Idealize.ShloMosaic Idealize.ShloMosaic.TcCoe Idealize.ShloMosaic.Tactic Idealize.SL.Sem

variable (m : (ℓ : Loc nD τ sig) → Buf (Elt Ideal) ℓ)

/-- A point's normalised activations. -/
def XN (c : Dev nD) (t : Fin cfg0.N) : FVec Ideal S1024x1024 .bf16 := k0_pay6 (iblk m c 0 t) (iblk m c 1 t)

/-- A point's projections of a group. -/
def PS (c : Dev nD) (t : Fin cfg0.N) (g : Fin 4) : FVec Ideal S1024x512 .f32 :=
  k0_pay65 (XN m c t) (fun y : S1024x512.Idx => (iblk m c 2 t : FVec Ideal S1024x2048 .bf16) (ix2 (y 0 : Fin 1024) (⟨512 * g.val + (y 1).val, by have : (y 1).val < 512 := (y 1).isLt; omega⟩ : Fin 2048)))

/-- A group's taps. -/
def taps (w : FVec Ideal S3x512 .f32) (g : Fin 4) : FVec Ideal S3x128 .f32 :=
  fun y => w (ix2 (y 0 : Fin 3) (⟨128 * g.val + (y 1).val, by have : (y 1).val < 128 := (y 1).isLt; omega⟩ : Fin 512))

/-- A group's carried rows. -/
def rowsOf (w : FVec Ideal S8x512 .f32) (g : Fin 4) : FVec Ideal S8x128 .f32 :=
  fun y => w (ix2 (y 0 : Fin 8) (⟨128 * g.val + (y 1).val, by have : (y 1).val < 128 := (y 1).isLt; omega⟩ : Fin 512))

theorem ps_eq (c : Dev nD) (t : Fin cfg0.N) (g : Fin 4) (o : Nat) (inb) (inb0) (inb1) (ho : o = 512 * g.val) :
    k0_pay65 (F := Ideal) (k0_pay6 (View.ld (Val := Elt Ideal) (e' := .f32) (iblk m c 0 t : FVec Ideal S1x1024x1024 .f32) (Rect.unit (s := S1x1024x1024) ![0, 0, 0] ![1, 1024, 1024] inb0))
        (View.ld (Val := Elt Ideal) (e' := .f32) (iblk m c 1 t : FVec Ideal S1x1024 .f32) (Rect.unit (s := S1x1024) ![0, 0] ![1, 1024] inb1)))
      (View.ld (Val := Elt Ideal) (e' := .bf16) (iblk m c 2 t : FVec Ideal S1024x2048 .bf16) (Rect.unit (s := S1024x2048) ![0, o] ![1024, 512] inb)) = PS m c t g := by
  rw [ld_block, ld_gain]
  refine congrArg (k0_pay65 (F := Ideal) (XN m c t)) (funext fun y => ?_)
  obtain ⟨k, n, rfl⟩ : ∃ (k : Fin 1024) (n : Fin 512), y = ix2 k n := ⟨y 0, y 1, by funext a; fin_cases a <;> rfl⟩
  refine (ld_cols _ o inb (by omega) k n).trans ?_
  exact congrArg (fun i => (iblk m c 2 t : FVec Ideal S1024x2048 .bf16) (ix2 k i)) (Fin.ext (by show o + n.val = 512 * g.val + n.val; omega))

theorem taps_eq (w : FVec Ideal S3x512 .f32) (g : Fin 4) (o : Nat) (h) (ho : o = 128 * g.val) :
    extractStridedSlice S3x128 ![0, o] w h = taps w g := by
  funext y
  obtain ⟨k, n, rfl⟩ : ∃ (k : Fin 3) (n : Fin 128), y = ix2 k n := ⟨y 0, y 1, by funext a; fin_cases a <;> rfl⟩
  refine extractStridedSlice_apply ![0, o] w h (ix2 k n) _ ?_
  subst ho
  intro a
  fin_cases a
  · show k.val = 0 + k.val; omega
  · rfl

theorem rows_eq (w : FVec Ideal S8x512 .f32) (g : Fin 4) (o : Nat) (inb) (ho : o = 128 * g.val) :
    (View.ld (Val := Elt Ideal) (e' := .f32) w (Rect.unit (s := S8x512) ![0, o] ![8, 128] inb)) = rowsOf w g := by
  funext y
  obtain ⟨k, n, rfl⟩ : ∃ (k : Fin 8) (n : Fin 128), y = ix2 k n := ⟨y 0, y 1, by funext a; fin_cases a <;> rfl⟩
  refine (ld_carry w o inb (by omega) k n).trans ?_
  exact congrArg (fun i => w (ix2 k i)) (Fin.ext (by show o + n.val = 128 * g.val + n.val; omega))

/-! ## The carried rows: the last store that holds an entry -/

theorem canon_skip (o : Nat) (inb) (w) (L : List (View.Piece (Elt Ideal) S8x512 .f32)) (r : Fin 8) (n : Fin 512) (h : n.val < o ∨ o + 128 ≤ n.val) :
    View.canon ((⟨Rect.unit (s := S8x512) ![0, o] ![8, 128] inb, w⟩ : View.Piece (Elt Ideal) S8x512 .f32) :: L) (ix2 r n) = View.canon L (ix2 r n) := by
  refine View.canon_cons_of_not_mem _ _ ?_
  show _ ∉ (Rect.unit (s := S8x512) ![0, o] ![8, 128] inb).set
  rw [Rect.mem_set_unit]
  intro hm
  have h1 : o ≤ n.val ∧ n.val < o + 128 := hm 1
  omega

theorem canon_hit (o : Nat) (inb) (w : FVec Ideal S8x128 .f32) (L : List (View.Piece (Elt Ideal) S8x512 .f32)) (r : Fin 8) (n : Fin 512) (j : Fin 128) (h : n.val = o + j.val) :
    View.canon ((⟨Rect.unit (s := S8x512) ![0, o] ![8, 128] inb, w⟩ : View.Piece (Elt Ideal) S8x512 .f32) :: L) (ix2 r n) = w (ix2 r j) := by
  have e : (ix2 r n : S8x512.Idx) = (Rect.unit (s := S8x512) ![0, o] ![8, 128] inb).emb (ix2 r j) := by
    funext a
    refine Fin.ext ?_
    fin_cases a
    · show r.val = 0 + 1 * r.val; omega
    · show n.val = o + 1 * j.val; omega
  rw [e]
  exact View.canon_cons_emb _ _ _ _

theorem canon_zero (inb) (y : S8x512.Idx) :
    View.canon [(⟨Rect.unit (s := S8x512) ![0, 0] ![8, 512] inb, k0_pay3 (F := Ideal)⟩ : View.Piece (Elt Ideal) S8x512 .f32)] y = Ideal.ofBits .f32 0x00000000#32 := by
  have e : y = (Rect.unit (s := S8x512) ![0, 0] ![8, 512] inb).emb y := by
    funext a
    refine Fin.ext ?_
    fin_cases a
    · show (y 0).val = 0 + 1 * (y 0).val; omega
    · show (y 1).val = 0 + 1 * (y 1).val; omega
  rw [e]
  refine (View.canon_cons_emb _ _ _ _).trans ?_
  rfl

theorem carry_A (c : Dev nD) (t : Fin cfg0.N) (h0 : t.val % 8 = 0) (g : Fin 4) (r : Fin 8) (j : Fin 128) :
    ((outsAt0 m c t.val t.isLt).2.2.2.2.2.2.1 (ix2 r ⟨128 * g.val + j.val, by omega⟩) : EReal) = carryTile (F := Ideal) (PS m c t g) (ix2 r j) := by
  rw [outsAt0_A m c t h0]
  dsimp only
  unfold sout0_A_0
  rw [View.read_writes_eq_canon _ _ _ (fun y => scover0_A_0 (y := y) ..)]
  unfold kernelRun0_A
  dsimp only
  sl_unfold_words
  simp only [View.readAt_eq_ld, (hs0_0 t).read_unread, (hs0_1 t).read_unread, (hs0_2 t).read_unread]
  match g with
  | ⟨0, h⟩ =>
    rw [canon_skip (h := .inl (by dsimp only; omega)), canon_skip (h := .inl (by dsimp only; omega)), canon_skip (h := .inl (by dsimp only; omega)),
      canon_hit (j := j) (h := by dsimp only), carry0]
    exact congrFun (congrArg (carryTile (F := Ideal)) (ps_eq m c t ⟨0, h⟩ 0 _ _ _ rfl)) _
  | ⟨1, h⟩ =>
    rw [canon_skip (h := .inl (by dsimp only; omega)), canon_skip (h := .inl (by dsimp only; omega)), canon_hit (j := j) (h := by dsimp only), carry1]
    exact congrFun (congrArg (carryTile (F := Ideal)) (ps_eq m c t ⟨1, h⟩ 512 _ _ _ rfl)) _
  | ⟨2, h⟩ =>
    rw [canon_skip (h := .inl (by dsimp only; omega)), canon_hit (j := j) (h := by dsimp only), carry2]
    exact congrFun (congrArg (carryTile (F := Ideal)) (ps_eq m c t ⟨2, h⟩ 1024 _ _ _ rfl)) _
  | ⟨3, h⟩ =>
    rw [canon_hit (j := j) (h := by dsimp only), carry3]
    exact congrFun (congrArg (carryTile (F := Ideal)) (ps_eq m c t ⟨3, h⟩ 1536 _ _ _ rfl)) _

theorem carry_B (c : Dev nD) (t : Fin cfg0.N) (h0 : ¬ t.val % 8 = 0) (g : Fin 4) (r : Fin 8) (j : Fin 128) :
    ((outsAt0 m c t.val t.isLt).2.2.2.2.2.2.1 (ix2 r ⟨128 * g.val + j.val, by omega⟩) : EReal) = carryTile (F := Ideal) (PS m c t g) (ix2 r j) := by
  rw [outsAt0_B m c t h0]
  dsimp only
  unfold sout0_B_0
  rw [View.read_writes_eq_canon _ _ _ (fun y => scover0_B_0 (y := y) ..)]
  unfold kernelRun0_B
  dsimp only
  sl_unfold_words
  simp only [View.readAt_eq_ld, (hs0_0 t).read_unread, (hs0_1 t).read_unread, (hs0_2 t).read_unread]
  match g with
  | ⟨0, h⟩ =>
    rw [canon_skip (h := .inl (by dsimp only; omega)), canon_skip (h := .inl (by dsimp only; omega)), canon_skip (h := .inl (by dsimp only; omega)),
      canon_hit (j := j) (h := by dsimp only), carry0]
    exact congrFun (congrArg (carryTile (F := Ideal)) (ps_eq m c t ⟨0, h⟩ 0 _ _ _ rfl)) _
  | ⟨1, h⟩ =>
    rw [canon_skip (h := .inl (by dsimp only; omega)), canon_skip (h := .inl (by dsimp only; omega)), canon_hit (j := j) (h := by dsimp only), carry1]
    exact congrFun (congrArg (carryTile (F := Ideal)) (ps_eq m c t ⟨1, h⟩ 512 _ _ _ rfl)) _
  | ⟨2, h⟩ =>
    rw [canon_skip (h := .inl (by dsimp only; omega)), canon_hit (j := j) (h := by dsimp only), carry2]
    exact congrFun (congrArg (carryTile (F := Ideal)) (ps_eq m c t ⟨2, h⟩ 1024 _ _ _ rfl)) _
  | ⟨3, h⟩ =>
    rw [canon_hit (j := j) (h := by dsimp only), carry3]
    exact congrFun (congrArg (carryTile (F := Ideal)) (ps_eq m c t ⟨3, h⟩ 1536 _ _ _ rfl)) _

theorem carry_at (c : Dev nD) (t : Fin cfg0.N) (g : Fin 4) (r : Fin 8) (j : Fin 128) :
    ((outsAt0 m c t.val t.isLt).2.2.2.2.2.2.1 (ix2 r ⟨128 * g.val + j.val, by omega⟩) : EReal) = carryTile (F := Ideal) (PS m c t g) (ix2 r j) := by
  by_cases h0 : t.val % 8 = 0
  · exact carry_A m c t h0 g r j
  · exact carry_B m c t h0 g r j

/-! ## The convolution's tile -/

/-- What the first point of a batch carries over: nothing. -/
def noRows : FVec Ideal S8x128 .f32 := fun _ => Ideal.ofBits .f32 0x00000000#32

/-- What a point finds of the point before: the rows it carried. -/
def prevRows (c : Dev nD) (t : Fin cfg0.N) (g : Fin 4) : FVec Ideal S8x128 .f32 :=
  if h : t.val % 8 = 0 then noRows else carryTile (F := Ideal) (PS m c ⟨t.val - 1, by have := t.isLt; omega⟩ g)

theorem tile_congr {ps ps' : FVec Ideal S1024x512 .f32} {w w' : FVec Ideal S3x128 .f32} {p p' : FVec Ideal S8x128 .f32}
    (h₁ : ps = ps') (h₂ : w = w') (h₃ : p = p') (i) : convTile (F := Ideal) ps w p i = convTile (F := Ideal) ps' w' p' i := by
  subst h₁; subst h₂; subst h₃; rfl

theorem conv_skip (o : Nat) (inb) (w) (L : List (View.Piece (Elt Ideal) S1x1024x512 .bf16)) (y : Fin 1024) (n : Fin 512) (h : n.val < o ∨ o + 128 ≤ n.val) :
    View.canon ((⟨Rect.unit (s := S1x1024x512) ![0, 0, o] ![1, 1024, 128] inb, w⟩ : View.Piece (Elt Ideal) S1x1024x512 .bf16) :: L) (ix3 0 y n)
      = View.canon L (ix3 0 y n) := by
  refine View.canon_cons_of_not_mem _ _ ?_
  show _ ∉ (Rect.unit (s := S1x1024x512) ![0, 0, o] ![1, 1024, 128] inb).set
  rw [Rect.mem_set_unit]
  intro hm
  have h1 : o ≤ n.val ∧ n.val < o + 128 := hm 2
  omega

theorem conv_hit (o : Nat) (inb) (w : FVec Ideal S1x1024x128 .bf16) (L : List (View.Piece (Elt Ideal) S1x1024x512 .bf16)) (y : Fin 1024) (n : Fin 512) (j : Fin 128)
    (h : n.val = o + j.val) :
    View.canon ((⟨Rect.unit (s := S1x1024x512) ![0, 0, o] ![1, 1024, 128] inb, w⟩ : View.Piece (Elt Ideal) S1x1024x512 .bf16) :: L) (ix3 0 y n) = w (ix3 0 y j) := by
  have e : (ix3 0 y n : S1x1024x512.Idx) = (Rect.unit (s := S1x1024x512) ![0, 0, o] ![1, 1024, 128] inb).emb (ix3 0 y j) := by
    funext a
    refine Fin.ext ?_
    fin_cases a
    · show 0 = 0 + 1 * 0; omega
    · show y.val = 0 + 1 * y.val; omega
    · show n.val = o + 1 * j.val; omega
  rw [e]
  exact View.canon_cons_emb _ _ _ _

/-- The rows of a group, before the group's own rows are stored. -/
theorem rows_before (L : List (View.Piece (Elt Ideal) S8x512 .f32)) (o : Nat) (inb)
    (h : ∀ (r : Fin 8) (j : Fin 128) (hj : o + j.val < 512), View.canon L (ix2 r ⟨o + j.val, hj⟩) = Ideal.ofBits .f32 0x00000000#32) :
    (fun j => View.canon L ((Rect.unit (s := S8x512) ![0, o] ![8, 128] inb).toLoadRect.idx j)) = noRows := by
  have ho : o + 128 ≤ 512 := inb 1
  funext y
  obtain ⟨r, j, rfl⟩ : ∃ (r : Fin 8) (j : Fin 128), y = ix2 r j := ⟨y 0, y 1, by funext a; fin_cases a <;> rfl⟩
  have e : (Rect.unit (s := S8x512) ![0, o] ![8, 128] inb).toLoadRect.idx (ix2 r j) = (ix2 r ⟨o + j.val, by omega⟩ : S8x512.Idx) := by
    funext a
    refine Fin.ext ?_
    fin_cases a
    · show 0 + 1 * r.val = r.val; omega
    · show o + 1 * j.val = o + j.val; omega
  show View.canon L ((Rect.unit (s := S8x512) ![0, o] ![8, 128] inb).toLoadRect.idx (ix2 r j)) = _
  rw [e]
  exact h r j _

theorem conv_A (c : Dev nD) (t : Fin cfg0.N) (h0 : t.val % 8 = 0) (g : Fin 4) (y : Fin 1024) (j : Fin 128) :
    ((outsAt0 m c t.val t.isLt).2.2.2.2.1 (ix3 0 y ⟨128 * g.val + j.val, by omega⟩) : EReal)
      = convTile (F := Ideal) (PS m c t g) (taps (iblk m c 12 t) g) noRows (ix3 0 y j) := by
  rw [outsAt0_A m c t h0]
  dsimp only
  unfold out0_A_21
  rw [View.read_writes_eq_canon _ _ _ (fun y => cover0_A_21 (y := y) ..)]
  unfold kernelRun0_A
  dsimp only
  sl_unfold_words
  simp only [View.readAt_eq_ld, (hs0_0 t).read_unread, (hs0_1 t).read_unread, (hs0_2 t).read_unread, (hs0_12 t).read_unread, View.readCov_eq_canon']
  match g with
  | ⟨0, h⟩ =>
    refine (conv_skip 384 _ _ _ y _ (.inl (by dsimp only; omega))).trans ?_
    refine (conv_skip 256 _ _ _ y _ (.inl (by dsimp only; omega))).trans ?_
    refine (conv_skip 128 _ _ _ y _ (.inl (by dsimp only; omega))).trans ?_
    refine (conv_hit 0 _ _ _ y _ j (by dsimp only)).trans ?_
    rw [tile0]
    refine tile_congr (ps_eq m c t ⟨0, h⟩ 0 _ _ _ rfl) ?_ (rows_before _ 0 _ fun r j hj => ?_) _
    · exact (congrArg (fun w => extractStridedSlice S3x128 ![0, 0] w _) (ld_taps _ _)).trans (taps_eq _ ⟨0, h⟩ 0 _ rfl)
    · exact canon_zero _ _
  | ⟨1, h⟩ =>
    refine (conv_skip 384 _ _ _ y _ (.inl (by dsimp only; omega))).trans ?_
    refine (conv_skip 256 _ _ _ y _ (.inl (by dsimp only; omega))).trans ?_
    refine (conv_hit 128 _ _ _ y _ j (by dsimp only)).trans ?_
    rw [tile1]
    refine tile_congr (ps_eq m c t ⟨1, h⟩ 512 _ _ _ rfl) ?_ (rows_before _ 128 _ fun r j hj => ?_) _
    · exact (congrArg (fun w => extractStridedSlice S3x128 ![0, 128] w _) (ld_taps _ _)).trans (taps_eq _ ⟨1, h⟩ 128 _ rfl)
    · refine (canon_skip 0 _ _ _ r _ (.inr (by dsimp only; omega))).trans ?_
      exact canon_zero _ _
  | ⟨2, h⟩ =>
    refine (conv_skip 384 _ _ _ y _ (.inl (by dsimp only; omega))).trans ?_
    refine (conv_hit 256 _ _ _ y _ j (by dsimp only)).trans ?_
    rw [tile2]
    refine tile_congr (ps_eq m c t ⟨2, h⟩ 1024 _ _ _ rfl) ?_ (rows_before _ 256 _ fun r j hj => ?_) _
    · exact (congrArg (fun w => extractStridedSlice S3x128 ![0, 256] w _) (ld_taps _ _)).trans (taps_eq _ ⟨2, h⟩ 256 _ rfl)
    · refine (canon_skip 128 _ _ _ r _ (.inr (by dsimp only; omega))).trans ?_
      refine (canon_skip 0 _ _ _ r _ (.inr (by dsimp only; omega))).trans ?_
      exact canon_zero _ _
  | ⟨3, h⟩ =>
    refine (conv_hit 384 _ _ _ y _ j (by dsimp only)).trans ?_
    rw [tile3]
    refine tile_congr (ps_eq m c t ⟨3, h⟩ 1536 _ _ _ rfl) ?_ (rows_before _ 384 _ fun r j hj => ?_) _
    · exact (congrArg (fun w => extractStridedSlice S3x128 ![0, 384] w _) (ld_taps _ _)).trans (taps_eq _ ⟨3, h⟩ 384 _ rfl)
    · refine (canon_skip 256 _ _ _ r _ (.inr (by dsimp only; omega))).trans ?_
      refine (canon_skip 128 _ _ _ r _ (.inr (by dsimp only; omega))).trans ?_
      refine (canon_skip 0 _ _ _ r _ (.inr (by dsimp only; omega))).trans ?_
      exact canon_zero _ _

theorem found_rows (c : Dev nD) (t : Fin cfg0.N) (g : Fin 4) (o : Nat) (inb) (ho : o = 128 * g.val) :
    (View.ld (Val := Elt Ideal) (e' := .f32) ((outsAt0 m c t.val t.isLt).2.2.2.2.2.2.1 : FVec Ideal S8x512 .f32) (Rect.unit (s := S8x512) ![0, o] ![8, 128] inb))
      = carryTile (F := Ideal) (PS m c t g) := by
  rw [rows_eq _ g o inb ho]
  funext y
  obtain ⟨r, j, rfl⟩ : ∃ (r : Fin 8) (j : Fin 128), y = ix2 r j := ⟨y 0, y 1, by funext a; fin_cases a <;> rfl⟩
  exact carry_at m c t g r j

theorem conv_B (c : Dev nD) (t : Fin cfg0.N) (h0 : ¬ t.val % 8 = 0) (g : Fin 4) (y : Fin 1024) (j : Fin 128) :
    ((outsAt0 m c t.val t.isLt).2.2.2.2.1 (ix3 0 y ⟨128 * g.val + j.val, by omega⟩) : EReal)
      = convTile (F := Ideal) (PS m c t g) (taps (iblk m c 12 t) g) (carryTile (F := Ideal) (PS m c ⟨t.val - 1, by have := t.isLt; omega⟩ g)) (ix3 0 y j) := by
  rw [outsAt0_B m c t h0]
  dsimp only
  unfold out0_B_21
  rw [View.read_writes_eq_canon _ _ _ (fun y => cover0_B_21 (y := y) ..)]
  unfold kernelRun0_B
  dsimp only
  sl_unfold_words
  simp only [View.readAt_eq_ld, (hs0_0 t).read_unread, (hs0_1 t).read_unread, (hs0_2 t).read_unread, (hs0_12 t).read_unread,
    (Memref.isWhole_whole _).read_unread]
  match g with
  | ⟨0, h⟩ =>
    refine (conv_skip 384 _ _ _ y _ (.inl (by dsimp only; omega))).trans ?_
    refine (conv_skip 256 _ _ _ y _ (.inl (by dsimp only; omega))).trans ?_
    refine (conv_skip 128 _ _ _ y _ (.inl (by dsimp only; omega))).trans ?_
    refine (conv_hit 0 _ _ _ y _ j (by dsimp only)).trans ?_
    rw [tile0]
    refine tile_congr (ps_eq m c t ⟨0, h⟩ 0 _ _ _ rfl) ?_ (found_rows m c ⟨t.val - 1, _⟩ ⟨0, h⟩ 0 _ rfl) _
    exact (congrArg (fun w => extractStridedSlice S3x128 ![0, 0] w _) (ld_taps _ _)).trans (taps_eq _ ⟨0, h⟩ 0 _ rfl)
  | ⟨1, h⟩ =>
    refine (conv_skip 384 _ _ _ y _ (.inl (by dsimp only; omega))).trans ?_
    refine (conv_skip 256 _ _ _ y _ (.inl (by dsimp only; omega))).trans ?_
    refine (conv_hit 128 _ _ _ y _ j (by dsimp only)).trans ?_
    rw [tile1]
    refine tile_congr (ps_eq m c t ⟨1, h⟩ 512 _ _ _ rfl) ?_ (found_rows m c ⟨t.val - 1, _⟩ ⟨1, h⟩ 128 _ rfl) _
    exact (congrArg (fun w => extractStridedSlice S3x128 ![0, 128] w _) (ld_taps _ _)).trans (taps_eq _ ⟨1, h⟩ 128 _ rfl)
  | ⟨2, h⟩ =>
    refine (conv_skip 384 _ _ _ y _ (.inl (by dsimp only; omega))).trans ?_
    refine (conv_hit 256 _ _ _ y _ j (by dsimp only)).trans ?_
    rw [tile2]
    refine tile_congr (ps_eq m c t ⟨2, h⟩ 1024 _ _ _ rfl) ?_ (found_rows m c ⟨t.val - 1, _⟩ ⟨2, h⟩ 256 _ rfl) _
    exact (congrArg (fun w => extractStridedSlice S3x128 ![0, 256] w _) (ld_taps _ _)).trans (taps_eq _ ⟨2, h⟩ 256 _ rfl)
  | ⟨3, h⟩ =>
    refine (conv_hit 384 _ _ _ y _ j (by dsimp only)).trans ?_
    rw [tile3]
    refine tile_congr (ps_eq m c t ⟨3, h⟩ 1536 _ _ _ rfl) ?_ (found_rows m c ⟨t.val - 1, _⟩ ⟨3, h⟩ 384 _ rfl) _
    exact (congrArg (fun w => extractStridedSlice S3x128 ![0, 384] w _) (ld_taps _ _)).trans (taps_eq _ ⟨3, h⟩ 384 _ rfl)

theorem conv_found (c : Dev nD) (t : Fin cfg0.N) (g : Fin 4) (y : Fin 1024) (j : Fin 128) :
    ((outsAt0 m c t.val t.isLt).2.2.2.2.1 (ix3 0 y ⟨128 * g.val + j.val, by omega⟩) : EReal)
      = convTile (F := Ideal) (PS m c t g) (taps (iblk m c 12 t) g) (prevRows m c t g) (ix3 0 y j) := by
  unfold prevRows
  by_cases h0 : t.val % 8 = 0
  · rw [dif_pos h0]; exact conv_A m c t h0 g y j
  · rw [dif_neg h0]; exact conv_B m c t h0 g y j

end Cert.Kernel3Ideal.Gen
-- ==== Proof.Prep.Gate.lean ====
/- The gate's tiles a point of the preparation leaves, read off the run: four tiles of 256 rows, transposed. -/
module

public import proofs.«01_k».proof.Proof.Prep.Found

@[expose] public section

set_option maxRecDepth 16384
set_option maxHeartbeats 4000000

noncomputable section

namespace Cert.Kernel3Ideal.Gen

open Idealize.ShloMosaic Idealize.ShloMosaic.TcCoe Idealize.ShloMosaic.Tactic Idealize.SL.Sem

variable (m : (ℓ : Loc nD τ sig) → Buf (Elt Ideal) ℓ)

theorem gate_skip (o : Nat) (inb) (w) (L : List (View.Piece (Elt Ideal) S1x4x512x256 .bf16)) (q : Fin 4) (e : Fin 512) (k : Fin 256) (h : q.val ≠ o) :
    View.canon ((⟨Rect.unit (s := S1x4x512x256) ![0, o, 0, 0] ![1, 1, 512, 256] inb, w⟩ : View.Piece (Elt Ideal) S1x4x512x256 .bf16) :: L) (ix4 0 q e k)
      = View.canon L (ix4 0 q e k) := by
  refine View.canon_cons_of_not_mem _ _ ?_
  show _ ∉ (Rect.unit (s := S1x4x512x256) ![0, o, 0, 0] ![1, 1, 512, 256] inb).set
  rw [Rect.mem_set_unit]
  intro hm
  have h1 : o ≤ q.val ∧ q.val < o + 1 := hm 1
  omega

theorem gate_hit (o : Nat) (inb) (w : FVec Ideal S1x1x512x256 .bf16) (L : List (View.Piece (Elt Ideal) S1x4x512x256 .bf16)) (q : Fin 4) (e : Fin 512) (k : Fin 256)
    (h : q.val = o) :
    View.canon ((⟨Rect.unit (s := S1x4x512x256) ![0, o, 0, 0] ![1, 1, 512, 256] inb, w⟩ : View.Piece (Elt Ideal) S1x4x512x256 .bf16) :: L) (ix4 0 q e k) = w (ix4 0 0 e k) := by
  have e' : (ix4 0 q e k : S1x4x512x256.Idx) = (Rect.unit (s := S1x4x512x256) ![0, o, 0, 0] ![1, 1, 512, 256] inb).emb (ix4 0 0 e k) := by
    funext a
    refine Fin.ext ?_
    fin_cases a
    · show 0 = 0 + 1 * 0; omega
    · show q.val = o + 1 * 0; omega
    · show e.val = 0 + 1 * e.val; omega
    · show k.val = 0 + 1 * k.val; omega
  rw [e']
  exact View.canon_cons_emb _ _ _ _

/-- The gate's projection of a row of a point. -/
def gateRow (c : Dev nD) (t : Fin cfg0.N) (e : Fin 512) (y : Fin 1024) : EReal :=
  ∑ n : Fin 1024, HMul.hMul (α := EReal) (β := EReal) ((iblk m c 3 t : FVec Ideal S2208x1024 .bf16) (ix2 ⟨1280 + (416 + e.val), by omega⟩ n)) (XN m c t (ix2 y n))

theorem row_eq (c : Dev nD) (t : Fin cfg0.N) (e : Fin 512) (y : Fin 1024) (inb) (inb0) (inb1) :
    (∑ n : Fin 1024, View.ld (Val := Elt Ideal) (e' := .bf16) (iblk m c 3 t : FVec Ideal S2208x1024 .bf16) (Rect.unit (s := S2208x1024) ![1280, 0] ![928, 1024] inb)
        (ix2 ⟨416 + e, by omega⟩ n)
      * k0_pay6 (F := Ideal) (View.ld (Val := Elt Ideal) (e' := .f32) (iblk m c 0 t : FVec Ideal S1x1024x1024 .f32) (Rect.unit (s := S1x1024x1024) ![0, 0, 0] ![1, 1024, 1024] inb0))
        (View.ld (Val := Elt Ideal) (e' := .f32) (iblk m c 1 t : FVec Ideal S1x1024 .f32) (Rect.unit (s := S1x1024) ![0, 0] ![1, 1024] inb1)) (ix2 y n) : EReal) = gateRow m c t e y := by
  rw [ld_block, ld_gain]
  refine Finset.sum_congr rfl fun n _ => ?_
  exact congrArg (fun z : EReal => z * XN m c t (ix2 y n)) (ld_rows _ inb _ n)

theorem gate_A (c : Dev nD) (t : Fin cfg0.N) (h0 : t.val % 8 = 0) (q : Fin 4) (e : Fin 512) (k : Fin 256) :
    ((outsAt0 m c t.val t.isLt).2.2.2.1 (ix4 0 q e k) : EReal) = half (gateRow m c t e ⟨256 * q.val + k.val, by omega⟩) := by
  rw [outsAt0_A m c t h0]
  dsimp only
  unfold out0_A_20
  rw [View.read_writes_eq_canon _ _ _ (fun y => cover0_A_20 (y := y) ..)]
  unfold kernelRun0_A
  dsimp only
  sl_unfold_words
  simp only [View.readAt_eq_ld, (hs0_0 t).read_unread, (hs0_1 t).read_unread, (hs0_3 t).read_unread]
  match q with
  | ⟨0, h⟩ =>
    refine (gate_skip 3 _ _ _ _ e k (by dsimp only; omega)).trans ?_
    refine (gate_skip 2 _ _ _ _ e k (by dsimp only; omega)).trans ?_
    refine (gate_skip 1 _ _ _ _ e k (by dsimp only; omega)).trans ?_
    refine (gate_hit 0 _ _ _ _ e k rfl).trans ?_
    refine (gate0_at _ _ e k).trans (congrArg half ?_)
    refine (row_eq m c t e ⟨k.val, by omega⟩ _ _ _).trans (congrArg (gateRow m c t e) (Fin.ext ?_))
    show k.val = 256 * 0 + k.val
    omega
  | ⟨1, h⟩ =>
    refine (gate_skip 3 _ _ _ _ e k (by dsimp only; omega)).trans ?_
    refine (gate_skip 2 _ _ _ _ e k (by dsimp only; omega)).trans ?_
    refine (gate_hit 1 _ _ _ _ e k rfl).trans ?_
    refine (gate1_at _ _ e k).trans (congrArg half ?_)
    exact row_eq m c t e ⟨256 + k.val, by omega⟩ _ _ _
  | ⟨2, h⟩ =>
    refine (gate_skip 3 _ _ _ _ e k (by dsimp only; omega)).trans ?_
    refine (gate_hit 2 _ _ _ _ e k rfl).trans ?_
    refine (gate2_at _ _ e k).trans (congrArg half ?_)
    exact row_eq m c t e ⟨512 + k.val, by omega⟩ _ _ _
  | ⟨3, h⟩ =>
    refine (gate_hit 3 _ _ _ _ e k rfl).trans ?_
    refine (gate3_at _ _ e k).trans (congrArg half ?_)
    exact row_eq m c t e ⟨768 + k.val, by omega⟩ _ _ _

theorem gate_B (c : Dev nD) (t : Fin cfg0.N) (h0 : ¬ t.val % 8 = 0) (q : Fin 4) (e : Fin 512) (k : Fin 256) :
    ((outsAt0 m c t.val t.isLt).2.2.2.1 (ix4 0 q e k) : EReal) = half (gateRow m c t e ⟨256 * q.val + k.val, by omega⟩) := by
  rw [outsAt0_B m c t h0]
  dsimp only
  unfold out0_B_20
  rw [View.read_writes_eq_canon _ _ _ (fun y => cover0_B_20 (y := y) ..)]
  unfold kernelRun0_B
  dsimp only
  sl_unfold_words
  simp only [View.readAt_eq_ld, (hs0_0 t).read_unread, (hs0_1 t).read_unread, (hs0_3 t).read_unread]
  match q with
  | ⟨0, h⟩ =>
    refine (gate_skip 3 _ _ _ _ e k (by dsimp only; omega)).trans ?_
    refine (gate_skip 2 _ _ _ _ e k (by dsimp only; omega)).trans ?_
    refine (gate_skip 1 _ _ _ _ e k (by dsimp only; omega)).trans ?_
    refine (gate_hit 0 _ _ _ _ e k rfl).trans ?_
    refine (gate0_at _ _ e k).trans (congrArg half ?_)
    refine (row_eq m c t e ⟨k.val, by omega⟩ _ _ _).trans (congrArg (gateRow m c t e) (Fin.ext ?_))
    show k.val = 256 * 0 + k.val
    omega
  | ⟨1, h⟩ =>
    refine (gate_skip 3 _ _ _ _ e k (by dsimp only; omega)).trans ?_
    refine (gate_skip 2 _ _ _ _ e k (by dsimp only; omega)).trans ?_
    refine (gate_hit 1 _ _ _ _ e k rfl).trans ?_
    refine (gate1_at _ _ e k).trans (congrArg half ?_)
    exact row_eq m c t e ⟨256 + k.val, by omega⟩ _ _ _
  | ⟨2, h⟩ =>
    refine (gate_skip 3 _ _ _ _ e k (by dsimp only; omega)).trans ?_
    refine (gate_hit 2 _ _ _ _ e k rfl).trans ?_
    refine (gate2_at _ _ e k).trans (congrArg half ?_)
    exact row_eq m c t e ⟨512 + k.val, by omega⟩ _ _ _
  | ⟨3, h⟩ =>
    refine (gate_hit 3 _ _ _ _ e k rfl).trans ?_
    refine (gate3_at _ _ e k).trans (congrArg half ?_)
    exact row_eq m c t e ⟨768 + k.val, by omega⟩ _ _ _

theorem gate_found (c : Dev nD) (t : Fin cfg0.N) (q : Fin 4) (e : Fin 512) (k : Fin 256) :
    ((outsAt0 m c t.val t.isLt).2.2.2.1 (ix4 0 q e k) : EReal) = half (gateRow m c t e ⟨256 * q.val + k.val, by omega⟩) := by
  by_cases h0 : t.val % 8 = 0
  · exact gate_A m c t h0 q e k
  · exact gate_B m c t h0 q e k

end Cert.Kernel3Ideal.Gen
-- ==== Proof.Prep.Block.lean ====
/- The blocks a point of the preparation takes, at an entry, from the arguments: rows of the input, the gain, columns of the weights, taps. -/
module

public import proofs.«01_k».proof.Proof.Gen.Kernel3Ideal.Value
public import Idealize.ShloMosaic.Lib.Pointwise
public import Idealize.ShloMosaic.Lib.StableHlo.ReadAt
public import Idealize.ShloMosaic.Lib.Pipeline.ValueKit

@[expose] public section

set_option maxRecDepth 16384
set_option maxHeartbeats 4000000

noncomputable section

namespace Cert.Kernel3Ideal.Gen

open Idealize.ShloMosaic Idealize.ShloMosaic.TcCoe Idealize.ShloMosaic.Tactic Idealize.SL.Sem

variable (m : (ℓ : Loc nD τ sig) → Buf (Elt Ideal) ℓ) (c : Dev nD)

/-- The arguments: the input, the norm's gain, the input projection, and the taps. -/
abbrev Ax : FVec Ideal S4x8192x1024 .f32 := m ((c.tc : Thread nD τ).loc main_arg0)
abbrev An : FVec Ideal S1024 .f32 := m ((c.tc : Thread nD τ).loc main_arg1)
abbrev Aw : FVec Ideal S1024x4256 .f32 := m ((c.tc : Thread nD τ).loc main_arg2)
abbrev At : FVec Ideal S3x512 .f32 := m ((c.tc : Thread nD τ).loc main_arg9)

/-! ## The arrays the region takes -/

theorem entry_gain (k : Fin 1024) : (V m c main_v109 (ix2 0 k) : EReal) = An m c (ix1 k) := by
  unfold V
  after_reads_at

theorem entry_std (k : Fin 1024) (g n : Fin 4) (j : Fin 128) :
    (V m c main_v4 (ix2 k ⟨512 * g.val + 128 * n.val + j.val, by omega⟩) : EReal) = Aw m c (ix2 k ⟨928 + 512 * n.val + 128 * g.val + j.val, by omega⟩) := by
  unfold V
  after_reads_at
  refine congrArg (fun i => Aw m c (ix2 k i)) (Fin.ext ?_)
  show 928 + ((512 * g.val + 128 * n.val + j.val) / 128 % 4 * 512 + (512 * g.val + 128 * n.val + j.val) / 512 * 128 + (512 * g.val + 128 * n.val + j.val) % 128)
    = 928 + 512 * n.val + 128 * g.val + j.val
  omega

theorem entry_t (e : Fin 512) (k : Fin 1024) :
    (V m c main_v9 (ix2 ⟨1280 + (416 + e.val), by omega⟩ k) : EReal) = Aw m c (ix2 k ⟨416 + e.val, by omega⟩) := by
  unfold V
  after_reads_at
  after_reads_at

/-! ## The blocks at a grid point -/

theorem idx_x : ∀ t : Fin cfg0.N, win0_0.index t = ![(grid0.coords t 0).val, (grid0.coords t 1).val, 0] :=
  (by decide +kernel : ∀ t : Fin grid0.N, _)
theorem idx_n : ∀ t : Fin cfg0.N, win0_1.index t = ![0, 0] :=
  (by decide +kernel : ∀ t : Fin grid0.N, _)
theorem idx_s : ∀ t : Fin cfg0.N, win0_2.index t = ![0, 0] :=
  (by decide +kernel : ∀ t : Fin grid0.N, _)
theorem idx_t : ∀ t : Fin cfg0.N, win0_3.index t = ![0, 0] :=
  (by decide +kernel : ∀ t : Fin grid0.N, _)
theorem idx_c : ∀ t : Fin cfg0.N, win0_12.index t = ![0, 0] :=
  (by decide +kernel : ∀ t : Fin grid0.N, _)
theorem coords_eq : ∀ t : Fin cfg0.N, (grid0.coords t 0).val = t.val / 8 ∧ (grid0.coords t 1).val = t.val % 8 :=
  (by decide +kernel : ∀ t : Fin grid0.N, _)
theorem points : cfg0.N = 32 := by decide +kernel

/-- The batch of a grid point, and the place its block's row `Y` has in the sequence. -/
abbrev bat (t : Fin cfg0.N) : Fin 4 := ⟨t.val / 8, by have := t.isLt; have := points; omega⟩
abbrev place (t : Fin cfg0.N) (Y : Fin 1024) : Fin 8192 := ⟨1024 * (t.val % 8) + Y.val, by omega⟩

theorem emb_x (t : Fin cfg0.N) (Y : Fin 1024) (e : Fin 1024) : ((cfg0.win 0).blk t).view.emb (ix3 0 Y e) = ix3 (bat t) (place t Y) e := by
  funext a
  apply Fin.ext
  blk_simp [idx_x]
  have h0 := (coords_eq t).1
  have h1 := (coords_eq t).2
  fin_cases a
  · show (grid0.coords t 0).val * 1 + 0 = t.val / 8; omega
  · show (grid0.coords t 1).val * 1024 + Y.val = 1024 * (t.val % 8) + Y.val; omega
  · show 0 * 1024 + e.val = e.val; omega

theorem emb_n (t : Fin cfg0.N) (k : Fin 1024) : ((cfg0.win 1).blk t).view.emb (ix2 0 k) = ix2 0 k := by
  funext a
  apply Fin.ext
  blk_simp [idx_n]
  fin_cases a
  · show 0 * 1 + 0 = 0; omega
  · show 0 * 1024 + k.val = k.val; omega

theorem emb_s (t : Fin cfg0.N) (k : Fin 1024) (e : Fin 2048) : ((cfg0.win 2).blk t).view.emb (ix2 k e) = ix2 k e := by
  funext a
  apply Fin.ext
  blk_simp [idx_s]
  fin_cases a
  · show 0 * 1024 + k.val = k.val; omega
  · show 0 * 2048 + e.val = e.val; omega

theorem emb_t (t : Fin cfg0.N) (e : Fin 2208) (k : Fin 1024) : ((cfg0.win 3).blk t).view.emb (ix2 e k) = ix2 e k := by
  funext a
  apply Fin.ext
  blk_simp [idx_t]
  fin_cases a
  · show 0 * 2208 + e.val = e.val; omega
  · show 0 * 1024 + k.val = k.val; omega

theorem emb_c (t : Fin cfg0.N) (k : Fin 3) (e : Fin 512) : ((cfg0.win 12).blk t).view.emb (ix2 k e) = ix2 k e := by
  funext a
  apply Fin.ext
  blk_simp [idx_c]
  fin_cases a
  · show 0 * 3 + k.val = k.val; omega
  · show 0 * 512 + e.val = e.val; omega

theorem blk_x (t : Fin cfg0.N) (Y : Fin 1024) (e : Fin 1024) : (iblk m c 0 t (ix3 0 Y e) : EReal) = Ax m c (ix3 (bat t) (place t Y) e) := by
  have key : ∀ U : (⟨S4x8192x1024, .f32⟩ : BufTy).Contents (Elt Ideal), (((cfg0.win 0).blk t).view.read (Elt Ideal) U (ix3 0 Y e) : EReal)
      = U (ix3 (bat t) (place t Y) e) := fun U => congrArg U (emb_x t Y e)
  exact (key (V m c main_arg0)).trans (congrFun (V_main_arg0 m c) _)

theorem blk_n (t : Fin cfg0.N) (k : Fin 1024) : (iblk m c 1 t (ix2 0 k) : EReal) = An m c (ix1 k) := by
  have key : ∀ U : (⟨S1x1024, .f32⟩ : BufTy).Contents (Elt Ideal), (((cfg0.win 1).blk t).view.read (Elt Ideal) U (ix2 0 k) : EReal)
      = U (ix2 0 k) := fun U => congrArg U (emb_n t k)
  exact (key (V m c main_v109)).trans (entry_gain m c k)

theorem blk_s (t : Fin cfg0.N) (k : Fin 1024) (g n : Fin 4) (j : Fin 128) :
    (iblk m c 2 t (ix2 k ⟨512 * g.val + 128 * n.val + j.val, by omega⟩) : EReal) = Aw m c (ix2 k ⟨928 + 512 * n.val + 128 * g.val + j.val, by omega⟩) := by
  have key : ∀ (U : (⟨S1024x2048, .bf16⟩ : BufTy).Contents (Elt Ideal)) (e : Fin 2048), (((cfg0.win 2).blk t).view.read (Elt Ideal) U (ix2 k e) : EReal)
      = U (ix2 k e) := fun U e => congrArg U (emb_s t k e)
  exact (key (V m c main_v4) _).trans (entry_std m c k g n j)

theorem blk_t (t : Fin cfg0.N) (e : Fin 512) (k : Fin 1024) :
    (iblk m c 3 t (ix2 ⟨1280 + (416 + e.val), by omega⟩ k) : EReal) = Aw m c (ix2 k ⟨416 + e.val, by omega⟩) := by
  have key : ∀ (U : (⟨S2208x1024, .bf16⟩ : BufTy).Contents (Elt Ideal)) (e : Fin 2208), (((cfg0.win 3).blk t).view.read (Elt Ideal) U (ix2 e k) : EReal)
      = U (ix2 e k) := fun U e => congrArg U (emb_t t e k)
  exact (key (V m c main_v9) _).trans (entry_t m c e k)

theorem blk_c (t : Fin cfg0.N) (k : Fin 3) (e : Fin 512) : (iblk m c 12 t (ix2 k e) : EReal) = At m c (ix2 k e) := by
  have key : ∀ U : (⟨S3x512, .f32⟩ : BufTy).Contents (Elt Ideal), (((cfg0.win 12).blk t).view.read (Elt Ideal) U (ix2 k e) : EReal)
      = U (ix2 k e) := fun U => congrArg U (emb_c t k e)
  exact (key (V m c main_arg9)).trans (congrFun (V_main_arg9 m c) _)

end Cert.Kernel3Ideal.Gen
-- ==== Proof.Algebra.lean ====
/- Attention over the extended reals: the weights a row takes from a softmax with its maximum taken off, against those of a
   shifted power of two summed along with the values; and the two forms of the gate. -/
module

public import Idealize.ShloMosaic.PureOps.Ideal
public import Idealize.ShloMosaic.PureOps.Ideal.Laws

@[expose] public section

noncomputable section

namespace Cert.Attention

open Idealize.ShloMosaic

/-! ## Words -/

theorem half_word : Ideal.ofBits .f32 0x3F000000#32 = ((1 / 2 : ℝ) : EReal) := by
  simp [Ideal.ofBits, Ideal.ieee]; rw [← EReal.coe_mul]; norm_num

theorem one_word : Ideal.ofBits .f32 0x3F800000#32 = (1 : EReal) := by
  simp [Ideal.ofBits, Ideal.ieee]; rw [← EReal.coe_mul]; norm_num

theorem two_word : Ideal.ofBits .f32 0x40000000#32 = ((2 : ℝ) : EReal) := by
  simp [Ideal.ofBits, Ideal.ieee]; rw [← EReal.coe_mul]; norm_num

theorem bot_word : Ideal.ofBits .f32 0xFF800000#32 = (⊥ : EReal) := by
  simp [Ideal.ofBits, Ideal.ieee]

theorem top_word : Ideal.ofBits .f32 0x7F800000#32 = (⊤ : EReal) := by
  simp [Ideal.ofBits, Ideal.ieee]

theorem forty_word : ∃ r : ℝ, Ideal.ofBits .f32 1109393408#32 = (r : EReal) := by
  simp [Ideal.ofBits, Ideal.ieee]; rw [← EReal.coe_mul]; exact ⟨_, rfl⟩

theorem bound_word : ∃ r : ℝ, 0 ≤ r ∧ Ideal.ofBits .f32 1097248985#32 = (r : EReal) := by
  refine ⟨_, ?_, by simp [Ideal.ofBits, Ideal.ieee]; rfl⟩
  positivity

theorem scale_word : ∃ r : ℝ, Ideal.ofBits .f32 0x3DD105EC#32 = (r : EReal) := by
  simp [Ideal.ofBits, Ideal.ieee]; rw [← EReal.coe_mul]; exact ⟨_, rfl⟩

/-! ## Sums -/

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem sum_mul_coe {ι : Type*} (s : Finset ι) (f : ι → EReal) (t : ℝ) (ht : 0 ≤ t) :
    (∑ i ∈ s, f i) * (t : EReal) = ∑ i ∈ s, f i * (t : EReal) := by
  classical
  induction s using Finset.induction_on with
  | empty => simp
  | insert a s h ih =>
    rw [Finset.sum_insert h, Finset.sum_insert h, ← ih]
    exact EReal.right_distrib_of_nonneg_of_ne_top (by exact_mod_cast ht) (EReal.coe_ne_top t) _ _

theorem div_coe (x : EReal) (y : ℝ) (hy : y ≠ 0) : Ideal.div x (y : EReal) = x * ((y⁻¹ : ℝ) : EReal) := by
  have h : ¬ ((y : EReal) = 0) := by exact_mod_cast hy
  rw [Ideal.div, if_neg h, EReal.coe_inv]

/-- A sum over a row's keys of which those past `q` add nothing. -/
theorem sum_upto (N q : Nat) (hq : q < N) (f : Nat → EReal) (h : ∀ k, q < k → k < N → f k = 0) :
    ∑ k : Fin N, f k.val = ∑ k ∈ Finset.range (q + 1), f k := by
  rw [← Finset.sum_range (fun k => f k)]
  refine (Finset.sum_subset ?_ ?_).symm
  · intro k hk; rw [Finset.mem_range] at *; omega
  · intro k h₁ h₂; rw [Finset.mem_range] at *; exact h k (by omega) h₁

/-! ## The row -/

/-- The scores of a row at its query `q`: those of later keys are `⊥`. -/
def masked (s : Nat → ℝ) (q k : Nat) : EReal := if k ≤ q then (s k : EReal) else ⊥

theorem max_real (N q : Nat) (hq : q < N) (s : Nat → ℝ) :
    ∃ μ : ℝ, Finset.fold max (⊥ : EReal) (fun k : Fin N => masked s q k.val) Finset.univ = (μ : EReal) := by
  set M := Finset.fold max (⊥ : EReal) (fun k : Fin N => masked s q k.val) Finset.univ with hM
  have h₁ : M < ⊤ := by
    rw [hM, Finset.fold_max_lt]
    refine ⟨bot_lt_top, fun k _ => ?_⟩
    unfold masked
    split
    · exact EReal.coe_lt_top _
    · exact bot_lt_top
  have h₂ : (s q : EReal) ≤ M := by
    rw [hM, Finset.le_fold_max]
    exact .inr ⟨⟨q, hq⟩, Finset.mem_univ _, by simp [masked]⟩
  have h₃ : M ≠ ⊥ := fun e => by
    rw [e, le_bot_iff] at h₂
    exact EReal.coe_ne_bot _ h₂
  exact ⟨M.toReal, (EReal.coe_toReal h₁.ne h₃).symm⟩

/-- The row's result by softmax, its maximum taken off, is the quotient of the two sums. -/
theorem row_eq (N q : Nat) (hq : q < N) (s : Nat → ℝ) (v : Nat → EReal) (σ : ℝ) (hσ : 0 < σ) (M : EReal)
    (hM : M = Finset.fold max (⊥ : EReal) (fun k : Fin N => masked s q k.val) Finset.univ) :
    Ideal.div (∑ k ∈ Finset.range (q + 1), v k * ((Real.exp (s k) * σ : ℝ) : EReal))
        (∑ k ∈ Finset.range (q + 1), 1 * ((Real.exp (s k) * σ : ℝ) : EReal))
      = ∑ k : Fin N, v k.val * Ideal.div (Ideal.exp (masked s q k.val - M)) (0 + ∑ j : Fin N, Ideal.exp (masked s q j.val - M)) := by
  obtain ⟨μ, hμ⟩ := max_real N q hq s
  rw [hμ] at hM
  subst hM
  set w : Nat → ℝ := fun k => if k ≤ q then Real.exp (s k - μ) else 0 with hw
  have e : ∀ k, Ideal.exp (masked s q k - (μ : EReal)) = (w k : EReal) := by
    intro k
    unfold masked
    by_cases h : k ≤ q
    · rw [if_pos h, hw, ← EReal.coe_sub]
      simp only [if_pos h]
      rfl
    · rw [if_neg h, hw, EReal.bot_sub]
      simp only [if_neg h]
      rfl
  simp only [e]
  set A : ℝ := ∑ k ∈ Finset.range (q + 1), Real.exp (s k) * σ with hA
  have hA0 : 0 < A := Finset.sum_pos (fun k _ => mul_pos (Real.exp_pos _) hσ) ⟨0, by simp⟩
  have hwa : ∀ k, k ≤ q → w k = Real.exp (s k) * σ * (Real.exp (-μ) * σ⁻¹) := by
    intro k h
    have : w k = Real.exp (s k - μ) := by simp [hw, h]
    rw [this, sub_eq_add_neg, Real.exp_add]
    field_simp
  have hZ : (0 : EReal) + ∑ j : Fin N, (w j.val : EReal) = ((A * (Real.exp (-μ) * σ⁻¹) : ℝ) : EReal) := by
    rw [zero_add, sum_upto N q hq (fun k => (w k : EReal)) (fun k h _ => by simp [hw, Nat.not_le.mpr h]), ← coe_sum,
      hA, Finset.sum_mul]
    refine congrArg _ (Finset.sum_congr rfl fun k hk => ?_)
    exact hwa k (by rw [Finset.mem_range] at hk; omega)
  have ht : 0 < Real.exp (-μ) * σ⁻¹ := mul_pos (Real.exp_pos _) (inv_pos.mpr hσ)
  rw [hZ]
  have hden : (∑ k ∈ Finset.range (q + 1), 1 * ((Real.exp (s k) * σ : ℝ) : EReal)) = (A : EReal) := by
    simp only [one_mul]
    rw [hA, coe_sum]
  rw [hden, div_coe _ _ hA0.ne', sum_mul_coe _ _ _ (inv_pos.mpr hA0).le]
  have hr : ∀ k : Fin N, v k.val * Ideal.div (w k.val : EReal) ((A * (Real.exp (-μ) * σ⁻¹) : ℝ) : EReal)
      = (fun k : Nat => v k * ((w k * (A * (Real.exp (-μ) * σ⁻¹))⁻¹ : ℝ) : EReal)) k.val := by
    intro k
    show _ = v k.val * _
    rw [div_coe _ _ (mul_pos hA0 ht).ne', ← EReal.coe_mul]
  rw [Finset.sum_congr rfl fun k _ => hr k, sum_upto N q hq (fun k : Nat => v k * ((w k * (A * (Real.exp (-μ) * σ⁻¹))⁻¹ : ℝ) : EReal)) (fun k h _ => by simp [hw, Nat.not_le.mpr h])]
  refine Finset.sum_congr rfl fun k hk => ?_
  rw [mul_assoc, ← EReal.coe_mul]
  refine congrArg (fun x : ℝ => v k * (x : EReal)) ?_
  rw [hwa k (by rw [Finset.mem_range] at hk; omega)]
  field_simp

/-- A score of 128 entries: the 96 of the head, and the shift against a one. -/
theorem score_eq (K Q : Fin 128 → EReal) (k q : Fin 96 → ℝ) (c s : ℝ)
    (hK : ∀ d : Fin 128, K d = if hd : d.val < 96 then (k ⟨d.val, hd⟩ : EReal) else if d.val = 96 then 1 else 0)
    (hQ : ∀ d : Fin 128, Q d = if hd : d.val < 96 then (q ⟨d.val, hd⟩ : EReal) * (c : EReal) else if d.val = 96 then -(s : EReal) else 0) :
    ∑ d : Fin 128, K d * Q d = (((∑ d : Fin 96, q d * k d) * c - s : ℝ) : EReal) := by
  have h : ∀ d : Fin (96 + 32), K d * Q d = (((if hd : d.val < 96 then k ⟨d.val, hd⟩ * (q ⟨d.val, hd⟩ * c) else if d.val = 96 then -s else 0 : ℝ)) : EReal) := by
    intro d
    rw [hK, hQ]
    split
    · rw [← EReal.coe_mul, ← EReal.coe_mul]
    · split
      · simp
      · simp
  show ∑ d : Fin (96 + 32), K d * Q d = _
  rw [Finset.sum_congr rfl fun d _ => h d, ← coe_sum, Fin.sum_univ_add]
  refine congrArg _ ?_
  have h₂ : ∑ i : Fin 32, (if hd : (Fin.natAdd 96 i : Fin (96 + 32)).val < 96 then k ⟨(Fin.natAdd 96 i : Fin (96 + 32)).val, hd⟩ * (q ⟨(Fin.natAdd 96 i : Fin (96 + 32)).val, hd⟩ * c) else if (Fin.natAdd 96 i : Fin (96 + 32)).val = 96 then -s else 0) = -s := by
    rw [Finset.sum_eq_single (0 : Fin 32)]
    · simp
    · intro i _ hi
      have : i.val ≠ 0 := fun h => hi (Fin.ext h)
      rw [dif_neg (by simp), if_neg (by simpa using this)]
    · simp
  rw [h₂, sub_eq_add_neg, Finset.sum_mul]
  refine congrArg (· + -s) (Finset.sum_congr rfl fun d _ => ?_)
  rw [dif_pos (by simp)]
  simp only [Fin.val_castAdd]
  ring

/-- A power of two of such a score, its scale the softmax's over the logarithm of two. -/
theorem exp2_eq (x r s : ℝ) :
    Ideal.exp2 ((x * (r * (Real.log 2)⁻¹) - s : ℝ) : EReal) = ((Real.exp (x * r) * (2 : ℝ) ^ (-s) : ℝ) : EReal) := by
  show (((2 : ℝ) ^ (x * (r * (Real.log 2)⁻¹) - s) : ℝ) : EReal) = _
  refine congrArg _ ?_
  have h : Real.log 2 ≠ 0 := (Real.log_pos (by norm_num)).ne'
  rw [sub_eq_add_neg, Real.rpow_add (by norm_num), Real.rpow_def_of_pos (by norm_num)]
  refine congrArg (Real.exp · * _) ?_
  field_simp

/-! ## The gate -/

/-- Half of `g` and half of it by the hyperbolic tangent of that half: `g` by its logistic function. -/
theorem gate_eq (g : ℝ) :
    Ideal.ofBits .f32 0x3F000000#32 * (g : EReal) + Ideal.ofBits .f32 0x3F000000#32 * (g : EReal) * Ideal.tanh (Ideal.ofBits .f32 0x3F000000#32 * (g : EReal))
      = (g : EReal) * Ideal.div (Ideal.ofBits .f32 0x3F800000#32) (Ideal.ofBits .f32 0x3F800000#32 + Ideal.exp (-(g : EReal))) := by
  rw [half_word, one_word, ← EReal.coe_mul, ← EReal.coe_neg]
  have hp : (1 : ℝ) + Real.exp (-g) ≠ 0 := by positivity
  have e₁ : Ideal.exp ((-g : ℝ) : EReal) = ((Real.exp (-g) : ℝ) : EReal) := rfl
  have e₂ : Ideal.tanh ((1 / 2 * g : ℝ) : EReal) = ((Real.tanh (1 / 2 * g) : ℝ) : EReal) := rfl
  have e₃ : (1 : EReal) = ((1 : ℝ) : EReal) := rfl
  rw [e₁, e₂, e₃, ← EReal.coe_add, div_coe _ _ hp, ← EReal.coe_mul, ← EReal.coe_mul, ← EReal.coe_mul, ← EReal.coe_add]
  refine congrArg _ ?_
  have ha : (0 : ℝ) < Real.exp (1 / 2 * g) := Real.exp_pos _
  have hg : Real.exp (-g) = (Real.exp (1 / 2 * g) * Real.exp (1 / 2 * g))⁻¹ := by
    rw [← Real.exp_add, ← Real.exp_neg]; congr 1; ring
  rw [Real.tanh_eq_sinh_div_cosh, Real.sinh_eq, Real.cosh_eq, Real.exp_neg (1 / 2 * g), hg]
  generalize Real.exp (1 / 2 * g) = a at ha
  field_simp
  ring

/-! ## The shift -/

/-- The bound that two gains give, capped: a real number whatever the gains are. -/
theorem shift_real (x y : EReal) (hx : 0 ≤ x) (hy : 0 ≤ y) :
    ∃ s : ℝ, (if Ideal.ofBits .f32 1097248985#32 * x * y ≤ Ideal.ofBits .f32 1109393408#32 then Ideal.ofBits .f32 1097248985#32 * x * y
      else Ideal.ofBits .f32 0x00000000#32) = (s : EReal) := by
  obtain ⟨r, hr, er⟩ := bound_word
  obtain ⟨u, eu⟩ := forty_word
  rw [Ideal.ofBits_zero_f32, er, eu]
  split
  · rename_i h
    set z := (r : EReal) * x * y with hz
    have h0 : 0 ≤ z := mul_nonneg (mul_nonneg (by exact_mod_cast hr) hx) hy
    refine ⟨z.toReal, (EReal.coe_toReal ?_ ?_).symm⟩
    · exact (lt_of_le_of_lt h (EReal.coe_lt_top u)).ne
    · intro e
      rw [e] at h0
      simp at h0
  · exact ⟨0, rfl⟩

/-- The largest of finitely many magnitudes, taken from `⊥`, is not negative. -/
theorem mag_nonneg {n : Nat} (hn : 0 < n) (f : Fin n → EReal) :
    0 ≤ Finset.fold max (Ideal.ofBits .f32 0xFF800000#32) (fun k => (FloatOps.absf (F := Ideal) (φ := .f32) (f k) : EReal)) Finset.univ := by
  rw [Finset.le_fold_max]
  refine .inr ⟨⟨0, hn⟩, Finset.mem_univ _, ?_⟩
  show (0 : EReal) ≤ max (f ⟨0, hn⟩) (-(f ⟨0, hn⟩))
  rcases le_total 0 (f ⟨0, hn⟩) with h | h
  · exact le_max_of_le_left h
  · exact le_max_of_le_right (by simpa using h)

/-- Below `⊤` in magnitude: a real number. -/
theorem real_of_bound (x : EReal) (h : FloatOps.cmpf (F := Ideal) (φ := .f32) .olt (FloatOps.absf (F := Ideal) (φ := .f32) x) (Ideal.ofBits .f32 0x7F800000#32) = 1#1) :
    ∃ r : ℝ, x = (r : EReal) := by
  have h' : max x (-x) < ⊤ := by
    rw [top_word] at h
    by_contra hc
    have : FloatOps.cmpf (F := Ideal) (φ := .f32) .olt (FloatOps.absf (F := Ideal) (φ := .f32) x) (⊤ : EReal) = 0#1 := by
      show BitVec.ofBool (decide (max x (-x) < ⊤)) = 0#1
      simp [hc]
    rw [this] at h
    exact absurd h (by decide)
  rw [max_lt_iff] at h'
  refine ⟨x.toReal, (EReal.coe_toReal h'.1.ne ?_).symm⟩
  intro e
  rw [e] at h'
  simp at h'

end Cert.Attention
-- ==== Proof.Prep.Spec.lean ====
/- The two results of the preparation that are claimed, as plain formulas over the arguments: the normalised rows, their projections, the
   product of two projections moved down the sequence, and the gated results, for a gate that is left open. -/
module

public import Idealize.ShloMosaic.PureOps.Ideal
public import Idealize.ShloMosaic.PureOps.Ideal.Laws

@[expose] public section

noncomputable section

namespace Cert.Prep

open Idealize.ShloMosaic

variable (x : Fin 4 → Fin 8192 → Fin 1024 → EReal) (n : Fin 1024 → EReal) (w : Fin 1024 → Fin 4256 → EReal) (t : Fin 3 → Fin 512 → EReal) (G : EReal → EReal)

/-- A normalised activation: an entry by the root mean square of its row, by its gain. -/
def act (b : Fin 4) (s : Fin 8192) (k : Fin 1024) : EReal :=
  x b s k * Ideal.rsqrt (Ideal.div (∑ j, x b s j * x b s j) (Ideal.ofBits .f32 0x44800000#32) + Ideal.ofBits .f32 0x358637BD#32) * n k

/-- A projection. -/
def proj (b : Fin 4) (s : Fin 8192) (e : Fin 4256) : EReal := ∑ k, act x n b s k * w k e

/-- The convolution's input. -/
def prod (b : Fin 4) (s : Fin 8192) (d : Fin 512) : EReal := proj x n w b s ⟨1952 + d, by omega⟩ * proj x n w b s ⟨928 + d, by omega⟩

/-- The convolution's input, `o` places earlier: zero before the sequence. -/
def before (o : ℕ) (b : Fin 4) (s : Fin 8192) (d : Fin 512) : EReal := if s.val < o then 0 else prod x n w b ⟨s - o, by omega⟩ d

/-- The convolution's gated result. -/
def conv (b : Fin 4) (s : Fin 8192) (d : Fin 512) : EReal :=
  proj x n w b s ⟨1440 + d, by omega⟩ * (t 0 d * before x n w 2 b s d + t 1 d * before x n w 1 b s d + t 2 d * prod x n w b s d)
    * G (proj x n w b s ⟨2464 + d, by omega⟩)

/-- The attention's gate. -/
def gate (b : Fin 4) (s : Fin 8192) (d : Fin 512) : EReal := G (proj x n w b s ⟨416 + d, by omega⟩)

/-- A number by its logistic function. -/
def logistic (g : EReal) : EReal := g * Ideal.div (Ideal.ofBits .f32 0x3F800000#32) (Ideal.ofBits .f32 0x3F800000#32 + Ideal.exp (-g))

end Cert.Prep
-- ==== Proof.Prep.Finite.lean ====
/- The projections are real numbers when the gain and the weights are, whatever the input: a row with an infinite entry has an infinite mean
   square, and so is scaled by zero. On a real number the two forms of the gate agree. -/
module

public import proofs.«01_k».proof.Proof.Algebra
public import proofs.«01_k».proof.Proof.Prep.Spec

@[expose] public section

noncomputable section

namespace Cert.Prep

open Idealize.ShloMosaic

theorem mean_word : Ideal.ofBits .f32 0x44800000#32 = ((1024 : ℝ) : EReal) := by
  simp [Ideal.ofBits, Ideal.ieee]; rw [← EReal.coe_mul]; norm_num

theorem eps_word : ∃ r : ℝ, 0 < r ∧ Ideal.ofBits .f32 0x358637BD#32 = (r : EReal) := by
  refine ⟨_, ?_, by simp [Ideal.ofBits, Ideal.ieee]; rw [← EReal.coe_mul]⟩
  positivity

/-- A square is not negative. -/
theorem square_nonneg (a : EReal) : 0 ≤ a * a := by
  rcases le_total 0 a with h | h
  · exact mul_nonneg h h
  · have := mul_nonneg (EReal.neg_nonneg.2 h) (EReal.neg_nonneg.2 h)
    rwa [neg_mul_neg] at this

/-- An entry over its row's root mean square is a real number. -/
theorem scaled_real (f : Fin 1024 → EReal) (k : Fin 1024) :
    ∃ r : ℝ, f k * Ideal.rsqrt (Ideal.div (∑ j, f j * f j) (Ideal.ofBits .f32 0x44800000#32) + Ideal.ofBits .f32 0x358637BD#32) = (r : EReal) := by
  obtain ⟨ε, hε, e⟩ := eps_word
  rw [mean_word, e, Cert.Attention.div_coe _ _ (by norm_num)]
  by_cases h : ∀ j, ∃ r : ℝ, f j = (r : EReal)
  · choose r hr using h
    have hs : ∑ j, f j * f j = ((∑ j, r j * r j : ℝ) : EReal) := by
      rw [Cert.Attention.coe_sum]
      exact Finset.sum_congr rfl fun j _ => by rw [hr j, EReal.coe_mul]
    have hp : 0 < (∑ j, r j * r j) * (1024 : ℝ)⁻¹ + ε := by
      have : 0 ≤ ∑ j, r j * r j := Finset.sum_nonneg fun j _ => mul_self_nonneg _
      positivity
    rw [hs, ← EReal.coe_mul, ← EReal.coe_add, hr k]
    refine ⟨r k * (Real.sqrt ((∑ j, r j * r j) * (1024 : ℝ)⁻¹ + ε))⁻¹, ?_⟩
    rw [EReal.coe_mul]
    refine congrArg (fun z : EReal => (r k : EReal) * z) ?_
    show (if _ then _ else if _ then _ else _ : EReal) = _
    rw [if_neg (not_lt.mpr hp.le), if_neg hp.ne']
  · push Not at h
    obtain ⟨j, hj⟩ := h
    have hj' : f j * f j = ⊤ := by
      induction hf : f j using EReal.rec with
      | bot => exact EReal.bot_mul_bot
      | top => exact EReal.top_mul_top
      | coe a => exact absurd hf (hj a)
    have hs : ∑ j, f j * f j = ⊤ := by
      refine top_le_iff.mp ?_
      rw [← hj']
      exact Finset.single_le_sum (f := fun j => f j * f j) (fun i _ => square_nonneg (f i)) (Finset.mem_univ j)
    rw [hs, EReal.top_mul_coe_of_pos (by norm_num), EReal.top_add_coe]
    refine ⟨0, ?_⟩
    show f k * (0 : EReal) = _
    rw [mul_zero]
    rfl

variable {x : Fin 4 → Fin 8192 → Fin 1024 → EReal} {n : Fin 1024 → EReal} {w : Fin 1024 → Fin 4256 → EReal}

theorem proj_real (hn : ∀ k, ∃ r : ℝ, n k = (r : EReal)) (hw : ∀ k e, ∃ r : ℝ, w k e = (r : EReal)) (b : Fin 4) (s : Fin 8192) (e : Fin 4256) :
    ∃ r : ℝ, proj x n w b s e = (r : EReal) := by
  have h : ∀ k, ∃ r : ℝ, act x n b s k * w k e = (r : EReal) := fun k => by
    obtain ⟨a, ha⟩ := scaled_real (x b s) k
    obtain ⟨g, hg⟩ := hn k
    obtain ⟨v, hv⟩ := hw k e
    unfold act
    rw [ha, hg, hv]
    exact ⟨a * g * v, by rw [EReal.coe_mul, EReal.coe_mul]⟩
  choose r hr using h
  refine ⟨∑ k, r k, ?_⟩
  rw [Cert.Attention.coe_sum]
  exact Finset.sum_congr rfl fun k _ => hr k

/-- Half a number and half of it by the hyperbolic tangent of that half. -/
def half (g : EReal) : EReal :=
  Ideal.ofBits .f32 0x3F000000#32 * g + Ideal.ofBits .f32 0x3F000000#32 * g * Ideal.tanh (Ideal.ofBits .f32 0x3F000000#32 * g)

theorem half_eq (g : EReal) (h : ∃ r : ℝ, g = (r : EReal)) : half g = logistic g := by
  obtain ⟨r, rfl⟩ := h
  exact Cert.Attention.gate_eq r

theorem gate_half (hn : ∀ k, ∃ r : ℝ, n k = (r : EReal)) (hw : ∀ k e, ∃ r : ℝ, w k e = (r : EReal)) (b : Fin 4) (s : Fin 8192) (d : Fin 512) :
    gate x n w half b s d = gate x n w logistic b s d := half_eq _ (proj_real hn hw _ _ _)

theorem conv_half (t : Fin 3 → Fin 512 → EReal) (hn : ∀ k, ∃ r : ℝ, n k = (r : EReal)) (hw : ∀ k e, ∃ r : ℝ, w k e = (r : EReal)) (b : Fin 4) (s : Fin 8192)
    (d : Fin 512) : conv x n w t half b s d = conv x n w t logistic b s d := by
  unfold conv
  rw [half_eq _ (proj_real hn hw _ _ _)]

end Cert.Prep
-- ==== Proof.Prep.Point.lean ====
/- What a point of the preparation leaves, as the formulas over the arguments. -/
module

public import proofs.«01_k».proof.Proof.Prep.Gate
public import proofs.«01_k».proof.Proof.Prep.Block
public import proofs.«01_k».proof.Proof.Prep.Finite

@[expose] public section

set_option maxRecDepth 16384
set_option maxHeartbeats 4000000

noncomputable section

namespace Cert.Kernel3Ideal.Gen

open Idealize.ShloMosaic Idealize.ShloMosaic.TcCoe Idealize.ShloMosaic.Tactic Idealize.SL.Sem

variable (m : (ℓ : Loc nD τ sig) → Buf (Elt Ideal) ℓ) (c : Dev nD)

/-- The arguments by their coordinates. -/
abbrev cx : Fin 4 → Fin 8192 → Fin 1024 → EReal := fun b s k => Ax m c (ix3 b s k)
abbrev cn : Fin 1024 → EReal := fun k => An m c (ix1 k)
abbrev cw : Fin 1024 → Fin 4256 → EReal := fun k e => Aw m c (ix2 k e)
abbrev ct : Fin 3 → Fin 512 → EReal := fun k d => At m c (ix2 k d)

theorem xn_at (t : Fin cfg0.N) (y k : Fin 1024) : (XN m c t (ix2 y k) : EReal) = Cert.Prep.act (cx m c) (cn m c) (bat t) (place t y) k := by
  refine (norm_at _ _ y k).trans ?_
  unfold normed Cert.Prep.act
  rw [blk_n, blk_x]
  simp only [blk_x]

theorem ps_at (t : Fin cfg0.N) (g n : Fin 4) (y : Fin 1024) (j : Fin 128) :
    (PS m c t g (ix2 y ⟨128 * n.val + j.val, by omega⟩) : EReal)
      = Cert.Prep.proj (cx m c) (cn m c) (cw m c) (bat t) (place t y) ⟨928 + 512 * n.val + 128 * g.val + j.val, by omega⟩ := by
  unfold PS Cert.Prep.proj
  refine (proj_at _ _ _ _).trans (Finset.sum_congr rfl fun k _ => ?_)
  refine congrArg₂ (HMul.hMul : EReal → EReal → EReal) (xn_at m c t y k) ?_
  refine Eq.trans ?_ (blk_s m c t k g n j)
  exact congrArg (fun i => (iblk m c 2 t : FVec Ideal S1024x2048 .bf16) (ix2 k i))
    (Fin.ext (by show 512 * g.val + (128 * n.val + j.val) = 512 * g.val + 128 * n.val + j.val; omega))

/-- A projection of a point, by its column in the weights. -/
theorem ps_col (t : Fin cfg0.N) (g n : Fin 4) (y : Fin 1024) (j : Fin 128) (i : Fin 512) (e : Fin 4256) (hi : i.val = 128 * n.val + j.val)
    (he : e.val = 928 + 512 * n.val + 128 * g.val + j.val) :
    (PS m c t g (ix2 y i) : EReal) = Cert.Prep.proj (cx m c) (cn m c) (cw m c) (bat t) (place t y) e := by
  have e₁ : i = ⟨128 * n.val + j.val, by omega⟩ := Fin.ext hi
  have e₂ : e = ⟨928 + 512 * n.val + 128 * g.val + j.val, by omega⟩ := Fin.ext he
  rw [e₁]
  exact (ps_at m c t g n y j).trans (congrArg (Cert.Prep.proj (cx m c) (cn m c) (cw m c) (bat t) (place t y)) e₂.symm)

theorem u_at (t : Fin cfg0.N) (g : Fin 4) (y : Fin 1024) (j : Fin 128) :
    (prodOf (F := Ideal) (PS m c t g) (ix2 y j) : EReal) = Cert.Prep.prod (cx m c) (cn m c) (cw m c) (bat t) (place t y) ⟨128 * g.val + j.val, by omega⟩ := by
  rw [prodOf_at]
  exact congrArg₂ (HMul.hMul : EReal → EReal → EReal) (ps_col m c t g 2 y j _ _ rfl (by dsimp only; simp; omega))
    (ps_col m c t g 0 y j _ _ (by dsimp only; simp) (by dsimp only; simp; omega))

theorem carried_at (t : Fin cfg0.N) (g : Fin 4) (r : Fin 8) (j : Fin 128) :
    (carryTile (F := Ideal) (PS m c t g) (ix2 r j) : EReal)
      = Cert.Prep.prod (cx m c) (cn m c) (cw m c) (bat t) (place t ⟨1016 + r.val, by omega⟩) ⟨128 * g.val + j.val, by omega⟩ := by
  rw [carryTile_at]
  exact congrArg₂ (HMul.hMul : EReal → EReal → EReal) (ps_col m c t g 2 _ j _ _ rfl (by dsimp only; simp; omega))
    (ps_col m c t g 0 _ j _ _ (by dsimp only; simp) (by dsimp only; simp; omega))

/-- A row the convolution takes from before its point: of the point before, or nothing. -/
theorem prev_at (t : Fin cfg0.N) (g : Fin 4) (o : Nat) (ho : o ≤ 8) (y : Fin 1024) (hy : y.val < o) (j : Fin 128) :
    (prevRows m c t g (ix2 ⟨8 - o + y.val, by omega⟩ j) : EReal)
      = Cert.Prep.before (cx m c) (cn m c) (cw m c) o (bat t) (place t y) ⟨128 * g.val + j.val, by omega⟩ := by
  unfold prevRows Cert.Prep.before
  have ht := t.isLt
  have hN := points
  by_cases h0 : t.val % 8 = 0
  · rw [dif_pos h0, if_pos (by show 1024 * (t.val % 8) + y.val < o; omega)]
    exact Ideal.ofBits_zero_f32
  · rw [dif_neg h0, if_neg (by show ¬ 1024 * (t.val % 8) + y.val < o; omega), carried_at]
    have e₁ : bat ⟨t.val - 1, by omega⟩ = bat t := Fin.ext (by show (t.val - 1) / 8 = t.val / 8; omega)
    have e₂ : place ⟨t.val - 1, by omega⟩ ⟨1016 + (8 - o + y.val), by omega⟩ = (⟨(place t y).val - o, by omega⟩ : Fin 8192) :=
      Fin.ext (by show 1024 * ((t.val - 1) % 8) + (1016 + (8 - o + y.val)) = 1024 * (t.val % 8) + y.val - o; omega)
    exact congrArg₂ (fun b s => Cert.Prep.prod (cx m c) (cn m c) (cw m c) b s _) e₁ e₂

/-- A row the convolution takes from within its point. -/
theorem within_at (t : Fin cfg0.N) (g : Fin 4) (o : Nat) (y : Fin 1024) (hy : ¬ y.val < o) (j : Fin 128) :
    (prodOf (F := Ideal) (PS m c t g) (ix2 ⟨y.val - o, by omega⟩ j) : EReal)
      = Cert.Prep.before (cx m c) (cn m c) (cw m c) o (bat t) (place t y) ⟨128 * g.val + j.val, by omega⟩ := by
  unfold Cert.Prep.before
  rw [u_at, if_neg (by show ¬ 1024 * (t.val % 8) + y.val < o; omega)]
  refine congrArg (fun s => Cert.Prep.prod (cx m c) (cn m c) (cw m c) (bat t) s _) (Fin.ext ?_)
  show 1024 * (t.val % 8) + (y.val - o) = 1024 * (t.val % 8) + y.val - o
  omega

theorem conv_point (t : Fin cfg0.N) (g : Fin 4) (y : Fin 1024) (j : Fin 128) :
    ((outsAt0 m c t.val t.isLt).2.2.2.2.1 (ix3 0 y ⟨128 * g.val + j.val, by omega⟩) : EReal)
      = Cert.Prep.conv (cx m c) (cn m c) (cw m c) (ct m c) Cert.Prep.half (bat t) (place t y) ⟨128 * g.val + j.val, by omega⟩ := by
  rw [conv_found, convTile_at]
  have h₂ : (shifted (F := Ideal) 2#32 (prodOf (PS m c t g)) (prevRows m c t g) (ix2 y j) : EReal)
      = Cert.Prep.before (cx m c) (cn m c) (cw m c) 2 (bat t) (place t y) ⟨128 * g.val + j.val, by omega⟩ := by
    rw [shifted_two]
    split
    · exact prev_at m c t g 2 (by omega) y (by assumption) j
    · exact within_at m c t g 2 y (by assumption) j
  have h₁ : (shifted (F := Ideal) 1#32 (prodOf (PS m c t g)) (prevRows m c t g) (ix2 y j) : EReal)
      = Cert.Prep.before (cx m c) (cn m c) (cw m c) 1 (bat t) (place t y) ⟨128 * g.val + j.val, by omega⟩ := by
    rw [shifted_one]
    split
    · exact prev_at m c t g 1 (by omega) y (by assumption) j
    · exact within_at m c t g 1 y (by assumption) j
  have hw : ∀ k : Fin 3, (taps (iblk m c 12 t) g (ix2 k j) : EReal) = ct m c k ⟨128 * g.val + j.val, by omega⟩ := fun k => blk_c m c t k _
  rw [h₂, h₁, u_at, hw, hw, hw, ps_col m c t g 1 y j _ ⟨1440 + (128 * g.val + j.val), by omega⟩ rfl (by dsimp only; simp; omega),
    ps_col m c t g 3 y j _ ⟨2464 + (128 * g.val + j.val), by omega⟩ rfl (by dsimp only; simp; omega)]
  rfl

theorem gate_point (t : Fin cfg0.N) (q : Fin 4) (e : Fin 512) (k : Fin 256) :
    ((outsAt0 m c t.val t.isLt).2.2.2.1 (ix4 0 q e k) : EReal)
      = Cert.Prep.gate (cx m c) (cn m c) (cw m c) Cert.Prep.half (bat t) (place t ⟨256 * q.val + k.val, by omega⟩) e := by
  rw [gate_found]
  refine congrArg Cert.Prep.half ?_
  unfold gateRow Cert.Prep.proj
  refine Finset.sum_congr rfl fun n _ => ?_
  rw [mul_comm]
  exact congrArg₂ (HMul.hMul : EReal → EReal → EReal) (xn_at m c t _ n) (blk_t m c t e n)

end Cert.Kernel3Ideal.Gen
-- ==== Proof.Prep.Final.lean ====
/- The two arrays the preparation leaves, as the formulas over the arguments. -/
module

public import proofs.«01_k».proof.Proof.Prep.Point

@[expose] public section

set_option maxRecDepth 16384
set_option maxHeartbeats 4000000

noncomputable section

namespace Cert.Kernel3Ideal.Gen

open Idealize.ShloMosaic Idealize.ShloMosaic.TcCoe Idealize.ShloMosaic.Tactic Idealize.SL.Sem

variable (m : (ℓ : Loc nD τ sig) → Buf (Elt Ideal) ℓ) (c : Dev nD)

/-- The gate as an array, and the convolution's result as one. -/
def gateArray : FVec Ideal S4x32x512x256 .bf16 := fun i =>
  Cert.Prep.gate (cx m c) (cn m c) (cw m c) Cert.Prep.half ⟨(i 0).val, (i 0).isLt⟩
    ⟨(i 1).val * 256 + (i 3).val, by have h1 : (i 1).val < 32 := (i 1).isLt; have h3 : (i 3).val < 256 := (i 3).isLt; omega⟩ ⟨(i 2).val, (i 2).isLt⟩
def convArray : FVec Ideal S4x8192x512 .bf16 := fun i =>
  Cert.Prep.conv (cx m c) (cn m c) (cw m c) (ct m c) Cert.Prep.half ⟨(i 0).val, (i 0).isLt⟩ ⟨(i 1).val, (i 1).isLt⟩ ⟨(i 2).val, (i 2).isLt⟩

theorem gate_final : Cert.Kernel3Ideal.Value.G20 (F := Ideal) m c = gateArray m c := by
  funext i
  have h0 : (i 0).val < 4 := (i 0).isLt
  have h1 : (i 1).val < 32 := (i 1).isLt
  have h2 : (i 2).val < 512 := (i 2).isLt
  have h3 : (i 3).val < 256 := (i 3).isLt
  have hN := points
  have hp : Cert.Kernel3Ideal.Value.pt20Of i = 8 * (i 0).val + (i 1).val / 4 := by
    show 8 * ((i 0).val / 1 - 0) + 1 * ((i 1).val / 4 - 0) + 1 * ((i 2).val / 512 - 0) + 1 * ((i 3).val / 256 - 0) = _
    omega
  have hlt : Cert.Kernel3Ideal.Value.pt20Of i < cfg0.N := by omega
  unfold Cert.Kernel3Ideal.Value.G20
  rw [dif_pos hlt, ← Cert.Kernel3Ideal.Value.outsAt0_sweep m c _ hlt]
  have el : Cert.Kernel3Ideal.Value.loc20Of i = ix4 (0 : Fin 1) (⟨(i 1).val % 4, by omega⟩ : Fin 4) (⟨(i 2).val, h2⟩ : Fin 512) (⟨(i 3).val, h3⟩ : Fin 256) := by
    funext a
    apply Fin.ext
    fin_cases a
    · show (i 0).val % 1 = 0; omega
    · rfl
    · show (i 2).val % 512 = (i 2).val; omega
    · show (i 3).val % 256 = (i 3).val; omega
  rw [el]
  refine (gate_point m c ⟨Cert.Kernel3Ideal.Value.pt20Of i, hlt⟩ _ _ _).trans ?_
  unfold gateArray
  refine congrArg₂ (fun b s => Cert.Prep.gate (cx m c) (cn m c) (cw m c) Cert.Prep.half b s _) (Fin.ext ?_) (Fin.ext ?_)
  · show Cert.Kernel3Ideal.Value.pt20Of i / 8 = (i 0).val
    omega
  · show 1024 * (Cert.Kernel3Ideal.Value.pt20Of i % 8) + (256 * ((i 1).val % 4) + (i 3).val) = (i 1).val * 256 + (i 3).val
    omega

theorem conv_final : Cert.Kernel3Ideal.Value.G21 (F := Ideal) m c = convArray m c := by
  funext i
  have h0 : (i 0).val < 4 := (i 0).isLt
  have h1 : (i 1).val < 8192 := (i 1).isLt
  have h2 : (i 2).val < 512 := (i 2).isLt
  have hN := points
  have hp : Cert.Kernel3Ideal.Value.pt21Of i = 8 * (i 0).val + (i 1).val / 1024 := by
    show 8 * ((i 0).val / 1 - 0) + 1 * ((i 1).val / 1024 - 0) + 1 * ((i 2).val / 512 - 0) = _
    omega
  have hlt : Cert.Kernel3Ideal.Value.pt21Of i < cfg0.N := by omega
  unfold Cert.Kernel3Ideal.Value.G21
  rw [dif_pos hlt, ← Cert.Kernel3Ideal.Value.outsAt0_sweep m c _ hlt]
  have el : Cert.Kernel3Ideal.Value.loc21Of i = ix3 (0 : Fin 1) (⟨(i 1).val % 1024, by omega⟩ : Fin 1024)
      (⟨128 * (⟨(i 2).val / 128, by omega⟩ : Fin 4).val + (⟨(i 2).val % 128, by omega⟩ : Fin 128).val, by dsimp only; omega⟩ : Fin 512) := by
    funext a
    apply Fin.ext
    fin_cases a
    · show (i 0).val % 1 = 0; omega
    · rfl
    · show (i 2).val % 512 = 128 * ((i 2).val / 128) + (i 2).val % 128; omega
  rw [el]
  refine (conv_point m c ⟨Cert.Kernel3Ideal.Value.pt21Of i, hlt⟩ ⟨(i 2).val / 128, by omega⟩ _ ⟨(i 2).val % 128, by omega⟩).trans ?_
  unfold convArray
  have eb : bat ⟨Cert.Kernel3Ideal.Value.pt21Of i, hlt⟩ = (⟨(i 0).val, h0⟩ : Fin 4) := Fin.ext (by
    show Cert.Kernel3Ideal.Value.pt21Of i / 8 = (i 0).val
    omega)
  have es : place ⟨Cert.Kernel3Ideal.Value.pt21Of i, hlt⟩ ⟨(i 1).val % 1024, by omega⟩ = (⟨(i 1).val, h1⟩ : Fin 8192) := Fin.ext (by
    show 1024 * (Cert.Kernel3Ideal.Value.pt21Of i % 8) + (i 1).val % 1024 = (i 1).val
    omega)
  have ed : (⟨128 * ((i 2).val / 128) + (i 2).val % 128, by omega⟩ : Fin 512) = ⟨(i 2).val, h2⟩ := Fin.ext (by
    show 128 * ((i 2).val / 128) + (i 2).val % 128 = (i 2).val
    omega)
  show Cert.Prep.conv _ _ _ _ _ (bat ⟨Cert.Kernel3Ideal.Value.pt21Of i, hlt⟩) (place ⟨Cert.Kernel3Ideal.Value.pt21Of i, hlt⟩ ⟨(i 1).val % 1024, by omega⟩)
    (⟨128 * ((i 2).val / 128) + (i 2).val % 128, by omega⟩ : Fin 512) = _
  rw [eb, es, ed]

end Cert.Kernel3Ideal.Gen
-- ==== Proof.Prep.Ref.lean ====
/- The reference of the preparation's gate and convolution, at an index. -/
module

public import proofs.«01_k».proof.Proof.Gen.Reference3Ideal.Read
public import proofs.«01_k».proof.Proof.Prep.Spec
public import Idealize.ShloMosaic.Lib.Pointwise

@[expose] public section

set_option maxRecDepth 16384
set_option maxHeartbeats 4000000

noncomputable section

namespace Cert.Reference3Ideal.Read

open Cert.Reference3Ideal Cert.Reference3Ideal.Gen Idealize.ShloMosaic Idealize.ShloMosaic.TcCoe Idealize.ShloMosaic.Tactic

variable (x : FVec Ideal S4x8192x1024 .f32) (n : FVec Ideal S1024 .f32) (w : FVec Ideal S1024x4256 .f32) (t : FVec Ideal S3x512 .f32)

/-- The arguments by their coordinates. -/
abbrev cx : Fin 4 → Fin 8192 → Fin 1024 → EReal := fun b s k => x (ix3 b s k)
abbrev cn : Fin 1024 → EReal := fun k => n (ix1 k)
abbrev cw : Fin 1024 → Fin 4256 → EReal := fun k e => w (ix2 k e)
abbrev ct : Fin 3 → Fin 512 → EReal := fun k d => t (ix2 k d)

theorem squares_at (b : Fin 4) (s : Fin 8192) : (val_main_v1 (F := Ideal) x (ix2 b s) : EReal) = ∑ j : Fin 1024, x (ix3 b s j) * x (ix3 b s j) := by
  rw [val_main_v1_apply]
  refine (congrArg₂ (HAdd.hAdd : EReal → EReal → EReal) Ideal.ofBits_zero_f32 (Finset.sum_congr rfl fun k _ => ?_)).trans (zero_add _)
  have e : idx_main_v1 (ix2 b s) k = ix3 b s k := by funext j; fin_cases j <;> rfl
  rw [e]
  rfl

theorem act_at (b : Fin 4) (s : Fin 8192) (k : Fin 1024) : (val_main_v12 (F := Ideal) x n (ix3 b s k) : EReal) = Cert.Prep.act (cx x) (cn n) b s k := by
  unfold val_main_v12 val_main_v9 val_main_v8 val_main_v7 val_main_v6 val_main_v4 val_main_v2
  have h := squares_at x b s
  generalize val_main_v1 (F := Ideal) x = q at h ⊢
  unfold Cert.Prep.act
  rw [← h]
  pointwise [val_main_v3, val_main_v5, val_main_v10, val_main_v11, val_main_cst_0, val_main_cst_1]

theorem proj_at (b : Fin 4) (s : Fin 8192) (e : Fin 4256) : (val_main_v13 (F := Ideal) x n w (ix3 b s e) : EReal) = Cert.Prep.proj (cx x) (cn n) (cw w) b s e := by
  rw [val_main_v13_apply]
  unfold Cert.Prep.proj
  refine Finset.sum_congr rfl fun k _ => ?_
  have el : lidx_main_v13 (ix3 b s e) k = ix3 b s k := by funext j; fin_cases j <;> rfl
  have er : ridx_main_v13 (ix3 b s e) k = ix2 k e := by funext j; fin_cases j <;> rfl
  rw [el, er, act_at]

theorem gate_at (b : Fin 4) (c : Fin 32) (d : Fin 512) (y : Fin 256) :
    (val_main_v47 (F := Ideal) x n w (ix4 b c d y) : EReal) = Cert.Prep.gate (cx x) (cn n) (cw w) Cert.Prep.logistic b ⟨c.val * 256 + y.val, by omega⟩ d := by
  unfold Cert.Prep.gate
  rw [← proj_at]
  unfold val_main_v47 val_main_v46 val_main_v45 val_main_v44 val_main_call2_v5 val_main_call2_v3 val_main_call2_v1 val_main_call2_v0 val_main_v14
  generalize val_main_v13 (F := Ideal) x n w = p
  pointwise [val_main_call2_v4, val_main_call2_v2, val_main_call2_cst_0, val_main_call2_cst, Cert.Prep.logistic]

theorem prod_at (b : Fin 4) (s : Fin 8192) (d : Fin 512) : (val_main_v19 (F := Ideal) x n w (ix3 b s d) : EReal) = Cert.Prep.prod (cx x) (cn n) (cw w) b s d := by
  unfold Cert.Prep.prod
  rw [← proj_at, ← proj_at]
  unfold val_main_v19 val_main_v17 val_main_v15
  generalize val_main_v13 (F := Ideal) x n w = p
  pointwise []

/-- What the rows before the sequence hold. -/
theorem no_rows : (FloatOps.sitofp (F := Ideal) FTy.f32 0#32 : EReal) = 0 := by
  show (((0#32 : BitVec 32).toInt : ℝ) : EReal) = 0
  simp

theorem before_two (b : Fin 4) (s : Fin 8192) (d : Fin 512) :
    (val_main_v23 (F := Ideal) x n w (ix3 b s d) : EReal) = Cert.Prep.before (cx x) (cn n) (cw w) 2 b s d := by
  unfold Cert.Prep.before
  rw [← prod_at]
  unfold val_main_v23 val_main_v20
  generalize val_main_v19 (F := Ideal) x n w = p
  pointwise [val_main_call0_v0, val_main_c]
  by_cases h : s.val < 2
  · rw [dif_neg (by omega), if_pos h]
    exact no_rows
  · rw [dif_pos (by omega), if_neg h]

theorem before_one (b : Fin 4) (s : Fin 8192) (d : Fin 512) :
    (val_main_v29 (F := Ideal) x n w (ix3 b s d) : EReal) = Cert.Prep.before (cx x) (cn n) (cw w) 1 b s d := by
  unfold Cert.Prep.before
  rw [← prod_at]
  unfold val_main_v29 val_main_v20
  generalize val_main_v19 (F := Ideal) x n w = p
  pointwise [val_main_call0_v0, val_main_c]
  by_cases h : s.val < 1
  · rw [dif_neg (by omega), if_pos h]
    exact no_rows
  · rw [dif_pos (by omega), if_neg h]
    refine congrArg (fun i => p (ix3 b i d)) (Fin.ext ?_)
    show 1 + s.val - 2 = s.val - 1
    omega

theorem before_zero (b : Fin 4) (s : Fin 8192) (d : Fin 512) :
    (val_main_v36 (F := Ideal) x n w (ix3 b s d) : EReal) = Cert.Prep.prod (cx x) (cn n) (cw w) b s d := by
  rw [← prod_at]
  unfold val_main_v36 val_main_v20
  generalize val_main_v19 (F := Ideal) x n w = p
  pointwise [val_main_call0_v0, val_main_c]

theorem conv_at (b : Fin 4) (s : Fin 8192) (d : Fin 512) :
    (val_main_v48 (F := Ideal) x n w t (ix3 b s d) : EReal) = Cert.Prep.conv (cx x) (cn n) (cw w) (ct t) Cert.Prep.logistic b s d := by
  unfold Cert.Prep.conv
  rw [← before_two, ← before_one, ← before_zero, ← proj_at, ← proj_at]
  unfold val_main_v48 val_main_v43 val_main_v42 val_main_v41 val_main_v40 val_main_v39 val_main_v33 val_main_v32 val_main_v26
    val_main_call1_v5 val_main_call1_v3 val_main_call1_v1 val_main_call1_v0 val_main_v18 val_main_v16
  generalize val_main_v36 (F := Ideal) x n w = u0
  generalize val_main_v29 (F := Ideal) x n w = u1
  generalize val_main_v23 (F := Ideal) x n w = u2
  generalize val_main_v13 (F := Ideal) x n w = p
  pointwise [val_main_v38, val_main_v37, val_main_v35, val_main_v34, val_main_v31, val_main_v30, val_main_v28, val_main_v27,
    val_main_v25, val_main_v24, val_main_v22, val_main_v21, val_main_call1_v4, val_main_call1_v2, val_main_call1_cst_0, val_main_call1_cst, Cert.Prep.logistic]

end Cert.Reference3Ideal.Read
-- ==== Proof.Prep.Result.lean ====
/- The preparation's gate and convolution are the reference's, where the gain and the weights are real numbers. -/
module

public import proofs.«01_k».proof.Proof.Prep.Final
public import proofs.«01_k».proof.Proof.Prep.Ref

@[expose] public section

set_option maxRecDepth 16384
set_option maxHeartbeats 4000000

noncomputable section

namespace Cert.Kernel3Ideal.Gen

open Idealize.ShloMosaic Idealize.ShloMosaic.TcCoe Idealize.ShloMosaic.Tactic

variable (m : (ℓ : Loc nD τ sig) → Buf (Elt Ideal) ℓ) (c : Dev nD)
  (hn : ∀ i, ∃ r : ℝ, (An m c i : EReal) = (r : EReal)) (hw : ∀ i, ∃ r : ℝ, (Aw m c i : EReal) = (r : EReal))
include hn hw

theorem gate_eq : Cert.Reference3Ideal.Read.val_main_v47 (F := Ideal) (Ax m c) (An m c) (Aw m c) = gateArray m c := by
  funext i
  have h0 : (i 0).val < 4 := (i 0).isLt
  have h1 : (i 1).val < 32 := (i 1).isLt
  have h2 : (i 2).val < 512 := (i 2).isLt
  have h3 : (i 3).val < 256 := (i 3).isLt
  have ei : i = ix4 (⟨(i 0).val, h0⟩ : Fin 4) (⟨(i 1).val, h1⟩ : Fin 32) (⟨(i 2).val, h2⟩ : Fin 512) (⟨(i 3).val, h3⟩ : Fin 256) := by
    funext a
    fin_cases a <;> rfl
  refine (congrArg _ ei).trans ?_
  refine (Cert.Reference3Ideal.Read.gate_at (Ax m c) (An m c) (Aw m c) _ _ _ _).trans ?_
  exact (Cert.Prep.gate_half (x := cx m c) (n := cn m c) (w := cw m c) (fun k => hn (ix1 k)) (fun k e => hw (ix2 k e)) _ _ _).symm

theorem conv_eq : Cert.Reference3Ideal.Read.val_main_v48 (F := Ideal) (Ax m c) (An m c) (Aw m c) (At m c) = convArray m c := by
  funext i
  have h0 : (i 0).val < 4 := (i 0).isLt
  have h1 : (i 1).val < 8192 := (i 1).isLt
  have h2 : (i 2).val < 512 := (i 2).isLt
  have ei : i = ix3 (⟨(i 0).val, h0⟩ : Fin 4) (⟨(i 1).val, h1⟩ : Fin 8192) (⟨(i 2).val, h2⟩ : Fin 512) := by
    funext a
    fin_cases a <;> rfl
  refine (congrArg _ ei).trans ?_
  refine (Cert.Reference3Ideal.Read.conv_at (Ax m c) (An m c) (Aw m c) (At m c) _ _ _).trans ?_
  exact (Cert.Prep.conv_half (x := cx m c) (n := cn m c) (w := cw m c) (ct m c) (fun k => hn (ix1 k)) (fun k e => hw (ix2 k e)) _ _ _).symm

end Cert.Kernel3Ideal.Gen
-- ==== Proof.Tiles.lean ====
module

public import proofs.«01_k».proof.Proof.Gen.KernelIdeal.Skeleton
public import Idealize.ShloMosaic.Lib.Exec
public import Idealize.ShloMosaic.Lib.Tactic
public import Idealize.ShloMosaic.Lib.Pointwise
public import Idealize.ShloMosaic.Lib.Pipeline.Kit

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The keys of tile `J` of head `h`: rows `256 J … 256 J + 255`. -/
def keyTile (K : FVec F S1x2x8192x128 .bf16) (h : Fin 2) (J : ℕ) : FVec F S1x1x256x128 .bf16 :=
  fun i => K (ix4 0 h ⟨(256 * J + i 2) % 8192, Nat.mod_lt _ (by decide)⟩ (i 3))

/-- The values of tile `J` of head `h`, transposed. -/
def valTile (V : FVec F S1x2x32x64x256 .bf16) (h : Fin 2) (J : ℕ) : FVec F S1x1x1x64x256 .bf16 :=
  fun i => V (ix5 0 h ⟨J % 32, Nat.mod_lt _ (by decide)⟩ (i 3) (i 4))

/-- The scores of a key tile against the queries `q`. -/
def scores (q : FVec F S128x512 .bf16) (k : FVec F S1x1x256x128 .bf16) : FVec F S1x256x512 .f32 :=
  shapeCast S1x256x512 (matmul dot_S256x128_S128x512_S256x512_1_0_0_1_n_n none
    (shapeCast S256x128 k shapeCasts_S1x1x256x128_S256x128) q (constant S256x512 .f32 0x00000000#32)) shapeCasts_S256x512_S1x256x512

theorem scores_fold (q : FVec F S128x512 .bf16) (k : FVec F S1x1x256x128 .bf16) (h h') :
    shapeCast S1x256x512 (matmul dot_S256x128_S128x512_S256x512_1_0_0_1_n_n none (shapeCast S256x128 k h) q
      (constant S256x512 .f32 0x00000000#32)) h' = scores q k := rfl

/-- A tile's values with the rows of ones below them. -/
def withOnes (ones : FVec F S16x256 .bf16) (v : FVec F S1x1x1x64x256 .bf16) : FVec F S80x256 .bf16 :=
  concatenate S80x256 0 [⟨S64x256, shapeCast S64x256 v shapeCasts_S1x1x1x64x256_S64x256⟩, ⟨S16x256, ones⟩] concatenates_S64x256_S16x256_S80x256_d0

theorem withOnes_fold (ones : FVec F S16x256 .bf16) (v : FVec F S1x1x1x64x256 .bf16) (h h') :
    concatenate S80x256 0 [⟨S64x256, shapeCast S64x256 v h⟩, ⟨S16x256, ones⟩] h' = withOnes ones v := rfl

/-- The accumulator takes one tile: the weights are the powers of two of the scores. -/
def accumulate (ones : FVec F S16x256 .bf16) (acc : FVec F S80x512 .f32) (s : FVec F S1x256x512 .f32) (v : FVec F S1x1x1x64x256 .bf16) :
    FVec F S80x512 .f32 :=
  addf acc (matmul dot_S80x256_S256x512_S80x512_1_0_0_1_n_n none (withOnes ones v)
    (truncf .bf16 (exp2 (shapeCast S256x512 s shapeCasts_S1x256x512_S256x512)) bitsLt_bf16_f32) (constant S80x512 .f32 0x00000000#32))

theorem accumulate_fold (ones : FVec F S16x256 .bf16) (acc : FVec F S80x512 .f32) (s : FVec F S1x256x512 .f32) (v : FVec F S1x1x1x64x256 .bf16) (h h') :
    addf acc (matmul dot_S80x256_S256x512_S80x512_1_0_0_1_n_n none (withOnes ones v)
      (truncf .bf16 (exp2 (shapeCast S256x512 s h)) h') (constant S80x512 .f32 0x00000000#32)) = accumulate ones acc s v := rfl

/-- The accumulator of head `h` after the key tiles `0 … J - 1`, every key of them taken. -/
def accAt (K : FVec F S1x2x8192x128 .bf16) (V : FVec F S1x2x32x64x256 .bf16) (ones : FVec F S16x256 .bf16) (h : Fin 2) (q : FVec F S128x512 .bf16) :
    ℕ → FVec F S80x512 .f32
  | 0 => constant S80x512 .f32 0x00000000#32
  | J + 1 => accumulate ones (accAt K V ones h q J) (scores q (keyTile K h J)) (valTile V h J)

/-- One head's half of a score scratch. -/
abbrev slot0 : Rect S2x256x512 := Rect.unit (s := S2x256x512) ![0, 0, 0] S1x256x512.size inb_S2x256x512_S1x256x512_0_0_0
abbrev slot1 : Rect S2x256x512 := Rect.unit (s := S2x256x512) ![1, 0, 0] S1x256x512.size inb_S2x256x512_S1x256x512_1_0_0

/-- Between two key tiles: the scratch `arg7` holds the scores of tile `J`, and `acc` has taken the tiles before it. -/
def Between (c : Dev nD) (arg3 : Memref sig .tc .vmem S1x2x8192x128 .bf16) (arg4 : Memref sig .tc .vmem S1x2x32x64x256 .bf16)
    (arg7 : Memref sig .tc .vmem S2x256x512 .f32) (arg8 : Memref sig .tc .vmem S2x256x512 .f32) (X3 : BufTy.Contents (Elt F) arg3.view.ty)
    (X4 : BufTy.Contents (Elt F) arg4.view.ty) (ones : FVec F S16x256 .bf16) (q0 q1 : FVec F S128x512 .bf16) (J : ℕ)
    (acc : FVec F S80x512 .f32 × FVec F S80x512 .f32) : sProp 𝕄 :=
  iprop((arg3.view.loc (c : Thread nD τ) ↦[arg3.view.set]{fullShare} X3) ∗ (arg4.view.loc (c : Thread nD τ) ↦[arg4.view.set]{fullShare} X4)
    ∗ (∃ f, (arg7.view.loc (c : Thread nD τ) ↦[arg7.view.set]{fullShare} f)
        ∗ ⌜arg7.view.readAt (Elt F) slot0.toLoadRect f = scores q0 (keyTile (arg3.view.read (Elt F) X3) 0 J)
          ∧ arg7.view.readAt (Elt F) slot1.toLoadRect f = scores q1 (keyTile (arg3.view.read (Elt F) X3) 1 J)⌝)
    ∗ (∃ f, (arg8.view.loc (c : Thread nD τ) ↦[arg8.view.set]{fullShare} f))
    ∗ ⌜acc = (accAt (arg3.view.read (Elt F) X3) (arg4.view.read (Elt F) X4) ones 0 q0 J,
        accAt (arg3.view.read (Elt F) X3) (arg4.view.read (Elt F) X4) ones 1 q1 J)⌝)

theorem readAt_key (arg3 : Memref sig .tc .vmem S1x2x8192x128 .bf16) (X3 : BufTy.Contents (Elt F) arg3.view.ty) {h J : ℕ} {off : Fin 4 → ℕ}
    (inb : ∀ a, off a + S1x1x256x128.size a ≤ S1x2x8192x128.size a) (e : off = ![0, h, 256 * J, 0]) (hh : h < 2) :
    arg3.view.readAt (Elt F) (Rect.unit (s := S1x2x8192x128) off (no_index S1x1x256x128.size) inb).toLoadRect X3
      = keyTile (arg3.view.read (Elt F) X3) ⟨h, hh⟩ J := by
  subst e
  rw [View.readAt_eq_ld, View.ld_unit]
  have h2 : 256 * J + 256 ≤ 8192 := inb 2
  funext j
  idx_vars j
  pointwise [keyTile]
  have e : (256 * J + j2.val) % 8192 = 256 * J + j2.val := Nat.mod_eq_of_lt (by omega)
  simp only [e]

theorem readAt_val (arg4 : Memref sig .tc .vmem S1x2x32x64x256 .bf16) (X4 : BufTy.Contents (Elt F) arg4.view.ty) {h J : ℕ} {off : Fin 5 → ℕ}
    (inb : ∀ a, off a + S1x1x1x64x256.size a ≤ S1x2x32x64x256.size a) (e : off = ![0, h, J, 0, 0]) (hh : h < 2) :
    arg4.view.readAt (Elt F) (Rect.unit (s := S1x2x32x64x256) off (no_index S1x1x1x64x256.size) inb).toLoadRect X4
      = valTile (arg4.view.read (Elt F) X4) ⟨h, hh⟩ J := by
  subst e
  rw [View.readAt_eq_ld, View.ld_unit]
  have h2 : J + 1 ≤ 32 := inb 2
  funext j
  idx_vars j
  pointwise [valTile]
  have e : J % 32 = J := Nat.mod_eq_of_lt (by omega)
  simp only [e]

theorem slots_disjoint : Disjoint slot0.set slot1.set := by
  rw [Finset.disjoint_left]
  intro j h0 h1
  rw [Rect.mem_set_unit] at h0 h1
  exact absurd (h0 0).2 (by have := (h1 0).1; simp at this ⊢; omega)

theorem readCov_slot0 (v : View sig .tc .vmem S2x256x512 .f32) (a : S1x256x512.Idx → Elt F .f32) (L : List (View.Piece (Elt F) S2x256x512 .f32)) (h h') :
    v.readCov ((⟨Rect.unit (s := S2x256x512) ![0, 0, 0] (no_index S1x256x512.size) h, a⟩ : View.Piece (Elt F) S2x256x512 .f32) :: L) (Rect.unit (s := S2x256x512) ![0, 0, 0] (no_index S1x256x512.size) h').toLoadRect = a :=
  View.readCov_cons_toLoadRect v slot0 a L
theorem readCov_slot1 (v : View sig .tc .vmem S2x256x512 .f32) (a : S1x256x512.Idx → Elt F .f32) (L : List (View.Piece (Elt F) S2x256x512 .f32)) (h h') :
    v.readCov ((⟨Rect.unit (s := S2x256x512) ![1, 0, 0] (no_index S1x256x512.size) h, a⟩ : View.Piece (Elt F) S2x256x512 .f32) :: L) (Rect.unit (s := S2x256x512) ![1, 0, 0] (no_index S1x256x512.size) h').toLoadRect = a :=
  View.readCov_cons_toLoadRect v slot1 a L
theorem readCov_slot10 (v : View sig .tc .vmem S2x256x512 .f32) (a : S1x256x512.Idx → Elt F .f32) (L : List (View.Piece (Elt F) S2x256x512 .f32)) (h h') :
    v.readCov ((⟨Rect.unit (s := S2x256x512) ![1, 0, 0] (no_index S1x256x512.size) h, a⟩ : View.Piece (Elt F) S2x256x512 .f32) :: L) (Rect.unit (s := S2x256x512) ![0, 0, 0] (no_index S1x256x512.size) h').toLoadRect = v.readCov L slot0.toLoadRect :=
  View.readCov_cons_of_disjoint v _ L _ slots_disjoint.symm
theorem readCov_slot01 (v : View sig .tc .vmem S2x256x512 .f32) (a : S1x256x512.Idx → Elt F .f32) (L : List (View.Piece (Elt F) S2x256x512 .f32)) (h h') :
    v.readCov ((⟨Rect.unit (s := S2x256x512) ![0, 0, 0] (no_index S1x256x512.size) h, a⟩ : View.Piece (Elt F) S2x256x512 .f32) :: L) (Rect.unit (s := S2x256x512) ![1, 0, 0] (no_index S1x256x512.size) h').toLoadRect = v.readCov L slot1.toLoadRect :=
  View.readCov_cons_of_disjoint v _ L _ slots_disjoint

theorem readAt_slots (v : View sig .tc .vmem S2x256x512 .f32) (f : v.ty.Contents (Elt F)) (a b : S1x256x512.Idx → Elt F .f32) (L : List (View.Piece (Elt F) S2x256x512 .f32)) :
    v.readAt (Elt F) slot0.toLoadRect (v.writes (Elt F) f ((⟨slot1, b⟩ : View.Piece (Elt F) S2x256x512 .f32) :: ⟨slot0, a⟩ :: L)) = a
    ∧ v.readAt (Elt F) slot1.toLoadRect (v.writes (Elt F) f ((⟨slot1, b⟩ : View.Piece (Elt F) S2x256x512 .f32) :: ⟨slot0, a⟩ :: L)) = b := by
  constructor
  · rw [View.readAt_writes_of_cover, readCov_slot10, readCov_slot0]
    exact fun j => ⟨⟨slot0, a⟩, by simp, slot0.toLoadRect.idx_mem j⟩
  · rw [View.readAt_writes_of_cover, readCov_slot1]
    exact fun j => ⟨⟨slot1, b⟩, by simp, slot1.toLoadRect.idx_mem j⟩

theorem trips_t2 : ∀ t : Fin k0_t1_loop.trips, (k0_t2_loop t).trips = t.val / 8 := by decide +kernel
theorem trips_t3 : ∀ t : Fin k0_t1_loop.trips, (k0_t3_loop t).trips = 0 := by decide +kernel
theorem trips_t4 : ∀ t : Fin k0_t1_loop.trips, (k0_t4_loop t).trips = t.val / 4 % 2 := by decide +kernel
theorem trips_t5 : ∀ t : Fin k0_t1_loop.trips, (k0_t5_loop t).trips = 0 := by decide +kernel
theorem trips_t6 : ∀ t : Fin k0_t1_loop.trips, (k0_t6_loop t).trips = t.val / 2 % 2 := by decide +kernel
theorem trips_t7 : ∀ t : Fin k0_t1_loop.trips, (k0_t7_loop t).trips = 0 := by decide +kernel
theorem trips_t8 : ∀ t : Fin k0_t1_loop.trips, (k0_t8_loop t).trips = t.val % 2 := by decide +kernel
theorem trips_t9 : ∀ t : Fin k0_t1_loop.trips, (k0_t9_loop t).trips = 0 := by decide +kernel

end Cert.KernelIdeal.Gen
-- ==== Proof.Trips.lean ====
module

public import proofs.«01_k».proof.Proof.Tiles
public import Idealize.ShloMosaic.Lib.Exec
public import Idealize.ShloMosaic.Lib.Tactic
public import Idealize.ShloMosaic.Lib.Pointwise
public import Idealize.ShloMosaic.Lib.Pipeline.Kit

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section

variable (𝒱 : Variants) (c : Dev nD) (bd : Option 𝒱.V) (E : Set ℕ) (i : grid0.Coords) (arg2 : Memref sig .tc .vmem S1x2x32x128x256 .bf16) (harg2 : arg2.IsWhole) (arg3 : Memref sig .tc .vmem S1x2x8192x128 .bf16) (harg3 : arg3.IsWhole) (arg4 : Memref sig .tc .vmem S1x2x32x64x256 .bf16) (harg4 : arg4.IsWhole) (arg5 : Memref sig .tc .vmem S1x32x128x256 .bf16) (harg5 : arg5.IsWhole) (arg6 : Memref sig .tc .vmem S1x32x128x256 .bf16) (harg6 : arg6.IsWhole) (arg7 : Memref sig .tc .vmem S2x256x512 .f32) (harg7 : arg7.IsWhole) (arg8 : Memref sig .tc .vmem S2x256x512 .f32) (harg8 : arg8.IsWhole) (X3 : BufTy.Contents (Elt F) arg3.view.ty) (X4 : BufTy.Contents (Elt F) arg4.view.ty)

/-- The key tiles taken before trip `k` of the loop over one pair. -/
abbrev base8 (t : Fin k0_t1_loop.trips) (k : Fin (k0_t8_loop t).trips) : ℕ := 2 * (t.val / 2 * 2 + k.val)

theorem offsets8 : ∀ (t : Fin k0_t1_loop.trips) (k : Fin (k0_t8_loop t).trips),
    k0_off41 t k 1#32 = ![0, 0, 256 * (base8 t k + (0 + 1)), 0] ∧ k0_off41 t k 2#32 = ![0, 0, 256 * (base8 t k + (0 + 2)), 0]
    ∧ k0_off42 t k 1#32 = ![0, 1, 256 * (base8 t k + (0 + 1)), 0] ∧ k0_off42 t k 2#32 = ![0, 1, 256 * (base8 t k + (0 + 2)), 0]
    ∧ k0_off43 t k = ![0, 0, base8 t k + 0, 0, 0] ∧ k0_off44 t k = ![0, 1, base8 t k + 0, 0, 0]
    ∧ k0_off45 t k = ![0, 0, base8 t k + (0 + 1), 0, 0] ∧ k0_off46 t k = ![0, 1, base8 t k + (0 + 1), 0, 0] := by decide +kernel

/-- One trip of the loop over one pair: 2 key tiles taken, the scores of the next one left in the scratch. -/
theorem trip8 (v3 : FVec F S16x256 .bf16) (k0_t1 : Fin k0_t1_loop.trips) (arg9 : BitVec 32) (v40 : FVec F S128x512 .bf16) (v50 : FVec F S128x512 .bf16) (v204_0 : FVec F S80x512 .f32) (v204_1 : FVec F S80x512 .f32) (v206 : BitVec 32) (v224 : BitVec 32) (c1_i32_130 : BitVec 32) (v225 : BitVec 32) (v227 : BitVec 32) (v228 : BitVec 1) (v241 : BitVec 32)
    (k : Fin (k0_t8_loop k0_t1).trips) (acc : FVec F S80x512 .f32 × FVec F S80x512 .f32) :
    Between c arg3 arg4 arg7 arg8 X3 X4 v3 v40 v50 (base8 k0_t1 k) acc
      ⊢ wp frame (wpE (defs₀ (F := F)) 𝒱 (c : Thread nD τ) bd) E (k0_t8_body (F := F) i arg2 harg2 arg3 harg3 arg4 harg4 arg5 harg5 arg6 harg6 arg7 harg7 arg8 harg8 v3 k0_t1 arg9 v40 v50 v204_0 v204_1 v206 v224 c1_i32_130 v225 v227 v228 v241 k acc)
        (Between c arg3 arg4 arg7 arg8 X3 X4 v3 v40 v50 (base8 k0_t1 k + 2)) := by
  unfold Between k0_t8_body
  iintro ⟨H3, H4, ⟨%f7, H7, %h7⟩, ⟨%f8, H8⟩, %hacc⟩
  sl_exec
  sl_step
  isplitl [H3]; · iexact H3
  isplitl [H4]; · iexact H4
  obtain ⟨o0a, o0b, o0c, o0d, o0e, o0f, o0g, o0h⟩ : k0_off41 k0_t1 k 1#32 = ![0, 0, 256 * (base8 k0_t1 k + 1), 0] ∧ k0_off41 k0_t1 k 2#32 = ![0, 0, 256 * (base8 k0_t1 k + 2), 0]
      ∧ k0_off42 k0_t1 k 1#32 = ![0, 1, 256 * (base8 k0_t1 k + 1), 0] ∧ k0_off42 k0_t1 k 2#32 = ![0, 1, 256 * (base8 k0_t1 k + 2), 0]
      ∧ k0_off43 k0_t1 k = ![0, 0, base8 k0_t1 k + 0, 0, 0] ∧ k0_off44 k0_t1 k = ![0, 1, base8 k0_t1 k + 0, 0, 0]
      ∧ k0_off45 k0_t1 k = ![0, 0, base8 k0_t1 k + 1, 0, 0] ∧ k0_off46 k0_t1 k = ![0, 1, base8 k0_t1 k + 1, 0, 0] := offsets8 k0_t1 k
  have h70 : ∀ h, arg7.view.readAt (Elt F) (Rect.unit (s := S2x256x512) ![0, 0, 0] (no_index S1x256x512.size) h).toLoadRect f7 = _ := fun _ => h7.1
  have h71 : ∀ h, arg7.view.readAt (Elt F) (Rect.unit (s := S2x256x512) ![1, 0, 0] (no_index S1x256x512.size) h).toLoadRect f7 = _ := fun _ => h7.2
  isplitl [H7]
  · iexists _; isplitl [H7]; · iexact H7
    ipureintro
    sl_unfold_run_names
    refine (readAt_slots _ _ _ _ _).imp (fun h => h.trans ?_) (fun h => h.trans ?_)
    · unfold_payloads
      simp only [scores_fold, readAt_key _ _ _ o0b (by decide)]; rfl
    · unfold_payloads
      simp only [scores_fold, readAt_key _ _ _ o0d (by decide)]; rfl
  isplitl [H8]
  · iexists _; iexact H8
  ipureintro
  sl_unfold_run_names
  unfold_payloads
  subst hacc
  simp only [h70, h71, readCov_slot0, readCov_slot1, readCov_slot10, readCov_slot01, accAt, withOnes_fold, scores_fold, accumulate_fold,
    readAt_key _ _ _ o0a (by decide), readAt_key _ _ _ o0b (by decide), readAt_key _ _ _ o0c (by decide), readAt_key _ _ _ o0d (by decide),
    readAt_val _ _ _ o0e (by decide), readAt_val _ _ _ o0f (by decide), readAt_val _ _ _ o0g (by decide), readAt_val _ _ _ o0h (by decide)]
  rfl

/-- The key tiles taken before trip `k` of the loop over two pairs. -/
abbrev base6 (t : Fin k0_t1_loop.trips) (k : Fin (k0_t6_loop t).trips) : ℕ := 2 * (t.val / 4 * 4 + 2 * k.val)

theorem offsets6 : ∀ (t : Fin k0_t1_loop.trips) (k : Fin (k0_t6_loop t).trips), ∀ p : Fin 2,
    k0_off29 t k (BitVec.ofNat 32 p.val) 1#32 = ![0, 0, 256 * (base6 t k + (2 * p.val + 1)), 0] ∧ k0_off29 t k (BitVec.ofNat 32 p.val) 2#32 = ![0, 0, 256 * (base6 t k + (2 * p.val + 2)), 0]
    ∧ k0_off30 t k (BitVec.ofNat 32 p.val) 1#32 = ![0, 1, 256 * (base6 t k + (2 * p.val + 1)), 0] ∧ k0_off30 t k (BitVec.ofNat 32 p.val) 2#32 = ![0, 1, 256 * (base6 t k + (2 * p.val + 2)), 0]
    ∧ k0_off31 t k (BitVec.ofNat 32 p.val) = ![0, 0, base6 t k + 2 * p.val, 0, 0] ∧ k0_off32 t k (BitVec.ofNat 32 p.val) = ![0, 1, base6 t k + 2 * p.val, 0, 0]
    ∧ k0_off33 t k (BitVec.ofNat 32 p.val) = ![0, 0, base6 t k + (2 * p.val + 1), 0, 0] ∧ k0_off34 t k (BitVec.ofNat 32 p.val) = ![0, 1, base6 t k + (2 * p.val + 1), 0, 0] := by decide +kernel

/-- One trip of the loop over two pairs: 4 key tiles taken, the scores of the next one left in the scratch. -/
theorem trip6 (v3 : FVec F S16x256 .bf16) (k0_t1 : Fin k0_t1_loop.trips) (arg9 : BitVec 32) (v40 : FVec F S128x512 .bf16) (v50 : FVec F S128x512 .bf16) (v142_0 : FVec F S80x512 .f32) (v142_1 : FVec F S80x512 .f32) (v144 : BitVec 32) (v162 : BitVec 32) (v179 : BitVec 32) (c2_i32_112 : BitVec 32) (v180 : BitVec 32) (v185 : BitVec 32) (c0_i32_115 : BitVec 32)
    (k : Fin (k0_t6_loop k0_t1).trips) (acc : FVec F S80x512 .f32 × FVec F S80x512 .f32) :
    Between c arg3 arg4 arg7 arg8 X3 X4 v3 v40 v50 (base6 k0_t1 k) acc
      ⊢ wp frame (wpE (defs₀ (F := F)) 𝒱 (c : Thread nD τ) bd) E (k0_t6_body (F := F) i arg2 harg2 arg3 harg3 arg4 harg4 arg5 harg5 arg6 harg6 arg7 harg7 arg8 harg8 v3 k0_t1 arg9 v40 v50 v142_0 v142_1 v144 v162 v179 c2_i32_112 v180 v185 c0_i32_115 k acc)
        (Between c arg3 arg4 arg7 arg8 X3 X4 v3 v40 v50 (base6 k0_t1 k + 4)) := by
  unfold Between k0_t6_body
  iintro ⟨H3, H4, ⟨%f7, H7, %h7⟩, ⟨%f8, H8⟩, %hacc⟩
  sl_exec
  sl_step
  isplitl [H3]; · iexact H3
  isplitl [H4]; · iexact H4
  obtain ⟨o0a, o0b, o0c, o0d, o0e, o0f, o0g, o0h⟩ : k0_off29 k0_t1 k 0#32 1#32 = ![0, 0, 256 * (base6 k0_t1 k + 1), 0] ∧ k0_off29 k0_t1 k 0#32 2#32 = ![0, 0, 256 * (base6 k0_t1 k + 2), 0]
      ∧ k0_off30 k0_t1 k 0#32 1#32 = ![0, 1, 256 * (base6 k0_t1 k + 1), 0] ∧ k0_off30 k0_t1 k 0#32 2#32 = ![0, 1, 256 * (base6 k0_t1 k + 2), 0]
      ∧ k0_off31 k0_t1 k 0#32 = ![0, 0, base6 k0_t1 k + 0, 0, 0] ∧ k0_off32 k0_t1 k 0#32 = ![0, 1, base6 k0_t1 k + 0, 0, 0]
      ∧ k0_off33 k0_t1 k 0#32 = ![0, 0, base6 k0_t1 k + 1, 0, 0] ∧ k0_off34 k0_t1 k 0#32 = ![0, 1, base6 k0_t1 k + 1, 0, 0] := offsets6 k0_t1 k 0
  obtain ⟨o1a, o1b, o1c, o1d, o1e, o1f, o1g, o1h⟩ : k0_off29 k0_t1 k 1#32 1#32 = ![0, 0, 256 * (base6 k0_t1 k + 3), 0] ∧ k0_off29 k0_t1 k 1#32 2#32 = ![0, 0, 256 * (base6 k0_t1 k + 4), 0]
      ∧ k0_off30 k0_t1 k 1#32 1#32 = ![0, 1, 256 * (base6 k0_t1 k + 3), 0] ∧ k0_off30 k0_t1 k 1#32 2#32 = ![0, 1, 256 * (base6 k0_t1 k + 4), 0]
      ∧ k0_off31 k0_t1 k 1#32 = ![0, 0, base6 k0_t1 k + 2, 0, 0] ∧ k0_off32 k0_t1 k 1#32 = ![0, 1, base6 k0_t1 k + 2, 0, 0]
      ∧ k0_off33 k0_t1 k 1#32 = ![0, 0, base6 k0_t1 k + 3, 0, 0] ∧ k0_off34 k0_t1 k 1#32 = ![0, 1, base6 k0_t1 k + 3, 0, 0] := offsets6 k0_t1 k 1
  have h70 : ∀ h, arg7.view.readAt (Elt F) (Rect.unit (s := S2x256x512) ![0, 0, 0] (no_index S1x256x512.size) h).toLoadRect f7 = _ := fun _ => h7.1
  have h71 : ∀ h, arg7.view.readAt (Elt F) (Rect.unit (s := S2x256x512) ![1, 0, 0] (no_index S1x256x512.size) h).toLoadRect f7 = _ := fun _ => h7.2
  isplitl [H7]
  · iexists _; isplitl [H7]; · iexact H7
    ipureintro
    sl_unfold_run_names
    refine (readAt_slots _ _ _ _ _).imp (fun h => h.trans ?_) (fun h => h.trans ?_)
    · unfold_payloads
      simp only [scores_fold, readAt_key _ _ _ o1b (by decide)]; rfl
    · unfold_payloads
      simp only [scores_fold, readAt_key _ _ _ o1d (by decide)]; rfl
  isplitl [H8]
  · iexists _; iexact H8
  ipureintro
  sl_unfold_run_names
  unfold_payloads
  subst hacc
  simp only [h70, h71, readCov_slot0, readCov_slot1, readCov_slot10, readCov_slot01, accAt, withOnes_fold, scores_fold, accumulate_fold,
    readAt_key _ _ _ o0a (by decide), readAt_key _ _ _ o0b (by decide), readAt_key _ _ _ o0c (by decide), readAt_key _ _ _ o0d (by decide), readAt_key _ _ _ o1a (by decide), readAt_key _ _ _ o1b (by decide), readAt_key _ _ _ o1c (by decide), readAt_key _ _ _ o1d (by decide),
    readAt_val _ _ _ o0e (by decide), readAt_val _ _ _ o0f (by decide), readAt_val _ _ _ o0g (by decide), readAt_val _ _ _ o0h (by decide), readAt_val _ _ _ o1e (by decide), readAt_val _ _ _ o1f (by decide), readAt_val _ _ _ o1g (by decide), readAt_val _ _ _ o1h (by decide)]
  rfl

/-- The key tiles taken before trip `k` of the loop over four pairs. -/
abbrev base4 (t : Fin k0_t1_loop.trips) (k : Fin (k0_t4_loop t).trips) : ℕ := 2 * (t.val / 8 * 8 + 4 * k.val)

theorem offsets4 : ∀ (t : Fin k0_t1_loop.trips) (k : Fin (k0_t4_loop t).trips), ∀ p : Fin 4,
    k0_off17 t k (BitVec.ofNat 32 p.val) 1#32 = ![0, 0, 256 * (base4 t k + (2 * p.val + 1)), 0] ∧ k0_off17 t k (BitVec.ofNat 32 p.val) 2#32 = ![0, 0, 256 * (base4 t k + (2 * p.val + 2)), 0]
    ∧ k0_off18 t k (BitVec.ofNat 32 p.val) 1#32 = ![0, 1, 256 * (base4 t k + (2 * p.val + 1)), 0] ∧ k0_off18 t k (BitVec.ofNat 32 p.val) 2#32 = ![0, 1, 256 * (base4 t k + (2 * p.val + 2)), 0]
    ∧ k0_off19 t k (BitVec.ofNat 32 p.val) = ![0, 0, base4 t k + 2 * p.val, 0, 0] ∧ k0_off20 t k (BitVec.ofNat 32 p.val) = ![0, 1, base4 t k + 2 * p.val, 0, 0]
    ∧ k0_off21 t k (BitVec.ofNat 32 p.val) = ![0, 0, base4 t k + (2 * p.val + 1), 0, 0] ∧ k0_off22 t k (BitVec.ofNat 32 p.val) = ![0, 1, base4 t k + (2 * p.val + 1), 0, 0] := by decide +kernel

/-- One trip of the loop over four pairs: 8 key tiles taken, the scores of the next one left in the scratch. -/
theorem trip4 (v3 : FVec F S16x256 .bf16) (k0_t1 : Fin k0_t1_loop.trips) (v40 : FVec F S128x512 .bf16) (v50 : FVec F S128x512 .bf16) (v80_0 : FVec F S80x512 .f32) (v80_1 : FVec F S80x512 .f32) (v82 : BitVec 32) (v100 : BitVec 32) (c4_i32_80 : BitVec 32) (v117 : BitVec 32)
    (k : Fin (k0_t4_loop k0_t1).trips) (acc : FVec F S80x512 .f32 × FVec F S80x512 .f32) :
    Between c arg3 arg4 arg7 arg8 X3 X4 v3 v40 v50 (base4 k0_t1 k) acc
      ⊢ wp frame (wpE (defs₀ (F := F)) 𝒱 (c : Thread nD τ) bd) E (k0_t4_body (F := F) i arg2 harg2 arg3 harg3 arg4 harg4 arg5 harg5 arg6 harg6 arg7 harg7 arg8 harg8 v3 k0_t1 v40 v50 v80_0 v80_1 v82 v100 c4_i32_80 v117 k acc)
        (Between c arg3 arg4 arg7 arg8 X3 X4 v3 v40 v50 (base4 k0_t1 k + 8)) := by
  unfold Between k0_t4_body
  iintro ⟨H3, H4, ⟨%f7, H7, %h7⟩, ⟨%f8, H8⟩, %hacc⟩
  sl_exec
  sl_step
  isplitl [H3]; · iexact H3
  isplitl [H4]; · iexact H4
  obtain ⟨o0a, o0b, o0c, o0d, o0e, o0f, o0g, o0h⟩ : k0_off17 k0_t1 k 0#32 1#32 = ![0, 0, 256 * (base4 k0_t1 k + 1), 0] ∧ k0_off17 k0_t1 k 0#32 2#32 = ![0, 0, 256 * (base4 k0_t1 k + 2), 0]
      ∧ k0_off18 k0_t1 k 0#32 1#32 = ![0, 1, 256 * (base4 k0_t1 k + 1), 0] ∧ k0_off18 k0_t1 k 0#32 2#32 = ![0, 1, 256 * (base4 k0_t1 k + 2), 0]
      ∧ k0_off19 k0_t1 k 0#32 = ![0, 0, base4 k0_t1 k + 0, 0, 0] ∧ k0_off20 k0_t1 k 0#32 = ![0, 1, base4 k0_t1 k + 0, 0, 0]
      ∧ k0_off21 k0_t1 k 0#32 = ![0, 0, base4 k0_t1 k + 1, 0, 0] ∧ k0_off22 k0_t1 k 0#32 = ![0, 1, base4 k0_t1 k + 1, 0, 0] := offsets4 k0_t1 k 0
  obtain ⟨o1a, o1b, o1c, o1d, o1e, o1f, o1g, o1h⟩ : k0_off17 k0_t1 k 1#32 1#32 = ![0, 0, 256 * (base4 k0_t1 k + 3), 0] ∧ k0_off17 k0_t1 k 1#32 2#32 = ![0, 0, 256 * (base4 k0_t1 k + 4), 0]
      ∧ k0_off18 k0_t1 k 1#32 1#32 = ![0, 1, 256 * (base4 k0_t1 k + 3), 0] ∧ k0_off18 k0_t1 k 1#32 2#32 = ![0, 1, 256 * (base4 k0_t1 k + 4), 0]
      ∧ k0_off19 k0_t1 k 1#32 = ![0, 0, base4 k0_t1 k + 2, 0, 0] ∧ k0_off20 k0_t1 k 1#32 = ![0, 1, base4 k0_t1 k + 2, 0, 0]
      ∧ k0_off21 k0_t1 k 1#32 = ![0, 0, base4 k0_t1 k + 3, 0, 0] ∧ k0_off22 k0_t1 k 1#32 = ![0, 1, base4 k0_t1 k + 3, 0, 0] := offsets4 k0_t1 k 1
  obtain ⟨o2a, o2b, o2c, o2d, o2e, o2f, o2g, o2h⟩ : k0_off17 k0_t1 k 2#32 1#32 = ![0, 0, 256 * (base4 k0_t1 k + 5), 0] ∧ k0_off17 k0_t1 k 2#32 2#32 = ![0, 0, 256 * (base4 k0_t1 k + 6), 0]
      ∧ k0_off18 k0_t1 k 2#32 1#32 = ![0, 1, 256 * (base4 k0_t1 k + 5), 0] ∧ k0_off18 k0_t1 k 2#32 2#32 = ![0, 1, 256 * (base4 k0_t1 k + 6), 0]
      ∧ k0_off19 k0_t1 k 2#32 = ![0, 0, base4 k0_t1 k + 4, 0, 0] ∧ k0_off20 k0_t1 k 2#32 = ![0, 1, base4 k0_t1 k + 4, 0, 0]
      ∧ k0_off21 k0_t1 k 2#32 = ![0, 0, base4 k0_t1 k + 5, 0, 0] ∧ k0_off22 k0_t1 k 2#32 = ![0, 1, base4 k0_t1 k + 5, 0, 0] := offsets4 k0_t1 k 2
  obtain ⟨o3a, o3b, o3c, o3d, o3e, o3f, o3g, o3h⟩ : k0_off17 k0_t1 k 3#32 1#32 = ![0, 0, 256 * (base4 k0_t1 k + 7), 0] ∧ k0_off17 k0_t1 k 3#32 2#32 = ![0, 0, 256 * (base4 k0_t1 k + 8), 0]
      ∧ k0_off18 k0_t1 k 3#32 1#32 = ![0, 1, 256 * (base4 k0_t1 k + 7), 0] ∧ k0_off18 k0_t1 k 3#32 2#32 = ![0, 1, 256 * (base4 k0_t1 k + 8), 0]
      ∧ k0_off19 k0_t1 k 3#32 = ![0, 0, base4 k0_t1 k + 6, 0, 0] ∧ k0_off20 k0_t1 k 3#32 = ![0, 1, base4 k0_t1 k + 6, 0, 0]
      ∧ k0_off21 k0_t1 k 3#32 = ![0, 0, base4 k0_t1 k + 7, 0, 0] ∧ k0_off22 k0_t1 k 3#32 = ![0, 1, base4 k0_t1 k + 7, 0, 0] := offsets4 k0_t1 k 3
  have h70 : ∀ h, arg7.view.readAt (Elt F) (Rect.unit (s := S2x256x512) ![0, 0, 0] (no_index S1x256x512.size) h).toLoadRect f7 = _ := fun _ => h7.1
  have h71 : ∀ h, arg7.view.readAt (Elt F) (Rect.unit (s := S2x256x512) ![1, 0, 0] (no_index S1x256x512.size) h).toLoadRect f7 = _ := fun _ => h7.2
  isplitl [H7]
  · iexists _; isplitl [H7]; · iexact H7
    ipureintro
    sl_unfold_run_names
    refine (readAt_slots _ _ _ _ _).imp (fun h => h.trans ?_) (fun h => h.trans ?_)
    · unfold_payloads
      simp only [scores_fold, readAt_key _ _ _ o3b (by decide)]; rfl
    · unfold_payloads
      simp only [scores_fold, readAt_key _ _ _ o3d (by decide)]; rfl
  isplitl [H8]
  · iexists _; iexact H8
  ipureintro
  sl_unfold_run_names
  unfold_payloads
  subst hacc
  simp only [h70, h71, readCov_slot0, readCov_slot1, readCov_slot10, readCov_slot01, accAt, withOnes_fold, scores_fold, accumulate_fold,
    readAt_key _ _ _ o0a (by decide), readAt_key _ _ _ o0b (by decide), readAt_key _ _ _ o0c (by decide), readAt_key _ _ _ o0d (by decide), readAt_key _ _ _ o1a (by decide), readAt_key _ _ _ o1b (by decide), readAt_key _ _ _ o1c (by decide), readAt_key _ _ _ o1d (by decide), readAt_key _ _ _ o2a (by decide), readAt_key _ _ _ o2b (by decide), readAt_key _ _ _ o2c (by decide), readAt_key _ _ _ o2d (by decide), readAt_key _ _ _ o3a (by decide), readAt_key _ _ _ o3b (by decide), readAt_key _ _ _ o3c (by decide), readAt_key _ _ _ o3d (by decide),
    readAt_val _ _ _ o0e (by decide), readAt_val _ _ _ o0f (by decide), readAt_val _ _ _ o0g (by decide), readAt_val _ _ _ o0h (by decide), readAt_val _ _ _ o1e (by decide), readAt_val _ _ _ o1f (by decide), readAt_val _ _ _ o1g (by decide), readAt_val _ _ _ o1h (by decide), readAt_val _ _ _ o2e (by decide), readAt_val _ _ _ o2f (by decide), readAt_val _ _ _ o2g (by decide), readAt_val _ _ _ o2h (by decide), readAt_val _ _ _ o3e (by decide), readAt_val _ _ _ o3f (by decide), readAt_val _ _ _ o3g (by decide), readAt_val _ _ _ o3h (by decide)]
  rfl

/-- The key tiles taken before trip `k` of the loop over eight pairs. -/
abbrev base2 (t : Fin k0_t1_loop.trips) (k : Fin (k0_t2_loop t).trips) : ℕ := 2 * (0 + 8 * k.val)

theorem offsets2 : ∀ (t : Fin k0_t1_loop.trips) (k : Fin (k0_t2_loop t).trips), ∀ p : Fin 8,
    k0_off5 t k (BitVec.ofNat 32 p.val) 1#32 = ![0, 0, 256 * (base2 t k + (2 * p.val + 1)), 0] ∧ k0_off5 t k (BitVec.ofNat 32 p.val) 2#32 = ![0, 0, 256 * (base2 t k + (2 * p.val + 2)), 0]
    ∧ k0_off6 t k (BitVec.ofNat 32 p.val) 1#32 = ![0, 1, 256 * (base2 t k + (2 * p.val + 1)), 0] ∧ k0_off6 t k (BitVec.ofNat 32 p.val) 2#32 = ![0, 1, 256 * (base2 t k + (2 * p.val + 2)), 0]
    ∧ k0_off7 t k (BitVec.ofNat 32 p.val) = ![0, 0, base2 t k + 2 * p.val, 0, 0] ∧ k0_off8 t k (BitVec.ofNat 32 p.val) = ![0, 1, base2 t k + 2 * p.val, 0, 0]
    ∧ k0_off9 t k (BitVec.ofNat 32 p.val) = ![0, 0, base2 t k + (2 * p.val + 1), 0, 0] ∧ k0_off10 t k (BitVec.ofNat 32 p.val) = ![0, 1, base2 t k + (2 * p.val + 1), 0, 0] := by decide +kernel

/-- One trip of the loop over eight pairs: 16 key tiles taken, the scores of the next one left in the scratch. -/
theorem trip2 (v3 : FVec F S16x256 .bf16) (k0_t1 : Fin k0_t1_loop.trips) (arg9 : BitVec 32) (v40 : FVec F S128x512 .bf16) (v50 : FVec F S128x512 .bf16) (v52 : FVec F S80x512 .f32) (v54 : FVec F S80x512 .f32) (v55 : BitVec 32) (c8_i32 : BitVec 32) (v56 : BitVec 32) (v58 : BitVec 32) (v59 : BitVec 1)
    (k : Fin (k0_t2_loop k0_t1).trips) (acc : FVec F S80x512 .f32 × FVec F S80x512 .f32) :
    Between c arg3 arg4 arg7 arg8 X3 X4 v3 v40 v50 (base2 k0_t1 k) acc
      ⊢ wp frame (wpE (defs₀ (F := F)) 𝒱 (c : Thread nD τ) bd) E (k0_t2_body (F := F) i arg2 harg2 arg3 harg3 arg4 harg4 arg5 harg5 arg6 harg6 arg7 harg7 arg8 harg8 v3 k0_t1 arg9 v40 v50 v52 v54 v55 c8_i32 v56 v58 v59 k acc)
        (Between c arg3 arg4 arg7 arg8 X3 X4 v3 v40 v50 (base2 k0_t1 k + 16)) := by
  unfold Between k0_t2_body
  iintro ⟨H3, H4, ⟨%f7, H7, %h7⟩, ⟨%f8, H8⟩, %hacc⟩
  sl_exec
  sl_step
  isplitl [H3]; · iexact H3
  isplitl [H4]; · iexact H4
  obtain ⟨o0a, o0b, o0c, o0d, o0e, o0f, o0g, o0h⟩ : k0_off5 k0_t1 k 0#32 1#32 = ![0, 0, 256 * (base2 k0_t1 k + 1), 0] ∧ k0_off5 k0_t1 k 0#32 2#32 = ![0, 0, 256 * (base2 k0_t1 k + 2), 0]
      ∧ k0_off6 k0_t1 k 0#32 1#32 = ![0, 1, 256 * (base2 k0_t1 k + 1), 0] ∧ k0_off6 k0_t1 k 0#32 2#32 = ![0, 1, 256 * (base2 k0_t1 k + 2), 0]
      ∧ k0_off7 k0_t1 k 0#32 = ![0, 0, base2 k0_t1 k + 0, 0, 0] ∧ k0_off8 k0_t1 k 0#32 = ![0, 1, base2 k0_t1 k + 0, 0, 0]
      ∧ k0_off9 k0_t1 k 0#32 = ![0, 0, base2 k0_t1 k + 1, 0, 0] ∧ k0_off10 k0_t1 k 0#32 = ![0, 1, base2 k0_t1 k + 1, 0, 0] := offsets2 k0_t1 k 0
  obtain ⟨o1a, o1b, o1c, o1d, o1e, o1f, o1g, o1h⟩ : k0_off5 k0_t1 k 1#32 1#32 = ![0, 0, 256 * (base2 k0_t1 k + 3), 0] ∧ k0_off5 k0_t1 k 1#32 2#32 = ![0, 0, 256 * (base2 k0_t1 k + 4), 0]
      ∧ k0_off6 k0_t1 k 1#32 1#32 = ![0, 1, 256 * (base2 k0_t1 k + 3), 0] ∧ k0_off6 k0_t1 k 1#32 2#32 = ![0, 1, 256 * (base2 k0_t1 k + 4), 0]
      ∧ k0_off7 k0_t1 k 1#32 = ![0, 0, base2 k0_t1 k + 2, 0, 0] ∧ k0_off8 k0_t1 k 1#32 = ![0, 1, base2 k0_t1 k + 2, 0, 0]
      ∧ k0_off9 k0_t1 k 1#32 = ![0, 0, base2 k0_t1 k + 3, 0, 0] ∧ k0_off10 k0_t1 k 1#32 = ![0, 1, base2 k0_t1 k + 3, 0, 0] := offsets2 k0_t1 k 1
  obtain ⟨o2a, o2b, o2c, o2d, o2e, o2f, o2g, o2h⟩ : k0_off5 k0_t1 k 2#32 1#32 = ![0, 0, 256 * (base2 k0_t1 k + 5), 0] ∧ k0_off5 k0_t1 k 2#32 2#32 = ![0, 0, 256 * (base2 k0_t1 k + 6), 0]
      ∧ k0_off6 k0_t1 k 2#32 1#32 = ![0, 1, 256 * (base2 k0_t1 k + 5), 0] ∧ k0_off6 k0_t1 k 2#32 2#32 = ![0, 1, 256 * (base2 k0_t1 k + 6), 0]
      ∧ k0_off7 k0_t1 k 2#32 = ![0, 0, base2 k0_t1 k + 4, 0, 0] ∧ k0_off8 k0_t1 k 2#32 = ![0, 1, base2 k0_t1 k + 4, 0, 0]
      ∧ k0_off9 k0_t1 k 2#32 = ![0, 0, base2 k0_t1 k + 5, 0, 0] ∧ k0_off10 k0_t1 k 2#32 = ![0, 1, base2 k0_t1 k + 5, 0, 0] := offsets2 k0_t1 k 2
  obtain ⟨o3a, o3b, o3c, o3d, o3e, o3f, o3g, o3h⟩ : k0_off5 k0_t1 k 3#32 1#32 = ![0, 0, 256 * (base2 k0_t1 k + 7), 0] ∧ k0_off5 k0_t1 k 3#32 2#32 = ![0, 0, 256 * (base2 k0_t1 k + 8), 0]
      ∧ k0_off6 k0_t1 k 3#32 1#32 = ![0, 1, 256 * (base2 k0_t1 k + 7), 0] ∧ k0_off6 k0_t1 k 3#32 2#32 = ![0, 1, 256 * (base2 k0_t1 k + 8), 0]
      ∧ k0_off7 k0_t1 k 3#32 = ![0, 0, base2 k0_t1 k + 6, 0, 0] ∧ k0_off8 k0_t1 k 3#32 = ![0, 1, base2 k0_t1 k + 6, 0, 0]
      ∧ k0_off9 k0_t1 k 3#32 = ![0, 0, base2 k0_t1 k + 7, 0, 0] ∧ k0_off10 k0_t1 k 3#32 = ![0, 1, base2 k0_t1 k + 7, 0, 0] := offsets2 k0_t1 k 3
  obtain ⟨o4a, o4b, o4c, o4d, o4e, o4f, o4g, o4h⟩ : k0_off5 k0_t1 k 4#32 1#32 = ![0, 0, 256 * (base2 k0_t1 k + 9), 0] ∧ k0_off5 k0_t1 k 4#32 2#32 = ![0, 0, 256 * (base2 k0_t1 k + 10), 0]
      ∧ k0_off6 k0_t1 k 4#32 1#32 = ![0, 1, 256 * (base2 k0_t1 k + 9), 0] ∧ k0_off6 k0_t1 k 4#32 2#32 = ![0, 1, 256 * (base2 k0_t1 k + 10), 0]
      ∧ k0_off7 k0_t1 k 4#32 = ![0, 0, base2 k0_t1 k + 8, 0, 0] ∧ k0_off8 k0_t1 k 4#32 = ![0, 1, base2 k0_t1 k + 8, 0, 0]
      ∧ k0_off9 k0_t1 k 4#32 = ![0, 0, base2 k0_t1 k + 9, 0, 0] ∧ k0_off10 k0_t1 k 4#32 = ![0, 1, base2 k0_t1 k + 9, 0, 0] := offsets2 k0_t1 k 4
  obtain ⟨o5a, o5b, o5c, o5d, o5e, o5f, o5g, o5h⟩ : k0_off5 k0_t1 k 5#32 1#32 = ![0, 0, 256 * (base2 k0_t1 k + 11), 0] ∧ k0_off5 k0_t1 k 5#32 2#32 = ![0, 0, 256 * (base2 k0_t1 k + 12), 0]
      ∧ k0_off6 k0_t1 k 5#32 1#32 = ![0, 1, 256 * (base2 k0_t1 k + 11), 0] ∧ k0_off6 k0_t1 k 5#32 2#32 = ![0, 1, 256 * (base2 k0_t1 k + 12), 0]
      ∧ k0_off7 k0_t1 k 5#32 = ![0, 0, base2 k0_t1 k + 10, 0, 0] ∧ k0_off8 k0_t1 k 5#32 = ![0, 1, base2 k0_t1 k + 10, 0, 0]
      ∧ k0_off9 k0_t1 k 5#32 = ![0, 0, base2 k0_t1 k + 11, 0, 0] ∧ k0_off10 k0_t1 k 5#32 = ![0, 1, base2 k0_t1 k + 11, 0, 0] := offsets2 k0_t1 k 5
  obtain ⟨o6a, o6b, o6c, o6d, o6e, o6f, o6g, o6h⟩ : k0_off5 k0_t1 k 6#32 1#32 = ![0, 0, 256 * (base2 k0_t1 k + 13), 0] ∧ k0_off5 k0_t1 k 6#32 2#32 = ![0, 0, 256 * (base2 k0_t1 k + 14), 0]
      ∧ k0_off6 k0_t1 k 6#32 1#32 = ![0, 1, 256 * (base2 k0_t1 k + 13), 0] ∧ k0_off6 k0_t1 k 6#32 2#32 = ![0, 1, 256 * (base2 k0_t1 k + 14), 0]
      ∧ k0_off7 k0_t1 k 6#32 = ![0, 0, base2 k0_t1 k + 12, 0, 0] ∧ k0_off8 k0_t1 k 6#32 = ![0, 1, base2 k0_t1 k + 12, 0, 0]
      ∧ k0_off9 k0_t1 k 6#32 = ![0, 0, base2 k0_t1 k + 13, 0, 0] ∧ k0_off10 k0_t1 k 6#32 = ![0, 1, base2 k0_t1 k + 13, 0, 0] := offsets2 k0_t1 k 6
  obtain ⟨o7a, o7b, o7c, o7d, o7e, o7f, o7g, o7h⟩ : k0_off5 k0_t1 k 7#32 1#32 = ![0, 0, 256 * (base2 k0_t1 k + 15), 0] ∧ k0_off5 k0_t1 k 7#32 2#32 = ![0, 0, 256 * (base2 k0_t1 k + 16), 0]
      ∧ k0_off6 k0_t1 k 7#32 1#32 = ![0, 1, 256 * (base2 k0_t1 k + 15), 0] ∧ k0_off6 k0_t1 k 7#32 2#32 = ![0, 1, 256 * (base2 k0_t1 k + 16), 0]
      ∧ k0_off7 k0_t1 k 7#32 = ![0, 0, base2 k0_t1 k + 14, 0, 0] ∧ k0_off8 k0_t1 k 7#32 = ![0, 1, base2 k0_t1 k + 14, 0, 0]
      ∧ k0_off9 k0_t1 k 7#32 = ![0, 0, base2 k0_t1 k + 15, 0, 0] ∧ k0_off10 k0_t1 k 7#32 = ![0, 1, base2 k0_t1 k + 15, 0, 0] := offsets2 k0_t1 k 7
  have h70 : ∀ h, arg7.view.readAt (Elt F) (Rect.unit (s := S2x256x512) ![0, 0, 0] (no_index S1x256x512.size) h).toLoadRect f7 = _ := fun _ => h7.1
  have h71 : ∀ h, arg7.view.readAt (Elt F) (Rect.unit (s := S2x256x512) ![1, 0, 0] (no_index S1x256x512.size) h).toLoadRect f7 = _ := fun _ => h7.2
  isplitl [H7]
  · iexists _; isplitl [H7]; · iexact H7
    ipureintro
    sl_unfold_run_names
    refine (readAt_slots _ _ _ _ _).imp (fun h => h.trans ?_) (fun h => h.trans ?_)
    · unfold_payloads
      simp only [scores_fold, readAt_key _ _ _ o7b (by decide)]; rfl
    · unfold_payloads
      simp only [scores_fold, readAt_key _ _ _ o7d (by decide)]; rfl
  isplitl [H8]
  · iexists _; iexact H8
  ipureintro
  sl_unfold_run_names
  unfold_payloads
  subst hacc
  simp only [h70, h71, readCov_slot0, readCov_slot1, readCov_slot10, readCov_slot01, accAt, withOnes_fold, scores_fold, accumulate_fold,
    readAt_key _ _ _ o0a (by decide), readAt_key _ _ _ o0b (by decide), readAt_key _ _ _ o0c (by decide), readAt_key _ _ _ o0d (by decide), readAt_key _ _ _ o1a (by decide), readAt_key _ _ _ o1b (by decide), readAt_key _ _ _ o1c (by decide), readAt_key _ _ _ o1d (by decide), readAt_key _ _ _ o2a (by decide), readAt_key _ _ _ o2b (by decide), readAt_key _ _ _ o2c (by decide), readAt_key _ _ _ o2d (by decide), readAt_key _ _ _ o3a (by decide), readAt_key _ _ _ o3b (by decide), readAt_key _ _ _ o3c (by decide), readAt_key _ _ _ o3d (by decide), readAt_key _ _ _ o4a (by decide), readAt_key _ _ _ o4b (by decide), readAt_key _ _ _ o4c (by decide), readAt_key _ _ _ o4d (by decide), readAt_key _ _ _ o5a (by decide), readAt_key _ _ _ o5b (by decide), readAt_key _ _ _ o5c (by decide), readAt_key _ _ _ o5d (by decide), readAt_key _ _ _ o6a (by decide), readAt_key _ _ _ o6b (by decide), readAt_key _ _ _ o6c (by decide), readAt_key _ _ _ o6d (by decide), readAt_key _ _ _ o7a (by decide), readAt_key _ _ _ o7b (by decide), readAt_key _ _ _ o7c (by decide), readAt_key _ _ _ o7d (by decide),
    readAt_val _ _ _ o0e (by decide), readAt_val _ _ _ o0f (by decide), readAt_val _ _ _ o0g (by decide), readAt_val _ _ _ o0h (by decide), readAt_val _ _ _ o1e (by decide), readAt_val _ _ _ o1f (by decide), readAt_val _ _ _ o1g (by decide), readAt_val _ _ _ o1h (by decide), readAt_val _ _ _ o2e (by decide), readAt_val _ _ _ o2f (by decide), readAt_val _ _ _ o2g (by decide), readAt_val _ _ _ o2h (by decide), readAt_val _ _ _ o3e (by decide), readAt_val _ _ _ o3f (by decide), readAt_val _ _ _ o3g (by decide), readAt_val _ _ _ o3h (by decide), readAt_val _ _ _ o4e (by decide), readAt_val _ _ _ o4f (by decide), readAt_val _ _ _ o4g (by decide), readAt_val _ _ _ o4h (by decide), readAt_val _ _ _ o5e (by decide), readAt_val _ _ _ o5f (by decide), readAt_val _ _ _ o5g (by decide), readAt_val _ _ _ o5h (by decide), readAt_val _ _ _ o6e (by decide), readAt_val _ _ _ o6f (by decide), readAt_val _ _ _ o6g (by decide), readAt_val _ _ _ o6h (by decide), readAt_val _ _ _ o7e (by decide), readAt_val _ _ _ o7f (by decide), readAt_val _ _ _ o7g (by decide), readAt_val _ _ _ o7h (by decide)]
  rfl

end

end Cert.KernelIdeal.Gen
-- ==== Proof.Outputs.lean ====
module

public import proofs.«01_k».proof.Proof.Tiles
public import Idealize.ShloMosaic.Lib.WritesUnit

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The queries of block `n` of head `h`, transposed. -/
def qSub (Q : FVec F S1x2x32x128x256 .bf16) (h : Fin 2) (n : ℕ) : FVec F S1x1x1x128x256 .bf16 :=
  fun i => Q (ix5 0 h ⟨n % 32, Nat.mod_lt _ (by decide)⟩ (i 3) (i 4))

/-- The queries of the blocks `2 t` and `2 t + 1`, side by side. -/
def qTile (Q : FVec F S1x2x32x128x256 .bf16) (h : Fin 2) (t : ℕ) : FVec F S128x512 .bf16 :=
  k0_pay297 (qSub Q h (2 * t)) (qSub Q h (2 * t + 1))

theorem pairs_fold (x y : FVec F S1x1x1x128x256 .bf16) (h h' h'') :
    concatenate S128x512 1 [⟨S128x256, shapeCast S128x256 x h⟩, ⟨S128x256, shapeCast S128x256 y h'⟩] h'' = k0_pay297 x y := rfl

/-- The gate of block `n` for head `h`: rows `64 h … 64 h + 63`. -/
def gSub (G : FVec F S1x32x128x256 .bf16) (h : Fin 2) (n : ℕ) : FVec F S1x1x64x256 .bf16 :=
  fun i => G (ix4 0 ⟨n % 32, Nat.mod_lt _ (by decide)⟩ ⟨64 * h.val + (i 2).val, by have h1 := h.isLt; have h2 : (i 2).val < 64 := (i 2).isLt; show _ < 128; omega⟩ (i 3))

section
variable (mask : IVec S256x256 1) (ones : FVec F S16x256 .bf16) (Q : FVec F S1x2x32x128x256 .bf16) (K : FVec F S1x2x8192x128 .bf16)
  (V : FVec F S1x2x32x64x256 .bf16) (G : FVec F S1x32x128x256 .bf16)

/-- The accumulator of the queries `2 t`, `2 t + 1` after the key tile `2 t`: causal for the first half of the queries. -/
def midAcc (h : Fin 2) (t : ℕ) : FVec F S80x512 .f32 :=
  k0_pay323 mask ones (accAt K V ones h (qTile Q h t) (2 * t)) (scores (qTile Q h t) (keyTile K h (2 * t))) (valTile V h (2 * t))

/-- The accumulator of the queries `2 t + 1` after the key tile `2 t + 1`. -/
def lastAcc (h : Fin 2) (t : ℕ) : FVec F S80x256 .f32 :=
  k0_pay330 mask ones (k0_pay321 (qTile Q h t) (keyTile K h (2 * t + 1))) (midAcc mask ones Q K V h t) (valTile V h (2 * t + 1))

/-- The gated attention of the queries of block `n`, head `h`. -/
def outTile (h : Fin 2) (n : ℕ) : FVec F S1x1x64x256 .bf16 :=
  if n % 2 = 0 then k0_pay332 (k0_pay331 (midAcc mask ones Q K V h (n / 2))) (gSub G h n)
  else k0_pay333 (lastAcc mask ones Q K V h (n / 2)) (gSub G h n)

/-- The whole block of a grid point. -/
def outBlock : FVec F S1x32x128x256 .bf16 :=
  fun j => outTile mask ones Q K V G ⟨(j 2).val / 64, by have h2 : (j 2).val < 128 := (j 2).isLt; omega⟩ (j 1).val
    (ix4 0 0 ⟨(j 2).val % 64, Nat.mod_lt _ (by decide)⟩ (j 3))
end

theorem readAt_q (arg2 : Memref sig .tc .vmem S1x2x32x128x256 .bf16) (X2 : BufTy.Contents (Elt F) arg2.view.ty) {h n : ℕ} {off : Fin 5 → ℕ}
    (inb : ∀ a, off a + S1x1x1x128x256.size a ≤ S1x2x32x128x256.size a) (e : off = ![0, h, n, 0, 0]) (hh : h < 2) :
    arg2.view.readAt (Elt F) (Rect.unit (s := S1x2x32x128x256) off (no_index S1x1x1x128x256.size) inb).toLoadRect X2
      = qSub (arg2.view.read (Elt F) X2) ⟨h, hh⟩ n := by
  subst e
  rw [View.readAt_eq_ld, View.ld_unit]
  have h2 : n + 1 ≤ 32 := inb 2
  funext j
  idx_vars j
  pointwise [qSub]
  have e : n % 32 = n := Nat.mod_eq_of_lt (by omega)
  simp only [e]

theorem readAt_gate (arg5 : Memref sig .tc .vmem S1x32x128x256 .bf16) (X5 : BufTy.Contents (Elt F) arg5.view.ty) {h n : ℕ} {off : Fin 4 → ℕ}
    (inb : ∀ a, off a + S1x1x64x256.size a ≤ S1x32x128x256.size a) (e : off = ![0, n, 64 * h, 0]) (hh : h < 2) :
    arg5.view.readAt (Elt F) (Rect.unit (s := S1x32x128x256) off (no_index S1x1x64x256.size) inb).toLoadRect X5
      = gSub (arg5.view.read (Elt F) X5) ⟨h, hh⟩ n := by
  subst e
  rw [View.readAt_eq_ld, View.ld_unit]
  have h2 : n + 1 ≤ 32 := inb 1
  funext j
  idx_vars j
  pointwise [gSub]
  have e : n % 32 = n := Nat.mod_eq_of_lt (by omega)
  simp only [e]

theorem offsetsQ : ∀ t : Fin k0_t1_loop.trips,
    k0_off1 t = ![0, 0, 2 * t.val, 0, 0] ∧ k0_off2 t = ![0, 0, 2 * t.val + 1, 0, 0]
    ∧ k0_off3 t = ![0, 1, 2 * t.val, 0, 0] ∧ k0_off4 t = ![0, 1, 2 * t.val + 1, 0, 0]
    ∧ k0_off57 t = ![0, 0, 2 * min (t.val + 1) 15, 0, 0] ∧ k0_off58 t = ![0, 0, 2 * min (t.val + 1) 15 + 1, 0, 0]
    ∧ k0_off59 t = ![0, 1, 2 * min (t.val + 1) 15, 0, 0] ∧ k0_off60 t = ![0, 1, 2 * min (t.val + 1) 15 + 1, 0, 0] := by decide +kernel

theorem offsetsKV : ∀ t : Fin k0_t1_loop.trips,
    k0_off53 t = ![0, 0, 256 * (2 * t.val + 1), 0] ∧ k0_off54 t = ![0, 1, 256 * (2 * t.val + 1), 0]
    ∧ k0_off55 t = ![0, 0, 2 * t.val, 0, 0] ∧ k0_off56 t = ![0, 1, 2 * t.val, 0, 0]
    ∧ k0_off61 t = ![0, 0, 2 * t.val + 1, 0, 0] ∧ k0_off63 t = ![0, 1, 2 * t.val + 1, 0, 0] := by decide +kernel

theorem offsetsG : ∀ t : Fin k0_t1_loop.trips,
    k0_off62 t 0#32 = ![0, 2 * t.val, 64 * 0, 0] ∧ k0_off62 t 1#32 = ![0, 2 * t.val + 1, 64 * 0, 0]
    ∧ k0_off64 t 0#32 = ![0, 2 * t.val, 64 * 1, 0] ∧ k0_off64 t 1#32 = ![0, 2 * t.val + 1, 64 * 1, 0] := by decide +kernel

/-- The result's block after the four stores of a trip, given what it held before. -/
theorem outBlock_step (mask : IVec S256x256 1) (ones : FVec F S16x256 .bf16) (Q : FVec F S1x2x32x128x256 .bf16) (K : FVec F S1x2x8192x128 .bf16)
    (V : FVec F S1x2x32x64x256 .bf16) (G : FVec F S1x32x128x256 .bf16)
    (v : View sig .tc .vmem S1x32x128x256 .bf16) (f : v.ty.Contents (Elt F)) (t : Fin k0_t1_loop.trips) (i00 i01 i10 i11) (a b c d : FVec F S1x1x64x256 .bf16)
    (hf : ∀ j : S1x32x128x256.Idx, (j 1).val < 2 * t.val → v.read (Elt F) f j = outBlock mask ones Q K V G j)
    (ha : a = outTile mask ones Q K V G 0 (2 * t.val)) (hb : b = outTile mask ones Q K V G 0 (2 * t.val + 1))
    (hc : c = outTile mask ones Q K V G 1 (2 * t.val)) (hd : d = outTile mask ones Q K V G 1 (2 * t.val + 1))
    (j : S1x32x128x256.Idx) (hj : (j 1).val < 2 * (t.val + 1)) :
    v.read (Elt F) (v.writes (Elt F) f [⟨Rect.unit (s := S1x32x128x256) (k0_off64 t 1#32) S1x1x64x256.size i11, d⟩,
      ⟨Rect.unit (s := S1x32x128x256) (k0_off64 t 0#32) S1x1x64x256.size i10, c⟩,
      ⟨Rect.unit (s := S1x32x128x256) (k0_off62 t 1#32) S1x1x64x256.size i01, b⟩,
      ⟨Rect.unit (s := S1x32x128x256) (k0_off62 t 0#32) S1x1x64x256.size i00, a⟩]) j = outBlock mask ones Q K V G j := by
  obtain ⟨o0, o1, o2, o3⟩ := offsetsG t
  idx_vars j
  rw [View.read_writes_cons_unit v f i11 d _ _ o3, View.read_writes_cons_unit v f i10 c _ _ o2,
    View.read_writes_cons_unit v f i01 b _ _ o1, View.read_writes_cons_unit v f i00 a _ _ o0]
  have key : ∀ (h : Fin 2) (n : ℕ) (off : Fin 4 → ℕ) (e : off = ![0, n, 64 * h.val, 0]) (x : FVec F S1x1x64x256 .bf16) (_ : x = outTile mask ones Q K V G h n)
      (H : ∀ a, off a ≤ (ix4 j0 j1 j2 j3 a).val ∧ (ix4 j0 j1 j2 j3 a).val < off a + S1x1x64x256.size a),
      x (Rect.unitLocal (s := S1x32x128x256) (off := off) (size := S1x1x64x256.size) (ix4 j0 j1 j2 j3) H) = outBlock mask ones Q K V G (ix4 j0 j1 j2 j3) := by
    intro h n off e x ex H
    subst e ex
    have H1 : n ≤ j1.val ∧ j1.val < n + 1 := H 1
    have H2 : 64 * h.val ≤ j2.val ∧ j2.val < 64 * h.val + 64 := H 2
    have e1 : j1.val = n := by omega
    have e2 : (⟨j2.val / 64, by have := j2.isLt; omega⟩ : Fin 2) = h := Fin.ext (by show j2.val / 64 = h.val; omega)
    show _ = outTile mask ones Q K V G ⟨j2.val / 64, _⟩ j1.val (ix4 0 0 ⟨j2.val % 64, _⟩ j3)
    rw [e1, e2]
    congr 1
    funext x
    apply Fin.ext
    fin_cases x
    · show j0.val - 0 = 0; have := j0.isLt; omega
    · show j1.val - n = 0; omega
    · show j2.val - 64 * h.val = j2.val % 64; omega
    · show j3.val - 0 = j3.val; omega
  split
  · rename_i H; exact key 1 (2 * t.val + 1) _ rfl d hd H
  rename_i n3
  split
  · rename_i H; exact key 1 (2 * t.val) _ rfl c hc H
  rename_i n2
  split
  · rename_i H; exact key 0 (2 * t.val + 1) _ rfl b hb H
  rename_i n1
  split
  · rename_i H; exact key 0 (2 * t.val) _ rfl a ha H
  rename_i n0
  refine hf _ ?_
  have hj' : j1.val < 2 * (t.val + 1) := hj
  show j1.val < 2 * t.val
  by_contra hlt
  have miss : ∀ (h n : ℕ), ¬ (∀ a : Fin 4, (![0, n, 64 * h, 0] : Fin 4 → ℕ) a ≤ (ix4 j0 j1 j2 j3 a).val ∧ (ix4 j0 j1 j2 j3 a).val < (![0, n, 64 * h, 0] : Fin 4 → ℕ) a + S1x1x64x256.size a)
      → ¬ (j1.val = n ∧ j2.val / 64 = h) := by
    rintro h n H ⟨rfl, rfl⟩
    apply H
    intro x
    fin_cases x
    · exact ⟨Nat.zero_le _, by show j0.val < 0 + 1; have := j0.isLt; omega⟩
    · exact ⟨le_refl _, by show j1.val < j1.val + 1; omega⟩
    · exact ⟨by show 64 * (j2.val / 64) ≤ j2.val; omega, by show j2.val < 64 * (j2.val / 64) + 64; omega⟩
    · exact ⟨Nat.zero_le _, by show j3.val < 0 + 256; have := j3.isLt; omega⟩
  have m0 := miss _ _ n0
  have m1 := miss _ _ n1
  have m2 := miss _ _ n2
  have m3 := miss _ _ n3
  have := j2.isLt
  omega

end Cert.KernelIdeal.Gen
-- ==== Proof.Block.lean ====
module

public import proofs.«01_k».proof.Proof.Trips
public import proofs.«01_k».proof.Proof.Outputs

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section

variable (𝒱 : Variants) (c : Dev nD) (bd : Option 𝒱.V) (E : Set ℕ) (i : grid0.Coords) (arg2 : Memref sig .tc .vmem S1x2x32x128x256 .bf16) (harg2 : arg2.IsWhole) (arg3 : Memref sig .tc .vmem S1x2x8192x128 .bf16) (harg3 : arg3.IsWhole) (arg4 : Memref sig .tc .vmem S1x2x32x64x256 .bf16) (harg4 : arg4.IsWhole) (arg5 : Memref sig .tc .vmem S1x32x128x256 .bf16) (harg5 : arg5.IsWhole) (arg6 : Memref sig .tc .vmem S1x32x128x256 .bf16) (harg6 : arg6.IsWhole) (arg7 : Memref sig .tc .vmem S2x256x512 .f32) (harg7 : arg7.IsWhole) (arg8 : Memref sig .tc .vmem S2x256x512 .f32) (harg8 : arg8.IsWhole) (X3 : BufTy.Contents (Elt F) arg3.view.ty) (X4 : BufTy.Contents (Elt F) arg4.view.ty)

/-- Before trip `t` of the loop over pairs of query blocks: the scratch `arg7` holds the scores of the key tile 0 for the pair about to be
taken, and the result holds the blocks of the pairs before it. -/
def AtPair (c : Dev nD) (arg2 : Memref sig .tc .vmem S1x2x32x128x256 .bf16) (arg3 : Memref sig .tc .vmem S1x2x8192x128 .bf16)
    (arg4 : Memref sig .tc .vmem S1x2x32x64x256 .bf16) (arg5 arg6 : Memref sig .tc .vmem S1x32x128x256 .bf16) (arg7 arg8 : Memref sig .tc .vmem S2x256x512 .f32)
    (X2 : BufTy.Contents (Elt F) arg2.view.ty) (X3 : BufTy.Contents (Elt F) arg3.view.ty) (X4 : BufTy.Contents (Elt F) arg4.view.ty)
    (X5 : BufTy.Contents (Elt F) arg5.view.ty) (mask : IVec S256x256 1) (ones : FVec F S16x256 .bf16) (t : ℕ) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (∃ f, (arg6.view.loc (c : Thread nD τ) ↦[arg6.view.set]{fullShare} f)
        ∗ ⌜∀ j : S1x32x128x256.Idx, (j 1).val < 2 * t → arg6.view.read (Elt F) f j = outBlock mask ones (arg2.view.read (Elt F) X2)
            (arg3.view.read (Elt F) X3) (arg4.view.read (Elt F) X4) (arg5.view.read (Elt F) X5) j⌝)
    ∗ (∃ f, (arg7.view.loc (c : Thread nD τ) ↦[arg7.view.set]{fullShare} f)
        ∗ ⌜arg7.view.readAt (Elt F) slot0.toLoadRect f = scores (qTile (arg2.view.read (Elt F) X2) 0 (min t 15)) (keyTile (arg3.view.read (Elt F) X3) 0 0)
          ∧ arg7.view.readAt (Elt F) slot1.toLoadRect f = scores (qTile (arg2.view.read (Elt F) X2) 1 (min t 15)) (keyTile (arg3.view.read (Elt F) X3) 1 0)⌝)
    ∗ (∃ f, (arg8.view.loc (c : Thread nD τ) ↦[arg8.view.set]{fullShare} f)))

theorem Between_congr (c : Dev nD) (arg3 : Memref sig .tc .vmem S1x2x8192x128 .bf16) (arg4 : Memref sig .tc .vmem S1x2x32x64x256 .bf16)
    (arg7 : Memref sig .tc .vmem S2x256x512 .f32) (arg8 : Memref sig .tc .vmem S2x256x512 .f32) (X3 : BufTy.Contents (Elt F) arg3.view.ty)
    (X4 : BufTy.Contents (Elt F) arg4.view.ty) (ones : FVec F S16x256 .bf16) (q0 q1 : FVec F S128x512 .bf16)
    (acc : FVec F S80x512 .f32 × FVec F S80x512 .f32) {J J' : ℕ} (h : J = J') :
    Between c arg3 arg4 arg7 arg8 X3 X4 ones q0 q1 J acc ⊢ Between c arg3 arg4 arg7 arg8 X3 X4 ones q0 q1 J' acc := by
  subst h; exact BIBase.Entails.rfl

/-- One pair of query blocks. -/
theorem pair (X2 : BufTy.Contents (Elt F) arg2.view.ty)
    (X5 : BufTy.Contents (Elt F) arg5.view.ty) (mask : IVec S256x256 1) (ones : FVec F S16x256 .bf16) (t : Fin k0_t1_loop.trips) (acc : Unit) :
    AtPair c arg2 arg3 arg4 arg5 arg6 arg7 arg8 X2 X3 X4 X5 mask ones t.val
      ⊢ wp frame (wpE (defs₀ (F := F)) 𝒱 (c : Thread nD τ) bd) E (k0_t1_body (F := F) i arg2 harg2 arg3 harg3 arg4 harg4 arg5 harg5 arg6 harg6 arg7 harg7 arg8 harg8 mask ones t acc)
        (fun _ => AtPair c arg2 arg3 arg4 arg5 arg6 arg7 arg8 X2 X3 X4 X5 mask ones (t.val + 1)) := by
  have ht : t.val < 16 := t.isLt.trans_le (by decide +kernel)
  obtain ⟨q1, q2, q3, q4, q5, q6, q7, q8⟩ := offsetsQ t
  obtain ⟨r1, r2, r3, r4, r5, r6⟩ := offsetsKV t
  unfold AtPair k0_t1_body
  iintro ⟨H2, H3, H4, H5, ⟨%f6, H6, %h6⟩, ⟨%f7, H7, %h7⟩, ⟨%f8, H8⟩⟩
  sl_exec
  have e0 : pair.sl.r arg2 X2 t = qTile (arg2.view.read (Elt F) X2) 0 t.val := by
    sl_unfold_run_names
    simp only [readAt_q _ _ _ q1 (by decide), readAt_q _ _ _ q2 (by decide)]
    rfl
  have e1 : pair.sl.r_1 arg2 X2 t = qTile (arg2.view.read (Elt F) X2) 1 t.val := by
    sl_unfold_run_names
    simp only [readAt_q _ _ _ q3 (by decide), readAt_q _ _ _ q4 (by decide)]
    rfl
  sl_for (fun k acc => Between c arg3 arg4 arg7 arg8 X3 X4 ones (pair.sl.r arg2 X2 t) (pair.sl.r_1 arg2 X2 t)
    (2 * (0 + 8 * k)) acc) $$ [H3 H4 H7 H8]
  · intro k acc
    have e : 2 * (0 + 8 * (k.val + 1)) = base2 t k + 16 := by show _ = 2 * (0 + 8 * k.val) + 16; omega
    simp only [e]
    exact trip2 𝒱 c bd E i arg2 harg2 arg3 harg3 arg4 harg4 arg5 harg5 arg6 harg6 arg7 harg7 arg8 harg8 X3 X4 ones t 0#32 _ _ acc.1 acc.1 0#32 0#32 0#32 0#32 0#1 k acc
  · simp only [e0, e1]
    unfold Between
    isplitl [H3]; · iexact H3
    isplitl [H4]; · iexact H4
    isplitl [H7]
    · iexists _; isplitl [H7]; · iexact H7
      ipureintro
      rw [show min t.val 15 = t.val by omega] at h7
      exact h7
    isplitl [H8]
    · iexists _; iexact H8
    ipureintro
    rfl
  iintro %acc2 HB
  obtain ⟨a2, b2⟩ := acc2
  sl_exec
  sl_for (fun _ acc => Between c arg3 arg4 arg7 arg8 X3 X4 ones (pair.sl.r arg2 X2 t) (pair.sl.r_1 arg2 X2 t) (2 * (t.val / 8 * 8)) acc) $$ [HB]
  · intro k acc
    exact absurd k.isLt (by have := trips_t3 t; simp only [Scf.Loop.trips] at this ⊢; omega)
  · have := trips_t2 t
    exact Between_congr _ _ _ _ _ _ _ _ _ _ _ (by simp only [Scf.Loop.trips] at this ⊢; omega)
  iintro %acc3 HB
  obtain ⟨a3, b3⟩ := acc3
  sl_exec
  sl_for (fun k acc => Between c arg3 arg4 arg7 arg8 X3 X4 ones (pair.sl.r arg2 X2 t) (pair.sl.r_1 arg2 X2 t)
    (2 * (t.val / 8 * 8 + 4 * k)) acc) $$ [HB]
  · intro k acc
    have e : 2 * (t.val / 8 * 8 + 4 * (k.val + 1)) = base4 t k + 8 := by show _ = 2 * (t.val / 8 * 8 + 4 * k.val) + 8; omega
    simp only [e]
    exact trip4 𝒱 c bd E i arg2 harg2 arg3 harg3 arg4 harg4 arg5 harg5 arg6 harg6 arg7 harg7 arg8 harg8 X3 X4 ones t _ _ acc.1 acc.1 0#32 0#32 0#32 0#32 k acc
  · exact Between_congr _ _ _ _ _ _ _ _ _ _ _ (by omega)
  iintro %acc4 HB
  obtain ⟨a4, b4⟩ := acc4
  sl_exec
  sl_for (fun _ acc => Between c arg3 arg4 arg7 arg8 X3 X4 ones (pair.sl.r arg2 X2 t) (pair.sl.r_1 arg2 X2 t) (2 * (t.val / 4 * 4)) acc) $$ [HB]
  · intro k acc
    exact absurd k.isLt (by have := trips_t5 t; simp only [Scf.Loop.trips] at this ⊢; omega)
  · have := trips_t4 t
    exact Between_congr _ _ _ _ _ _ _ _ _ _ _ (by simp only [Scf.Loop.trips] at this ⊢; omega)
  iintro %acc5 HB
  obtain ⟨a5, b5⟩ := acc5
  sl_exec
  sl_for (fun k acc => Between c arg3 arg4 arg7 arg8 X3 X4 ones (pair.sl.r arg2 X2 t) (pair.sl.r_1 arg2 X2 t)
    (2 * (t.val / 4 * 4 + 2 * k)) acc) $$ [HB]
  · intro k acc
    have e : 2 * (t.val / 4 * 4 + 2 * (k.val + 1)) = base6 t k + 4 := by show _ = 2 * (t.val / 4 * 4 + 2 * k.val) + 4; omega
    simp only [e]
    exact trip6 𝒱 c bd E i arg2 harg2 arg3 harg3 arg4 harg4 arg5 harg5 arg6 harg6 arg7 harg7 arg8 harg8 X3 X4 ones t 0#32 _ _ acc.1 acc.1 0#32 0#32 0#32 0#32 0#32 0#32 0#32 k acc
  · exact Between_congr _ _ _ _ _ _ _ _ _ _ _ (by omega)
  iintro %acc6 HB
  obtain ⟨a6, b6⟩ := acc6
  sl_exec
  sl_for (fun _ acc => Between c arg3 arg4 arg7 arg8 X3 X4 ones (pair.sl.r arg2 X2 t) (pair.sl.r_1 arg2 X2 t) (2 * (t.val / 2 * 2)) acc) $$ [HB]
  · intro k acc
    exact absurd k.isLt (by have := trips_t7 t; simp only [Scf.Loop.trips] at this ⊢; omega)
  · have := trips_t6 t
    exact Between_congr _ _ _ _ _ _ _ _ _ _ _ (by simp only [Scf.Loop.trips] at this ⊢; omega)
  iintro %acc7 HB
  obtain ⟨a7, b7⟩ := acc7
  sl_exec
  sl_for (fun k acc => Between c arg3 arg4 arg7 arg8 X3 X4 ones (pair.sl.r arg2 X2 t) (pair.sl.r_1 arg2 X2 t)
    (2 * (t.val / 2 * 2 + k)) acc) $$ [HB]
  · intro k acc
    have e : 2 * (t.val / 2 * 2 + (k.val + 1)) = base8 t k + 2 := by show _ = 2 * (t.val / 2 * 2 + k.val) + 2; omega
    simp only [e]
    exact trip8 𝒱 c bd E i arg2 harg2 arg3 harg3 arg4 harg4 arg5 harg5 arg6 harg6 arg7 harg7 arg8 harg8 X3 X4 ones t 0#32 _ _ acc.1 acc.1 0#32 0#32 0#32 0#32 0#32 0#1 0#32 k acc
  · exact Between_congr _ _ _ _ _ _ _ _ _ _ _ (by omega)
  iintro %acc8 HB
  obtain ⟨a8, b8⟩ := acc8
  sl_exec
  sl_for (fun _ acc => Between c arg3 arg4 arg7 arg8 X3 X4 ones (pair.sl.r arg2 X2 t) (pair.sl.r_1 arg2 X2 t) (2 * (t.val)) acc) $$ [HB]
  · intro k acc
    exact absurd k.isLt (by have := trips_t9 t; simp only [Scf.Loop.trips] at this ⊢; omega)
  · have := trips_t8 t
    exact Between_congr _ _ _ _ _ _ _ _ _ _ _ (by simp only [Scf.Loop.trips] at this ⊢; omega)
  simp only [e0, e1]
  unfold Between
  iintro %acc9 ⟨H3, H4, ⟨%g7, H7, %hg7⟩, ⟨%g8, H8⟩, %hacc⟩
  subst hacc
  sl_exec
  sl_step
  have h70 : ∀ h, arg7.view.readAt (Elt F) (Rect.unit (s := S2x256x512) ![0, 0, 0] (no_index S1x256x512.size) h).toLoadRect g7 = _ := fun _ => hg7.1
  have h71 : ∀ h, arg7.view.readAt (Elt F) (Rect.unit (s := S2x256x512) ![1, 0, 0] (no_index S1x256x512.size) h).toLoadRect g7 = _ := fun _ => hg7.2
  obtain ⟨o0, o1, o2, o3⟩ := offsetsG t
  isplitl [H2]; · iexact H2
  isplitl [H3]; · iexact H3
  isplitl [H4]; · iexact H4
  isplitl [H5]; · iexact H5
  isplitl [H6]
  · iexists _; isplitl [H6]; · iexact H6
    ipureintro
    sl_unfold_run_names
    have d0 : 2 * t.val % 2 = 0 := by omega
    have d1 : 2 * t.val / 2 = t.val := by omega
    have d2 : (2 * t.val + 1) % 2 ≠ 0 := by omega
    have d3 : (2 * t.val + 1) / 2 = t.val := by omega
    refine outBlock_step mask ones _ _ _ _ _ _ t _ _ _ _ _ _ _ _ h6 ?_ ?_ ?_ ?_
    · simp only [outTile, d0, d1, if_true, withOnes_fold, h70, h71, readAt_gate _ _ _ o0 (by decide), readAt_val _ _ _ r3 (by decide)]
      rfl
    · simp only [outTile, if_neg d2, d3, withOnes_fold, h70, h71, readAt_gate _ _ _ o1 (by decide), readAt_val _ _ _ r3 (by decide), readAt_val _ _ _ r5 (by decide), readAt_key _ _ _ r1 (by decide)]
      rfl
    · simp only [outTile, d0, d1, if_true, withOnes_fold, h70, h71, readAt_gate _ _ _ o2 (by decide), readAt_val _ _ _ r4 (by decide)]
      rfl
    · simp only [outTile, if_neg d2, d3, withOnes_fold, h70, h71, readAt_gate _ _ _ o3 (by decide), readAt_val _ _ _ r4 (by decide), readAt_val _ _ _ r6 (by decide), readAt_key _ _ _ r2 (by decide)]
      rfl
  isplitl [H7]
  · iexists _; isplitl [H7]; · iexact H7
    ipureintro
    sl_unfold_run_names
    refine (readAt_slots _ _ _ _ _).imp (fun h => h.trans ?_) (fun h => h.trans ?_)
    · simp only [pairs_fold, readAt_q _ _ _ q5 (by decide), readAt_q _ _ _ q6 (by decide), readAt_key _ _ (J := 0) _ (rfl : ![0, 0, 0, 0] = ![0, 0, 256 * 0, 0]) (by decide)]
      rfl
    · simp only [pairs_fold, readAt_q _ _ _ q7 (by decide), readAt_q _ _ _ q8 (by decide), readAt_key _ _ (J := 0) _ (rfl : ![0, 1, 0, 0] = ![0, 1, 256 * 0, 0]) (by decide)]
      rfl
  iexists _; iexact H8

/-- The body of a grid point: from the blocks of the queries, keys, values and gate to the block of the result. -/
theorem point (x2 : Vec F S1x2x32x128x256 .bf16) (x3 : Vec F S1x2x8192x128 .bf16) (x4 : Vec F S1x2x32x64x256 .bf16) (x5 : Vec F S1x32x128x256 .bf16) (P : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (∃ f, (arg7.view.loc (c : Thread nD τ) ↦[arg7.view.set]{fullShare} f)) ∗ (∃ f, (arg8.view.loc (c : Thread nD τ) ↦[arg8.view.set]{fullShare} f))
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (outBlock k0_pay339 k0_pay340 x2 x3 x4 x5)
            ∗ (∃ f, (arg7.view.loc (c : Thread nD τ) ↦[arg7.view.set]{fullShare} f)) ∗ (∃ f, (arg8.view.loc (c : Thread nD τ) ↦[arg8.view.set]{fullShare} f))) -∗ P ⟨⟩))
      ⊢ wp frame (wpE (defs₀ (F := F)) 𝒱 (c : Thread nD τ) bd) E (cc0_flash_fixed_shift (F := F) i arg2 harg2 arg3 harg3 arg4 harg4 arg5 harg5 arg6 harg6 arg7 harg7 arg8 harg8) P := by
  rw [cc0_flash_fixed_shift_eq_skeleton]
  unfold cc0_flash_fixed_shift_skel owns
  iintro ⟨⟨%X2, %h2, H2⟩, ⟨%X3, %h3, H3⟩, ⟨%X4, %h4, H4⟩, ⟨%X5, %h5, H5⟩, ⟨%d6, %f6, -, H6⟩, ⟨%f7, H7⟩, ⟨%f8, H8⟩, HK⟩
  sl_exec
  sl_for (fun k _ => AtPair c arg2 arg3 arg4 arg5 arg6 arg7 arg8 X2 X3 X4 X5 k0_pay339 k0_pay340 k) $$ [H2 H3 H4 H5 H6 H7 H8]
  · intro k acc
    exact pair 𝒱 c bd E i arg2 harg2 arg3 harg3 arg4 harg4 arg5 harg5 arg6 harg6 arg7 harg7 arg8 harg8 X3 X4 X2 X5 k0_pay339 k0_pay340 k acc
  · unfold AtPair
    isplitl [H2]; · iexact H2
    isplitl [H3]; · iexact H3
    isplitl [H4]; · iexact H4
    isplitl [H5]; · iexact H5
    isplitl [H6]
    · iexists _; isplitl [H6]; · iexact H6
      ipureintro
      intro j hj
      exact absurd hj (by omega)
    isplitl [H7]
    · iexists _; isplitl [H7]; · iexact H7
      ipureintro
      sl_unfold_run_names
      refine (readAt_slots _ _ _ _ _).imp (fun h => h.trans ?_) (fun h => h.trans ?_)
      · simp only [pairs_fold, readAt_q _ _ (n := 0) _ (rfl : ![0, 0, 0, 0, 0] = ![0, 0, 0, 0, 0]) (by decide), readAt_q _ _ (n := 1) _ (rfl : ![0, 0, 1, 0, 0] = ![0, 0, 1, 0, 0]) (by decide), readAt_key _ _ (J := 0) _ (rfl : ![0, 0, 0, 0] = ![0, 0, 256 * 0, 0]) (by decide)]
        rfl
      · simp only [pairs_fold, readAt_q _ _ (n := 0) _ (rfl : ![0, 1, 0, 0, 0] = ![0, 1, 0, 0, 0]) (by decide), readAt_q _ _ (n := 1) _ (rfl : ![0, 1, 1, 0, 0] = ![0, 1, 1, 0, 0]) (by decide), readAt_key _ _ (J := 0) _ (rfl : ![0, 1, 0, 0] = ![0, 1, 256 * 0, 0]) (by decide)]
        rfl
    iexists _; iexact H8
  unfold AtPair
  iintro %acc ⟨H2, H3, H4, H5, ⟨%g6, H6, %hg6⟩, ⟨%g7, H7, -⟩, ⟨%g8, H8⟩⟩
  sl_exec
  sl_step
  iapply HK
  isplitl [H2]; · iexists _; isplitr; · ipureintro; exact h2
                  iexact H2
  isplitl [H3]; · iexists _; isplitr; · ipureintro; exact h3
                  iexact H3
  isplitl [H4]; · iexists _; isplitr; · ipureintro; exact h4
                  iexact H4
  isplitl [H5]; · iexists _; isplitr; · ipureintro; exact h5
                  iexact H5
  isplitl [H6]
  · iexists _; isplitr; swap; · iexact H6
    ipureintro
    funext j
    rw [hg6 j (by have h1 : (j 1).val < 32 := (j 1).isLt; have : Scf.trips k0_t1_loop.lb k0_t1_loop.ub k0_t1_loop.st = 16 := by decide +kernel
                  omega), h2, h3, h4, h5]
  isplitl [H7]; · iexists _; iexact H7
  iexists _; iexact H8

end

end Cert.KernelIdeal.Gen
-- ==== Proof.Run.lean ====
module

public import proofs.«01_k».proof.Proof.Block
public import proofs.«01_k».proof.Proof.Gen.KernelIdeal.Frame

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf ΦA)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

variable (m : (ℓ : Loc nD τ sig) → Buf (Elt F) ℓ) (ρ : Dev nD → PrngReg)

/-- What a grid point leaves in the result's block. -/
def outsAt (c : Dev nD) (t : Fin cfg0.N) : Vec F S1x32x128x256 .bf16 :=
  outBlock k0_pay339 k0_pay340 (iblk m c 0 t) (iblk m c 1 t) (iblk m c 2 t) (iblk m c 3 t)

/-- The pipeline's data: the arrays as the region finds them, each operand's block left as it was, the result's block at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body at every point. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3, after0_4]
  rw [show (dats m 0 c).Φ t.castSucc = Pipeline.ΦA spec0 c from rfl]
  unfold Pipeline.ΦA outsAt
  rw [scopedRest0_eq]
  iintro ⟨⟨⟨⟨%g7, H7⟩, ⟨%g8, H8⟩⟩, Hg⟩, Ho, ⟨%d0, H0⟩, ⟨%d1, H1⟩, ⟨%d2, H2⟩, ⟨%d3, H3⟩, ⟨%d4, H4⟩⟩
  iapply (point (F := F) 𝒱₀ c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (iblk m c 0 t) (iblk m c 1 t) (iblk m c 2 t) (iblk m c 3 t) _)
  simp only [Memref.view_whole, View.set_whole]
  isplitl [H0]; · iexact H0
  isplitl [H1]; · iexact H1
  isplitl [H2]; · iexact H2
  isplitl [H3]; · iexact H3
  isplitl [H4]; · iexists _; iexact H4
  isplitl [H7]; · iexists _; iexact H7
  isplitl [H8]; · iexists _; iexact H8
  iintro ⟨H0, H1, H2, H3, H4, H7, H8⟩
  isplitl [H7 H8 Hg]
  · isplitl [H7 H8]
    · isplitl [H7]; · iexact H7
      iexact H8
    iexact Hg
  isplitl [Ho]; · iexact Ho
  isplitl [H0]; · iexact H0
  isplitl [H1]; · iexact H1
  isplitl [H2]; · iexact H2
  isplitl [H3]; · iexact H3
  iexact H4

set_option backward.isDefEq.respectTransparency.types false in
/-- Every execution of @main ends, with every array and every other buffer at what the pipeline's data say, and the counters at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The arguments end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_with_sems (frame_of m ρ (dats m) fun _ _ => rfl) (run_main m ρ)

end Cert.KernelIdeal.Gen
-- ==== Proof.Entry.lean ====
/- The arrays the pipelined region takes, at an index, from the arguments: scaled queries and keys with their padding rows, values, gate. -/
module

public import proofs.«01_k».proof.Proof.Run
public import Idealize.ShloMosaic.Lib.Pointwise
public import Idealize.ShloMosaic.Lib.StableHlo.ReadAt
public import Idealize.ShloMosaic.Lib.Pipeline.ValueKit

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (c : Dev nD)

/-- The arguments: queries, keys, values, gate, and the two gains. -/
abbrev Aq : FVec Ideal S4x8192x8x96 .f32 := m ((c.tc : Thread nD τ).loc main_arg0)
abbrev Ak : FVec Ideal S4x8192x8x96 .f32 := m ((c.tc : Thread nD τ).loc main_arg1)
abbrev Av : FVec Ideal S4x8192x8x64 .f32 := m ((c.tc : Thread nD τ).loc main_arg2)
abbrev Ag : FVec Ideal S4x8192x512 .f32 := m ((c.tc : Thread nD τ).loc main_arg3)

/-- The gate of the kernel, from `x`. -/
def gateOf (x : EReal) : EReal := Ideal.ofBits .f32 0x3F000000#32 * x + Ideal.ofBits .f32 0x3F000000#32 * x * Ideal.tanh (Ideal.ofBits .f32 0x3F000000#32 * x)

/-- The two gains. -/
abbrev Aqn : FVec Ideal S96 .f32 := m ((c.tc : Thread nD τ).loc main_arg4)
abbrev Akn : FVec Ideal S96 .f32 := m ((c.tc : Thread nD τ).loc main_arg5)

/-- The largest magnitude of a gain. -/
def magOf (x : FVec Ideal S96 .f32) : EReal :=
  Finset.fold max (Ideal.ofBits .f32 0xFF800000#32) (fun k : Fin 96 => (FloatOps.absf (F := Ideal) (φ := .f32) (x (ix1 k)) : EReal)) Finset.univ

/-- The bound on the scores the two gains give. -/
def boundOf : EReal := Ideal.ofBits .f32 1097248985#32 * magOf (Aqn m c) * magOf (Akn m c)

/-- The shift of the exponents: the bound when it is at most 40, else 0. -/
def shiftOf : EReal := if boundOf m c ≤ Ideal.ofBits .f32 1109393408#32 then boundOf m c else Ideal.ofBits .f32 0x00000000#32

/-- The scale of the queries. -/
def scaleOf : EReal := Ideal.div (Ideal.ofBits .f32 0x3DD105EC#32) (Ideal.log (Ideal.ofBits .f32 0x40000000#32))

/-- The first padding row, told from the others. -/
theorem select_first (d : Nat) (h₁ : 96 ≤ d) (h₂ : d < 128) (a b : EReal) :
    Scalar.select (IntOp.cmpi CmpIPredicate.eq (BitVec.ofNat 32 (d - 96)) 0#32) a b = if d = 96 then a else b := by
  by_cases e : d = 96
  · subst e; simp [Scalar.select, IntOp.cmpi]
  · have : ¬ (BitVec.ofNat 32 (d - 96) = 0#32) := by
      intro h
      have := congrArg BitVec.toNat h
      simp only [BitVec.toNat_ofNat] at this
      omega
    have e' : (BitVec.ofNat 32 (d - 96) == 0#32) = false := by simpa using this
    simp [Scalar.select, IntOp.cmpi, e', e]

theorem entry_v (b : Fin 4) (h : Fin 8) (n : Fin 32) (d : Fin 64) (y : Fin 256) :
    (V m c main_v31 (ix5 b h n d y) : EReal) = Av m c (ix4 b ⟨n.val * 256 + y.val, by omega⟩ h d) := by
  unfold V V0
  after_reads_at

theorem entry_g (b : Fin 4) (n : Fin 32) (d : Fin 512) (y : Fin 256) :
    (V m c main_v39 (ix4 b n d y) : EReal) = gateOf (Ag m c (ix3 b ⟨n.val * 256 + y.val, by omega⟩ d)) := by
  unfold V V0
  after_reads_at
  rfl

theorem entry_k (b : Fin 4) (h : Fin 8) (x : Fin 8192) (d : Fin 128) :
    (V m c main_v28 (ix4 b h x d) : EReal) = if hd : d.val < 96 then (Ak m c (ix4 b x h ⟨d.val, hd⟩) : EReal) else if d.val = 96 then 1 else 0 := by
  unfold V V0
  after_reads_at
  split
  · after_reads_at
  · rename_i hd
    after_reads_at
    exact select_first d.val (by omega) d.isLt 1 0

theorem entry_q (b : Fin 4) (h : Fin 8) (n : Fin 32) (d : Fin 128) (y : Fin 256) :
    (V m c main_v23 (ix5 b h n d y) : EReal) = if hd : d.val < 96 then (Aq m c (ix4 b ⟨n.val * 256 + y.val, by omega⟩ h ⟨d.val, hd⟩) : EReal) * scaleOf else if d.val = 96 then -shiftOf m c else 0 := by
  unfold V V0
  after_reads_at
  split
  · after_reads_at
    rfl
  · rename_i hd
    after_reads_at
    refine (select_first d.val (by omega) d.isLt _ _).trans ?_
    refine if_congr Iff.rfl ?_ ?_
    · refine congrArg (fun x : EReal => -x) ?_
      rfl
    · exact Ideal.ofBits_zero_f32

end Cert.KernelIdeal.Gen
-- ==== Proof.BlockValue.lean ====
module

public import proofs.«01_k».proof.Proof.Outputs
public import Idealize.ShloMosaic.Lib.Pointwise
public import Idealize.ShloMosaic.PureOps.Ideal

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (Q : FVec Ideal S1x2x32x128x256 .bf16) (K : FVec Ideal S1x2x8192x128 .bf16) (V : FVec Ideal S1x2x32x64x256 .bf16)
  (G : FVec Ideal S1x32x128x256 .bf16)

/-- The score of key `k` against query `y` of block `n`, head `h`. -/
def sco (h : Fin 2) (n : ℕ) (y : Fin 256) (k : ℕ) : EReal :=
  ∑ d : Fin 128, K (ix4 0 h ⟨k % 8192, Nat.mod_lt _ (by decide)⟩ d) * Q (ix5 0 h ⟨n % 32, Nat.mod_lt _ (by decide)⟩ d y)

/-- Row `r` of the transposed values with the rows of ones below them, at key `k`. -/
def vrow (h : Fin 2) (r : Fin 80) (k : ℕ) : EReal :=
  if hr : r.val < 64 then V (ix5 0 h ⟨k / 256 % 32, Nat.mod_lt _ (by decide)⟩ ⟨r.val, hr⟩ ⟨k % 256, Nat.mod_lt _ (by decide)⟩) else 1

theorem qTile_left (h : Fin 2) (t : ℕ) (d : Fin 128) (y : Fin 256) :
    qTile Q h t (ix2 d ⟨y.val, by omega⟩) = Q (ix5 0 h ⟨2 * t % 32, Nat.mod_lt _ (by decide)⟩ d y) := by
  pointwise [qTile, k0_pay297, qSub]

theorem qTile_right (h : Fin 2) (t : ℕ) (d : Fin 128) (y : Fin 256) :
    qTile Q h t (ix2 d ⟨256 + y.val, by omega⟩) = Q (ix5 0 h ⟨(2 * t + 1) % 32, Nat.mod_lt _ (by decide)⟩ d y) := by
  pointwise [qTile, k0_pay297, qSub]

theorem scores_at (q : FVec Ideal S128x512 .bf16) (h : Fin 2) (J : ℕ) (j : Fin 256) (x : Fin 512) :
    scores q (keyTile K h J) (ix3 0 j x) = ∑ d : Fin 128, K (ix4 0 h ⟨(256 * J + j) % 8192, Nat.mod_lt _ (by decide)⟩ d) * q (ix2 d x) := by
  pointwise [scores, keyTile]

theorem withOnes_at (h : Fin 2) (J : ℕ) (r : Fin 80) (j : Fin 256) :
    withOnes k0_pay340 (valTile V h J) (ix2 r j) = vrow V h r (256 * J + j) := by
  have e1 : (256 * J + j.val) / 256 = J := by omega
  have e2 : (256 * J + j.val) % 256 = j.val := by omega
  pointwise [withOnes, valTile, vrow, k0_pay340]
  simp only [e1, e2]

theorem accumulate_at (ones : FVec Ideal S16x256 .bf16) (acc : FVec Ideal S80x512 .f32) (s : FVec Ideal S1x256x512 .f32) (v : FVec Ideal S1x1x1x64x256 .bf16) (r : Fin 80) (x : Fin 512) :
    accumulate ones acc s v (ix2 r x) = acc (ix2 r x) + ∑ j : Fin 256, withOnes ones v (ix2 r j) * Ideal.exp2 (s (ix3 0 j x)) := by
  unfold accumulate
  generalize withOnes ones v = w
  pointwise []
  rfl

theorem mask_at (j y : Fin 256) : k0_pay339 (ix2 j y) = if j ≤ y then 1#1 else 0#1 := by
  pointwise [k0_pay339]
  have hj := j.isLt
  have hy := y.isLt
  have e : ((BitVec.ofNat 32 j.val).sle (BitVec.ofNat 32 y.val)) = decide (j ≤ y) := by
    have toInt : ∀ n : ℕ, n < 256 → (BitVec.ofNat 32 n).toInt = n := fun n hn => by
      have e : (BitVec.ofNat 32 n).toNat = n := by rw [BitVec.toNat_ofNat]; omega
      rw [BitVec.toInt_eq_toNat_of_lt (by rw [e]; omega), e]
    rw [BitVec.sle_eq_decide, toInt _ hj, toInt _ hy]
    simp only [Nat.cast_le, Fin.le_def]
  unfold IntOp.cmpi
  simp only [e]
  by_cases h : j ≤ y <;> simp [h]

theorem sum_tile (f : ℕ → EReal) (J : ℕ) :
    ∑ k ∈ Finset.range (256 * J), f k + ∑ j : Fin 256, f (256 * J + j.val) = ∑ k ∈ Finset.range (256 * (J + 1)), f k := by
  rw [Fin.sum_univ_eq_sum_range (fun j => f (256 * J + j)), Nat.mul_succ, Finset.sum_range_add]

theorem sum_tile_masked (f : ℕ → EReal) (J : ℕ) (y : Fin 256) :
    ∑ k ∈ Finset.range (256 * J), f k + ∑ j : Fin 256, (if j ≤ y then f (256 * J + j.val) else 0) = ∑ k ∈ Finset.range (256 * J + y.val + 1), f k := by
  have hy := y.isLt
  have e : ∑ j : Fin 256, (if j ≤ y then f (256 * J + j.val) else 0) = ∑ j ∈ Finset.range 256, (if j ≤ y.val then f (256 * J + j) else 0) := by
    rw [← Fin.sum_univ_eq_sum_range (fun j => if j ≤ y.val then f (256 * J + j) else 0)]
    exact Finset.sum_congr rfl fun j _ => by simp only [Fin.le_def]
  rw [e, ← Finset.sum_filter, Nat.add_assoc, Finset.sum_range_add]
  congr 1
  refine Finset.sum_congr (Finset.ext fun j => ?_) fun _ _ => rfl
  simp only [Finset.mem_filter, Finset.mem_range]
  omega

/-- Key `k`'s part of row `r` for query `y` of block `n`. -/
def part (h : Fin 2) (n : ℕ) (y : Fin 256) (r : Fin 80) (k : ℕ) : EReal := vrow V h r k * Ideal.exp2 (sco Q K h n y k)

theorem scores_col (q : FVec Ideal S128x512 .bf16) (h : Fin 2) (n : ℕ) (y : Fin 256) (x : Fin 512) (J : ℕ) (j : Fin 256)
    (hq : ∀ d, q (ix2 d x) = Q (ix5 0 h ⟨n % 32, Nat.mod_lt _ (by decide)⟩ d y)) :
    scores q (keyTile K h J) (ix3 0 j x) = sco Q K h n y (256 * J + j) := by
  rw [scores_at]
  simp only [hq]
  rfl

theorem accAt_at (q : FVec Ideal S128x512 .bf16) (h : Fin 2) (n : ℕ) (y : Fin 256) (r : Fin 80) (x : Fin 512) (J : ℕ)
    (hq : ∀ d, q (ix2 d x) = Q (ix5 0 h ⟨n % 32, Nat.mod_lt _ (by decide)⟩ d y)) :
    accAt K V k0_pay340 h q J (ix2 r x) = ∑ k ∈ Finset.range (256 * J), part Q K V h n y r k := by
  induction J with
  | zero =>
    pointwise [accAt]
    simp
  | succ J ih =>
    rw [← sum_tile, ← ih]
    rw [show accAt K V k0_pay340 h q (J + 1) = accumulate k0_pay340 (accAt K V k0_pay340 h q J) (scores q (keyTile K h J)) (valTile V h J) from rfl,
      accumulate_at]
    refine congrArg₂ (HAdd.hAdd : EReal → EReal → EReal) rfl (Finset.sum_congr rfl fun j _ => ?_)
    rw [withOnes_at, scores_col Q K q h n y x J j hq]
    rfl

theorem masked_mul (w s : EReal) (j y : Fin 256) :
    (w * Ideal.exp2 (Scalar.select (if j ≤ y then 1#1 else 0#1) s (Named.named (F := Ideal) (φ := .f32) κ "mask" 0xF149F2CA#32)) : EReal)
      = if j ≤ y then w * Ideal.exp2 s else 0 := by
  rw [show (Named.named (F := Ideal) (φ := .f32) κ "mask" 0xF149F2CA#32 : EReal) = ⊥ from rfl]
  by_cases h : j ≤ y
  · rw [if_pos h, if_pos h]; rfl
  · rw [if_neg h, if_neg h]; exact mul_zero w

theorem midAcc_left (h : Fin 2) (t : ℕ) (y : Fin 256) (r : Fin 80) :
    midAcc k0_pay339 k0_pay340 Q K V h t (ix2 r ⟨y.val, by omega⟩) = ∑ k ∈ Finset.range (256 * (2 * t) + y.val + 1), part Q K V h (2 * t) y r k := by
  have hq := fun d => qTile_left Q h t d y
  rw [← sum_tile_masked, ← accAt_at Q K V (qTile Q h t) h (2 * t) y r ⟨y.val, by omega⟩ (2 * t) hq]
  unfold midAcc
  generalize hacc : accAt K V k0_pay340 h (qTile Q h t) (2 * t) = acc
  have hs := fun j => scores_col Q K (qTile Q h t) h (2 * t) y ⟨y.val, by omega⟩ (2 * t) j hq
  have hw := fun j => withOnes_at V h (2 * t) r j
  generalize hs' : scores (qTile Q h t) (keyTile K h (2 * t)) = s at hs
  unfold part
  simp only [← hs, ← hw]
  generalize hv : valTile V h (2 * t) = v
  unfold k0_pay323
  simp only [withOnes_fold]
  generalize withOnes k0_pay340 v = w
  have hm := mask_at
  generalize k0_pay339 = mask at hm
  pointwise []
  refine congrArg₂ (HAdd.hAdd : EReal → EReal → EReal) rfl (Finset.sum_congr rfl fun j _ => ?_)
  rw [hm]
  exact masked_mul _ _ _ _

theorem midAcc_right (h : Fin 2) (t : ℕ) (y : Fin 256) (r : Fin 80) :
    midAcc k0_pay339 k0_pay340 Q K V h t (ix2 r ⟨256 + y.val, by omega⟩) = ∑ k ∈ Finset.range (256 * (2 * t + 1)), part Q K V h (2 * t + 1) y r k := by
  have hq := fun d => qTile_right Q h t d y
  rw [← sum_tile, ← accAt_at Q K V (qTile Q h t) h (2 * t + 1) y r ⟨256 + y.val, by omega⟩ (2 * t) hq]
  unfold midAcc
  generalize hacc : accAt K V k0_pay340 h (qTile Q h t) (2 * t) = acc
  have hs := fun j => scores_col Q K (qTile Q h t) h (2 * t + 1) y ⟨256 + y.val, by omega⟩ (2 * t) j hq
  have hw := fun j => withOnes_at V h (2 * t) r j
  generalize hs' : scores (qTile Q h t) (keyTile K h (2 * t)) = s at hs
  unfold part
  simp only [← hs, ← hw]
  generalize hv : valTile V h (2 * t) = v
  unfold k0_pay323
  simp only [withOnes_fold]
  generalize withOnes k0_pay340 v = w
  generalize k0_pay339 = mask
  pointwise []
  rfl

theorem lastAcc_at (h : Fin 2) (t : ℕ) (y : Fin 256) (r : Fin 80) :
    lastAcc k0_pay339 k0_pay340 Q K V h t (ix2 r y) = ∑ k ∈ Finset.range (256 * (2 * t + 1) + y.val + 1), part Q K V h (2 * t + 1) y r k := by
  have hq := fun d => qTile_right Q h t d y
  rw [← sum_tile_masked, ← midAcc_right Q K V h t y r]
  unfold lastAcc
  generalize midAcc k0_pay339 k0_pay340 Q K V h t = acc
  have hs : ∀ j : Fin 256, k0_pay321 (qTile Q h t) (keyTile K h (2 * t + 1)) (ix2 j y) = sco Q K h (2 * t + 1) y (256 * (2 * t + 1) + j) := by
    intro j
    unfold sco
    simp only [← hq]
    generalize qTile Q h t = q
    pointwise [k0_pay321, keyTile]
  have hw := fun j => withOnes_at V h (2 * t + 1) r j
  generalize hs' : k0_pay321 (qTile Q h t) (keyTile K h (2 * t + 1)) = s at hs
  unfold part
  simp only [← hs, ← hw]
  generalize hv : valTile V h (2 * t + 1) = v
  unfold k0_pay330
  simp only [withOnes_fold]
  generalize withOnes k0_pay340 v = w
  have hm := mask_at
  generalize k0_pay339 = mask at hm
  pointwise []
  refine congrArg₂ (HAdd.hAdd : EReal → EReal → EReal) rfl (Finset.sum_congr rfl fun j _ => ?_)
  rw [hm]
  exact masked_mul _ _ _ _

/-- The gated attention of query `y` of block `n`, at row `d` of head `h`. -/
theorem outTile_at (h : Fin 2) (n : ℕ) (d : Fin 64) (y : Fin 256) :
    outTile k0_pay339 k0_pay340 Q K V G h n (ix4 0 0 d y)
      = Ideal.div (∑ k ∈ Finset.range (256 * n + y.val + 1), part Q K V h n y ⟨d.val, by omega⟩ k)
          (∑ k ∈ Finset.range (256 * n + y.val + 1), part Q K V h n y ⟨64, by decide⟩ k) * gSub G h n (ix4 0 0 d y) := by
  unfold outTile
  by_cases hn : n % 2 = 0
  · rw [if_pos hn]
    obtain ⟨t, rfl⟩ : ∃ t, n = 2 * t := ⟨n / 2, by omega⟩
    rw [show 2 * t / 2 = t by omega, ← midAcc_left, ← midAcc_left]
    generalize midAcc k0_pay339 k0_pay340 Q K V h t = acc
    generalize gSub G h (2 * t) = g
    pointwise [k0_pay332, k0_pay331]
  · rw [if_neg hn]
    obtain ⟨t, rfl⟩ : ∃ t, n = 2 * t + 1 := ⟨n / 2, by omega⟩
    rw [show (2 * t + 1) / 2 = t by omega, ← lastAcc_at, ← lastAcc_at]
    generalize lastAcc k0_pay339 k0_pay340 Q K V h t = acc
    generalize gSub G h (2 * t + 1) = g
    pointwise [k0_pay333]

theorem outBlock_at (h : Fin 2) (n : Fin 32) (d : Fin 64) (y : Fin 256) :
    outBlock k0_pay339 k0_pay340 Q K V G (ix4 0 n ⟨64 * h.val + d.val, by omega⟩ y)
      = Ideal.div (∑ k ∈ Finset.range (256 * n.val + y.val + 1), part Q K V h n y ⟨d.val, by omega⟩ k)
          (∑ k ∈ Finset.range (256 * n.val + y.val + 1), part Q K V h n y ⟨64, by decide⟩ k) * G (ix4 0 n ⟨64 * h.val + d.val, by omega⟩ y) := by
  have hd := d.isLt
  have e1 : (64 * h.val + d.val) / 64 = h.val := by omega
  have e2 : (64 * h.val + d.val) % 64 = d.val := by omega
  have e : outBlock k0_pay339 k0_pay340 Q K V G (ix4 0 n ⟨64 * h.val + d.val, by omega⟩ y) = outTile k0_pay339 k0_pay340 Q K V G h n.val (ix4 0 0 d y) := by
    show outTile k0_pay339 k0_pay340 Q K V G ⟨(64 * h.val + d.val) / 64, _⟩ n.val (ix4 0 0 ⟨(64 * h.val + d.val) % 64, _⟩ y) = _
    simp only [e1, e2]
  rw [e, outTile_at]
  have en : n.val % 32 = n.val := Nat.mod_eq_of_lt n.isLt
  congr 1
  pointwise [gSub]
  simp only [en]

end Cert.KernelIdeal.Gen
-- ==== Proof.Result.lean ====
/- The region's result, at an index: every grid point's block of it, the blocks covering the array. -/
module

public import proofs.«01_k».proof.Proof.Entry
public import Idealize.ShloMosaic.Lib.Pointwise
public import proofs.«01_k».proof.Proof.BlockValue
public import Idealize.ShloMosaic.Lib.StableHlo.ReadAt
public import Idealize.ShloMosaic.Lib.Pipeline.ValueKit

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (c : Dev nD)

theorem idx_q : ∀ t : Fin cfg0.N, win0_0.index t = ![(grid0.coords t 0).val, (grid0.coords t 1).val, 0, 0, 0] :=
  (by decide +kernel : ∀ t : Fin grid0.N, _)
theorem idx_k : ∀ t : Fin cfg0.N, win0_1.index t = ![(grid0.coords t 0).val, (grid0.coords t 1).val, 0, 0] :=
  (by decide +kernel : ∀ t : Fin grid0.N, _)
theorem idx_v : ∀ t : Fin cfg0.N, win0_2.index t = ![(grid0.coords t 0).val, (grid0.coords t 1).val, 0, 0, 0] :=
  (by decide +kernel : ∀ t : Fin grid0.N, _)
theorem idx_g : ∀ t : Fin cfg0.N, win0_3.index t = ![(grid0.coords t 0).val, 0, (grid0.coords t 1).val, 0] :=
  (by decide +kernel : ∀ t : Fin grid0.N, _)
theorem idx_o : ∀ t : Fin cfg0.N, win0_4.index t = ![(grid0.coords t 0).val, 0, (grid0.coords t 1).val, 0] :=
  (by decide +kernel : ∀ t : Fin grid0.N, _)
theorem coords_lt : ∀ t : Fin cfg0.N, (grid0.coords t 0).val < 4 ∧ (grid0.coords t 1).val < 4 :=
  (by decide +kernel : ∀ t : Fin grid0.N, _)

/-- The batch of a grid point, and the head its `h`-th is. -/
abbrev bat (t : Fin cfg0.N) : Fin 4 := ⟨(grid0.coords t 0).val, (coords_lt t).1⟩
abbrev hd (t : Fin cfg0.N) (h : Fin 2) : Fin 8 := ⟨2 * (grid0.coords t 1).val + h.val, by have := (coords_lt t).2; omega⟩

theorem emb_q (t : Fin cfg0.N) (h : Fin 2) (n : Fin 32) (d : Fin 128) (y : Fin 256) :
    ((cfg0.win 0).blk t).view.emb (ix5 0 h n d y) = (ix5 (bat t) (hd t h) n d y) := by
  funext a
  apply Fin.ext
  blk_simp [idx_q]
  fin_cases a
  · show (grid0.coords t 0).val * 1 + 0 = (grid0.coords t 0).val; omega
  · show (grid0.coords t 1).val * 2 + h.val = 2 * (grid0.coords t 1).val + h.val; omega
  · show 0 * 32 + n.val = n.val; omega
  · show 0 * 128 + d.val = d.val; omega
  · show 0 * 256 + y.val = y.val; omega

theorem blk_q (t : Fin cfg0.N) (h : Fin 2) (n : Fin 32) (d : Fin 128) (y : Fin 256) :
    (iblk m c 0 t (ix5 0 h n d y) : EReal) = V m c main_v23 (ix5 (bat t) (hd t h) n d y) := by
  have key : ∀ W : (⟨S4x8x32x128x256, .bf16⟩ : BufTy).Contents (Elt Ideal), (((cfg0.win 0).blk t).view.read (Elt Ideal) W (ix5 0 h n d y) : EReal)
      = W (ix5 (bat t) (hd t h) n d y) := fun W => congrArg W (emb_q t h n d y)
  exact key (V m c main_v23)

theorem emb_k (t : Fin cfg0.N) (h : Fin 2) (x : Fin 8192) (d : Fin 128) :
    ((cfg0.win 1).blk t).view.emb (ix4 0 h x d) = (ix4 (bat t) (hd t h) x d) := by
  funext a
  apply Fin.ext
  blk_simp [idx_k]
  fin_cases a
  · show (grid0.coords t 0).val * 1 + 0 = (grid0.coords t 0).val; omega
  · show (grid0.coords t 1).val * 2 + h.val = 2 * (grid0.coords t 1).val + h.val; omega
  · show 0 * 8192 + x.val = x.val; omega
  · show 0 * 128 + d.val = d.val; omega

theorem blk_k (t : Fin cfg0.N) (h : Fin 2) (x : Fin 8192) (d : Fin 128) :
    (iblk m c 1 t (ix4 0 h x d) : EReal) = V m c main_v28 (ix4 (bat t) (hd t h) x d) := by
  have key : ∀ W : (⟨S4x8x8192x128, .bf16⟩ : BufTy).Contents (Elt Ideal), (((cfg0.win 1).blk t).view.read (Elt Ideal) W (ix4 0 h x d) : EReal)
      = W (ix4 (bat t) (hd t h) x d) := fun W => congrArg W (emb_k t h x d)
  exact key (V m c main_v28)

theorem emb_v (t : Fin cfg0.N) (h : Fin 2) (n : Fin 32) (d : Fin 64) (y : Fin 256) :
    ((cfg0.win 2).blk t).view.emb (ix5 0 h n d y) = (ix5 (bat t) (hd t h) n d y) := by
  funext a
  apply Fin.ext
  blk_simp [idx_v]
  fin_cases a
  · show (grid0.coords t 0).val * 1 + 0 = (grid0.coords t 0).val; omega
  · show (grid0.coords t 1).val * 2 + h.val = 2 * (grid0.coords t 1).val + h.val; omega
  · show 0 * 32 + n.val = n.val; omega
  · show 0 * 64 + d.val = d.val; omega
  · show 0 * 256 + y.val = y.val; omega

theorem blk_v (t : Fin cfg0.N) (h : Fin 2) (n : Fin 32) (d : Fin 64) (y : Fin 256) :
    (iblk m c 2 t (ix5 0 h n d y) : EReal) = V m c main_v31 (ix5 (bat t) (hd t h) n d y) := by
  have key : ∀ W : (⟨S4x8x32x64x256, .bf16⟩ : BufTy).Contents (Elt Ideal), (((cfg0.win 2).blk t).view.read (Elt Ideal) W (ix5 0 h n d y) : EReal)
      = W (ix5 (bat t) (hd t h) n d y) := fun W => congrArg W (emb_v t h n d y)
  exact key (V m c main_v31)

theorem emb_g (t : Fin cfg0.N) (h : Fin 2) (n : Fin 32) (d : Fin 64) (y : Fin 256) :
    ((cfg0.win 3).blk t).view.emb (ix4 0 n ⟨64 * h.val + d.val, by omega⟩ y) = (ix4 (bat t) n ⟨64 * (hd t h).val + d.val, by have := (hd t h).isLt; omega⟩ y) := by
  funext a
  apply Fin.ext
  blk_simp [idx_g]
  fin_cases a
  · show (grid0.coords t 0).val * 1 + 0 = (grid0.coords t 0).val; omega
  · show 0 * 32 + n.val = n.val; omega
  · show (grid0.coords t 1).val * 128 + (64 * h.val + d.val) = 64 * (2 * (grid0.coords t 1).val + h.val) + d.val; omega
  · show 0 * 256 + y.val = y.val; omega

theorem blk_g (t : Fin cfg0.N) (h : Fin 2) (n : Fin 32) (d : Fin 64) (y : Fin 256) :
    (iblk m c 3 t (ix4 0 n ⟨64 * h.val + d.val, by omega⟩ y) : EReal) = V m c main_v39 (ix4 (bat t) n ⟨64 * (hd t h).val + d.val, by have := (hd t h).isLt; omega⟩ y) := by
  have key : ∀ W : (⟨S4x32x512x256, .bf16⟩ : BufTy).Contents (Elt Ideal), (((cfg0.win 3).blk t).view.read (Elt Ideal) W (ix4 0 n ⟨64 * h.val + d.val, by omega⟩ y) : EReal)
      = W (ix4 (bat t) n ⟨64 * (hd t h).val + d.val, by have := (hd t h).isLt; omega⟩ y) := fun W => congrArg W (emb_g t h n d y)
  exact key (V m c main_v39)

theorem emb_o (t : Fin cfg0.N) (h : Fin 2) (n : Fin 32) (d : Fin 64) (y : Fin 256) :
    ((cfg0.win 4).blk t).view.emb (ix4 0 n ⟨64 * h.val + d.val, by omega⟩ y) = (ix4 (bat t) n ⟨64 * (hd t h).val + d.val, by have := (hd t h).isLt; omega⟩ y) := by
  funext a
  apply Fin.ext
  blk_simp [idx_o]
  fin_cases a
  · show (grid0.coords t 0).val * 1 + 0 = (grid0.coords t 0).val; omega
  · show 0 * 32 + n.val = n.val; omega
  · show (grid0.coords t 1).val * 128 + (64 * h.val + d.val) = 64 * (2 * (grid0.coords t 1).val + h.val) + d.val; omega
  · show 0 * 256 + y.val = y.val; omega

/-- The keys and the queries the region takes. -/
abbrev keysOf : FVec Ideal S4x8x8192x128 .bf16 := V m c main_v28
abbrev queriesOf : FVec Ideal S4x8x32x128x256 .bf16 := V m c main_v23

/-- The score of the query at place `256 n + y` against the key at `k`, as the region takes it. -/
def scoreOf (b : Fin 4) (H : Fin 8) (n : Fin 32) (y : Fin 256) (k : ℕ) : EReal :=
  ∑ d : Fin 128, keysOf m c (ix4 b H ⟨k % 8192, Nat.mod_lt _ (by decide)⟩ d) * queriesOf m c (ix5 b H n d y)

/-- An element of the result from the arguments. -/
def valueOf (b : Fin 4) (H : Fin 8) (n : Fin 32) (d : Fin 64) (y : Fin 256) : EReal :=
  Ideal.div (∑ k ∈ Finset.range (256 * n.val + y.val + 1), (Av m c (ix4 b ⟨k % 8192, Nat.mod_lt _ (by decide)⟩ H d) : EReal) * Ideal.exp2 (scoreOf m c b H n y k))
      (∑ k ∈ Finset.range (256 * n.val + y.val + 1), 1 * Ideal.exp2 (scoreOf m c b H n y k))
    * gateOf (Ag m c (ix3 b ⟨n.val * 256 + y.val, by omega⟩ ⟨64 * H.val + d.val, by omega⟩))

/-- The result's array, in the order its blocks have. -/
def arrayOf : FVec Ideal S4x32x512x256 .bf16 := fun i =>
  valueOf m c ⟨(i 0).val, (i 0).isLt⟩ ⟨(i 2).val / 64, by have : (i 2).val < 512 := (i 2).isLt; omega⟩ ⟨(i 1).val, (i 1).isLt⟩ ⟨(i 2).val % 64, Nat.mod_lt _ (by decide)⟩ ⟨(i 3).val, (i 3).isLt⟩

theorem point_value (t : Fin cfg0.N) (h : Fin 2) (n : Fin 32) (d : Fin 64) (y : Fin 256) :
    (outsAt m c t (ix4 0 n ⟨64 * h.val + d.val, by omega⟩ y) : EReal) = valueOf m c (bat t) (hd t h) n d y := by
  unfold outsAt
  refine (outBlock_at (iblk m c 0 t) (iblk m c 1 t) (iblk m c 2 t) (iblk m c 3 t) h n d y).trans ?_
  rw [blk_g, entry_g]
  unfold valueOf
  refine congrArg (· * _) ?_
  have es : ∀ k, sco (iblk m c 0 t) (iblk m c 1 t) h n.val y k = scoreOf m c (bat t) (hd t h) n y k := by
    intro k
    unfold sco scoreOf
    refine Finset.sum_congr rfl fun d' _ => ?_
    rw [blk_k, blk_q]
    rw [show (⟨n.val % 32, Nat.mod_lt _ (by decide)⟩ : Fin 32) = n from Fin.ext (Nat.mod_eq_of_lt n.isLt)]
  have ev : ∀ k, vrow (iblk m c 2 t) h ⟨d.val, by omega⟩ k = Av m c (ix4 (bat t) ⟨k % 8192, Nat.mod_lt _ (by decide)⟩ (hd t h) d) := by
    intro k
    unfold vrow
    rw [dif_pos d.isLt, blk_v, entry_v]
    refine congrArg (fun x : Fin 8192 => Av m c (ix4 (bat t) x (hd t h) d)) (Fin.ext ?_)
    show k / 256 % 32 * 256 + k % 256 = k % 8192
    omega
  refine congrArg₂ Ideal.div (Finset.sum_congr rfl fun k _ => ?_) (Finset.sum_congr rfl fun k _ => ?_)
  · unfold part
    rw [ev, es]
  · unfold part
    rw [es]
    refine congrArg (· * _) ?_
    unfold vrow
    rw [dif_neg (by decide)]

theorem final : (dats (F := Ideal) m 0 c).arrAt 4 cfg0.N = arrayOf m c := by
  refine (dats (F := Ideal) m 0 c).arrAt_eq_of_covers 4 _ (by decide +kernel) fun t hf y => ?_
  blk_simp
  rw [after0_4]
  have h0 : (y 0).val < 1 := (y 0).isLt
  have h1 : (y 1).val < 32 := (y 1).isLt
  have h2 : (y 2).val < 128 := (y 2).isLt
  have h3 : (y 3).val < 256 := (y 3).isLt
  have ey : y = ix4 (0 : Fin 1) (⟨(y 1).val, h1⟩ : Fin 32) (⟨64 * ((y 2).val / 64) + (y 2).val % 64, by omega⟩ : Fin 128) (⟨(y 3).val, h3⟩ : Fin 256) := by
    funext a
    apply Fin.ext
    fin_cases a
    · show (y 0).val = 0; omega
    · rfl
    · show (y 2).val = 64 * ((y 2).val / 64) + (y 2).val % 64; omega
    · rfl
  have hp := point_value m c t ⟨(y 2).val / 64, by omega⟩ ⟨(y 1).val, h1⟩ ⟨(y 2).val % 64, by omega⟩ ⟨(y 3).val, h3⟩
  have he := emb_o t ⟨(y 2).val / 64, by omega⟩ ⟨(y 1).val, h1⟩ ⟨(y 2).val % 64, by omega⟩ ⟨(y 3).val, h3⟩
  rw [ey]
  refine hp.trans ?_
  refine Eq.trans ?_ (congrArg (arrayOf m c) he).symm
  unfold arrayOf
  have hh := (hd t ⟨(y 2).val / 64, by omega⟩).isLt
  have e₁ : (64 * (hd t ⟨(y 2).val / 64, by omega⟩).val + (y 2).val % 64) / 64 = (hd t ⟨(y 2).val / 64, by omega⟩).val := by omega
  have e₂ : (64 * (hd t ⟨(y 2).val / 64, by omega⟩).val + (y 2).val % 64) % 64 = (y 2).val % 64 := by omega
  exact congrArg₂ (fun (H : Fin 8) (d : Fin 64) => valueOf m c (bat t) H ⟨(y 1).val, h1⟩ d ⟨(y 3).val, h3⟩) (Fin.ext e₁.symm) (Fin.ext e₂.symm)

end Cert.KernelIdeal.Gen
-- ==== Proof.Ref.lean ====
/- The reference's result at an index: a row's softmax over its keys, against the values, by the gate. -/
module

public import proofs.«01_k».proof.Proof.Gen.ReferenceIdeal.Read
public import proofs.«01_k».proof.Proof.Algebra
public import Idealize.ShloMosaic.Lib.Pointwise

@[expose] public section

noncomputable section

namespace Cert.ReferenceIdeal.Read

open Cert.ReferenceIdeal Cert.ReferenceIdeal.Gen Cert.Attention Idealize.ShloMosaic

variable (x0 x1 : FVec Ideal S4x8192x8x96 .f32) (x2 : FVec Ideal S4x8192x8x64 .f32) (x3 : FVec Ideal S4x8192x512 .f32)

/-- The causal mask: the key's place against the query's. -/
theorem mask_at (b : Fin 4) (h : Fin 8) (x y : Fin 8192) :
    val_main_call0_v1 (F := Ideal) (ix4 b h x y) = if y.val ≤ x.val then 1#1 else 0#1 := by
  rw [val_main_call0_v1_apply, val_main_v9_apply, val_main_v8_apply, val_main_v6_apply, val_main_v7_apply, val_main_v4_apply,
    val_main_v5_apply, val_main_v3_apply, val_main_v3_apply]
  show BitVec.ofBool ((BitVec.ofNat 32 y.val).sle (BitVec.ofNat 32 x.val)) = _
  have hx := x.isLt
  have hy := y.isLt
  have tx : (BitVec.ofNat 32 x.val).toInt = (x.val : Int) := by
    rw [BitVec.toInt_eq_toNat_of_lt (by rw [BitVec.toNat_ofNat]; omega), BitVec.toNat_ofNat, Nat.mod_eq_of_lt (by omega)]
  have ty : (BitVec.ofNat 32 y.val).toInt = (y.val : Int) := by
    rw [BitVec.toInt_eq_toNat_of_lt (by rw [BitVec.toNat_ofNat]; omega), BitVec.toNat_ofNat, Nat.mod_eq_of_lt (by omega)]
  have e : (BitVec.ofNat 32 y.val).sle (BitVec.ofNat 32 x.val) = decide (y.val ≤ x.val) := by
    rw [BitVec.sle, tx, ty]
    simp
  rw [e]
  by_cases h : y.val ≤ x.val <;> simp [h]

/-- The score of a query's head against a key's. -/
theorem score_at (b : Fin 4) (h : Fin 8) (x y : Fin 8192) (q k : Fin 96 → ℝ) (r : ℝ)
    (hq : ∀ d, (x0 (ix4 b x h d) : EReal) = (q d : EReal)) (hk : ∀ d, (x1 (ix4 b y h d) : EReal) = (k d : EReal))
    (hr : Ideal.ofBits .f32 0x3DD105EC#32 = (r : EReal)) :
    (val_main_v10 (F := Ideal) x0 x1 (ix4 b h x y) : EReal) = if y.val ≤ x.val then (((∑ d : Fin 96, q d * k d) * r : ℝ) : EReal) else ⊥ := by
  rw [val_main_v10_apply, mask_at, val_main_v2_apply, val_main_v1_apply, val_main_cst_apply, val_main_v0_apply,
    val_main_call0_v2_apply, val_main_call0_v0_apply, val_main_cst_0_apply]
  have e : ∀ d : Fin 96, (x0 (lidx_main_v0 (ix4 b h x y) d) * x1 (ridx_main_v0 (ix4 b h x y) d) : EReal) = ((q d * k d : ℝ) : EReal) := by
    intro d
    have e₁ : lidx_main_v0 (ix4 b h x y) d = ix4 b x h d := funext fun a => by fin_cases a <;> rfl
    have e₂ : ridx_main_v0 (ix4 b h x y) d = ix4 b y h d := funext fun a => by fin_cases a <;> rfl
    rw [e₁, e₂, hq, hk, EReal.coe_mul]
  by_cases hle : y.val ≤ x.val
  · rw [if_pos hle, if_pos hle]
    show (∑ d : Fin 96, (x0 (lidx_main_v0 (ix4 b h x y) d) * x1 (ridx_main_v0 (ix4 b h x y) d) : EReal)) * Ideal.ofBits .f32 0x3DD105EC#32 = _
    rw [Finset.sum_congr rfl fun d _ => e d, ← coe_sum, hr, ← EReal.coe_mul]
  · rw [if_neg hle, if_neg hle]
    exact bot_word

/-- The row's maximum. -/
theorem rowmax_at (b : Fin 4) (h : Fin 8) (x : Fin 8192) :
    (val_main_v13 (F := Ideal) x0 x1 (ix3 b h x) : EReal)
      = Finset.fold max (⊥ : EReal) (fun y : Fin 8192 => (val_main_v10 (F := Ideal) x0 x1 (ix4 b h x y) : EReal)) Finset.univ := by
  rw [val_main_v13_apply, val_main_v12_apply, val_main_cst_2_apply]
  unfold val_main_v11
  generalize val_main_v10 (F := Ideal) x0 x1 = z
  have hh : S4x8x8192x8192.Reduces [3] S4x8x8192 := by decide
  refine (congrArg (max (Ideal.ofBits .f32 0xFF800000#32)) (Host.reduce_eq_fold_single (FloatOps.maximumf (F := Ideal) (φ := .f32)) z
    (val_main_cst_1 (F := Ideal)) reducesTo_S4x8x8192x8192_S4x8x8192_d3 hh h_S_ (ix3 b h x))).trans ?_
  have el : (z ∘ hh.lift (ix3 b h x)) = fun y : Fin 8192 => z (ix4 b h x y) := funext fun y => congrArg z (by
    funext a; apply Fin.ext; fin_cases a <;> rfl)
  show max (Ideal.ofBits .f32 0xFF800000#32) (Finset.fold max (Ideal.ofBits .f32 0xFF800000#32) (z ∘ hh.lift (ix3 b h x)) (Finset.univ : Finset (Fin 8192))) = _
  rw [el, bot_word]
  exact max_eq_right bot_le

/-- A weight of the row before its sum divides it. -/
theorem weight_at (b : Fin 4) (h : Fin 8) (x y : Fin 8192) :
    (val_main_v17 (F := Ideal) x0 x1 (ix4 b h x y) : EReal)
      = Ideal.exp ((val_main_v10 (F := Ideal) x0 x1 (ix4 b h x y) : EReal) - (val_main_v13 (F := Ideal) x0 x1 (ix3 b h x) : EReal)) := by
  rw [val_main_v17_apply, val_main_v16_apply, val_main_v15_apply, val_main_v14_apply]
  have e : idx_main_v14 (idx_main_v15 (ix4 b h x y)) = ix3 b h x := funext fun a => by fin_cases a <;> rfl
  rw [e]
  rfl

/-- A weight of the row. -/
theorem prob_at (b : Fin 4) (h : Fin 8) (x y : Fin 8192) :
    (val_main_v21 (F := Ideal) x0 x1 (ix4 b h x y) : EReal)
      = Ideal.div (val_main_v17 (F := Ideal) x0 x1 (ix4 b h x y)) (0 + ∑ k : Fin 8192, (val_main_v17 (F := Ideal) x0 x1 (ix4 b h x k) : EReal)) := by
  rw [val_main_v21_apply, val_main_v20_apply, val_main_v19_apply, val_main_v18_apply, val_main_cst_3_apply]
  have e : idx_main_v19 (idx_main_v20 (ix4 b h x y)) = ix3 b h x := funext fun a => by fin_cases a <;> rfl
  rw [e]
  have e₂ : ∀ k, idx_main_v18 (ix3 b h x) k = ix4 b h x k := fun k => funext fun a => by fin_cases a <;> rfl
  simp only [e₂]
  refine congrArg (Ideal.div _) ?_
  refine congrArg (· + _) ?_
  exact Ideal.ofBits_zero_f32

/-- The gate. -/
theorem gate_at (i : S4x8192x512.Idx) :
    (val_main_v25 (F := Ideal) x3 i : EReal)
      = (x3 i : EReal) * Ideal.div (Ideal.ofBits .f32 0x3F800000#32) (Ideal.ofBits .f32 0x3F800000#32 + Ideal.exp (-(x3 i : EReal))) := by
  rw [val_main_v25_apply, val_main_call1_v5_apply, val_main_call1_v4_apply, val_main_call1_cst_0_apply, val_main_call1_v3_apply,
    val_main_call1_v2_apply, val_main_call1_cst_apply, val_main_call1_v1_apply, val_main_call1_v0_apply]
  rfl

/-- The result. -/
theorem result_at (b : Fin 4) (x : Fin 8192) (h : Fin 8) (d : Fin 64) (q : Fin 96 → ℝ) (k : Fin 8192 → Fin 96 → ℝ) (r : ℝ)
    (hq : ∀ d, (x0 (ix4 b x h d) : EReal) = (q d : EReal)) (hk : ∀ y d, (x1 (ix4 b y h d) : EReal) = (k y d : EReal))
    (hr : Ideal.ofBits .f32 0x3DD105EC#32 = (r : EReal)) (s : Nat → ℝ) (hs : ∀ y : Fin 8192, s y.val = (∑ d : Fin 96, q d * k y d) * r) :
    (val_main_v27 (F := Ideal) x0 x1 x2 x3 (ix3 b x ⟨64 * h.val + d.val, by omega⟩) : EReal)
      = (∑ y : Fin 8192, (x2 (ix4 b y h d) : EReal) * Ideal.div (Ideal.exp (masked s x.val y.val - Finset.fold max (⊥ : EReal) (fun k : Fin 8192 => masked s x.val k.val) Finset.univ))
            (0 + ∑ j : Fin 8192, Ideal.exp (masked s x.val j.val - Finset.fold max (⊥ : EReal) (fun k : Fin 8192 => masked s x.val k.val) Finset.univ)))
        * ((x3 (ix3 b x ⟨64 * h.val + d.val, by omega⟩) : EReal) * Ideal.div (Ideal.ofBits .f32 0x3F800000#32) (Ideal.ofBits .f32 0x3F800000#32 + Ideal.exp (-(x3 (ix3 b x ⟨64 * h.val + d.val, by omega⟩) : EReal)))) := by
  rw [val_main_v27_apply, val_main_v26_apply, gate_at, val_main_v24_apply, val_main_v23_apply, val_main_v22_apply]
  have hb := b.isLt
  have hx := x.isLt
  have hh := h.isLt
  have hd := d.isLt
  have e : idx_main_v23 (idx_main_v24 (ix3 b x ⟨64 * h.val + d.val, by omega⟩)) = ix4 b h d x := by
    funext a
    apply Fin.ext
    fin_cases a
    · show ((b.val * 8192 + x.val) * 512 + (64 * h.val + d.val)) / 4194304 = b.val; omega
    · show ((b.val * 8192 + x.val) * 512 + (64 * h.val + d.val)) / 64 % 8 = h.val; omega
    · show ((b.val * 8192 + x.val) * 512 + (64 * h.val + d.val)) % 64 = d.val; omega
    · show ((b.val * 8192 + x.val) * 512 + (64 * h.val + d.val)) / 512 % 8192 = x.val; omega
  rw [e]
  have e₁ : ∀ y : Fin 8192, lidx_main_v22 (ix4 b h d x) y = ix4 b y h d := fun y => funext fun a => by fin_cases a <;> rfl
  have e₂ : ∀ y : Fin 8192, ridx_main_v22 (ix4 b h d x) y = ix4 b h x y := fun y => funext fun a => by fin_cases a <;> rfl
  have es : ∀ y : Fin 8192, (val_main_v10 (F := Ideal) x0 x1 (ix4 b h x y) : EReal) = masked s x.val y.val := by
    intro y
    rw [score_at x0 x1 b h x y q (k y) r hq (hk y) hr, ← hs y]
    rfl
  simp only [e₁, e₂, prob_at, weight_at, rowmax_at, es]
  rfl

end Cert.ReferenceIdeal.Read
-- ==== Proof.Value.lean ====
/- The kernel's result against the reference's: element by element the two sums of a row, its scores by `Algebra.lean`. -/
module

public import proofs.«01_k».proof.Proof.Result
public import Idealize.ShloMosaic.Lib.Pointwise
public import proofs.«01_k».proof.Proof.Ref
public import Idealize.ShloMosaic.Lib.StableHlo.ReadAt
public import Idealize.ShloMosaic.Lib.Pipeline.ValueKit

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Attention

variable (m : (ℓ : Loc nD τ sig) → Buf (Elt Ideal) ℓ) (c : Dev nD)

/-- The result, transposed back and joined, reads the region's array. -/
theorem tail_at (b : Fin 4) (n : Fin 32) (y : Fin 256) (r : Fin 512) :
    (Pipeline.afterTail₀ cfgs (dats (F := Ideal) m) 0 (V0 m) [hostOps1] c main_v42 (ix3 b ⟨256 * n.val + y.val, by omega⟩ r) : EReal)
      = arrayOf m c (ix4 b n r y) := by
  have key : ∀ W : Valuation τ sig (Elt Ideal), (StableHlo.after [hostOps1 (F := Ideal)].flatten W (Proc.devRef .tc main_v42) (ix3 b ⟨256 * n.val + y.val, by omega⟩ r) : EReal)
      = W (Proc.devRef .tc main_v40) (ix4 b n r y) := by
    intro W
    after_reads_at
  unfold Pipeline.afterTail₀
  refine (key _).trans ?_
  refine congrFun ?_ _
  refine (Pipeline.withArrays_arr spec0 (by decide) c (V0 m c) (fun w => (dats (F := Ideal) m 0 c).arrAt w cfg0.N) 4).trans ?_
  exact final m c

/-- An element of the result is the reference's, for arguments that are real numbers. -/
theorem value_at (hq : ∀ i, ∃ r : ℝ, (Aq m c i : EReal) = (r : EReal)) (hk : ∀ i, ∃ r : ℝ, (Ak m c i : EReal) = (r : EReal))
    (hg : ∀ i, ∃ r : ℝ, (Ag m c i : EReal) = (r : EReal)) (b : Fin 4) (n : Fin 32) (y : Fin 256) (H : Fin 8) (d : Fin 64) :
    valueOf m c b H n d y
      = Cert.ReferenceIdeal.Read.val_main_v27 (F := Ideal) (Aq m c) (Ak m c) (Av m c) (Ag m c) (ix3 b ⟨256 * n.val + y.val, by omega⟩ ⟨64 * H.val + d.val, by omega⟩) := by
  obtain ⟨r, hr⟩ := scale_word
  choose qf hqf using fun d => hq (ix4 b ⟨256 * n.val + y.val, by omega⟩ H d)
  choose kf hkf using fun (x : Fin 8192) d => hk (ix4 b x H d)
  obtain ⟨g, hg⟩ := hg (ix3 b ⟨256 * n.val + y.val, by omega⟩ ⟨64 * H.val + d.val, by omega⟩)
  obtain ⟨sh, hsh⟩ : ∃ s : ℝ, shiftOf m c = (s : EReal) := shift_real (magOf (Aqn m c)) (magOf (Akn m c)) (mag_nonneg (by decide) _) (mag_nonneg (by decide) _)
  have hsc : scaleOf = ((r * (Real.log 2)⁻¹ : ℝ) : EReal) := by
    have h : Real.log 2 ≠ 0 := (Real.log_pos (by norm_num)).ne'
    unfold scaleOf
    rw [hr, two_word]
    have e : Ideal.log ((2 : ℝ) : EReal) = ((Real.log 2 : ℝ) : EReal) := by
      show (if (2 : ℝ) ≤ 0 then (⊥ : EReal) else ((Real.log 2 : ℝ) : EReal)) = _
      rw [if_neg (by norm_num)]
    rw [e, div_coe _ _ h, EReal.coe_mul]
  have hx : (⟨n.val * 256 + y.val, by omega⟩ : Fin 8192) = ⟨256 * n.val + y.val, by omega⟩ := Fin.ext (by show n.val * 256 + y.val = 256 * n.val + y.val; omega)
  set s : ℕ → ℝ := fun k => (∑ d' : Fin 96, qf d' * kf ⟨k % 8192, Nat.mod_lt _ (by decide)⟩ d') * r with hs
  have hmod : ∀ x : Fin 8192, (⟨x.val % 8192, Nat.mod_lt _ (by decide)⟩ : Fin 8192) = x := fun x => Fin.ext (Nat.mod_eq_of_lt x.isLt)
  have hscore : ∀ k, Ideal.exp2 (scoreOf m c b H n y k) = ((Real.exp (s k) * (2 : ℝ) ^ (-sh) : ℝ) : EReal) := by
    intro k
    unfold scoreOf
    rw [score_eq _ _ (kf ⟨k % 8192, Nat.mod_lt _ (by decide)⟩) qf (r * (Real.log 2)⁻¹) sh ?_ ?_, exp2_eq]
    · intro d'
      refine (entry_k m c b H _ d').trans ?_
      split
      · exact hkf _ _
      · rfl
    · intro d'
      refine (entry_q m c b H n d' y).trans ?_
      rw [hx, hsc, hsh]
      split
      · rw [hqf]
      · rfl
  rw [Cert.ReferenceIdeal.Read.result_at (Aq m c) (Ak m c) (Av m c) (Ag m c) b ⟨256 * n.val + y.val, by omega⟩ H d qf kf r hqf hkf hr s
    (fun x => by simp only [hs]; rw [hmod])]
  have hrow := row_eq 8192 (256 * n.val + y.val) (by omega) s (fun k => (Av m c (ix4 b ⟨k % 8192, Nat.mod_lt _ (by decide)⟩ H d) : EReal)) ((2 : ℝ) ^ (-sh))
    (Real.rpow_pos_of_pos (by norm_num) _) _ rfl
  unfold valueOf
  simp only [hscore]
  rw [hrow, hx, hg]
  unfold gateOf
  rw [gate_eq g]
  refine congrArg (· * _) (Finset.sum_congr rfl fun x _ => ?_)
  rw [hmod]

/-- The result is the reference's, for arguments that are real numbers. -/
theorem result_eq (hq : ∀ i, ∃ r : ℝ, (Aq m c i : EReal) = (r : EReal)) (hk : ∀ i, ∃ r : ℝ, (Ak m c i : EReal) = (r : EReal))
    (hg : ∀ i, ∃ r : ℝ, (Ag m c i : EReal) = (r : EReal)) :
    Pipeline.afterTail₀ cfgs (dats (F := Ideal) m) 0 (V0 m) [hostOps1] c main_v42
      = Cert.ReferenceIdeal.Read.val_main_v27 (F := Ideal) (Aq m c) (Ak m c) (Av m c) (Ag m c) := by
  funext i
  have h0 : (i 0).val < 4 := (i 0).isLt
  have h1 : (i 1).val < 8192 := (i 1).isLt
  have h2 : (i 2).val < 512 := (i 2).isLt
  have ei : i = ix3 (⟨(i 0).val, h0⟩ : Fin 4) (⟨256 * ((i 1).val / 256) + (i 1).val % 256, by omega⟩ : Fin 8192) (⟨64 * ((i 2).val / 64) + (i 2).val % 64, by omega⟩ : Fin 512) := by
    funext a
    apply Fin.ext
    fin_cases a
    · rfl
    · show (i 1).val = 256 * ((i 1).val / 256) + (i 1).val % 256; omega
    · show (i 2).val = 64 * ((i 2).val / 64) + (i 2).val % 64; omega
  rw [ei]
  refine (tail_at m c ⟨(i 0).val, h0⟩ ⟨(i 1).val / 256, by omega⟩ ⟨(i 1).val % 256, by omega⟩ ⟨64 * ((i 2).val / 64) + (i 2).val % 64, by omega⟩).trans ?_
  refine Eq.trans ?_ (value_at m c hq hk hg ⟨(i 0).val, h0⟩ ⟨(i 1).val / 256, by omega⟩ ⟨(i 1).val % 256, by omega⟩ ⟨(i 2).val / 64, by omega⟩ ⟨(i 2).val % 64, by omega⟩)
  have e₁ : (64 * ((i 2).val / 64) + (i 2).val % 64) / 64 = (i 2).val / 64 := by omega
  have e₂ : (64 * ((i 2).val / 64) + (i 2).val % 64) % 64 = (i 2).val % 64 := by omega
  exact congrArg₂ (fun (H : Fin 8) (d : Fin 64) => valueOf m c ⟨(i 0).val, h0⟩ H ⟨(i 1).val / 256, by omega⟩ d ⟨(i 1).val % 256, by omega⟩) (Fin.ext e₁) (Fin.ext e₂)

/-- Every execution ends with the result as the last host lines leave it, and the arguments as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v42) = Pipeline.afterTail₀ cfgs (dats (F := Ideal) m) 0 (V0 m) [hostOps1] c main_v42
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨h.1.rest_eq c main_v42 (by decide),
      (h.1.rest_eq c main_arg0 (by decide)).trans (W_main_arg0 m (dats m) c), (h.1.rest_eq c main_arg1 (by decide)).trans (W_main_arg1 m (dats m) c),
      (h.1.rest_eq c main_arg2 (by decide)).trans (W_main_arg2 m (dats m) c), (h.1.rest_eq c main_arg3 (by decide)).trans (W_main_arg3 m (dats m) c),
      (h.1.rest_eq c main_arg4 (by decide)).trans (W_main_arg4 m (dats m) c), (h.1.rest_eq c main_arg5 (by decide)).trans (W_main_arg5 m (dats m) c)⟩)
    (run_main m ρ)

end Cert.KernelIdeal.Gen
-- ==== Proof.Projection.Block.lean ====
/- What one grid point of the output projection leaves in its block: each row of the residual plus three products. -/
module

public import proofs.«01_k».proof.Proof.Gen.Kernel2Ideal.Frame
public import Idealize.ShloMosaic.Lib.Pointwise
public import Idealize.ShloMosaic.Lib.Pipeline.ValueKit
public import Idealize.ShloMosaic.PureOps.Ideal

@[expose] public section

set_option maxRecDepth 16384
set_option maxHeartbeats 4000000

noncomputable section

namespace Cert.Kernel2Ideal.Gen

open Idealize.ShloMosaic Idealize.ShloMosaic.TcCoe Idealize.ShloMosaic.Tactic Idealize.SL.Sem

/-- One tile of 256 rows: the residual's rows plus the products of the three mixers' rows with their thirds of the weights. -/
theorem tile_at (a : FVec Ideal S1x1x512x256 .bf16) (w₁ : FVec Ideal S512x1024 .bf16) (b : FVec Ideal S1x256x512 .bf16) (w₂ : FVec Ideal S512x1024 .bf16)
    (d : FVec Ideal S1x1x512x256 .bf16) (w₃ : FVec Ideal S512x1024 .bf16) (x : FVec Ideal S1x256x1024 .f32) (y : Fin 256) (e : Fin 1024) :
    (k0_pay2 (F := Ideal) a w₁ b w₂ d w₃ x (ix3 0 y e) : EReal)
      = x (ix3 0 y e) + (∑ k : Fin 512, a (ix4 0 0 k y) * w₁ (ix2 k e) + ∑ k : Fin 512, b (ix3 0 y k) * w₂ (ix2 k e)
          + ∑ k : Fin 512, d (ix4 0 0 k y) * w₃ (ix2 k e)) := by
  pointwise [k0_pay2]

variable (X : FVec Ideal S1x2048x1024 .f32) (A : FVec Ideal S1x8x512x256 .bf16) (B : FVec Ideal S1x2048x512 .bf16) (D : FVec Ideal S1x8x512x256 .bf16)
  (W : FVec Ideal S1536x1024 .bf16)

/-- Row `Y` of a block, at column `e`, from the blocks of the residual, of the three mixers, and the weights. -/
def rowOf (Y : Fin 2048) (e : Fin 1024) : EReal :=
  X (ix3 0 Y e)
    + (∑ k : Fin 512, A (ix4 0 ⟨Y.val / 256, by omega⟩ k ⟨Y.val % 256, Nat.mod_lt _ (by decide)⟩) * W (ix2 ⟨k.val, by omega⟩ e)
      + ∑ k : Fin 512, B (ix3 0 Y k) * W (ix2 ⟨512 + k.val, by omega⟩ e)
      + ∑ k : Fin 512, D (ix4 0 ⟨Y.val / 256, by omega⟩ k ⟨Y.val % 256, Nat.mod_lt _ (by decide)⟩) * W (ix2 ⟨1024 + k.val, by omega⟩ e))

/-- A tile whose seven loads are those of tile `n` is rows `256 n` to `256 n + 255` of the block. -/
theorem tile_row (n : Nat) (hn : n < 8) (a : FVec Ideal S1x1x512x256 .bf16) (w₁ : FVec Ideal S512x1024 .bf16) (b : FVec Ideal S1x256x512 .bf16)
    (w₂ : FVec Ideal S512x1024 .bf16) (d : FVec Ideal S1x1x512x256 .bf16) (w₃ : FVec Ideal S512x1024 .bf16) (x : FVec Ideal S1x256x1024 .f32)
    (ha : ∀ k y, a (ix4 0 0 k y) = A (ix4 0 ⟨n, hn⟩ k y)) (hb : ∀ y k, b (ix3 0 y k) = B (ix3 0 ⟨256 * n + y.val, by omega⟩ k))
    (hd : ∀ k y, d (ix4 0 0 k y) = D (ix4 0 ⟨n, hn⟩ k y)) (hx : ∀ y e, x (ix3 0 y e) = X (ix3 0 ⟨256 * n + y.val, by omega⟩ e))
    (h₁ : ∀ k e, w₁ (ix2 k e) = W (ix2 ⟨k.val, by omega⟩ e)) (h₂ : ∀ k e, w₂ (ix2 k e) = W (ix2 ⟨512 + k.val, by omega⟩ e))
    (h₃ : ∀ k e, w₃ (ix2 k e) = W (ix2 ⟨1024 + k.val, by omega⟩ e)) (y : Fin 256) (e : Fin 1024) :
    (k0_pay2 (F := Ideal) a w₁ b w₂ d w₃ x (ix3 0 y e) : EReal) = rowOf X A B D W ⟨256 * n + y.val, by omega⟩ e := by
  have e₁ : (256 * n + y.val) / 256 = n := by omega
  have e₂ : (256 * n + y.val) % 256 = y.val := by omega
  rw [tile_at]
  unfold rowOf
  simp only [ha, hb, hd, hx, h₁, h₂, h₃, e₁, e₂]

/-- The block a grid point leaves, row by row. -/
theorem out_at (Y : Fin 2048) (e : Fin 1024) : (out0_5 (F := Ideal) X A B D W (ix3 0 Y e) : EReal) = rowOf X A B D W Y e := by
  have h₁ : ∀ (k : Fin 512) (e : Fin 1024), (View.ld (Val := Elt Ideal) (e' := .bf16) W r0_1 : FVec Ideal S512x1024 .bf16) (ix2 k e) = W (ix2 ⟨k.val, by omega⟩ e) := fun k e => by
    pointwise []
  have h₂ : ∀ (k : Fin 512) (e : Fin 1024), (View.ld (Val := Elt Ideal) (e' := .bf16) W r0_3 : FVec Ideal S512x1024 .bf16) (ix2 k e) = W (ix2 ⟨512 + k.val, by omega⟩ e) := fun k e => by
    pointwise []
  have h₃ : ∀ (k : Fin 512) (e : Fin 1024), (View.ld (Val := Elt Ideal) (e' := .bf16) W r0_4 : FVec Ideal S512x1024 .bf16) (ix2 k e) = W (ix2 ⟨1024 + k.val, by omega⟩ e) := fun k e => by
    pointwise []
  have key : ∀ (n : Nat) (hn : n < 8) (a : FVec Ideal S1x1x512x256 .bf16) (b : FVec Ideal S1x256x512 .bf16) (d : FVec Ideal S1x1x512x256 .bf16) (x : FVec Ideal S1x256x1024 .f32)
      (i : S1x256x1024.Idx), Y.val = 256 * n + (i 1).val → e.val = (i 2).val →
      (∀ k y, a (ix4 0 0 k y) = A (ix4 0 ⟨n, hn⟩ k y)) → (∀ y k, b (ix3 0 y k) = B (ix3 0 ⟨256 * n + y.val, by omega⟩ k)) →
      (∀ k y, d (ix4 0 0 k y) = D (ix4 0 ⟨n, hn⟩ k y)) → (∀ y e, x (ix3 0 y e) = X (ix3 0 ⟨256 * n + y.val, by omega⟩ e)) →
      (k0_pay2 (F := Ideal) a (View.ld (Val := Elt Ideal) (e' := .bf16) W r0_1) b (View.ld (Val := Elt Ideal) (e' := .bf16) W r0_3) d (View.ld (Val := Elt Ideal) (e' := .bf16) W r0_4) x i : EReal) = rowOf X A B D W Y e := by
    intro n hn a b d x i hY he ha hb hd hx
    have h0 : (i 0).val < 1 := (i 0).isLt
    have h1 : (i 1).val < 256 := (i 1).isLt
    have h2 : (i 2).val < 1024 := (i 2).isLt
    have ei : i = ix3 (0 : Fin 1) (⟨(i 1).val, h1⟩ : Fin 256) (⟨(i 2).val, h2⟩ : Fin 1024) := by
      funext j
      apply Fin.ext
      fin_cases j
      · show (i 0).val = 0; omega
      · rfl
      · rfl
    have eY : Y = ⟨256 * n + (i 1).val, by omega⟩ := Fin.ext hY
    have ee : e = ⟨(i 2).val, h2⟩ := Fin.ext he
    rw [ei, eY, ee]
    exact tile_row X A B D W n hn a _ b _ d _ x ha hb hd hx h₁ h₂ h₃ _ _
  canon_tiles x h
  case piece0 =>
    exact key 7 (by decide) (View.ld (Val := Elt Ideal) (e' := .bf16) A r0_24) (View.ld (Val := Elt Ideal) (e' := .bf16) B r0_25) (View.ld (Val := Elt Ideal) (e' := .bf16) D r0_24) (View.ld (Val := Elt Ideal) (e' := .f32) X r0_26) x (by simpa using h1) (by simpa using h2)
      (fun k y => by pointwise []) (fun y k => by pointwise []) (fun k y => by pointwise []) (fun y e => by pointwise [])
  case piece1 =>
    exact key 6 (by decide) (View.ld (Val := Elt Ideal) (e' := .bf16) A r0_21) (View.ld (Val := Elt Ideal) (e' := .bf16) B r0_22) (View.ld (Val := Elt Ideal) (e' := .bf16) D r0_21) (View.ld (Val := Elt Ideal) (e' := .f32) X r0_23) x (by simpa using h1) (by simpa using h2)
      (fun k y => by pointwise []) (fun y k => by pointwise []) (fun k y => by pointwise []) (fun y e => by pointwise [])
  case piece2 =>
    exact key 5 (by decide) (View.ld (Val := Elt Ideal) (e' := .bf16) A r0_18) (View.ld (Val := Elt Ideal) (e' := .bf16) B r0_19) (View.ld (Val := Elt Ideal) (e' := .bf16) D r0_18) (View.ld (Val := Elt Ideal) (e' := .f32) X r0_20) x (by simpa using h1) (by simpa using h2)
      (fun k y => by pointwise []) (fun y k => by pointwise []) (fun k y => by pointwise []) (fun y e => by pointwise [])
  case piece3 =>
    exact key 4 (by decide) (View.ld (Val := Elt Ideal) (e' := .bf16) A r0_15) (View.ld (Val := Elt Ideal) (e' := .bf16) B r0_16) (View.ld (Val := Elt Ideal) (e' := .bf16) D r0_15) (View.ld (Val := Elt Ideal) (e' := .f32) X r0_17) x (by simpa using h1) (by simpa using h2)
      (fun k y => by pointwise []) (fun y k => by pointwise []) (fun k y => by pointwise []) (fun y e => by pointwise [])
  case piece4 =>
    exact key 3 (by decide) (View.ld (Val := Elt Ideal) (e' := .bf16) A r0_12) (View.ld (Val := Elt Ideal) (e' := .bf16) B r0_13) (View.ld (Val := Elt Ideal) (e' := .bf16) D r0_12) (View.ld (Val := Elt Ideal) (e' := .f32) X r0_14) x (by simpa using h1) (by simpa using h2)
      (fun k y => by pointwise []) (fun y k => by pointwise []) (fun k y => by pointwise []) (fun y e => by pointwise [])
  case piece5 =>
    exact key 2 (by decide) (View.ld (Val := Elt Ideal) (e' := .bf16) A r0_9) (View.ld (Val := Elt Ideal) (e' := .bf16) B r0_10) (View.ld (Val := Elt Ideal) (e' := .bf16) D r0_9) (View.ld (Val := Elt Ideal) (e' := .f32) X r0_11) x (by simpa using h1) (by simpa using h2)
      (fun k y => by pointwise []) (fun y k => by pointwise []) (fun k y => by pointwise []) (fun y e => by pointwise [])
  case piece6 =>
    exact key 1 (by decide) (View.ld (Val := Elt Ideal) (e' := .bf16) A r0_6) (View.ld (Val := Elt Ideal) (e' := .bf16) B r0_7) (View.ld (Val := Elt Ideal) (e' := .bf16) D r0_6) (View.ld (Val := Elt Ideal) (e' := .f32) X r0_8) x (by simpa using h1) (by simpa using h2)
      (fun k y => by pointwise []) (fun y k => by pointwise []) (fun k y => by pointwise []) (fun y e => by pointwise [])
  case piece7 =>
    exact key 0 (by decide) (View.ld (Val := Elt Ideal) (e' := .bf16) A r0_0) (View.ld (Val := Elt Ideal) (e' := .bf16) B r0_2) (View.ld (Val := Elt Ideal) (e' := .bf16) D r0_0) (View.ld (Val := Elt Ideal) (e' := .f32) X r0_5) x (by simpa using h1) (by simpa using h2)
      (fun k y => by pointwise []) (fun y k => by pointwise []) (fun k y => by pointwise []) (fun y e => by pointwise [])

end Cert.Kernel2Ideal.Gen

end
-- ==== Proof.Projection.Value.lean ====
/- The output projection's result, at an index: every grid point's block of it, the blocks covering the array. -/
module

public import proofs.«01_k».proof.Proof.Projection.Block
public import proofs.«01_k».proof.Proof.Gen.Kernel2Ideal.Value
public import Idealize.ShloMosaic.Lib.StableHlo.ReadAt

@[expose] public section

set_option maxRecDepth 16384
set_option maxHeartbeats 4000000

noncomputable section

namespace Cert.Kernel2Ideal.Gen

open Idealize.ShloMosaic Idealize.ShloMosaic.TcCoe Idealize.ShloMosaic.Tactic Idealize.SL.Sem

variable (m : (ℓ : Loc nD τ sig) → Buf (Elt Ideal) ℓ) (c : Dev nD)

/-- The arguments: the residual, the three mixers' results, and the weights. -/
abbrev Ax : FVec Ideal S4x8192x1024 .f32 := m ((c.tc : Thread nD τ).loc main_arg0)
abbrev Aa : FVec Ideal S4x8192x512 .f32 := m ((c.tc : Thread nD τ).loc main_arg1)
abbrev Ab : FVec Ideal S4x8192x512 .f32 := m ((c.tc : Thread nD τ).loc main_arg2)
abbrev Ad : FVec Ideal S4x8192x512 .f32 := m ((c.tc : Thread nD τ).loc main_arg3)
abbrev Aw : FVec Ideal S1536x1024 .f32 := m ((c.tc : Thread nD τ).loc main_arg4)

/-! ## The arrays the region takes -/

theorem entry_a (b : Fin 4) (n : Fin 32) (k : Fin 512) (y : Fin 256) :
    (V m c main_v2 (ix4 b n k y) : EReal) = Aa m c (ix3 b ⟨n.val * 256 + y.val, by omega⟩ k) := by
  unfold V
  after_reads_at

theorem entry_b (i : S4x8192x512.Idx) : (V m c main_v3 i : EReal) = Ab m c i := by
  unfold V
  after_reads_at

theorem entry_d (b : Fin 4) (n : Fin 32) (k : Fin 512) (y : Fin 256) :
    (V m c main_v6 (ix4 b n k y) : EReal) = Ad m c (ix3 b ⟨n.val * 256 + y.val, by omega⟩ k) := by
  unfold V
  after_reads_at

theorem entry_w (i : S1536x1024.Idx) : (V m c main_v7 i : EReal) = Aw m c i := by
  unfold V
  after_reads_at

/-! ## The blocks at a grid point -/

theorem idx_x : ∀ t : Fin cfg0.N, win0_0.index t = ![(grid0.coords t 0).val, (grid0.coords t 1).val, 0] :=
  (by decide +kernel : ∀ t : Fin grid0.N, _)
theorem idx_a : ∀ t : Fin cfg0.N, win0_1.index t = ![(grid0.coords t 0).val, (grid0.coords t 1).val, 0, 0] :=
  (by decide +kernel : ∀ t : Fin grid0.N, _)
theorem idx_b : ∀ t : Fin cfg0.N, win0_2.index t = ![(grid0.coords t 0).val, (grid0.coords t 1).val, 0] :=
  (by decide +kernel : ∀ t : Fin grid0.N, _)
theorem idx_d : ∀ t : Fin cfg0.N, win0_3.index t = ![(grid0.coords t 0).val, (grid0.coords t 1).val, 0, 0] :=
  (by decide +kernel : ∀ t : Fin grid0.N, _)
theorem idx_w : ∀ t : Fin cfg0.N, win0_4.index t = ![0, 0] :=
  (by decide +kernel : ∀ t : Fin grid0.N, _)
theorem idx_o : ∀ t : Fin cfg0.N, win0_5.index t = ![(grid0.coords t 0).val, (grid0.coords t 1).val, 0] :=
  (by decide +kernel : ∀ t : Fin grid0.N, _)
theorem coords_lt : ∀ t : Fin cfg0.N, (grid0.coords t 0).val < 4 ∧ (grid0.coords t 1).val < 4 :=
  (by decide +kernel : ∀ t : Fin grid0.N, _)

/-- The batch of a grid point, and the place its block's row `Y` has in the sequence. -/
abbrev bat (t : Fin cfg0.N) : Fin 4 := ⟨(grid0.coords t 0).val, (coords_lt t).1⟩
abbrev place (t : Fin cfg0.N) (Y : Fin 2048) : Fin 8192 := ⟨2048 * (grid0.coords t 1).val + Y.val, by have := (coords_lt t).2; omega⟩
/-- The block of 256 rows that the tile `n` of a grid point is. -/
abbrev tileOf (t : Fin cfg0.N) (n : Fin 8) : Fin 32 := ⟨8 * (grid0.coords t 1).val + n.val, by have := (coords_lt t).2; omega⟩

theorem emb_x (t : Fin cfg0.N) (Y : Fin 2048) (e : Fin 1024) : ((cfg0.win 0).blk t).view.emb (ix3 0 Y e) = ix3 (bat t) (place t Y) e := by
  funext a
  apply Fin.ext
  blk_simp [idx_x]
  fin_cases a
  · show (grid0.coords t 0).val * 1 + 0 = (grid0.coords t 0).val; omega
  · show (grid0.coords t 1).val * 2048 + Y.val = 2048 * (grid0.coords t 1).val + Y.val; omega
  · show 0 * 1024 + e.val = e.val; omega

theorem emb_o (t : Fin cfg0.N) (Y : Fin 2048) (e : Fin 1024) : ((cfg0.win 5).blk t).view.emb (ix3 0 Y e) = ix3 (bat t) (place t Y) e := by
  funext a
  apply Fin.ext
  blk_simp [idx_o]
  fin_cases a
  · show (grid0.coords t 0).val * 1 + 0 = (grid0.coords t 0).val; omega
  · show (grid0.coords t 1).val * 2048 + Y.val = 2048 * (grid0.coords t 1).val + Y.val; omega
  · show 0 * 1024 + e.val = e.val; omega

theorem emb_b (t : Fin cfg0.N) (Y : Fin 2048) (k : Fin 512) : ((cfg0.win 2).blk t).view.emb (ix3 0 Y k) = ix3 (bat t) (place t Y) k := by
  funext a
  apply Fin.ext
  blk_simp [idx_b]
  fin_cases a
  · show (grid0.coords t 0).val * 1 + 0 = (grid0.coords t 0).val; omega
  · show (grid0.coords t 1).val * 2048 + Y.val = 2048 * (grid0.coords t 1).val + Y.val; omega
  · show 0 * 512 + k.val = k.val; omega

theorem emb_a (t : Fin cfg0.N) (n : Fin 8) (k : Fin 512) (y : Fin 256) : ((cfg0.win 1).blk t).view.emb (ix4 0 n k y) = ix4 (bat t) (tileOf t n) k y := by
  funext a
  apply Fin.ext
  blk_simp [idx_a]
  fin_cases a
  · show (grid0.coords t 0).val * 1 + 0 = (grid0.coords t 0).val; omega
  · show (grid0.coords t 1).val * 8 + n.val = 8 * (grid0.coords t 1).val + n.val; omega
  · show 0 * 512 + k.val = k.val; omega
  · show 0 * 256 + y.val = y.val; omega

theorem emb_d (t : Fin cfg0.N) (n : Fin 8) (k : Fin 512) (y : Fin 256) : ((cfg0.win 3).blk t).view.emb (ix4 0 n k y) = ix4 (bat t) (tileOf t n) k y := by
  funext a
  apply Fin.ext
  blk_simp [idx_d]
  fin_cases a
  · show (grid0.coords t 0).val * 1 + 0 = (grid0.coords t 0).val; omega
  · show (grid0.coords t 1).val * 8 + n.val = 8 * (grid0.coords t 1).val + n.val; omega
  · show 0 * 512 + k.val = k.val; omega
  · show 0 * 256 + y.val = y.val; omega

theorem emb_w (t : Fin cfg0.N) (k : Fin 1536) (e : Fin 1024) : ((cfg0.win 4).blk t).view.emb (ix2 k e) = ix2 k e := by
  funext a
  apply Fin.ext
  blk_simp [idx_w]
  fin_cases a
  · show 0 * 1536 + k.val = k.val; omega
  · show 0 * 1024 + e.val = e.val; omega

theorem blk_x (t : Fin cfg0.N) (Y : Fin 2048) (e : Fin 1024) : (iblk m c 0 t (ix3 0 Y e) : EReal) = Ax m c (ix3 (bat t) (place t Y) e) := by
  have key : ∀ U : (⟨S4x8192x1024, .f32⟩ : BufTy).Contents (Elt Ideal), (((cfg0.win 0).blk t).view.read (Elt Ideal) U (ix3 0 Y e) : EReal)
      = U (ix3 (bat t) (place t Y) e) := fun U => congrArg U (emb_x t Y e)
  exact (key (V m c main_arg0)).trans (congrFun (V_main_arg0 m c) _)

theorem blk_b (t : Fin cfg0.N) (Y : Fin 2048) (k : Fin 512) : (iblk m c 2 t (ix3 0 Y k) : EReal) = Ab m c (ix3 (bat t) (place t Y) k) := by
  have key : ∀ U : (⟨S4x8192x512, .bf16⟩ : BufTy).Contents (Elt Ideal), (((cfg0.win 2).blk t).view.read (Elt Ideal) U (ix3 0 Y k) : EReal)
      = U (ix3 (bat t) (place t Y) k) := fun U => congrArg U (emb_b t Y k)
  exact (key (V m c main_v3)).trans (entry_b m c _)

theorem blk_a (t : Fin cfg0.N) (n : Fin 8) (k : Fin 512) (y : Fin 256) :
    (iblk m c 1 t (ix4 0 n k y) : EReal) = Aa m c (ix3 (bat t) ⟨(tileOf t n).val * 256 + y.val, by have := (tileOf t n).isLt; omega⟩ k) := by
  have key : ∀ U : (⟨S4x32x512x256, .bf16⟩ : BufTy).Contents (Elt Ideal), (((cfg0.win 1).blk t).view.read (Elt Ideal) U (ix4 0 n k y) : EReal)
      = U (ix4 (bat t) (tileOf t n) k y) := fun U => congrArg U (emb_a t n k y)
  exact (key (V m c main_v2)).trans (entry_a m c _ _ _ _)

theorem blk_d (t : Fin cfg0.N) (n : Fin 8) (k : Fin 512) (y : Fin 256) :
    (iblk m c 3 t (ix4 0 n k y) : EReal) = Ad m c (ix3 (bat t) ⟨(tileOf t n).val * 256 + y.val, by have := (tileOf t n).isLt; omega⟩ k) := by
  have key : ∀ U : (⟨S4x32x512x256, .bf16⟩ : BufTy).Contents (Elt Ideal), (((cfg0.win 3).blk t).view.read (Elt Ideal) U (ix4 0 n k y) : EReal)
      = U (ix4 (bat t) (tileOf t n) k y) := fun U => congrArg U (emb_d t n k y)
  exact (key (V m c main_v6)).trans (entry_d m c _ _ _ _)

theorem blk_w (t : Fin cfg0.N) (k : Fin 1536) (e : Fin 1024) : (iblk m c 4 t (ix2 k e) : EReal) = Aw m c (ix2 k e) := by
  have key : ∀ U : (⟨S1536x1024, .bf16⟩ : BufTy).Contents (Elt Ideal), (((cfg0.win 4).blk t).view.read (Elt Ideal) U (ix2 k e) : EReal)
      = U (ix2 k e) := fun U => congrArg U (emb_w t k e)
  exact (key (V m c main_v7)).trans (entry_w m c _)

/-! ## The array after the run -/

/-- An element of the result: the residual plus the three mixers' rows against their thirds of the weights. -/
def valueOf (b : Fin 4) (s : Fin 8192) (e : Fin 1024) : EReal :=
  Ax m c (ix3 b s e)
    + (∑ k : Fin 512, Aa m c (ix3 b s k) * Aw m c (ix2 ⟨k.val, by omega⟩ e)
      + ∑ k : Fin 512, Ab m c (ix3 b s k) * Aw m c (ix2 ⟨512 + k.val, by omega⟩ e)
      + ∑ k : Fin 512, Ad m c (ix3 b s k) * Aw m c (ix2 ⟨1024 + k.val, by omega⟩ e))

/-- The result as one array. -/
def arrayOf : FVec Ideal S4x8192x1024 .f32 := fun i => valueOf m c ⟨(i 0).val, (i 0).isLt⟩ ⟨(i 1).val, (i 1).isLt⟩ ⟨(i 2).val, (i 2).isLt⟩

theorem point_value (t : Fin cfg0.N) (Y : Fin 2048) (e : Fin 1024) :
    (out0_5 (F := Ideal) (iblk m c 0 t) (iblk m c 1 t) (iblk m c 2 t) (iblk m c 3 t) (iblk m c 4 t) (ix3 0 Y e) : EReal)
      = valueOf m c (bat t) (place t Y) e := by
  refine (out_at (iblk m c 0 t) (iblk m c 1 t) (iblk m c 2 t) (iblk m c 3 t) (iblk m c 4 t) Y e).trans ?_
  unfold rowOf valueOf
  have ep : (⟨(tileOf t ⟨Y.val / 256, by omega⟩).val * 256 + Y.val % 256, by have := (tileOf t ⟨Y.val / 256, by omega⟩).isLt; omega⟩ : Fin 8192) = place t Y :=
    Fin.ext (by show (8 * (grid0.coords t 1).val + Y.val / 256) * 256 + Y.val % 256 = 2048 * (grid0.coords t 1).val + Y.val; omega)
  have ha : ∀ k : Fin 512, (iblk m c 1 t (ix4 0 ⟨Y.val / 256, by omega⟩ k ⟨Y.val % 256, Nat.mod_lt _ (by decide)⟩) : EReal) = Aa m c (ix3 (bat t) (place t Y) k) :=
    fun k => (blk_a m c t _ k _).trans (congrArg (fun s => Aa m c (ix3 (bat t) s k)) ep)
  have hd : ∀ k : Fin 512, (iblk m c 3 t (ix4 0 ⟨Y.val / 256, by omega⟩ k ⟨Y.val % 256, Nat.mod_lt _ (by decide)⟩) : EReal) = Ad m c (ix3 (bat t) (place t Y) k) :=
    fun k => (blk_d m c t _ k _).trans (congrArg (fun s => Ad m c (ix3 (bat t) s k)) ep)
  refine congrArg₂ (HAdd.hAdd : EReal → EReal → EReal) (blk_x m c t Y e)
    (congrArg₂ (HAdd.hAdd : EReal → EReal → EReal) (congrArg₂ (HAdd.hAdd : EReal → EReal → EReal) (Finset.sum_congr rfl fun k _ => ?_) (Finset.sum_congr rfl fun k _ => ?_))
      (Finset.sum_congr rfl fun k _ => ?_))
  · exact congrArg₂ (HMul.hMul : EReal → EReal → EReal) (ha k) (blk_w m c t _ e)
  · exact congrArg₂ (HMul.hMul : EReal → EReal → EReal) (blk_b m c t Y k) (blk_w m c t _ e)
  · exact congrArg₂ (HMul.hMul : EReal → EReal → EReal) (hd k) (blk_w m c t _ e)

theorem final : (dats (F := Ideal) m 0 c).arrAt 5 cfg0.N = arrayOf m c := by
  refine (dats (F := Ideal) m 0 c).arrAt_eq_of_covers 5 _ (by decide +kernel) fun t hf y => ?_
  blk_simp
  rw [after0_5]
  have h0 : (y 0).val < 1 := (y 0).isLt
  have h1 : (y 1).val < 2048 := (y 1).isLt
  have h2 : (y 2).val < 1024 := (y 2).isLt
  have ey : y = ix3 (0 : Fin 1) (⟨(y 1).val, h1⟩ : Fin 2048) (⟨(y 2).val, h2⟩ : Fin 1024) := by
    funext a
    apply Fin.ext
    fin_cases a
    · show (y 0).val = 0; omega
    · rfl
    · rfl
  rw [ey]
  exact (point_value m c t ⟨(y 1).val, h1⟩ ⟨(y 2).val, h2⟩).trans (congrArg (arrayOf m c) (emb_o t ⟨(y 1).val, h1⟩ ⟨(y 2).val, h2⟩)).symm

end Cert.Kernel2Ideal.Gen

end
-- ==== Proof.Projection.Ref.lean ====
/- The reference of the output projection, at an index: the joined row of 1536 against the weights is the sum of its thirds. -/
module

public import proofs.«01_k».proof.Proof.Gen.Reference2Ideal.Read
public import Idealize.ShloMosaic.Lib.Pointwise

@[expose] public section

set_option maxRecDepth 16384
set_option maxHeartbeats 4000000

noncomputable section

namespace Cert.Reference2Ideal.Read

open Cert.Reference2Ideal Cert.Reference2Ideal.Gen Idealize.ShloMosaic Idealize.ShloMosaic.TcCoe Idealize.ShloMosaic.Tactic

/-- A sum over 1536 places is the sum over its three thirds. -/
theorem sum_thirds (f : Fin 1536 → EReal) :
    ∑ k, f k = ∑ k : Fin 512, f ⟨k.val, by omega⟩ + ∑ k : Fin 512, f ⟨512 + k.val, by omega⟩ + ∑ k : Fin 512, f ⟨1024 + k.val, by omega⟩ := by
  rw [← Equiv.sum_comp (finCongr (show 1024 + 512 = 1536 by rfl)), Fin.sum_univ_add,
    ← Equiv.sum_comp (finCongr (show 512 + 512 = 1024 by rfl)), Fin.sum_univ_add]
  rfl

variable (x : FVec Ideal S4x8192x1024 .f32) (a b d : FVec Ideal S4x8192x512 .f32) (w : FVec Ideal S1536x1024 .f32)

theorem joined_first (i : Fin 4) (s : Fin 8192) (k : Fin 512) : (val_main_v0 (F := Ideal) a b d (ix3 i s ⟨k.val, by omega⟩) : EReal) = a (ix3 i s k) := by
  pointwise [val_main_v0]

theorem joined_second (i : Fin 4) (s : Fin 8192) (k : Fin 512) : (val_main_v0 (F := Ideal) a b d (ix3 i s ⟨512 + k.val, by omega⟩) : EReal) = b (ix3 i s k) := by
  pointwise [val_main_v0]

theorem joined_third (i : Fin 4) (s : Fin 8192) (k : Fin 512) : (val_main_v0 (F := Ideal) a b d (ix3 i s ⟨1024 + k.val, by omega⟩) : EReal) = d (ix3 i s k) := by
  pointwise [val_main_v0]
  rw [dif_neg (by omega), dif_neg (by omega)]
  exact congrArg (fun k => d (ix3 i s k)) (Fin.ext (by show 1024 + k.val - 512 - 512 = k.val; omega))

theorem result_at (i : Fin 4) (s : Fin 8192) (e : Fin 1024) :
    (val_main_v2 (F := Ideal) x a b d w (ix3 i s e) : EReal)
      = x (ix3 i s e) + (∑ k : Fin 512, a (ix3 i s k) * w (ix2 ⟨k.val, by omega⟩ e) + ∑ k : Fin 512, b (ix3 i s k) * w (ix2 ⟨512 + k.val, by omega⟩ e)
          + ∑ k : Fin 512, d (ix3 i s k) * w (ix2 ⟨1024 + k.val, by omega⟩ e)) := by
  rw [val_main_v2_apply, val_main_v1_apply, sum_thirds]
  have el : ∀ k : Fin 1536, lidx_main_v1 (ix3 i s e) k = ix3 i s k := fun k => by funext j; fin_cases j <;> rfl
  have er : ∀ k : Fin 1536, ridx_main_v1 (ix3 i s e) k = ix2 k e := fun k => by funext j; fin_cases j <;> rfl
  simp only [el, er, joined_first, joined_second, joined_third]
  rfl

end Cert.Reference2Ideal.Read

end
-- ==== Proof.lean ====
module

public import proofs.«01_k».proof.Proof.Gen.Kernel3.Frame
public import proofs.«01_k».proof.Proof.Gen.Kernel3Ideal.Value
public import proofs.«01_k».proof.Proof.Prep.Result
public import proofs.«01_k».proof.Defs
public import proofs.«01_k».proof.Proof.Run
public import proofs.«01_k».proof.Proof.Value
public import proofs.«01_k».proof.Proof.Machine.Run
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Projection.Value
public import proofs.«01_k».proof.Proof.Projection.Ref
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's literal is the named constant −∞. -/
theorem preserves : Cert.preserves_Kernel_KernelIdeal :=
  IdealRules.named_const.statement _ _ _ _ _ rfl

theorem pre_facts : Cert.Pre_finite.Facts := ⟨by decide, by decide⟩

/-- On finite queries, keys and gate the kernel's result is the reference's. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hagree
  refine ⟨_, Cert.KernelIdeal.Gen.run_value m g, ?_⟩
  refine (θ_run Cert.ReferenceIdeal.defs _ _).mono (fun r h c => ⟨(h c).1.trans ?_, (h c).2⟩) (Cert.ReferenceIdeal.Value.run (F := Ideal) m' g')
  obtain ⟨hq, hk, hg⟩ := hpre c
  obtain ⟨a0, a1, a2, a3, -, -⟩ := hagree c
  refine (Cert.ReferenceIdeal.Read.val_main_v27_eq m' c).trans ?_
  rw [a0, a1, a2, a3]
  exact (Cert.KernelIdeal.Gen.result_eq m c (fun i => Cert.Attention.real_of_bound _ (congrFun hq i))
    (fun i => Cert.Attention.real_of_bound _ (congrFun hk i)) (fun i => Cert.Attention.real_of_bound _ (congrFun hg i))).symm

theorem frame_projection_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The projection's result is its reference's, element by element, whatever the arguments. -/
theorem projection_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v2 (F := Ideal) (Cert.Kernel2Ideal.Gen.Ax m c) (Cert.Kernel2Ideal.Gen.Aa m c) (Cert.Kernel2Ideal.Gen.Ab m c)
      (Cert.Kernel2Ideal.Gen.Ad m c) (Cert.Kernel2Ideal.Gen.Aw m c) = Cert.Kernel2Ideal.Gen.arrayOf m c := by
  funext i
  have h0 : (i 0).val < 4 := (i 0).isLt
  have h1 : (i 1).val < 8192 := (i 1).isLt
  have h2 : (i 2).val < 1024 := (i 2).isLt
  have ei : i = ValueIdx.ix3 (⟨(i 0).val, h0⟩ : Fin 4) (⟨(i 1).val, h1⟩ : Fin 8192) (⟨(i 2).val, h2⟩ : Fin 1024) := by
    funext a
    fin_cases a <;> rfl
  rw [ei]
  exact Cert.Reference2Ideal.Read.result_at _ _ _ _ _ _ _ _

theorem algebraic_projection : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Gen.arrayOf m c, (θ_run Cert.Kernel2Ideal.defs _ _).mono
    (fun r h c => ⟨(h c).1.trans (Cert.Kernel2Ideal.Gen.final m c), (h c).2⟩) (Cert.Kernel2Ideal.Value.run_blocks (F := Ideal) m g), ?_⟩
  refine (θ_run Cert.Reference2Ideal.defs _ _).mono (fun r h c => ⟨(h c).1.trans ?_, (h c).2⟩) (Cert.Reference2Ideal.Value.run (F := Ideal) m' g')
  obtain ⟨a0, a1, a2, a3, a4⟩ := hagree c
  refine (Cert.Reference2Ideal.Read.val_main_v2_eq _ _ _ _ _).trans ?_
  rw [a0, a1, a2, a3, a4]
  exact projection_eq m c

theorem frame_prep_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem weights_facts : Cert.Pre_finite_weights.Facts := ⟨by decide, by decide⟩

/-- On a finite gain and finite weights the preparation's gate and convolution are its reference's. -/
theorem algebraic_prep : Cert.algebraic_Kernel3Ideal_Reference3Ideal_pre_finite_weights (hKernel3Ideal := Cert.Kernel3Ideal.Gen.facts)
    (hReference3Ideal := Cert.Reference3Ideal.Gen.facts) (hPre_finite_weights := weights_facts) := by
  intro m g m' g' hpre hagree
  refine ⟨fun c => Cert.Kernel3Ideal.Gen.gateArray m c, fun c => Cert.Kernel3Ideal.Gen.convArray m c, (θ_run Cert.Kernel3Ideal.defs _ _).mono
    (fun r h c => by
      obtain ⟨-, -, -, hg, hc, -, hargs⟩ := h c
      exact ⟨hg.trans (Cert.Kernel3Ideal.Gen.gate_final m c), hc.trans (Cert.Kernel3Ideal.Gen.conv_final m c), hargs⟩)
    (Cert.Kernel3Ideal.Value.run (F := Ideal) m g), ?_⟩
  refine (θ_run Cert.Reference3Ideal.defs _ _).mono (fun r h c => ⟨(h c).1.trans ?_, (h c).2.1.trans ?_, (h c).2.2⟩)
    (Cert.Reference3Ideal.Value.run (F := Ideal) m' g')
  · obtain ⟨hn, hw⟩ := hpre c
    obtain ⟨a0, a1, a2, -⟩ := hagree c
    refine (Cert.Reference3Ideal.Read.val_main_v47_eq _ _ _).trans ?_
    rw [a0, a1, a2]
    exact Cert.Kernel3Ideal.Gen.gate_eq m c (fun i => Cert.Attention.real_of_bound _ (congrFun hn i)) (fun i => Cert.Attention.real_of_bound _ (congrFun hw i))
  · obtain ⟨hn, hw⟩ := hpre c
    obtain ⟨a0, a1, a2, -, -, -, -, -, -, a9, -⟩ := hagree c
    refine (Cert.Reference3Ideal.Read.val_main_v48_eq m' c).trans ?_
    rw [a0, a1, a2, a9]
    exact Cert.Kernel3Ideal.Gen.conv_eq m c (fun i => Cert.Attention.real_of_bound _ (congrFun hn i)) (fun i => Cert.Attention.real_of_bound _ (congrFun hw i))

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  pre_facts, weights_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_projection_reference,
  fun m ρ _ => Cert.Kernel3.Gen.frame m ρ, fun m ρ _ => Cert.Kernel3Ideal.Gen.frame m ρ, fun m ρ _ => Cert.Kernel3Ideal.Gen.frame m ρ,
  frame_prep_reference, fun m ρ _ => frame_prep_reference m ρ trivial,
  preserves, algebraic, trivial, algebraic_projection, trivial, algebraic_prep⟩

end Cert.Proof

end
